-- ==== Defs.lean ====
def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxIdeal_finite_down [hPre_finite_down : Cert.Pre_finite_down.Facts] (m : (ℓ : Loc Cert.DownDxIdeal.nD Cert.DownDxIdeal.τ Cert.DownDxIdeal.sig) → Buf (Elt Ideal) ℓ) : Prop :=
  ∀ c : Dev Cert.DownDxIdeal.nD,
    (Cert.Pre_finite_down.fn (F := Ideal) (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)) (m ((c.tc : Thread Cert.DownDxIdeal.nD Cert.DownDxIdeal.τ).loc Cert.DownDxIdeal.main_arg2))).1 = (fun _ => 1#1)
    ∧ (Cert.Pre_finite_down.fn (F := Ideal) (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)) (m ((c.tc : Thread Cert.DownDxIdeal.nD Cert.DownDxIdeal.τ).loc Cert.DownDxIdeal.main_arg2))).2.1 = (fun _ => 1#1)
    ∧ (Cert.Pre_finite_down.fn (F := Ideal) (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)) (m ((c.tc : Thread Cert.DownDxIdeal.nD Cert.DownDxIdeal.τ).loc Cert.DownDxIdeal.main_arg2))).2.2 = (fun _ => 1#1)

def Pre_DownDxRefIdeal (m : (ℓ : Loc Cert.DownDxRefIdeal.nD Cert.DownDxRefIdeal.τ Cert.DownDxRefIdeal.sig) → Buf (Elt Ideal) ℓ) : Prop :=
  True

def Pre_DownDxRefIdeal_finite_down [hPre_finite_down : Cert.Pre_finite_down.Facts] (m : (ℓ : Loc Cert.DownDxRefIdeal.nD Cert.DownDxRefIdeal.τ Cert.DownDxRefIdeal.sig) → Buf (Elt Ideal) ℓ) : Prop :=
  ∀ c : Dev Cert.DownDxRefIdeal.nD,
    (Cert.Pre_finite_down.fn (F := Ideal) (m ((c.tc : Thread Cert.DownDxRefIdeal.nD Cert.DownDxRefIdeal.τ).loc Cert.DownDxRefIdeal.main_arg0)) (m ((c.tc : Thread Cert.DownDxRefIdeal.nD Cert.DownDxRefIdeal.τ).loc Cert.DownDxRefIdeal.main_arg1)) (m ((c.tc : Thread Cert.DownDxRefIdeal.nD Cert.DownDxRefIdeal.τ).loc Cert.DownDxRefIdeal.main_arg2))).1 = (fun _ => 1#1)
    ∧ (Cert.Pre_finite_down.fn (F := Ideal) (m ((c.tc : Thread Cert.DownDxRefIdeal.nD Cert.DownDxRefIdeal.τ).loc Cert.DownDxRefIdeal.main_arg0)) (m ((c.tc : Thread Cert.DownDxRefIdeal.nD Cert.DownDxRefIdeal.τ).loc Cert.DownDxRefIdeal.main_arg1)) (m ((c.tc : Thread Cert.DownDxRefIdeal.nD Cert.DownDxRefIdeal.τ).loc Cert.DownDxRefIdeal.main_arg2))).2.1 = (fun _ => 1#1)
    ∧ (Cert.Pre_finite_down.fn (F := Ideal) (m ((c.tc : Thread Cert.DownDxRefIdeal.nD Cert.DownDxRefIdeal.τ).loc Cert.DownDxRefIdeal.main_arg0)) (m ((c.tc : Thread Cert.DownDxRefIdeal.nD Cert.DownDxRefIdeal.τ).loc Cert.DownDxRefIdeal.main_arg1)) (m ((c.tc : Thread Cert.DownDxRefIdeal.nD Cert.DownDxRefIdeal.τ).loc Cert.DownDxRefIdeal.main_arg2))).2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_attn [hPre_finite_attn : Cert.Pre_finite_attn.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).2.2 = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_norm [hPre_finite_norm : Cert.Pre_finite_norm.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))).1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))).2.1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))).2.2 = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_finite_norm [hPre_finite_norm : Cert.Pre_finite_norm.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3))).1 = (fun _ => 1#1)
    ∧ (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3))).2.1 = (fun _ => 1#1)
    ∧ (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3))).2.2 = (fun _ => 1#1)

def Pre_MemNormBwd (m : (ℓ : Loc Cert.MemNormBwd.nD Cert.MemNormBwd.τ Cert.MemNormBwd.sig) → Buf (Elt Bits) ℓ) : Prop :=
  True

def Pre_MemNormBwdIdeal (m : (ℓ : Loc Cert.MemNormBwdIdeal.nD Cert.MemNormBwdIdeal.τ Cert.MemNormBwdIdeal.sig) → Buf (Elt Ideal) ℓ) : Prop :=
  True

def Pre_MemNormBwdRefIdeal (m : (ℓ : Loc Cert.MemNormBwdRefIdeal.nD Cert.MemNormBwdRefIdeal.τ Cert.MemNormBwdRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxIdeal_finite_up [hPre_finite_up : Cert.Pre_finite_up.Facts] (m : (ℓ : Loc Cert.UpDxIdeal.nD Cert.UpDxIdeal.τ Cert.UpDxIdeal.sig) → Buf (Elt Ideal) ℓ) : Prop :=
  ∀ c : Dev Cert.UpDxIdeal.nD,
    (Cert.Pre_finite_up.fn (F := Ideal) (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)) (m ((c.tc : Thread Cert.UpDxIdeal.nD Cert.UpDxIdeal.τ).loc Cert.UpDxIdeal.main_arg2)) (m ((c.tc : Thread Cert.UpDxIdeal.nD Cert.UpDxIdeal.τ).loc Cert.UpDxIdeal.main_arg3)) (m ((c.tc : Thread Cert.UpDxIdeal.nD Cert.UpDxIdeal.τ).loc Cert.UpDxIdeal.main_arg4))).1 = (fun _ => 1#1)
    ∧ (Cert.Pre_finite_up.fn (F := Ideal) (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)) (m ((c.tc : Thread Cert.UpDxIdeal.nD Cert.UpDxIdeal.τ).loc Cert.UpDxIdeal.main_arg2)) (m ((c.tc : Thread Cert.UpDxIdeal.nD Cert.UpDxIdeal.τ).loc Cert.UpDxIdeal.main_arg3)) (m ((c.tc : Thread Cert.UpDxIdeal.nD Cert.UpDxIdeal.τ).loc Cert.UpDxIdeal.main_arg4))).2.1 = (fun _ => 1#1)
    ∧ (Cert.Pre_finite_up.fn (F := Ideal) (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)) (m ((c.tc : Thread Cert.UpDxIdeal.nD Cert.UpDxIdeal.τ).loc Cert.UpDxIdeal.main_arg2)) (m ((c.tc : Thread Cert.UpDxIdeal.nD Cert.UpDxIdeal.τ).loc Cert.UpDxIdeal.main_arg3)) (m ((c.tc : Thread Cert.UpDxIdeal.nD Cert.UpDxIdeal.τ).loc Cert.UpDxIdeal.main_arg4))).2.2.1 = (fun _ => 1#1)
    ∧ (Cert.Pre_finite_up.fn (F := Ideal) (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)) (m ((c.tc : Thread Cert.UpDxIdeal.nD Cert.UpDxIdeal.τ).loc Cert.UpDxIdeal.main_arg2)) (m ((c.tc : Thread Cert.UpDxIdeal.nD Cert.UpDxIdeal.τ).loc Cert.UpDxIdeal.main_arg3)) (m ((c.tc : Thread Cert.UpDxIdeal.nD Cert.UpDxIdeal.τ).loc Cert.UpDxIdeal.main_arg4))).2.2.2 = (fun _ => 1#1)

def Pre_UpDxRefIdeal (m : (ℓ : Loc Cert.UpDxRefIdeal.nD Cert.UpDxRefIdeal.τ Cert.UpDxRefIdeal.sig) → Buf (Elt Ideal) ℓ) : Prop :=
  True

def Pre_UpDxRefIdeal_finite_up [hPre_finite_up : Cert.Pre_finite_up.Facts] (m : (ℓ : Loc Cert.UpDxRefIdeal.nD Cert.UpDxRefIdeal.τ Cert.UpDxRefIdeal.sig) → Buf (Elt Ideal) ℓ) : Prop :=
  ∀ c : Dev Cert.UpDxRefIdeal.nD,
    (Cert.Pre_finite_up.fn (F := Ideal) (m ((c.tc : Thread Cert.UpDxRefIdeal.nD Cert.UpDxRefIdeal.τ).loc Cert.UpDxRefIdeal.main_arg0)) (m ((c.tc : Thread Cert.UpDxRefIdeal.nD Cert.UpDxRefIdeal.τ).loc Cert.UpDxRefIdeal.main_arg1)) (m ((c.tc : Thread Cert.UpDxRefIdeal.nD Cert.UpDxRefIdeal.τ).loc Cert.UpDxRefIdeal.main_arg2)) (m ((c.tc : Thread Cert.UpDxRefIdeal.nD Cert.UpDxRefIdeal.τ).loc Cert.UpDxRefIdeal.main_arg3)) (m ((c.tc : Thread Cert.UpDxRefIdeal.nD Cert.UpDxRefIdeal.τ).loc Cert.UpDxRefIdeal.main_arg4))).1 = (fun _ => 1#1)
    ∧ (Cert.Pre_finite_up.fn (F := Ideal) (m ((c.tc : Thread Cert.UpDxRefIdeal.nD Cert.UpDxRefIdeal.τ).loc Cert.UpDxRefIdeal.main_arg0)) (m ((c.tc : Thread Cert.UpDxRefIdeal.nD Cert.UpDxRefIdeal.τ).loc Cert.UpDxRefIdeal.main_arg1)) (m ((c.tc : Thread Cert.UpDxRefIdeal.nD Cert.UpDxRefIdeal.τ).loc Cert.UpDxRefIdeal.main_arg2)) (m ((c.tc : Thread Cert.UpDxRefIdeal.nD Cert.UpDxRefIdeal.τ).loc Cert.UpDxRefIdeal.main_arg3)) (m ((c.tc : Thread Cert.UpDxRefIdeal.nD Cert.UpDxRefIdeal.τ).loc Cert.UpDxRefIdeal.main_arg4))).2.1 = (fun _ => 1#1)
    ∧ (Cert.Pre_finite_up.fn (F := Ideal) (m ((c.tc : Thread Cert.UpDxRefIdeal.nD Cert.UpDxRefIdeal.τ).loc Cert.UpDxRefIdeal.main_arg0)) (m ((c.tc : Thread Cert.UpDxRefIdeal.nD Cert.UpDxRefIdeal.τ).loc Cert.UpDxRefIdeal.main_arg1)) (m ((c.tc : Thread Cert.UpDxRefIdeal.nD Cert.UpDxRefIdeal.τ).loc Cert.UpDxRefIdeal.main_arg2)) (m ((c.tc : Thread Cert.UpDxRefIdeal.nD Cert.UpDxRefIdeal.τ).loc Cert.UpDxRefIdeal.main_arg3)) (m ((c.tc : Thread Cert.UpDxRefIdeal.nD Cert.UpDxRefIdeal.τ).loc Cert.UpDxRefIdeal.main_arg4))).2.2.1 = (fun _ => 1#1)
    ∧ (Cert.Pre_finite_up.fn (F := Ideal) (m ((c.tc : Thread Cert.UpDxRefIdeal.nD Cert.UpDxRefIdeal.τ).loc Cert.UpDxRefIdeal.main_arg0)) (m ((c.tc : Thread Cert.UpDxRefIdeal.nD Cert.UpDxRefIdeal.τ).loc Cert.UpDxRefIdeal.main_arg1)) (m ((c.tc : Thread Cert.UpDxRefIdeal.nD Cert.UpDxRefIdeal.τ).loc Cert.UpDxRefIdeal.main_arg2)) (m ((c.tc : Thread Cert.UpDxRefIdeal.nD Cert.UpDxRefIdeal.τ).loc Cert.UpDxRefIdeal.main_arg3)) (m ((c.tc : Thread Cert.UpDxRefIdeal.nD Cert.UpDxRefIdeal.τ).loc Cert.UpDxRefIdeal.main_arg4))).2.2.2 = (fun _ => 1#1)

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxIdeal_finite_in [hPre_finite_in : Cert.Pre_finite_in.Facts] (m : (ℓ : Loc Cert.InDxIdeal.nD Cert.InDxIdeal.τ Cert.InDxIdeal.sig) → Buf (Elt Ideal) ℓ) : Prop :=
  ∀ c : Dev Cert.InDxIdeal.nD,
    (Cert.Pre_finite_in.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).1 = (fun _ => 1#1)
    ∧ (Cert.Pre_finite_in.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.1 = (fun _ => 1#1)
    ∧ (Cert.Pre_finite_in.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.2.1 = (fun _ => 1#1)
    ∧ (Cert.Pre_finite_in.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.2.2 = (fun _ => 1#1)

def Pre_InDxRefIdeal (m : (ℓ : Loc Cert.InDxRefIdeal.nD Cert.InDxRefIdeal.τ Cert.InDxRefIdeal.sig) → Buf (Elt Ideal) ℓ) : Prop :=
  True

def Pre_InDxRefIdeal_finite_in [hPre_finite_in : Cert.Pre_finite_in.Facts] (m : (ℓ : Loc Cert.InDxRefIdeal.nD Cert.InDxRefIdeal.τ Cert.InDxRefIdeal.sig) → Buf (Elt Ideal) ℓ) : Prop :=
  ∀ c : Dev Cert.InDxRefIdeal.nD,
    (Cert.Pre_finite_in.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).1 = (fun _ => 1#1)
    ∧ (Cert.Pre_finite_in.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.1 = (fun _ => 1#1)
    ∧ (Cert.Pre_finite_in.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.2.1 = (fun _ => 1#1)
    ∧ (Cert.Pre_finite_in.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_loss [hPre_finite_loss : Cert.Pre_finite_loss.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_finite_loss [hPre_finite_loss : Cert.Pre_finite_loss.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attn_fwd [hPre_finite_attn_fwd : Cert.Pre_finite_attn_fwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).1 = (fun _ => 1#1)
    ∧ (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attn_fwd [hPre_finite_attn_fwd : Cert.Pre_finite_attn_fwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).1 = (fun _ => 1#1)
    ∧ (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).2 = (fun _ => 1#1)

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_S5Fwd (m : (ℓ : Loc Cert.S5Fwd.nD Cert.S5Fwd.τ Cert.S5Fwd.sig) → Buf (Elt Bits) ℓ) : Prop :=
  True

def Pre_S5FwdIdeal (m : (ℓ : Loc Cert.S5FwdIdeal.nD Cert.S5FwdIdeal.τ Cert.S5FwdIdeal.sig) → Buf (Elt Ideal) ℓ) : Prop :=
  True

def Pre_S5FwdRefIdeal (m : (ℓ : Loc Cert.S5FwdRefIdeal.nD Cert.S5FwdRefIdeal.τ Cert.S5FwdRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxIdeal_pre_finite_down [hDownDxIdeal : Cert.DownDxIdeal.Facts] [hPre_finite_down : Cert.Pre_finite_down.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal_finite_down m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDxRefIdeal_pre_finite_down [hDownDxRefIdeal : Cert.DownDxRefIdeal.Facts] [hPre_finite_down : Cert.Pre_finite_down.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal_finite_down m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_AttnBwdRefIdeal_pre_finite_attn [hAttnBwdRefIdeal : Cert.AttnBwdRefIdeal.Facts] [hPre_finite_attn : Cert.Pre_finite_attn.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_attn m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdIdeal_pre_finite_norm [hNormBwdIdeal : Cert.NormBwdIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_norm m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_NormBwdRefIdeal_pre_finite_norm [hNormBwdRefIdeal : Cert.NormBwdRefIdeal.Facts] [hPre_finite_norm : Cert.Pre_finite_norm.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_finite_norm m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_MemNormBwd [hMemNormBwd : Cert.MemNormBwd.Facts] : Prop :=
  ∀ (m : (ℓ : Loc Cert.MemNormBwd.nD Cert.MemNormBwd.τ Cert.MemNormBwd.sig) → Buf (Elt Bits) ℓ) (g : Dev Cert.MemNormBwd.nD → PrngReg), Pre_MemNormBwd m →
    θ_run (Cert.MemNormBwd.defs (F := Bits)) (onTc (τ := Cert.MemNormBwd.τ) (Cert.MemNormBwd.main (F := Bits))) ⟨m, fun _ => 0, g⟩ (fun r => (∀ c : Dev Cert.MemNormBwd.nD,
      r.2.mem ((c.tc : Thread Cert.MemNormBwd.nD Cert.MemNormBwd.τ).loc Cert.MemNormBwd.main_arg0) = m ((c.tc : Thread Cert.MemNormBwd.nD Cert.MemNormBwd.τ).loc Cert.MemNormBwd.main_arg0)
      ∧ r.2.mem ((c.tc : Thread Cert.MemNormBwd.nD Cert.MemNormBwd.τ).loc Cert.MemNormBwd.main_arg1) = m ((c.tc : Thread Cert.MemNormBwd.nD Cert.MemNormBwd.τ).loc Cert.MemNormBwd.main_arg1)
      ∧ r.2.mem ((c.tc : Thread Cert.MemNormBwd.nD Cert.MemNormBwd.τ).loc Cert.MemNormBwd.main_arg2) = m ((c.tc : Thread Cert.MemNormBwd.nD Cert.MemNormBwd.τ).loc Cert.MemNormBwd.main_arg2))
      ∧ r.2.sem = fun _ => 0)

def quiescent_MemNormBwdIdeal [hMemNormBwdIdeal : Cert.MemNormBwdIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg), Pre_MemNormBwdIdeal m →
    θ_run (Cert.MemNormBwdIdeal.defs (F := Ideal)) (onTc (τ := Cert.MemNormBwdIdeal.τ) (Cert.MemNormBwdIdeal.main (F := Ideal))) ⟨m, fun _ => 0, g⟩ (fun r => (∀ c : Dev Cert.MemNormBwdIdeal.nD,
      r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
      ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
      ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ r.2.sem = fun _ => 0)

def quiescent_MemNormBwdRefIdeal [hMemNormBwdRefIdeal : Cert.MemNormBwdRefIdeal.Facts] : Prop :=
  ∀ (m : (ℓ : Loc Cert.MemNormBwdRefIdeal.nD Cert.MemNormBwdRefIdeal.τ Cert.MemNormBwdRefIdeal.sig) → Buf (Elt Ideal) ℓ) (g : Dev Cert.MemNormBwdRefIdeal.nD → PrngReg), Pre_MemNormBwdRefIdeal m →
    θ_run (Cert.MemNormBwdRefIdeal.defs (F := Ideal)) (onTc (τ := Cert.MemNormBwdRefIdeal.τ) (Cert.MemNormBwdRefIdeal.main (F := Ideal))) ⟨m, fun _ => 0, g⟩ (fun r => (∀ c : Dev Cert.MemNormBwdRefIdeal.nD,
      r.2.mem ((c.tc : Thread Cert.MemNormBwdRefIdeal.nD Cert.MemNormBwdRefIdeal.τ).loc Cert.MemNormBwdRefIdeal.main_arg0) = m ((c.tc : Thread Cert.MemNormBwdRefIdeal.nD Cert.MemNormBwdRefIdeal.τ).loc Cert.MemNormBwdRefIdeal.main_arg0)
      ∧ r.2.mem ((c.tc : Thread Cert.MemNormBwdRefIdeal.nD Cert.MemNormBwdRefIdeal.τ).loc Cert.MemNormBwdRefIdeal.main_arg1) = m ((c.tc : Thread Cert.MemNormBwdRefIdeal.nD Cert.MemNormBwdRefIdeal.τ).loc Cert.MemNormBwdRefIdeal.main_arg1)
      ∧ r.2.mem ((c.tc : Thread Cert.MemNormBwdRefIdeal.nD Cert.MemNormBwdRefIdeal.τ).loc Cert.MemNormBwdRefIdeal.main_arg2) = m ((c.tc : Thread Cert.MemNormBwdRefIdeal.nD Cert.MemNormBwdRefIdeal.τ).loc Cert.MemNormBwdRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxIdeal_pre_finite_up [hUpDxIdeal : Cert.UpDxIdeal.Facts] [hPre_finite_up : Cert.Pre_finite_up.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal_finite_up m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_UpDxRefIdeal_pre_finite_up [hUpDxRefIdeal : Cert.UpDxRefIdeal.Facts] [hPre_finite_up : Cert.Pre_finite_up.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal_finite_up m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxIdeal_pre_finite_in [hInDxIdeal : Cert.InDxIdeal.Facts] [hPre_finite_in : Cert.Pre_finite_in.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal_finite_in m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_InDxRefIdeal_pre_finite_in [hInDxRefIdeal : Cert.InDxRefIdeal.Facts] [hPre_finite_in : Cert.Pre_finite_in.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal_finite_in m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_finite_loss [hLossHeadIdeal : Cert.LossHeadIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_loss m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_finite_loss [hLossHeadRefIdeal : Cert.LossHeadRefIdeal.Facts] [hPre_finite_loss : Cert.Pre_finite_loss.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_finite_loss m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_finite_attn_fwd [hAttnFwdIdeal : Cert.AttnFwdIdeal.Facts] [hPre_finite_attn_fwd : Cert.Pre_finite_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attn_fwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_finite_attn_fwd [hAttnFwdRefIdeal : Cert.AttnFwdRefIdeal.Facts] [hPre_finite_attn_fwd : Cert.Pre_finite_attn_fwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attn_fwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1)
      ∧ r.2.mem ((c.tc : Thread Cert.UpFwdRefIdeal.nD Cert.UpFwdRefIdeal.τ).loc Cert.UpFwdRefIdeal.main_arg2) = m ((c.tc : Thread Cert.UpFwdRefIdeal.nD Cert.UpFwdRefIdeal.τ).loc Cert.UpFwdRefIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2))
      ∧ r.2.sem = fun _ => 0)

def quiescent_S5Fwd [hS5Fwd : Cert.S5Fwd.Facts] : Prop :=
  ∀ (m : (ℓ : Loc Cert.S5Fwd.nD Cert.S5Fwd.τ Cert.S5Fwd.sig) → Buf (Elt Bits) ℓ) (g : Dev Cert.S5Fwd.nD → PrngReg), Pre_S5Fwd m →
    θ_run (Cert.S5Fwd.defs (F := Bits)) (onTc (τ := Cert.S5Fwd.τ) (Cert.S5Fwd.main (F := Bits))) ⟨m, fun _ => 0, g⟩ (fun r => (∀ c : Dev Cert.S5Fwd.nD,
      r.2.mem ((c.tc : Thread Cert.S5Fwd.nD Cert.S5Fwd.τ).loc Cert.S5Fwd.main_arg0) = m ((c.tc : Thread Cert.S5Fwd.nD Cert.S5Fwd.τ).loc Cert.S5Fwd.main_arg0)
      ∧ r.2.mem ((c.tc : Thread Cert.S5Fwd.nD Cert.S5Fwd.τ).loc Cert.S5Fwd.main_arg1) = m ((c.tc : Thread Cert.S5Fwd.nD Cert.S5Fwd.τ).loc Cert.S5Fwd.main_arg1)
      ∧ r.2.mem ((c.tc : Thread Cert.S5Fwd.nD Cert.S5Fwd.τ).loc Cert.S5Fwd.main_arg2) = m ((c.tc : Thread Cert.S5Fwd.nD Cert.S5Fwd.τ).loc Cert.S5Fwd.main_arg2)
      ∧ r.2.mem ((c.tc : Thread Cert.S5Fwd.nD Cert.S5Fwd.τ).loc Cert.S5Fwd.main_arg3) = m ((c.tc : Thread Cert.S5Fwd.nD Cert.S5Fwd.τ).loc Cert.S5Fwd.main_arg3)
      ∧ r.2.mem ((c.tc : Thread Cert.S5Fwd.nD Cert.S5Fwd.τ).loc Cert.S5Fwd.main_arg4) = m ((c.tc : Thread Cert.S5Fwd.nD Cert.S5Fwd.τ).loc Cert.S5Fwd.main_arg4)
      ∧ r.2.mem ((c.tc : Thread Cert.S5Fwd.nD Cert.S5Fwd.τ).loc Cert.S5Fwd.main_arg5) = m ((c.tc : Thread Cert.S5Fwd.nD Cert.S5Fwd.τ).loc Cert.S5Fwd.main_arg5)
      ∧ r.2.mem ((c.tc : Thread Cert.S5Fwd.nD Cert.S5Fwd.τ).loc Cert.S5Fwd.main_arg6) = m ((c.tc : Thread Cert.S5Fwd.nD Cert.S5Fwd.τ).loc Cert.S5Fwd.main_arg6)
      ∧ r.2.mem ((c.tc : Thread Cert.S5Fwd.nD Cert.S5Fwd.τ).loc Cert.S5Fwd.main_arg7) = m ((c.tc : Thread Cert.S5Fwd.nD Cert.S5Fwd.τ).loc Cert.S5Fwd.main_arg7)
      ∧ r.2.mem ((c.tc : Thread Cert.S5Fwd.nD Cert.S5Fwd.τ).loc Cert.S5Fwd.main_arg8) = m ((c.tc : Thread Cert.S5Fwd.nD Cert.S5Fwd.τ).loc Cert.S5Fwd.main_arg8))
      ∧ r.2.sem = fun _ => 0)

def quiescent_S5FwdIdeal [hS5FwdIdeal : Cert.S5FwdIdeal.Facts] : Prop :=
  ∀ (m : (ℓ : Loc Cert.S5FwdIdeal.nD Cert.S5FwdIdeal.τ Cert.S5FwdIdeal.sig) → Buf (Elt Ideal) ℓ) (g : Dev Cert.S5FwdIdeal.nD → PrngReg), Pre_S5FwdIdeal m →
    θ_run (Cert.S5FwdIdeal.defs (F := Ideal)) (onTc (τ := Cert.S5FwdIdeal.τ) (Cert.S5FwdIdeal.main (F := Ideal))) ⟨m, fun _ => 0, g⟩ (fun r => (∀ c : Dev Cert.S5FwdIdeal.nD,
      r.2.mem ((c.tc : Thread Cert.S5FwdIdeal.nD Cert.S5FwdIdeal.τ).loc Cert.S5FwdIdeal.main_arg0) = m ((c.tc : Thread Cert.S5FwdIdeal.nD Cert.S5FwdIdeal.τ).loc Cert.S5FwdIdeal.main_arg0)
      ∧ r.2.mem ((c.tc : Thread Cert.S5FwdIdeal.nD Cert.S5FwdIdeal.τ).loc Cert.S5FwdIdeal.main_arg1) = m ((c.tc : Thread Cert.S5FwdIdeal.nD Cert.S5FwdIdeal.τ).loc Cert.S5FwdIdeal.main_arg1)
      ∧ r.2.mem ((c.tc : Thread Cert.S5FwdIdeal.nD Cert.S5FwdIdeal.τ).loc Cert.S5FwdIdeal.main_arg2) = m ((c.tc : Thread Cert.S5FwdIdeal.nD Cert.S5FwdIdeal.τ).loc Cert.S5FwdIdeal.main_arg2)
      ∧ r.2.mem ((c.tc : Thread Cert.S5FwdIdeal.nD Cert.S5FwdIdeal.τ).loc Cert.S5FwdIdeal.main_arg3) = m ((c.tc : Thread Cert.S5FwdIdeal.nD Cert.S5FwdIdeal.τ).loc Cert.S5FwdIdeal.main_arg3)
      ∧ r.2.mem ((c.tc : Thread Cert.S5FwdIdeal.nD Cert.S5FwdIdeal.τ).loc Cert.S5FwdIdeal.main_arg4) = m ((c.tc : Thread Cert.S5FwdIdeal.nD Cert.S5FwdIdeal.τ).loc Cert.S5FwdIdeal.main_arg4)
      ∧ r.2.mem ((c.tc : Thread Cert.S5FwdIdeal.nD Cert.S5FwdIdeal.τ).loc Cert.S5FwdIdeal.main_arg5) = m ((c.tc : Thread Cert.S5FwdIdeal.nD Cert.S5FwdIdeal.τ).loc Cert.S5FwdIdeal.main_arg5)
      ∧ r.2.mem ((c.tc : Thread Cert.S5FwdIdeal.nD Cert.S5FwdIdeal.τ).loc Cert.S5FwdIdeal.main_arg6) = m ((c.tc : Thread Cert.S5FwdIdeal.nD Cert.S5FwdIdeal.τ).loc Cert.S5FwdIdeal.main_arg6)
      ∧ r.2.mem ((c.tc : Thread Cert.S5FwdIdeal.nD Cert.S5FwdIdeal.τ).loc Cert.S5FwdIdeal.main_arg7) = m ((c.tc : Thread Cert.S5FwdIdeal.nD Cert.S5FwdIdeal.τ).loc Cert.S5FwdIdeal.main_arg7)
      ∧ r.2.mem ((c.tc : Thread Cert.S5FwdIdeal.nD Cert.S5FwdIdeal.τ).loc Cert.S5FwdIdeal.main_arg8) = m ((c.tc : Thread Cert.S5FwdIdeal.nD Cert.S5FwdIdeal.τ).loc Cert.S5FwdIdeal.main_arg8))
      ∧ r.2.sem = fun _ => 0)

def quiescent_S5FwdRefIdeal [hS5FwdRefIdeal : Cert.S5FwdRefIdeal.Facts] : Prop :=
  ∀ (m : (ℓ : Loc Cert.S5FwdRefIdeal.nD Cert.S5FwdRefIdeal.τ Cert.S5FwdRefIdeal.sig) → Buf (Elt Ideal) ℓ) (g : Dev Cert.S5FwdRefIdeal.nD → PrngReg), Pre_S5FwdRefIdeal m →
    θ_run (Cert.S5FwdRefIdeal.defs (F := Ideal)) (onTc (τ := Cert.S5FwdRefIdeal.τ) (Cert.S5FwdRefIdeal.main (F := Ideal))) ⟨m, fun _ => 0, g⟩ (fun r => (∀ c : Dev Cert.S5FwdRefIdeal.nD,
      r.2.mem ((c.tc : Thread Cert.S5FwdRefIdeal.nD Cert.S5FwdRefIdeal.τ).loc Cert.S5FwdRefIdeal.main_arg0) = m ((c.tc : Thread Cert.S5FwdRefIdeal.nD Cert.S5FwdRefIdeal.τ).loc Cert.S5FwdRefIdeal.main_arg0)
      ∧ r.2.mem ((c.tc : Thread Cert.S5FwdRefIdeal.nD Cert.S5FwdRefIdeal.τ).loc Cert.S5FwdRefIdeal.main_arg1) = m ((c.tc : Thread Cert.S5FwdRefIdeal.nD Cert.S5FwdRefIdeal.τ).loc Cert.S5FwdRefIdeal.main_arg1)
      ∧ r.2.mem ((c.tc : Thread Cert.S5FwdRefIdeal.nD Cert.S5FwdRefIdeal.τ).loc Cert.S5FwdRefIdeal.main_arg2) = m ((c.tc : Thread Cert.S5FwdRefIdeal.nD Cert.S5FwdRefIdeal.τ).loc Cert.S5FwdRefIdeal.main_arg2)
      ∧ r.2.mem ((c.tc : Thread Cert.S5FwdRefIdeal.nD Cert.S5FwdRefIdeal.τ).loc Cert.S5FwdRefIdeal.main_arg3) = m ((c.tc : Thread Cert.S5FwdRefIdeal.nD Cert.S5FwdRefIdeal.τ).loc Cert.S5FwdRefIdeal.main_arg3)
      ∧ r.2.mem ((c.tc : Thread Cert.S5FwdRefIdeal.nD Cert.S5FwdRefIdeal.τ).loc Cert.S5FwdRefIdeal.main_arg4) = m ((c.tc : Thread Cert.S5FwdRefIdeal.nD Cert.S5FwdRefIdeal.τ).loc Cert.S5FwdRefIdeal.main_arg4)
      ∧ r.2.mem ((c.tc : Thread Cert.S5FwdRefIdeal.nD Cert.S5FwdRefIdeal.τ).loc Cert.S5FwdRefIdeal.main_arg5) = m ((c.tc : Thread Cert.S5FwdRefIdeal.nD Cert.S5FwdRefIdeal.τ).loc Cert.S5FwdRefIdeal.main_arg5)
      ∧ r.2.mem ((c.tc : Thread Cert.S5FwdRefIdeal.nD Cert.S5FwdRefIdeal.τ).loc Cert.S5FwdRefIdeal.main_arg6) = m ((c.tc : Thread Cert.S5FwdRefIdeal.nD Cert.S5FwdRefIdeal.τ).loc Cert.S5FwdRefIdeal.main_arg6)
      ∧ r.2.mem ((c.tc : Thread Cert.S5FwdRefIdeal.nD Cert.S5FwdRefIdeal.τ).loc Cert.S5FwdRefIdeal.main_arg7) = m ((c.tc : Thread Cert.S5FwdRefIdeal.nD Cert.S5FwdRefIdeal.τ).loc Cert.S5FwdRefIdeal.main_arg7)
      ∧ r.2.mem ((c.tc : Thread Cert.S5FwdRefIdeal.nD Cert.S5FwdRefIdeal.τ).loc Cert.S5FwdRefIdeal.main_arg8) = m ((c.tc : Thread Cert.S5FwdRefIdeal.nD Cert.S5FwdRefIdeal.τ).loc Cert.S5FwdRefIdeal.main_arg8))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3)
      ∧ r.2.mem ((c.tc : Thread Cert.AdamW.nD Cert.AdamW.τ).loc Cert.AdamW.main_arg4) = m ((c.tc : Thread Cert.AdamW.nD Cert.AdamW.τ).loc Cert.AdamW.main_arg4))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
      ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3)
      ∧ r.2.mem ((c.tc : Thread Cert.AdamWRefIdeal.nD Cert.AdamWRefIdeal.τ).loc Cert.AdamWRefIdeal.main_arg4) = m ((c.tc : Thread Cert.AdamWRefIdeal.nD Cert.AdamWRefIdeal.τ).loc Cert.AdamWRefIdeal.main_arg4))
      ∧ r.2.sem = fun _ => 0)

def preserves_GluBwd_GluBwdIdeal : Prop :=
  True

def algebraic_GluBwdIdeal_GluBwdRefIdeal [hGluBwdIdeal : Cert.GluBwdIdeal.Facts] [hGluBwdRefIdeal : Cert.GluBwdRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)) →
    ∃ (v0 : (c : Dev Cert.GluBwdIdeal.nD) → Buf (Elt Ideal) ((c.tc : Thread Cert.GluBwdIdeal.nD Cert.GluBwdIdeal.τ).loc Cert.GluBwdIdeal.main_v0)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v0) = v0 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v17) = v0 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)) (v3 : (c : Dev Cert.ConvBwdIdeal.nD) → Buf (Elt Ideal) ((c.tc : Thread Cert.ConvBwdIdeal.nD Cert.ConvBwdIdeal.τ).loc Cert.ConvBwdIdeal.main_v0_3)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_v0_3) = v3 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v70) = v0 c
          ∧ r.2.mem ((c.tc : Thread Cert.ConvBwdRefIdeal.nD Cert.ConvBwdRefIdeal.τ).loc Cert.ConvBwdRefIdeal.main_v72) = v1 c
          ∧ r.2.mem ((c.tc : Thread Cert.ConvBwdRefIdeal.nD Cert.ConvBwdRefIdeal.τ).loc Cert.ConvBwdRefIdeal.main_v74) = v2 c
          ∧ r.2.mem ((c.tc : Thread Cert.ConvBwdRefIdeal.nD Cert.ConvBwdRefIdeal.τ).loc Cert.ConvBwdRefIdeal.main_v64) = v3 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_DownDx_DownDxIdeal : Prop :=
  True

def algebraic_DownDxIdeal_DownDxRefIdeal_pre_finite_down [hDownDxIdeal : Cert.DownDxIdeal.Facts] [hDownDxRefIdeal : Cert.DownDxRefIdeal.Facts] [hPre_finite_down : Cert.Pre_finite_down.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal_finite_down m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v17) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_AttnBwd_AttnBwdIdeal : Prop :=
  True

def algebraic_AttnBwdIdeal_AttnBwdRefIdeal_pre_finite_attn [hAttnBwdIdeal : Cert.AttnBwdIdeal.Facts] [hAttnBwdRefIdeal : Cert.AttnBwdRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_attn m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v0_0)) (v1 : (c : Dev Cert.AttnBwdIdeal.nD) → Buf (Elt Ideal) ((c.tc : Thread Cert.AttnBwdIdeal.nD Cert.AttnBwdIdeal.τ).loc Cert.AttnBwdIdeal.main_v0_1)) (v2 : (c : Dev Cert.AttnBwdIdeal.nD) → Buf (Elt Ideal) ((c.tc : Thread Cert.AttnBwdIdeal.nD Cert.AttnBwdIdeal.τ).loc Cert.AttnBwdIdeal.main_v0_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v0_0) = v0 c
          ∧ r.2.mem ((c.tc : Thread Cert.AttnBwdIdeal.nD Cert.AttnBwdIdeal.τ).loc Cert.AttnBwdIdeal.main_v0_1) = v1 c
          ∧ r.2.mem ((c.tc : Thread Cert.AttnBwdIdeal.nD Cert.AttnBwdIdeal.τ).loc Cert.AttnBwdIdeal.main_v0_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v68) = v0 c
          ∧ r.2.mem ((c.tc : Thread Cert.AttnBwdRefIdeal.nD Cert.AttnBwdRefIdeal.τ).loc Cert.AttnBwdRefIdeal.main_v66) = v1 c
          ∧ r.2.mem ((c.tc : Thread Cert.AttnBwdRefIdeal.nD Cert.AttnBwdRefIdeal.τ).loc Cert.AttnBwdRefIdeal.main_v65) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2))

def preserves_NormBwd_NormBwdIdeal : Prop :=
  True

def algebraic_NormBwdIdeal_NormBwdRefIdeal_pre_finite_norm [hNormBwdIdeal : Cert.NormBwdIdeal.Facts] [hNormBwdRefIdeal : Cert.NormBwdRefIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_finite_norm m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v35) = v1 c
          ∧ r.2.mem ((c.tc : Thread Cert.NormBwdRefIdeal.nD Cert.NormBwdRefIdeal.τ).loc Cert.NormBwdRefIdeal.main_v17) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_MemNormBwd_MemNormBwdIdeal : Prop :=
  True

def algebraic_MemNormBwdIdeal_MemNormBwdRefIdeal [hMemNormBwdIdeal : Cert.MemNormBwdIdeal.Facts] [hMemNormBwdRefIdeal : Cert.MemNormBwdRefIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg)
    (m' : (ℓ : Loc Cert.MemNormBwdRefIdeal.nD Cert.MemNormBwdRefIdeal.τ Cert.MemNormBwdRefIdeal.sig) → Buf (Elt Ideal) ℓ) (g' : Dev Cert.MemNormBwdRefIdeal.nD → PrngReg), Pre_MemNormBwdIdeal m →
    (∀ c : Dev Cert.MemNormBwdIdeal.nD,
      m' ((c.tc : Thread Cert.MemNormBwdRefIdeal.nD Cert.MemNormBwdRefIdeal.τ).loc Cert.MemNormBwdRefIdeal.main_arg0) = m ((c.tc : Thread Cert.MemNormBwdIdeal.nD Cert.MemNormBwdIdeal.τ).loc Cert.MemNormBwdIdeal.main_arg0)
      ∧ m' ((c.tc : Thread Cert.MemNormBwdRefIdeal.nD Cert.MemNormBwdRefIdeal.τ).loc Cert.MemNormBwdRefIdeal.main_arg1) = m ((c.tc : Thread Cert.MemNormBwdIdeal.nD Cert.MemNormBwdIdeal.τ).loc Cert.MemNormBwdIdeal.main_arg1)
      ∧ m' ((c.tc : Thread Cert.MemNormBwdRefIdeal.nD Cert.MemNormBwdRefIdeal.τ).loc Cert.MemNormBwdRefIdeal.main_arg2) = m ((c.tc : Thread Cert.MemNormBwdIdeal.nD Cert.MemNormBwdIdeal.τ).loc Cert.MemNormBwdIdeal.main_arg2)) →
    ∃ (v0 : (c : Dev Cert.MemNormBwdIdeal.nD) → Buf (Elt Ideal) ((c.tc : Thread Cert.MemNormBwdIdeal.nD Cert.MemNormBwdIdeal.τ).loc Cert.MemNormBwdIdeal.main_v0)),
      θ_run (Cert.MemNormBwdIdeal.defs (F := Ideal)) (onTc (τ := Cert.MemNormBwdIdeal.τ) (Cert.MemNormBwdIdeal.main (F := Ideal))) ⟨m, fun _ => 0, g⟩ (fun r => ∀ c : Dev Cert.MemNormBwdIdeal.nD,
          r.2.mem ((c.tc : Thread Cert.MemNormBwdIdeal.nD Cert.MemNormBwdIdeal.τ).loc Cert.MemNormBwdIdeal.main_v0) = v0 c
          ∧ r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
          ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
          ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ θ_run (Cert.MemNormBwdRefIdeal.defs (F := Ideal)) (onTc (τ := Cert.MemNormBwdRefIdeal.τ) (Cert.MemNormBwdRefIdeal.main (F := Ideal))) ⟨m', fun _ => 0, g'⟩ (fun r => ∀ c : Dev Cert.MemNormBwdRefIdeal.nD,
          r.2.mem ((c.tc : Thread Cert.MemNormBwdRefIdeal.nD Cert.MemNormBwdRefIdeal.τ).loc Cert.MemNormBwdRefIdeal.main_v15) = v0 c
          ∧ r.2.mem ((c.tc : Thread Cert.MemNormBwdRefIdeal.nD Cert.MemNormBwdRefIdeal.τ).loc Cert.MemNormBwdRefIdeal.main_arg0) = m' ((c.tc : Thread Cert.MemNormBwdRefIdeal.nD Cert.MemNormBwdRefIdeal.τ).loc Cert.MemNormBwdRefIdeal.main_arg0)
          ∧ r.2.mem ((c.tc : Thread Cert.MemNormBwdRefIdeal.nD Cert.MemNormBwdRefIdeal.τ).loc Cert.MemNormBwdRefIdeal.main_arg1) = m' ((c.tc : Thread Cert.MemNormBwdRefIdeal.nD Cert.MemNormBwdRefIdeal.τ).loc Cert.MemNormBwdRefIdeal.main_arg1)
          ∧ r.2.mem ((c.tc : Thread Cert.MemNormBwdRefIdeal.nD Cert.MemNormBwdRefIdeal.τ).loc Cert.MemNormBwdRefIdeal.main_arg2) = m' ((c.tc : Thread Cert.MemNormBwdRefIdeal.nD Cert.MemNormBwdRefIdeal.τ).loc Cert.MemNormBwdRefIdeal.main_arg2))

def preserves_UpDx_UpDxIdeal : Prop :=
  True

def algebraic_UpDxIdeal_UpDxRefIdeal_pre_finite_up [hUpDxIdeal : Cert.UpDxIdeal.Facts] [hUpDxRefIdeal : Cert.UpDxRefIdeal.Facts] [hPre_finite_up : Cert.Pre_finite_up.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal_finite_up m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v0_0)) (v1 : (c : Dev Cert.UpDxIdeal.nD) → Buf (Elt Ideal) ((c.tc : Thread Cert.UpDxIdeal.nD Cert.UpDxIdeal.τ).loc Cert.UpDxIdeal.main_v0_1)) (v2 : (c : Dev Cert.UpDxIdeal.nD) → Buf (Elt Ideal) ((c.tc : Thread Cert.UpDxIdeal.nD Cert.UpDxIdeal.τ).loc Cert.UpDxIdeal.main_v0_2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0_0) = v0 c
          ∧ r.2.mem ((c.tc : Thread Cert.UpDxIdeal.nD Cert.UpDxIdeal.τ).loc Cert.UpDxIdeal.main_v0_1) = v1 c
          ∧ r.2.mem ((c.tc : Thread Cert.UpDxIdeal.nD Cert.UpDxIdeal.τ).loc Cert.UpDxIdeal.main_v0_2) = v2 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v39) = v0 c
          ∧ r.2.mem ((c.tc : Thread Cert.UpDxRefIdeal.nD Cert.UpDxRefIdeal.τ).loc Cert.UpDxRefIdeal.main_v40) = v1 c
          ∧ r.2.mem ((c.tc : Thread Cert.UpDxRefIdeal.nD Cert.UpDxRefIdeal.τ).loc Cert.UpDxRefIdeal.main_v22) = v2 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_InDx_InDxIdeal : Prop :=
  True

def algebraic_InDxIdeal_InDxRefIdeal_pre_finite_in [hInDxIdeal : Cert.InDxIdeal.Facts] [hInDxRefIdeal : Cert.InDxRefIdeal.Facts] [hPre_finite_in : Cert.Pre_finite_in.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal_finite_in m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v0_0)) (v1 : (c : Dev Cert.InDxIdeal.nD) → Buf (Elt Ideal) ((c.tc : Thread Cert.InDxIdeal.nD Cert.InDxIdeal.τ).loc Cert.InDxIdeal.main_v0_1)) (v2 : (c : Dev Cert.InDxIdeal.nD) → Buf (Elt Ideal) ((c.tc : Thread Cert.InDxIdeal.nD Cert.InDxIdeal.τ).loc Cert.InDxIdeal.main_v0_2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0_0) = v0 c
          ∧ r.2.mem ((c.tc : Thread Cert.InDxIdeal.nD Cert.InDxIdeal.τ).loc Cert.InDxIdeal.main_v0_1) = v1 c
          ∧ r.2.mem ((c.tc : Thread Cert.InDxIdeal.nD Cert.InDxIdeal.τ).loc Cert.InDxIdeal.main_v0_2) = v2 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v38) = v0 c
          ∧ r.2.mem ((c.tc : Thread Cert.InDxRefIdeal.nD Cert.InDxRefIdeal.τ).loc Cert.InDxRefIdeal.main_v39) = v1 c
          ∧ r.2.mem ((c.tc : Thread Cert.InDxRefIdeal.nD Cert.InDxRefIdeal.τ).loc Cert.InDxRefIdeal.main_v21) = v2 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_LossHead_LossHeadIdeal : Prop :=
  True

def algebraic_LossHeadIdeal_LossHeadRefIdeal_pre_finite_loss [hLossHeadIdeal : Cert.LossHeadIdeal.Facts] [hLossHeadRefIdeal : Cert.LossHeadRefIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_finite_loss m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v4)) (v1 : (c : Dev Cert.LossHeadIdeal.nD) → Buf (Elt Ideal) ((c.tc : Thread Cert.LossHeadIdeal.nD Cert.LossHeadIdeal.τ).loc Cert.LossHeadIdeal.main_v1_0)) (v2 : (c : Dev Cert.LossHeadIdeal.nD) → Buf (Elt Ideal) ((c.tc : Thread Cert.LossHeadIdeal.nD Cert.LossHeadIdeal.τ).loc Cert.LossHeadIdeal.main_v1_1)) (v3 : (c : Dev Cert.LossHeadIdeal.nD) → Buf (Elt Ideal) ((c.tc : Thread Cert.LossHeadIdeal.nD Cert.LossHeadIdeal.τ).loc Cert.LossHeadIdeal.main_v5)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v4) = v0 c
          ∧ r.2.mem ((c.tc : Thread Cert.LossHeadIdeal.nD Cert.LossHeadIdeal.τ).loc Cert.LossHeadIdeal.main_v1_0) = v1 c
          ∧ r.2.mem ((c.tc : Thread Cert.LossHeadIdeal.nD Cert.LossHeadIdeal.τ).loc Cert.LossHeadIdeal.main_v1_1) = v2 c
          ∧ r.2.mem ((c.tc : Thread Cert.LossHeadIdeal.nD Cert.LossHeadIdeal.τ).loc Cert.LossHeadIdeal.main_v5) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v24) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v51) = v2 c
          ∧ r.2.mem ((c.tc : Thread Cert.LossHeadRefIdeal.nD Cert.LossHeadRefIdeal.τ).loc Cert.LossHeadRefIdeal.main_v36) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AttnFwd_AttnFwdIdeal : Prop :=
  True

def algebraic_AttnFwdIdeal_AttnFwdRefIdeal_pre_finite_attn_fwd [hAttnFwdIdeal : Cert.AttnFwdIdeal.Facts] [hAttnFwdRefIdeal : Cert.AttnFwdRefIdeal.Facts] [hPre_finite_attn_fwd : Cert.Pre_finite_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attn_fwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v24) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)
      ∧ m' ((c.tc : Thread Cert.UpFwdRefIdeal.nD Cert.UpFwdRefIdeal.τ).loc Cert.UpFwdRefIdeal.main_arg2) = m ((c.tc : Thread Cert.UpFwdIdeal.nD Cert.UpFwdIdeal.τ).loc Cert.UpFwdIdeal.main_arg2)) →
    ∃ (v0 : (c : Dev Cert.UpFwdIdeal.nD) → Buf (Elt Ideal) ((c.tc : Thread Cert.UpFwdIdeal.nD Cert.UpFwdIdeal.τ).loc Cert.UpFwdIdeal.main_v0_0)) (v1 : (c : Dev Cert.UpFwdIdeal.nD) → Buf (Elt Ideal) ((c.tc : Thread Cert.UpFwdIdeal.nD Cert.UpFwdIdeal.τ).loc Cert.UpFwdIdeal.main_v0_1)) (v2 : (c : Dev Cert.UpFwdIdeal.nD) → Buf (Elt Ideal) ((c.tc : Thread Cert.UpFwdIdeal.nD Cert.UpFwdIdeal.τ).loc Cert.UpFwdIdeal.main_v0_2)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0_0) = v0 c
          ∧ r.2.mem ((c.tc : Thread Cert.UpFwdIdeal.nD Cert.UpFwdIdeal.τ).loc Cert.UpFwdIdeal.main_v0_1) = v1 c
          ∧ r.2.mem ((c.tc : Thread Cert.UpFwdIdeal.nD Cert.UpFwdIdeal.τ).loc Cert.UpFwdIdeal.main_v0_2) = v2 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v17) = v0 c
          ∧ r.2.mem ((c.tc : Thread Cert.UpFwdRefIdeal.nD Cert.UpFwdRefIdeal.τ).loc Cert.UpFwdRefIdeal.main_v20) = v1 c
          ∧ r.2.mem ((c.tc : Thread Cert.UpFwdRefIdeal.nD Cert.UpFwdRefIdeal.τ).loc Cert.UpFwdRefIdeal.main_v21) = v2 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1)
          ∧ r.2.mem ((c.tc : Thread Cert.UpFwdRefIdeal.nD Cert.UpFwdRefIdeal.τ).loc Cert.UpFwdRefIdeal.main_arg2) = m' ((c.tc : Thread Cert.UpFwdRefIdeal.nD Cert.UpFwdRefIdeal.τ).loc Cert.UpFwdRefIdeal.main_arg2))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v0_0)) (v1 : (c : Dev Cert.InFwdIdeal.nD) → Buf (Elt Ideal) ((c.tc : Thread Cert.InFwdIdeal.nD Cert.InFwdIdeal.τ).loc Cert.InFwdIdeal.main_v0_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0_0) = v0 c
          ∧ r.2.mem ((c.tc : Thread Cert.InFwdIdeal.nD Cert.InFwdIdeal.τ).loc Cert.InFwdIdeal.main_v0_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v14) = v0 c
          ∧ r.2.mem ((c.tc : Thread Cert.InFwdRefIdeal.nD Cert.InFwdRefIdeal.τ).loc Cert.InFwdRefIdeal.main_v15) = v1 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v30) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)) →
    ∃ (v0 : (c : Dev Cert.GluFwdIdeal.nD) → Buf (Elt Ideal) ((c.tc : Thread Cert.GluFwdIdeal.nD Cert.GluFwdIdeal.τ).loc Cert.GluFwdIdeal.main_v0_0)) (v1 : (c : Dev Cert.GluFwdIdeal.nD) → Buf (Elt Ideal) ((c.tc : Thread Cert.GluFwdIdeal.nD Cert.GluFwdIdeal.τ).loc Cert.GluFwdIdeal.main_v0_1)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v0_0) = v0 c
          ∧ r.2.mem ((c.tc : Thread Cert.GluFwdIdeal.nD Cert.GluFwdIdeal.τ).loc Cert.GluFwdIdeal.main_v0_1) = v1 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v5) = v0 c
          ∧ r.2.mem ((c.tc : Thread Cert.GluFwdRefIdeal.nD Cert.GluFwdRefIdeal.τ).loc Cert.GluFwdRefIdeal.main_v13) = v1 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2))

def preserves_S5Fwd_S5FwdIdeal : Prop :=
  True

def algebraic_S5FwdIdeal_S5FwdRefIdeal [hS5FwdIdeal : Cert.S5FwdIdeal.Facts] [hS5FwdRefIdeal : Cert.S5FwdRefIdeal.Facts] : Prop :=
  ∀ (m : (ℓ : Loc Cert.S5FwdIdeal.nD Cert.S5FwdIdeal.τ Cert.S5FwdIdeal.sig) → Buf (Elt Ideal) ℓ) (g : Dev Cert.S5FwdIdeal.nD → PrngReg)
    (m' : (ℓ : Loc Cert.S5FwdRefIdeal.nD Cert.S5FwdRefIdeal.τ Cert.S5FwdRefIdeal.sig) → Buf (Elt Ideal) ℓ) (g' : Dev Cert.S5FwdRefIdeal.nD → PrngReg), Pre_S5FwdIdeal m →
    (∀ c : Dev Cert.S5FwdIdeal.nD,
      m' ((c.tc : Thread Cert.S5FwdRefIdeal.nD Cert.S5FwdRefIdeal.τ).loc Cert.S5FwdRefIdeal.main_arg0) = m ((c.tc : Thread Cert.S5FwdIdeal.nD Cert.S5FwdIdeal.τ).loc Cert.S5FwdIdeal.main_arg0)
      ∧ m' ((c.tc : Thread Cert.S5FwdRefIdeal.nD Cert.S5FwdRefIdeal.τ).loc Cert.S5FwdRefIdeal.main_arg1) = m ((c.tc : Thread Cert.S5FwdIdeal.nD Cert.S5FwdIdeal.τ).loc Cert.S5FwdIdeal.main_arg1)
      ∧ m' ((c.tc : Thread Cert.S5FwdRefIdeal.nD Cert.S5FwdRefIdeal.τ).loc Cert.S5FwdRefIdeal.main_arg2) = m ((c.tc : Thread Cert.S5FwdIdeal.nD Cert.S5FwdIdeal.τ).loc Cert.S5FwdIdeal.main_arg2)
      ∧ m' ((c.tc : Thread Cert.S5FwdRefIdeal.nD Cert.S5FwdRefIdeal.τ).loc Cert.S5FwdRefIdeal.main_arg3) = m ((c.tc : Thread Cert.S5FwdIdeal.nD Cert.S5FwdIdeal.τ).loc Cert.S5FwdIdeal.main_arg3)
      ∧ m' ((c.tc : Thread Cert.S5FwdRefIdeal.nD Cert.S5FwdRefIdeal.τ).loc Cert.S5FwdRefIdeal.main_arg4) = m ((c.tc : Thread Cert.S5FwdIdeal.nD Cert.S5FwdIdeal.τ).loc Cert.S5FwdIdeal.main_arg4)
      ∧ m' ((c.tc : Thread Cert.S5FwdRefIdeal.nD Cert.S5FwdRefIdeal.τ).loc Cert.S5FwdRefIdeal.main_arg5) = m ((c.tc : Thread Cert.S5FwdIdeal.nD Cert.S5FwdIdeal.τ).loc Cert.S5FwdIdeal.main_arg5)
      ∧ m' ((c.tc : Thread Cert.S5FwdRefIdeal.nD Cert.S5FwdRefIdeal.τ).loc Cert.S5FwdRefIdeal.main_arg6) = m ((c.tc : Thread Cert.S5FwdIdeal.nD Cert.S5FwdIdeal.τ).loc Cert.S5FwdIdeal.main_arg6)
      ∧ m' ((c.tc : Thread Cert.S5FwdRefIdeal.nD Cert.S5FwdRefIdeal.τ).loc Cert.S5FwdRefIdeal.main_arg7) = m ((c.tc : Thread Cert.S5FwdIdeal.nD Cert.S5FwdIdeal.τ).loc Cert.S5FwdIdeal.main_arg7)
      ∧ m' ((c.tc : Thread Cert.S5FwdRefIdeal.nD Cert.S5FwdRefIdeal.τ).loc Cert.S5FwdRefIdeal.main_arg8) = m ((c.tc : Thread Cert.S5FwdIdeal.nD Cert.S5FwdIdeal.τ).loc Cert.S5FwdIdeal.main_arg8)) →
    ∃ (v0 : (c : Dev Cert.S5FwdIdeal.nD) → Buf (Elt Ideal) ((c.tc : Thread Cert.S5FwdIdeal.nD Cert.S5FwdIdeal.τ).loc Cert.S5FwdIdeal.main_v104_0)) (v1 : (c : Dev Cert.S5FwdIdeal.nD) → Buf (Elt Ideal) ((c.tc : Thread Cert.S5FwdIdeal.nD Cert.S5FwdIdeal.τ).loc Cert.S5FwdIdeal.main_v104_1)) (v2 : (c : Dev Cert.S5FwdIdeal.nD) → Buf (Elt Ideal) ((c.tc : Thread Cert.S5FwdIdeal.nD Cert.S5FwdIdeal.τ).loc Cert.S5FwdIdeal.main_v104_2)) (v3 : (c : Dev Cert.S5FwdIdeal.nD) → Buf (Elt Ideal) ((c.tc : Thread Cert.S5FwdIdeal.nD Cert.S5FwdIdeal.τ).loc Cert.S5FwdIdeal.main_v104_3)),
      θ_run (Cert.S5FwdIdeal.defs (F := Ideal)) (onTc (τ := Cert.S5FwdIdeal.τ) (Cert.S5FwdIdeal.main (F := Ideal))) ⟨m, fun _ => 0, g⟩ (fun r => ∀ c : Dev Cert.S5FwdIdeal.nD,
          r.2.mem ((c.tc : Thread Cert.S5FwdIdeal.nD Cert.S5FwdIdeal.τ).loc Cert.S5FwdIdeal.main_v104_0) = v0 c
          ∧ r.2.mem ((c.tc : Thread Cert.S5FwdIdeal.nD Cert.S5FwdIdeal.τ).loc Cert.S5FwdIdeal.main_v104_1) = v1 c
          ∧ r.2.mem ((c.tc : Thread Cert.S5FwdIdeal.nD Cert.S5FwdIdeal.τ).loc Cert.S5FwdIdeal.main_v104_2) = v2 c
          ∧ r.2.mem ((c.tc : Thread Cert.S5FwdIdeal.nD Cert.S5FwdIdeal.τ).loc Cert.S5FwdIdeal.main_v104_3) = v3 c
          ∧ r.2.mem ((c.tc : Thread Cert.S5FwdIdeal.nD Cert.S5FwdIdeal.τ).loc Cert.S5FwdIdeal.main_arg0) = m ((c.tc : Thread Cert.S5FwdIdeal.nD Cert.S5FwdIdeal.τ).loc Cert.S5FwdIdeal.main_arg0)
          ∧ r.2.mem ((c.tc : Thread Cert.S5FwdIdeal.nD Cert.S5FwdIdeal.τ).loc Cert.S5FwdIdeal.main_arg1) = m ((c.tc : Thread Cert.S5FwdIdeal.nD Cert.S5FwdIdeal.τ).loc Cert.S5FwdIdeal.main_arg1)
          ∧ r.2.mem ((c.tc : Thread Cert.S5FwdIdeal.nD Cert.S5FwdIdeal.τ).loc Cert.S5FwdIdeal.main_arg2) = m ((c.tc : Thread Cert.S5FwdIdeal.nD Cert.S5FwdIdeal.τ).loc Cert.S5FwdIdeal.main_arg2)
          ∧ r.2.mem ((c.tc : Thread Cert.S5FwdIdeal.nD Cert.S5FwdIdeal.τ).loc Cert.S5FwdIdeal.main_arg3) = m ((c.tc : Thread Cert.S5FwdIdeal.nD Cert.S5FwdIdeal.τ).loc Cert.S5FwdIdeal.main_arg3)
          ∧ r.2.mem ((c.tc : Thread Cert.S5FwdIdeal.nD Cert.S5FwdIdeal.τ).loc Cert.S5FwdIdeal.main_arg4) = m ((c.tc : Thread Cert.S5FwdIdeal.nD Cert.S5FwdIdeal.τ).loc Cert.S5FwdIdeal.main_arg4)
          ∧ r.2.mem ((c.tc : Thread Cert.S5FwdIdeal.nD Cert.S5FwdIdeal.τ).loc Cert.S5FwdIdeal.main_arg5) = m ((c.tc : Thread Cert.S5FwdIdeal.nD Cert.S5FwdIdeal.τ).loc Cert.S5FwdIdeal.main_arg5)
          ∧ r.2.mem ((c.tc : Thread Cert.S5FwdIdeal.nD Cert.S5FwdIdeal.τ).loc Cert.S5FwdIdeal.main_arg6) = m ((c.tc : Thread Cert.S5FwdIdeal.nD Cert.S5FwdIdeal.τ).loc Cert.S5FwdIdeal.main_arg6)
          ∧ r.2.mem ((c.tc : Thread Cert.S5FwdIdeal.nD Cert.S5FwdIdeal.τ).loc Cert.S5FwdIdeal.main_arg7) = m ((c.tc : Thread Cert.S5FwdIdeal.nD Cert.S5FwdIdeal.τ).loc Cert.S5FwdIdeal.main_arg7)
          ∧ r.2.mem ((c.tc : Thread Cert.S5FwdIdeal.nD Cert.S5FwdIdeal.τ).loc Cert.S5FwdIdeal.main_arg8) = m ((c.tc : Thread Cert.S5FwdIdeal.nD Cert.S5FwdIdeal.τ).loc Cert.S5FwdIdeal.main_arg8))
      ∧ θ_run (Cert.S5FwdRefIdeal.defs (F := Ideal)) (onTc (τ := Cert.S5FwdRefIdeal.τ) (Cert.S5FwdRefIdeal.main (F := Ideal))) ⟨m', fun _ => 0, g'⟩ (fun r => ∀ c : Dev Cert.S5FwdRefIdeal.nD,
          r.2.mem ((c.tc : Thread Cert.S5FwdRefIdeal.nD Cert.S5FwdRefIdeal.τ).loc Cert.S5FwdRefIdeal.main_v63) = v0 c
          ∧ r.2.mem ((c.tc : Thread Cert.S5FwdRefIdeal.nD Cert.S5FwdRefIdeal.τ).loc Cert.S5FwdRefIdeal.main_v64) = v1 c
          ∧ r.2.mem ((c.tc : Thread Cert.S5FwdRefIdeal.nD Cert.S5FwdRefIdeal.τ).loc Cert.S5FwdRefIdeal.main_v62) = v2 c
          ∧ r.2.mem ((c.tc : Thread Cert.S5FwdRefIdeal.nD Cert.S5FwdRefIdeal.τ).loc Cert.S5FwdRefIdeal.main_v78) = v3 c
          ∧ r.2.mem ((c.tc : Thread Cert.S5FwdRefIdeal.nD Cert.S5FwdRefIdeal.τ).loc Cert.S5FwdRefIdeal.main_arg0) = m' ((c.tc : Thread Cert.S5FwdRefIdeal.nD Cert.S5FwdRefIdeal.τ).loc Cert.S5FwdRefIdeal.main_arg0)
          ∧ r.2.mem ((c.tc : Thread Cert.S5FwdRefIdeal.nD Cert.S5FwdRefIdeal.τ).loc Cert.S5FwdRefIdeal.main_arg1) = m' ((c.tc : Thread Cert.S5FwdRefIdeal.nD Cert.S5FwdRefIdeal.τ).loc Cert.S5FwdRefIdeal.main_arg1)
          ∧ r.2.mem ((c.tc : Thread Cert.S5FwdRefIdeal.nD Cert.S5FwdRefIdeal.τ).loc Cert.S5FwdRefIdeal.main_arg2) = m' ((c.tc : Thread Cert.S5FwdRefIdeal.nD Cert.S5FwdRefIdeal.τ).loc Cert.S5FwdRefIdeal.main_arg2)
          ∧ r.2.mem ((c.tc : Thread Cert.S5FwdRefIdeal.nD Cert.S5FwdRefIdeal.τ).loc Cert.S5FwdRefIdeal.main_arg3) = m' ((c.tc : Thread Cert.S5FwdRefIdeal.nD Cert.S5FwdRefIdeal.τ).loc Cert.S5FwdRefIdeal.main_arg3)
          ∧ r.2.mem ((c.tc : Thread Cert.S5FwdRefIdeal.nD Cert.S5FwdRefIdeal.τ).loc Cert.S5FwdRefIdeal.main_arg4) = m' ((c.tc : Thread Cert.S5FwdRefIdeal.nD Cert.S5FwdRefIdeal.τ).loc Cert.S5FwdRefIdeal.main_arg4)
          ∧ r.2.mem ((c.tc : Thread Cert.S5FwdRefIdeal.nD Cert.S5FwdRefIdeal.τ).loc Cert.S5FwdRefIdeal.main_arg5) = m' ((c.tc : Thread Cert.S5FwdRefIdeal.nD Cert.S5FwdRefIdeal.τ).loc Cert.S5FwdRefIdeal.main_arg5)
          ∧ r.2.mem ((c.tc : Thread Cert.S5FwdRefIdeal.nD Cert.S5FwdRefIdeal.τ).loc Cert.S5FwdRefIdeal.main_arg6) = m' ((c.tc : Thread Cert.S5FwdRefIdeal.nD Cert.S5FwdRefIdeal.τ).loc Cert.S5FwdRefIdeal.main_arg6)
          ∧ r.2.mem ((c.tc : Thread Cert.S5FwdRefIdeal.nD Cert.S5FwdRefIdeal.τ).loc Cert.S5FwdRefIdeal.main_arg7) = m' ((c.tc : Thread Cert.S5FwdRefIdeal.nD Cert.S5FwdRefIdeal.τ).loc Cert.S5FwdRefIdeal.main_arg7)
          ∧ r.2.mem ((c.tc : Thread Cert.S5FwdRefIdeal.nD Cert.S5FwdRefIdeal.τ).loc Cert.S5FwdRefIdeal.main_arg8) = m' ((c.tc : Thread Cert.S5FwdRefIdeal.nD Cert.S5FwdRefIdeal.τ).loc Cert.S5FwdRefIdeal.main_arg8))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v7) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)
      ∧ m' ((c.tc : Thread Cert.AdamWRefIdeal.nD Cert.AdamWRefIdeal.τ).loc Cert.AdamWRefIdeal.main_arg4) = m ((c.tc : Thread Cert.AdamWIdeal.nD Cert.AdamWIdeal.τ).loc Cert.AdamWIdeal.main_arg4)) →
    ∃ (v0 : (c : Dev Cert.AdamWIdeal.nD) → Buf (Elt Ideal) ((c.tc : Thread Cert.AdamWIdeal.nD Cert.AdamWIdeal.τ).loc Cert.AdamWIdeal.main_v3_0)) (v1 : (c : Dev Cert.AdamWIdeal.nD) → Buf (Elt Ideal) ((c.tc : Thread Cert.AdamWIdeal.nD Cert.AdamWIdeal.τ).loc Cert.AdamWIdeal.main_v3_1)) (v2 : (c : Dev Cert.AdamWIdeal.nD) → Buf (Elt Ideal) ((c.tc : Thread Cert.AdamWIdeal.nD Cert.AdamWIdeal.τ).loc Cert.AdamWIdeal.main_v3_2)) (v3 : (c : Dev Cert.AdamWIdeal.nD) → Buf (Elt Ideal) ((c.tc : Thread Cert.AdamWIdeal.nD Cert.AdamWIdeal.τ).loc Cert.AdamWIdeal.main_v3_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v3_0) = v0 c
          ∧ r.2.mem ((c.tc : Thread Cert.AdamWIdeal.nD Cert.AdamWIdeal.τ).loc Cert.AdamWIdeal.main_v3_1) = v1 c
          ∧ r.2.mem ((c.tc : Thread Cert.AdamWIdeal.nD Cert.AdamWIdeal.τ).loc Cert.AdamWIdeal.main_v3_2) = v2 c
          ∧ r.2.mem ((c.tc : Thread Cert.AdamWIdeal.nD Cert.AdamWIdeal.τ).loc Cert.AdamWIdeal.main_v3_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
          ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v31) = v0 c
          ∧ r.2.mem ((c.tc : Thread Cert.AdamWRefIdeal.nD Cert.AdamWRefIdeal.τ).loc Cert.AdamWRefIdeal.main_v32) = v1 c
          ∧ r.2.mem ((c.tc : Thread Cert.AdamWRefIdeal.nD Cert.AdamWRefIdeal.τ).loc Cert.AdamWRefIdeal.main_v33) = v2 c
          ∧ r.2.mem ((c.tc : Thread Cert.AdamWRefIdeal.nD Cert.AdamWRefIdeal.τ).loc Cert.AdamWRefIdeal.main_v34) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3)
          ∧ r.2.mem ((c.tc : Thread Cert.AdamWRefIdeal.nD Cert.AdamWRefIdeal.τ).loc Cert.AdamWRefIdeal.main_arg4) = m' ((c.tc : Thread Cert.AdamWRefIdeal.nD Cert.AdamWRefIdeal.τ).loc Cert.AdamWRefIdeal.main_arg4))

def Claim : Prop :=
  ∃ (hGluBwd : Cert.GluBwd.Facts) (hGluBwdIdeal : Cert.GluBwdIdeal.Facts) (hGluBwdRefIdeal : Cert.GluBwdRefIdeal.Facts) (hConvBwd : Cert.ConvBwd.Facts) (hConvBwdIdeal : Cert.ConvBwdIdeal.Facts) (hConvBwdRefIdeal : Cert.ConvBwdRefIdeal.Facts) (hDownDx : Cert.DownDx.Facts) (hDownDxIdeal : Cert.DownDxIdeal.Facts) (hDownDxRefIdeal : Cert.DownDxRefIdeal.Facts) (hAttnBwd : Cert.AttnBwd.Facts) (hAttnBwdIdeal : Cert.AttnBwdIdeal.Facts) (hAttnBwdRefIdeal : Cert.AttnBwdRefIdeal.Facts) (hNormBwd : Cert.NormBwd.Facts) (hNormBwdIdeal : Cert.NormBwdIdeal.Facts) (hNormBwdRefIdeal : Cert.NormBwdRefIdeal.Facts) (hMemNormBwd : Cert.MemNormBwd.Facts) (hMemNormBwdIdeal : Cert.MemNormBwdIdeal.Facts) (hMemNormBwdRefIdeal : Cert.MemNormBwdRefIdeal.Facts) (hUpDx : Cert.UpDx.Facts) (hUpDxIdeal : Cert.UpDxIdeal.Facts) (hUpDxRefIdeal : Cert.UpDxRefIdeal.Facts) (hInDx : Cert.InDx.Facts) (hInDxIdeal : Cert.InDxIdeal.Facts) (hInDxRefIdeal : Cert.InDxRefIdeal.Facts) (hLossHead : Cert.LossHead.Facts) (hLossHeadIdeal : Cert.LossHeadIdeal.Facts) (hLossHeadRefIdeal : Cert.LossHeadRefIdeal.Facts) (hAttnFwd : Cert.AttnFwd.Facts) (hAttnFwdIdeal : Cert.AttnFwdIdeal.Facts) (hAttnFwdRefIdeal : Cert.AttnFwdRefIdeal.Facts) (hUpFwd : Cert.UpFwd.Facts) (hUpFwdIdeal : Cert.UpFwdIdeal.Facts) (hUpFwdRefIdeal : Cert.UpFwdRefIdeal.Facts) (hInFwd : Cert.InFwd.Facts) (hInFwdIdeal : Cert.InFwdIdeal.Facts) (hInFwdRefIdeal : Cert.InFwdRefIdeal.Facts) (hNormFwd : Cert.NormFwd.Facts) (hNormFwdIdeal : Cert.NormFwdIdeal.Facts) (hNormFwdRefIdeal : Cert.NormFwdRefIdeal.Facts) (hConvFwd : Cert.ConvFwd.Facts) (hConvFwdIdeal : Cert.ConvFwdIdeal.Facts) (hConvFwdRefIdeal : Cert.ConvFwdRefIdeal.Facts) (hGluFwd : Cert.GluFwd.Facts) (hGluFwdIdeal : Cert.GluFwdIdeal.Facts) (hGluFwdRefIdeal : Cert.GluFwdRefIdeal.Facts) (hS5Fwd : Cert.S5Fwd.Facts) (hS5FwdIdeal : Cert.S5FwdIdeal.Facts) (hS5FwdRefIdeal : Cert.S5FwdRefIdeal.Facts) (hUpDw : Cert.UpDw.Facts) (hUpDwIdeal : Cert.UpDwIdeal.Facts) (hUpDwRefIdeal : Cert.UpDwRefIdeal.Facts) (hAdamW : Cert.AdamW.Facts) (hAdamWIdeal : Cert.AdamWIdeal.Facts) (hAdamWRefIdeal : Cert.AdamWRefIdeal.Facts) (hPre_finite_down : Cert.Pre_finite_down.Facts) (hPre_finite_attn : Cert.Pre_finite_attn.Facts) (hPre_finite_norm : Cert.Pre_finite_norm.Facts) (hPre_finite_up : Cert.Pre_finite_up.Facts) (hPre_finite_in : Cert.Pre_finite_in.Facts) (hPre_finite_loss : Cert.Pre_finite_loss.Facts) (hPre_finite_attn_fwd : Cert.Pre_finite_attn_fwd.Facts),
    quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_DownDx (hDownDx := hDownDx)
    ∧ quiescent_DownDxIdeal (hDownDxIdeal := hDownDxIdeal)
    ∧ quiescent_DownDxIdeal_pre_finite_down (hDownDxIdeal := hDownDxIdeal) (hPre_finite_down := hPre_finite_down)
    ∧ quiescent_DownDxRefIdeal (hDownDxRefIdeal := hDownDxRefIdeal)
    ∧ quiescent_DownDxRefIdeal_pre_finite_down (hDownDxRefIdeal := hDownDxRefIdeal) (hPre_finite_down := hPre_finite_down)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnBwdRefIdeal (hAttnBwdRefIdeal := hAttnBwdRefIdeal)
    ∧ quiescent_AttnBwdRefIdeal_pre_finite_attn (hAttnBwdRefIdeal := hAttnBwdRefIdeal) (hPre_finite_attn := hPre_finite_attn)
    ∧ quiescent_NormBwd (hNormBwd := hNormBwd)
    ∧ quiescent_NormBwdIdeal (hNormBwdIdeal := hNormBwdIdeal)
    ∧ quiescent_NormBwdIdeal_pre_finite_norm (hNormBwdIdeal := hNormBwdIdeal) (hPre_finite_norm := hPre_finite_norm)
    ∧ quiescent_NormBwdRefIdeal (hNormBwdRefIdeal := hNormBwdRefIdeal)
    ∧ quiescent_NormBwdRefIdeal_pre_finite_norm (hNormBwdRefIdeal := hNormBwdRefIdeal) (hPre_finite_norm := hPre_finite_norm)
    ∧ quiescent_MemNormBwd (hMemNormBwd := hMemNormBwd)
    ∧ quiescent_MemNormBwdIdeal (hMemNormBwdIdeal := hMemNormBwdIdeal)
    ∧ quiescent_MemNormBwdRefIdeal (hMemNormBwdRefIdeal := hMemNormBwdRefIdeal)
    ∧ quiescent_UpDx (hUpDx := hUpDx)
    ∧ quiescent_UpDxIdeal (hUpDxIdeal := hUpDxIdeal)
    ∧ quiescent_UpDxIdeal_pre_finite_up (hUpDxIdeal := hUpDxIdeal) (hPre_finite_up := hPre_finite_up)
    ∧ quiescent_UpDxRefIdeal (hUpDxRefIdeal := hUpDxRefIdeal)
    ∧ quiescent_UpDxRefIdeal_pre_finite_up (hUpDxRefIdeal := hUpDxRefIdeal) (hPre_finite_up := hPre_finite_up)
    ∧ quiescent_InDx (hInDx := hInDx)
    ∧ quiescent_InDxIdeal (hInDxIdeal := hInDxIdeal)
    ∧ quiescent_InDxIdeal_pre_finite_in (hInDxIdeal := hInDxIdeal) (hPre_finite_in := hPre_finite_in)
    ∧ quiescent_InDxRefIdeal (hInDxRefIdeal := hInDxRefIdeal)
    ∧ quiescent_InDxRefIdeal_pre_finite_in (hInDxRefIdeal := hInDxRefIdeal) (hPre_finite_in := hPre_finite_in)
    ∧ quiescent_LossHead (hLossHead := hLossHead)
    ∧ quiescent_LossHeadIdeal (hLossHeadIdeal := hLossHeadIdeal)
    ∧ quiescent_LossHeadIdeal_pre_finite_loss (hLossHeadIdeal := hLossHeadIdeal) (hPre_finite_loss := hPre_finite_loss)
    ∧ quiescent_LossHeadRefIdeal (hLossHeadRefIdeal := hLossHeadRefIdeal)
    ∧ quiescent_LossHeadRefIdeal_pre_finite_loss (hLossHeadRefIdeal := hLossHeadRefIdeal) (hPre_finite_loss := hPre_finite_loss)
    ∧ quiescent_AttnFwd (hAttnFwd := hAttnFwd)
    ∧ quiescent_AttnFwdIdeal (hAttnFwdIdeal := hAttnFwdIdeal)
    ∧ quiescent_AttnFwdIdeal_pre_finite_attn_fwd (hAttnFwdIdeal := hAttnFwdIdeal) (hPre_finite_attn_fwd := hPre_finite_attn_fwd)
    ∧ quiescent_AttnFwdRefIdeal (hAttnFwdRefIdeal := hAttnFwdRefIdeal)
    ∧ quiescent_AttnFwdRefIdeal_pre_finite_attn_fwd (hAttnFwdRefIdeal := hAttnFwdRefIdeal) (hPre_finite_attn_fwd := hPre_finite_attn_fwd)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_S5Fwd (hS5Fwd := hS5Fwd)
    ∧ quiescent_S5FwdIdeal (hS5FwdIdeal := hS5FwdIdeal)
    ∧ quiescent_S5FwdRefIdeal (hS5FwdRefIdeal := hS5FwdRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ preserves_GluBwd_GluBwdIdeal
    ∧ algebraic_GluBwdIdeal_GluBwdRefIdeal (hGluBwdIdeal := hGluBwdIdeal) (hGluBwdRefIdeal := hGluBwdRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_DownDx_DownDxIdeal
    ∧ algebraic_DownDxIdeal_DownDxRefIdeal_pre_finite_down (hDownDxIdeal := hDownDxIdeal) (hDownDxRefIdeal := hDownDxRefIdeal) (hPre_finite_down := hPre_finite_down)
    ∧ preserves_AttnBwd_AttnBwdIdeal
    ∧ algebraic_AttnBwdIdeal_AttnBwdRefIdeal_pre_finite_attn (hAttnBwdIdeal := hAttnBwdIdeal) (hAttnBwdRefIdeal := hAttnBwdRefIdeal) (hPre_finite_attn := hPre_finite_attn)
    ∧ preserves_NormBwd_NormBwdIdeal
    ∧ algebraic_NormBwdIdeal_NormBwdRefIdeal_pre_finite_norm (hNormBwdIdeal := hNormBwdIdeal) (hNormBwdRefIdeal := hNormBwdRefIdeal) (hPre_finite_norm := hPre_finite_norm)
    ∧ preserves_MemNormBwd_MemNormBwdIdeal
    ∧ algebraic_MemNormBwdIdeal_MemNormBwdRefIdeal (hMemNormBwdIdeal := hMemNormBwdIdeal) (hMemNormBwdRefIdeal := hMemNormBwdRefIdeal)
    ∧ preserves_UpDx_UpDxIdeal
    ∧ algebraic_UpDxIdeal_UpDxRefIdeal_pre_finite_up (hUpDxIdeal := hUpDxIdeal) (hUpDxRefIdeal := hUpDxRefIdeal) (hPre_finite_up := hPre_finite_up)
    ∧ preserves_InDx_InDxIdeal
    ∧ algebraic_InDxIdeal_InDxRefIdeal_pre_finite_in (hInDxIdeal := hInDxIdeal) (hInDxRefIdeal := hInDxRefIdeal) (hPre_finite_in := hPre_finite_in)
    ∧ preserves_LossHead_LossHeadIdeal
    ∧ algebraic_LossHeadIdeal_LossHeadRefIdeal_pre_finite_loss (hLossHeadIdeal := hLossHeadIdeal) (hLossHeadRefIdeal := hLossHeadRefIdeal) (hPre_finite_loss := hPre_finite_loss)
    ∧ preserves_AttnFwd_AttnFwdIdeal
    ∧ algebraic_AttnFwdIdeal_AttnFwdRefIdeal_pre_finite_attn_fwd (hAttnFwdIdeal := hAttnFwdIdeal) (hAttnFwdRefIdeal := hAttnFwdRefIdeal) (hPre_finite_attn_fwd := hPre_finite_attn_fwd)
    ∧ preserves_UpFwd_UpFwdIdeal
    ∧ algebraic_UpFwdIdeal_UpFwdRefIdeal (hUpFwdIdeal := hUpFwdIdeal) (hUpFwdRefIdeal := hUpFwdRefIdeal)
    ∧ preserves_InFwd_InFwdIdeal
    ∧ algebraic_InFwdIdeal_InFwdRefIdeal (hInFwdIdeal := hInFwdIdeal) (hInFwdRefIdeal := hInFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_GluFwd_GluFwdIdeal
    ∧ algebraic_GluFwdIdeal_GluFwdRefIdeal (hGluFwdIdeal := hGluFwdIdeal) (hGluFwdRefIdeal := hGluFwdRefIdeal)
    ∧ preserves_S5Fwd_S5FwdIdeal
    ∧ algebraic_S5FwdIdeal_S5FwdRefIdeal (hS5FwdIdeal := hS5FwdIdeal) (hS5FwdRefIdeal := hS5FwdRefIdeal)
    ∧ preserves_UpDw_UpDwIdeal
    ∧ algebraic_UpDwIdeal_UpDwRefIdeal (hUpDwIdeal := hUpDwIdeal) (hUpDwRefIdeal := hUpDwRefIdeal)
    ∧ preserves_AdamW_AdamWIdeal
    ∧ algebraic_AdamWIdeal_AdamWRefIdeal (hAdamWIdeal := hAdamWIdeal) (hAdamWRefIdeal := hAdamWRefIdeal)
-- ==== Pre_finite_attn.lean ====
abbrev S4096x1024 : Shape := ⟨2, ![4096, 1024]⟩
abbrev S512x2048 : Shape := ⟨2, ![512, 2048]⟩
abbrev S_ : Shape := ⟨0, ![]⟩

class Facts : Prop where
  bcast_S_S4096x1024 : S_.BroadcastsInDim S4096x1024 (![] : Fin 0 → Fin S4096x1024.rank)
  bcast_S_S512x2048 : S_.BroadcastsInDim S512x2048 (![] : Fin 0 → Fin S512x2048.rank)

variable [Facts]

def fn {F : FTy → Type} [FloatOps F] (main_arg0 : FVec F S4096x1024 .bf16) (main_arg1 : FVec F S512x2048 .bf16) (main_arg2 : FVec F S4096x1024 .bf16) : IVec S4096x1024 1 × IVec S512x2048 1 × IVec S4096x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S512x2048 .bf16 := Host.absf main_arg1
  let main_cst_0 : FVec F S_ .bf16 := constant S_ .bf16 0x7F80#16
  let main_v4 : FVec F S512x2048 .bf16 := broadcastInDim S512x2048 ![] bcast_S_S512x2048 main_cst_0
  let main_v5 : IVec S512x2048 1 := cmpf .olt main_v3 main_v4
  let main_v6 : FVec F S4096x1024 .bf16 := Host.absf main_arg2
  let main_cst_1 : FVec F S_ .bf16 := constant S_ .bf16 0x7F80#16
  let main_v7 : FVec F S4096x1024 .bf16 := broadcastInDim S4096x1024 ![] bcast_S_S4096x1024 main_cst_1
  let main_v8 : IVec S4096x1024 1 := cmpf .olt main_v6 main_v7
  (main_v2, main_v5, main_v8)
-- ==== Pre_finite_attn_fwd.lean ====
abbrev S4096x1024 : Shape := ⟨2, ![4096, 1024]⟩
abbrev S512x2048 : Shape := ⟨2, ![512, 2048]⟩
abbrev S_ : Shape := ⟨0, ![]⟩

class Facts : Prop where
  bcast_S_S4096x1024 : S_.BroadcastsInDim S4096x1024 (![] : Fin 0 → Fin S4096x1024.rank)
  bcast_S_S512x2048 : S_.BroadcastsInDim S512x2048 (![] : Fin 0 → Fin S512x2048.rank)

variable [Facts]

def fn {F : FTy → Type} [FloatOps F] (main_arg0 : FVec F S4096x1024 .bf16) (main_arg1 : FVec F S512x2048 .bf16) : IVec S4096x1024 1 × IVec S512x2048 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S512x2048 .bf16 := Host.absf main_arg1
  let main_cst_0 : FVec F S_ .bf16 := constant S_ .bf16 0x7F80#16
  let main_v4 : FVec F S512x2048 .bf16 := broadcastInDim S512x2048 ![] bcast_S_S512x2048 main_cst_0
  let main_v5 : IVec S512x2048 1 := cmpf .olt main_v3 main_v4
  (main_v2, main_v5)
-- ==== Pre_finite_down.lean ====
abbrev S4096x1024 : Shape := ⟨2, ![4096, 1024]⟩
abbrev S2816x1024 : Shape := ⟨2, ![2816, 1024]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x5632 : S_.BroadcastsInDim S4096x5632 (![] : Fin 0 → Fin S4096x5632.rank)

variable [Facts]

def fn {F : FTy → Type} [FloatOps F] (main_arg0 : FVec F S4096x1024 .bf16) (main_arg1 : FVec F S2816x1024 .bf16) (main_arg2 : FVec F S4096x5632 .bf16) : IVec S4096x1024 1 × IVec S2816x1024 1 × IVec S4096x5632 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S4096x5632 .bf16 := Host.absf main_arg2
  let main_cst_1 : FVec F S_ .bf16 := constant S_ .bf16 0x7F80#16
  let main_v7 : FVec F S4096x5632 .bf16 := broadcastInDim S4096x5632 ![] bcast_S_S4096x5632 main_cst_1
  let main_v8 : IVec S4096x5632 1 := cmpf .olt main_v6 main_v7
  (main_v2, main_v5, main_v8)
-- ==== Pre_finite_in.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S_ : Shape := ⟨0, ![]⟩

class Facts : Prop where
  bcast_S_S4096x3072 : S_.BroadcastsInDim S4096x3072 (![] : Fin 0 → Fin S4096x3072.rank)
  bcast_S_S1024x3072 : S_.BroadcastsInDim S1024x3072 (![] : Fin 0 → Fin S1024x3072.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x3072 .bf16) (main_arg1 : FVec F S1024x3072 .bf16) (main_arg2 : FVec F S4096x1024 .f32) (main_arg3 : FVec F S1x1024 .f32) (main_arg4 : FVec F S4096x1024 .f32) : IVec S4096x3072 1 × IVec S1024x3072 1 × IVec S4096x1024 1 × IVec S1x1024 1 :=
  let main_v0 : FVec F S4096x3072 .bf16 := Host.absf main_arg0
  let main_cst : FVec F S_ .bf16 := constant S_ .bf16 0x7F80#16
  let main_v1 : FVec F S4096x3072 .bf16 := broadcastInDim S4096x3072 ![] bcast_S_S4096x3072 main_cst
  let main_v2 : IVec S4096x3072 1 := cmpf .olt main_v0 main_v1
  let main_v3 : FVec F S1024x3072 .bf16 := Host.absf main_arg1
  let main_cst_0 : FVec F S_ .bf16 := constant S_ .bf16 0x7F80#16
  let main_v4 : FVec F S1024x3072 .bf16 := broadcastInDim S1024x3072 ![] bcast_S_S1024x3072 main_cst_0
  let main_v5 : IVec S1024x3072 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite_loss.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024 .f32) (main_arg2 : FVec F S4096x1024 .f32) : IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite_norm.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S1x1024 .f32) (main_arg2 : FVec F S4096x1024 .f32) (main_arg3 : FVec F S4096x1024 .f32) : IVec S4096x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite_up.lean ====
abbrev S4096x5632 : Shape := ⟨2, ![4096, 5632]⟩
abbrev S5632x1024 : Shape := ⟨2, ![5632, 1024]⟩
abbrev S4096x1024 : Shape := ⟨2, ![4096, 1024]⟩
abbrev S1x1024 : Shape := ⟨2, ![1, 1024]⟩
abbrev S_ : Shape := ⟨0, ![]⟩

class Facts : Prop where
  bcast_S_S4096x5632 : S_.BroadcastsInDim S4096x5632 (![] : Fin 0 → Fin S4096x5632.rank)
  bcast_S_S5632x1024 : S_.BroadcastsInDim S5632x1024 (![] : Fin 0 → Fin S5632x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x5632 .bf16) (main_arg1 : FVec F S5632x1024 .bf16) (main_arg2 : FVec F S4096x1024 .f32) (main_arg3 : FVec F S1x1024 .f32) (main_arg4 : FVec F S4096x1024 .f32) : IVec S4096x5632 1 × IVec S5632x1024 1 × IVec S4096x1024 1 × IVec S1x1024 1 :=
  let main_v0 : FVec F S4096x5632 .bf16 := Host.absf main_arg0
  let main_cst : FVec F S_ .bf16 := constant S_ .bf16 0x7F80#16
  let main_v1 : FVec F S4096x5632 .bf16 := broadcastInDim S4096x5632 ![] bcast_S_S4096x5632 main_cst
  let main_v2 : IVec S4096x5632 1 := cmpf .olt main_v0 main_v1
  let main_v3 : FVec F S5632x1024 .bf16 := Host.absf main_arg1
  let main_cst_0 : FVec F S_ .bf16 := constant S_ .bf16 0x7F80#16
  let main_v4 : FVec F S5632x1024 .bf16 := broadcastInDim S5632x1024 ![] bcast_S_S5632x1024 main_cst_0
  let main_v5 : IVec S5632x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== GluBwd.lean ====
abbrev S4096x1024 : Shape := ⟨2, ![4096, 1024]⟩
abbrev S4096x2048 : Shape := ⟨2, ![4096, 2048]⟩
abbrev S256x1024 : Shape := ⟨2, ![256, 1024]⟩
abbrev S256x2048 : Shape := ⟨2, ![256, 2048]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluBwdRefIdeal.lean ====
abbrev S4096x1024 : Shape := ⟨2, ![4096, 1024]⟩
abbrev S4096x2048 : Shape := ⟨2, ![4096, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S4096x2048, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2048, .f32⟩
  | .hbm, ⟨22, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== ConvBwd.lean ====
abbrev S4096x1024 : Shape := ⟨2, ![4096, 1024]⟩
abbrev S4096x3072 : Shape := ⟨2, ![4096, 3072]⟩
abbrev S3x1024 : Shape := ⟨2, ![3, 1024]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩

abbrev nBuf : Space → Nat
  | .hbm => 7
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S3x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S3x256, .f32⟩
  | .local _ .vmem, ⟨9, _⟩ => ⟨S3x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S3x256, .f32⟩
  | .local _ .vmem, ⟨17, _⟩ => ⟨S3x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvBwdRefIdeal.lean ====
abbrev S4096x1024 : Shape := ⟨2, ![4096, 1024]⟩
abbrev S4096x3072 : Shape := ⟨2, ![4096, 3072]⟩
abbrev S3x1024 : Shape := ⟨2, ![3, 1024]⟩
abbrev S2x2048x3072 : Shape := ⟨3, ![2, 2048, 3072]⟩
abbrev S2x2048x1024 : Shape := ⟨3, ![2, 2048, 1024]⟩
abbrev S_ : Shape := ⟨0, ![]⟩
abbrev S2x2x1024 : Shape := ⟨3, ![2, 2, 1024]⟩
abbrev S2x2050x1024 : Shape := ⟨3, ![2, 2050, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S4096x3072, .f32⟩
  | .hbm, ⟨4, _⟩ => ⟨S2x2048x3072, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S4096x1024, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2x1024, .f32⟩
  | .hbm, ⟨13, _⟩ => ⟨S2x2050x1024, .f32⟩
  | .hbm, ⟨14, _⟩ => ⟨S_, .f32⟩
  | .hbm, ⟨15, _⟩ => ⟨S2x2x1024, .f32⟩
  | .hbm, ⟨16, _⟩ => ⟨S1x1024, .f32⟩
  | .hbm, ⟨17, _⟩ => ⟨S1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S1x1024, .f32⟩
  | .hbm, ⟨23, _⟩ => ⟨S1024, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S1x1024, .f32⟩
  | .hbm, ⟨30, _⟩ => ⟨S1024, .f32⟩
  | .hbm, ⟨31, _⟩ => ⟨S2x2048x1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S_, .f32⟩
  | .hbm, ⟨43, _⟩ => ⟨S1024, .f32⟩
  | .hbm, ⟨44, _⟩ => ⟨S1x1x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S2x2050x1024, .f32⟩
  | .hbm, ⟨49, _⟩ => ⟨S1x1024, .f32⟩
  | .hbm, ⟨50, _⟩ => ⟨S_, .f32⟩
  | .hbm, ⟨51, _⟩ => ⟨S3x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S1024, .f32⟩
  | .hbm, ⟨57, _⟩ => ⟨S1x1x1024, .f32⟩
  | .hbm, ⟨58, _⟩ => ⟨S_, .f32⟩
  | .hbm, ⟨59, _⟩ => ⟨S1024, .f32⟩
  | .hbm, ⟨60, _⟩ => ⟨S_, .f32⟩
  | .hbm, ⟨61, _⟩ => ⟨S2x2050x1024, .f32⟩
  | .hbm, ⟨62, _⟩ => ⟨S2x2050x1024, .f32⟩
  | .hbm, ⟨63, _⟩ => ⟨S1x1024, .f32⟩
  | .hbm, ⟨64, _⟩ => ⟨S_, .f32⟩
  | .hbm, ⟨65, _⟩ => ⟨S3x1024, .f32⟩
  | .hbm, ⟨66, _⟩ => ⟨S3x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S_, .f32⟩
  | .hbm, ⟨71, _⟩ => ⟨S1024, .f32⟩
  | .hbm, ⟨72, _⟩ => ⟨S1x1x1024, .f32⟩
  | .hbm, ⟨73, _⟩ => ⟨S_, .f32⟩
  | .hbm, ⟨74, _⟩ => ⟨S1024, .f32⟩
  | .hbm, ⟨75, _⟩ => ⟨S_, .f32⟩
  | .hbm, ⟨76, _⟩ => ⟨S2x2050x1024, .f32⟩
  | .hbm, ⟨77, _⟩ => ⟨S2x2050x1024, .f32⟩
  | .hbm, ⟨78, _⟩ => ⟨S1x1024, .f32⟩
  | .hbm, ⟨79, _⟩ => ⟨S_, .f32⟩
  | .hbm, ⟨80, _⟩ => ⟨S3x1024, .f32⟩
  | .hbm, ⟨81, _⟩ => ⟨S3x1024, .f32⟩
  | .hbm, ⟨82, _⟩ => ⟨S2x2x1024, .f32⟩
  | .hbm, ⟨83, _⟩ => ⟨S2x2048x1024, .f32⟩
  | .hbm, ⟨84, _⟩ => ⟨S2x2048x1024, .f32⟩
  | .hbm, ⟨85, _⟩ => ⟨S2x2048x1024, .f32⟩
  | .hbm, ⟨86, _⟩ => ⟨S4096x1024, .f32⟩
  | .hbm, ⟨87, _⟩ => ⟨S4096x1024, .bf16⟩
  | .hbm, ⟨88, _⟩ => ⟨S4096x1024, .f32⟩
  | .hbm, ⟨89, _⟩ => ⟨S4096x1024, .bf16⟩
  | .hbm, ⟨90, _⟩ => ⟨S4096x1024, .f32⟩
  | .hbm, ⟨91, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== DownDx.lean ====
abbrev S4096x1024 : Shape := ⟨2, ![4096, 1024]⟩
abbrev S2816x1024 : Shape := ⟨2, ![2816, 1024]⟩
abbrev S4096x5632 : Shape := ⟨2, ![4096, 5632]⟩
abbrev S256x1024 : Shape := ⟨2, ![256, 1024]⟩
abbrev S256x2816 : Shape := ⟨2, ![256, 2816]⟩
abbrev S256x5632 : Shape := ⟨2, ![256, 5632]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S4096x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x5632, .bf16⟩
  | .local _ .vmem, ⟨8, _⟩ => ⟨S256x5632, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== DownDxRefIdeal.lean ====
abbrev S4096x1024 : Shape := ⟨2, ![4096, 1024]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S2816x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x5632, .f32⟩
  | .hbm, ⟨37, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]
-- ==== AttnBwd.lean ====
abbrev S4096x1024 : Shape := ⟨2, ![4096, 1024]⟩
abbrev S512x2048 : Shape := ⟨2, ![512, 2048]⟩
abbrev S512x1024 : Shape := ⟨2, ![512, 1024]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 6
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S4096x1024, .bf16⟩
  | .hbm, ⟨3, _⟩ => ⟨S4096x1024, .bf16⟩
  | .hbm, ⟨4, _⟩ => ⟨S512x1024, .f32⟩
  | .hbm, ⟨5, _⟩ => ⟨S512x1024, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== AttnBwdRefIdeal.lean ====
abbrev S4096x1024 : Shape := ⟨2, ![4096, 1024]⟩
abbrev S512x2048 : Shape := ⟨2, ![512, 2048]⟩
abbrev S512x1024 : Shape := ⟨2, ![512, 1024]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x4x256x256 : Shape := ⟨4, ![2, 4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S4096x1024, .bf16⟩
  | .hbm, ⟨3, _⟩ => ⟨S512x2048, .f32⟩
  | .hbm, ⟨4, _⟩ => ⟨S512x1024, .f32⟩
  | .hbm, ⟨5, _⟩ => ⟨S512x1024, .f32⟩
  | .hbm, ⟨6, _⟩ => ⟨S4096x1024, .f32⟩
  | .hbm, ⟨7, _⟩ => ⟨S2x2048x4x256, .f32⟩
  | .hbm, ⟨8, _⟩ => ⟨S2x256x4x256, .f32⟩
  | .hbm, ⟨9, _⟩ => ⟨S2x256x4x256, .f32⟩
  | .hbm, ⟨10, _⟩ => ⟨S2x4x2048x256, .f32⟩
  | .hbm, ⟨11, _⟩ => ⟨S_, .f32⟩
  | .hbm, ⟨12, _⟩ => ⟨S2x4x2048x256, .f32⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S2x4x2048x1, .f32⟩
  | .hbm, ⟨17, _⟩ => ⟨S2x4x2048x256, .f32⟩
  | .hbm, ⟨18, _⟩ => ⟨S2x4x2048x256, .i1⟩
  | .hbm, ⟨19, _⟩ => ⟨S2x4x2048x256, .f32⟩
  | .hbm, ⟨20, _⟩ => ⟨S_, .f32⟩
  | .hbm, ⟨21, _⟩ => ⟨S2x4x2048, .f32⟩
  | .hbm, ⟨22, _⟩ => ⟨S_, .f32⟩
  | .hbm, ⟨23, _⟩ => ⟨S2x4x2048, .f32⟩
  | .hbm, ⟨24, _⟩ => ⟨S2x4x2048, .f32⟩
  | .hbm, ⟨25, _⟩ => ⟨S_, .f32⟩
  | .hbm, ⟨26, _⟩ => ⟨S2x4x2048, .f32⟩
  | .hbm, ⟨27, _⟩ => ⟨S2x4x2048, .i1⟩
  | .hbm, ⟨28, _⟩ => ⟨S_, .f32⟩
  | .hbm, ⟨29, _⟩ => ⟨S2x4x2048, .f32⟩
  | .hbm, ⟨30, _⟩ => ⟨S2x4x2048, .i1⟩
  | .hbm, ⟨31, _⟩ => ⟨S_, .f32⟩
  | .hbm, ⟨32, _⟩ => ⟨S2x4x2048, .f32⟩
  | .hbm, ⟨33, _⟩ => ⟨S_, .f32⟩
  | .hbm, ⟨34, _⟩ => ⟨S2x4x2048, .f32⟩
  | .hbm, ⟨35, _⟩ => ⟨S_, .f32⟩
  | .hbm, ⟨36, _⟩ => ⟨S2x4x2048, .f32⟩
  | .hbm, ⟨37, _⟩ => ⟨S2x4x2048, .f32⟩
  | .hbm, ⟨38, _⟩ => ⟨S2x4x2048, .f32⟩
  | .hbm, ⟨39, _⟩ => ⟨S2x4x2048x1, .f32⟩
  | .hbm, ⟨40, _⟩ => ⟨S2x4x2048x256, .f32⟩
  | .hbm, ⟨41, _⟩ => ⟨S2x4x2048x256, .f32⟩
  | .hbm, ⟨42, _⟩ => ⟨S2x4x2048x256, .f32⟩
  | .hbm, ⟨43, _⟩ => ⟨S_, .f32⟩
  | .hbm, ⟨44, _⟩ => ⟨S2x4x2048, .f32⟩
  | .hbm, ⟨45, _⟩ => ⟨S2x4x2048x1, .f32⟩
  | .hbm, ⟨46, _⟩ => ⟨S2x4x2048x256, .f32⟩
  | .hbm, ⟨47, _⟩ => ⟨S2x4x2048x256, .f32⟩
  | .hbm, ⟨48, _⟩ => ⟨S2x4x2048x1, .f32⟩
  | .hbm, ⟨49, _⟩ => ⟨S_, .f32⟩
  | .hbm, ⟨50, _⟩ => ⟨S2x4x2048x1, .f32⟩
  | .hbm, ⟨51, _⟩ => ⟨S2x4x2048x1, .f32⟩
  | .hbm, ⟨52, _⟩ => ⟨S2x4x256x2048, .f32⟩
  | .hbm, ⟨53, _⟩ => ⟨S2x2048x4x256, .f32⟩
  | .hbm, ⟨54, _⟩ => ⟨S4096x1024, .f32⟩
  | .hbm, ⟨55, _⟩ => ⟨S4096x1024, .f32⟩
  | .hbm, ⟨56, _⟩ => ⟨S2x2048x4x256, .f32⟩
  | .hbm, ⟨57, _⟩ => ⟨S2x4x256x2048, .f32⟩
  | .hbm, ⟨58, _⟩ => ⟨S2x4x2048x256, .f32⟩
  | .hbm, ⟨59, _⟩ => ⟨S2x4x256x256, .f32⟩
  | .hbm, ⟨60, _⟩ => ⟨S2x256x4x256, .f32⟩
  | .hbm, ⟨61, _⟩ => ⟨S2x4x2048x256, .f32⟩
  | .hbm, ⟨62, _⟩ => ⟨S2x4x2048x256, .f32⟩
  | .hbm, ⟨63, _⟩ => ⟨S2x4x2048x256, .f32⟩
  | .hbm, ⟨64, _⟩ => ⟨S_, .f32⟩
  | .hbm, ⟨65, _⟩ => ⟨S2x4x2048, .f32⟩
  | .hbm, ⟨66, _⟩ => ⟨S2x4x2048x1, .f32⟩
  | .hbm, ⟨67, _⟩ => ⟨S2x4x2048x1, .f32⟩
  | .hbm, ⟨68, _⟩ => ⟨S2x4x2048x256, .f32⟩
  | .hbm, ⟨69, _⟩ => ⟨S2x4x2048x256, .f32⟩
  | .hbm, ⟨70, _⟩ => ⟨S_, .f32⟩
  | .hbm, ⟨71, _⟩ => ⟨S2x4x2048, .f32⟩
  | .hbm, ⟨72, _⟩ => ⟨S2x4x2048x256, .f32⟩
  | .hbm, ⟨73, _⟩ => ⟨S2x4x2048x256, .f32⟩
  | .hbm, ⟨74, _⟩ => ⟨S2x4x2048x256, .f32⟩
  | .hbm, ⟨75, _⟩ => ⟨S_, .f32⟩
  | .hbm, ⟨76, _⟩ => ⟨S2x4x2048x256, .f32⟩
  | .hbm, ⟨77, _⟩ => ⟨S2x4x2048x256, .f32⟩
  | .hbm, ⟨78, _⟩ => ⟨S2x4x256x256, .f32⟩
  | .hbm, ⟨79, _⟩ => ⟨S2x256x4x256, .f32⟩
  | .hbm, ⟨80, _⟩ => ⟨S2x4x2048x256, .f32⟩
  | .hbm, ⟨81, _⟩ => ⟨S2x2048x4x256, .f32⟩
  | .hbm, ⟨82, _⟩ => ⟨S512x1024, .f32⟩
  | .hbm, ⟨83, _⟩ => ⟨S512x1024, .f32⟩
  | .hbm, ⟨84, _⟩ => ⟨S4096x1024, .f32⟩
  | .hbm, ⟨85, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== NormBwd.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== MemNormBwd.lean ====
abbrev S512x1024 : Shape := ⟨2, ![512, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 4
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .bf16⟩
  | .hbm, ⟨3, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S1x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemNormBwdRefIdeal.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 23
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .bf16⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S1024, .f32⟩
  | .hbm, ⟨22, _⟩ => ⟨S1x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== UpDx.lean ====
abbrev S4096x5632 : Shape := ⟨2, ![4096, 5632]⟩
abbrev S5632x1024 : Shape := ⟨2, ![5632, 1024]⟩
abbrev S4096x1024 : Shape := ⟨2, ![4096, 1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== UpDxRefIdeal.lean ====
abbrev S4096x5632 : Shape := ⟨2, ![4096, 5632]⟩
abbrev S5632x1024 : Shape := ⟨2, ![5632, 1024]⟩
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S5632x1024, .f32⟩
  | .hbm, ⟨6, _⟩ => ⟨S1024x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x5632, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== InDx.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== InDxRefIdeal.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x3072, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x3072, .f32⟩
  | .hbm, ⟨26, _⟩ => ⟨S4096x3072, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== LossHead.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S_ : Shape := ⟨0, ![]⟩

abbrev nBuf : Space → Nat
  | .hbm => 15
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== AttnFwd.lean ====
abbrev S4096x1024 : Shape := ⟨2, ![4096, 1024]⟩
abbrev S512x2048 : Shape := ⟨2, ![512, 2048]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnFwdRefIdeal.lean ====
abbrev S4096x1024 : Shape := ⟨2, ![4096, 1024]⟩
abbrev S512x2048 : Shape := ⟨2, ![512, 2048]⟩
abbrev S512x1024 : Shape := ⟨2, ![512, 1024]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S512x2048, .f32⟩
  | .hbm, ⟨3, _⟩ => ⟨S512x1024, .f32⟩
  | .hbm, ⟨4, _⟩ => ⟨S512x1024, .f32⟩
  | .hbm, ⟨5, _⟩ => ⟨S4096x1024, .f32⟩
  | .hbm, ⟨6, _⟩ => ⟨S2x2048x4x256, .f32⟩
  | .hbm, ⟨7, _⟩ => ⟨S2x256x4x256, .f32⟩
  | .hbm, ⟨8, _⟩ => ⟨S2x256x4x256, .f32⟩
  | .hbm, ⟨9, _⟩ => ⟨S2x4x2048x256, .f32⟩
  | .hbm, ⟨10, _⟩ => ⟨S_, .f32⟩
  | .hbm, ⟨11, _⟩ => ⟨S2x4x2048x256, .f32⟩
  | .hbm, ⟨12, _⟩ => ⟨S2x4x2048x256, .f32⟩
  | .hbm, ⟨13, _⟩ => ⟨S_, .f32⟩
  | .hbm, ⟨14, _⟩ => ⟨S2x4x2048, .f32⟩
  | .hbm, ⟨15, _⟩ => ⟨S_, .f32⟩
  | .hbm, ⟨16, _⟩ => ⟨S2x4x2048, .f32⟩
  | .hbm, ⟨17, _⟩ => ⟨S2x4x2048, .f32⟩
  | .hbm, ⟨18, _⟩ => ⟨S2x4x2048x1, .f32⟩
  | .hbm, ⟨19, _⟩ => ⟨S2x4x2048x256, .f32⟩
  | .hbm, ⟨20, _⟩ => ⟨S2x4x2048x256, .f32⟩
  | .hbm, ⟨21, _⟩ => ⟨S2x4x2048x256, .f32⟩
  | .hbm, ⟨22, _⟩ => ⟨S_, .f32⟩
  | .hbm, ⟨23, _⟩ => ⟨S2x4x2048, .f32⟩
  | .hbm, ⟨24, _⟩ => ⟨S2x4x2048x1, .f32⟩
  | .hbm, ⟨25, _⟩ => ⟨S2x4x2048x256, .f32⟩
  | .hbm, ⟨26, _⟩ => ⟨S2x4x2048x256, .f32⟩
  | .hbm, ⟨27, _⟩ => ⟨S2x4x256x2048, .f32⟩
  | .hbm, ⟨28, _⟩ => ⟨S2x2048x4x256, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== UpFwd.lean ====
abbrev S4096x1024 : Shape := ⟨2, ![4096, 1024]⟩
abbrev S5632x1024 : Shape := ⟨2, ![5632, 1024]⟩
abbrev S1x1024 : Shape := ⟨2, ![1, 1024]⟩
abbrev S4096x5632 : Shape := ⟨2, ![4096, 5632]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S5632x1024, .bf16⟩
  | .hbm, ⟨2, _⟩ => ⟨S1x1024, .f32⟩
  | .hbm, ⟨3, _⟩ => ⟨S4096x5632, .bf16⟩
  | .hbm, ⟨4, _⟩ => ⟨S4096x2816, .bf16⟩
  | .hbm, ⟨5, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S5632x1024, .bf16⟩
  | .local _ .vmem, ⟨3, _⟩ => ⟨S1x1024, .f32⟩
  | .local _ .vmem, ⟨4, _⟩ => ⟨S256x5632, .bf16⟩
  | .local _ .vmem, ⟨5, _⟩ => ⟨S256x5632, .bf16⟩
  | .local _ .vmem, ⟨6, _⟩ => ⟨S256x2816, .bf16⟩
  | .local _ .vmem, ⟨7, _⟩ => ⟨S256x2816, .bf16⟩
  | .local _ .vmem, ⟨8, _⟩ => ⟨S256x1024, .bf16⟩
  | .local _ .vmem, ⟨9, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== UpFwdRefIdeal.lean ====
abbrev S4096x1024 : Shape := ⟨2, ![4096, 1024]⟩
abbrev S5632x1024 : Shape := ⟨2, ![5632, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S5632x1024, .bf16⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S5632x1024, .f32⟩
  | .hbm, ⟨19, _⟩ => ⟨S1024x5632, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x5632, .bf16⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .bf16⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== InFwd.lean ====
abbrev S4096x1024 : Shape := ⟨2, ![4096, 1024]⟩
abbrev S1024x3072 : Shape := ⟨2, ![1024, 3072]⟩
abbrev S1x1024 : Shape := ⟨2, ![1, 1024]⟩
abbrev S4096x3072 : Shape := ⟨2, ![4096, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x3072, .bf16⟩
  | .hbm, ⟨2, _⟩ => ⟨S1x1024, .f32⟩
  | .hbm, ⟨3, _⟩ => ⟨S4096x3072, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x1024, .f32⟩
  | .local _ .vmem, ⟨4, _⟩ => ⟨S512x3072, .bf16⟩
  | .local _ .vmem, ⟨5, _⟩ => ⟨S512x3072, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== InFwdRefIdeal.lean ====
abbrev S4096x1024 : Shape := ⟨2, ![4096, 1024]⟩
abbrev S1024x3072 : Shape := ⟨2, ![1024, 3072]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .bf16⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x3072, .f32⟩
  | .hbm, ⟨19, _⟩ => ⟨S4096x3072, .f32⟩
  | .hbm, ⟨20, _⟩ => ⟨S4096x3072, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== NormFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ConvFwd.lean ====
abbrev S4096x3072 : Shape := ⟨2, ![4096, 3072]⟩
abbrev S3x1024 : Shape := ⟨2, ![3, 1024]⟩
abbrev S4096x1024 : Shape := ⟨2, ![4096, 1024]⟩
abbrev S2048x256 : Shape := ⟨2, ![2048, 256]⟩
abbrev S3x256 : Shape := ⟨2, ![3, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S4096x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvFwdRefIdeal.lean ====
abbrev S4096x3072 : Shape := ⟨2, ![4096, 3072]⟩
abbrev S3x1024 : Shape := ⟨2, ![3, 1024]⟩
abbrev S2x2048x3072 : Shape := ⟨3, ![2, 2048, 3072]⟩
abbrev S2x2048x1024 : Shape := ⟨3, ![2, 2048, 1024]⟩
abbrev S_ : Shape := ⟨0, ![]⟩
abbrev S2x2x1024 : Shape := ⟨3, ![2, 2, 1024]⟩
abbrev S2x2050x1024 : Shape := ⟨3, ![2, 2050, 1024]⟩
abbrev S1x1024 : Shape := ⟨2, ![1, 1024]⟩
abbrev S1024 : Shape := ⟨1, ![1024]⟩
abbrev S1x1x1024 : Shape := ⟨3, ![1, 1, 1024]⟩
abbrev S4096x1024 : Shape := ⟨2, ![4096, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S4096x3072, .f32⟩
  | .hbm, ⟨3, _⟩ => ⟨S2x2048x3072, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2x2x1024, .f32⟩
  | .hbm, ⟨10, _⟩ => ⟨S2x2050x1024, .f32⟩
  | .hbm, ⟨11, _⟩ => ⟨S1x1024, .f32⟩
  | .hbm, ⟨12, _⟩ => ⟨S1024, .f32⟩
  | .hbm, ⟨13, _⟩ => ⟨S2x2048x1024, .f32⟩
  | .hbm, ⟨14, _⟩ => ⟨S1x1x1024, .f32⟩
  | .hbm, ⟨15, _⟩ => ⟨S2x2048x1024, .f32⟩
  | .hbm, ⟨16, _⟩ => ⟨S2x2048x1024, .f32⟩
  | .hbm, ⟨17, _⟩ => ⟨S1x1024, .f32⟩
  | .hbm, ⟨18, _⟩ => ⟨S1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S1x1024, .f32⟩
  | .hbm, ⟨25, _⟩ => ⟨S1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S4096x1024, .f32⟩
  | .hbm, ⟨33, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩

abbrev nD : Nat := 1
abbrev τ : Topo := Topo.v7x

variable {F : FTy → Type} [FloatOps F]
-- ==== GluFwd.lean ====
abbrev S4096x1024 : Shape := ⟨2, ![4096, 1024]⟩
abbrev S1024x2048 : Shape := ⟨2, ![1024, 2048]⟩
abbrev S4096x2048 : Shape := ⟨2, ![4096, 2048]⟩
abbrev S256x1024 : Shape := ⟨2, ![256, 1024]⟩
abbrev S256x2048 : Shape := ⟨2, ![256, 2048]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S4096x2048, .bf16⟩
  | .hbm, ⟨4, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | .local _ .vmem, ⟨5, _⟩ => ⟨S256x2048, .bf16⟩
  | .local _ .vmem, ⟨6, _⟩ => ⟨S256x2048, .bf16⟩
  | .local _ .vmem, ⟨7, _⟩ => ⟨S256x1024, .f32⟩
  | .local _ .vmem, ⟨8, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== GluFwdRefIdeal.lean ====
abbrev S4096x1024 : Shape := ⟨2, ![4096, 1024]⟩
abbrev S1024x2048 : Shape := ⟨2, ![1024, 2048]⟩
abbrev S4096x2048 : Shape := ⟨2, ![4096, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x2048, .bf16⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== S5Fwd.lean ====
abbrev S4096x1024 : Shape := ⟨2, ![4096, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1x1024 : Shape := ⟨2, ![1, 1024]⟩
abbrev S_ : Shape := ⟨0, ![]⟩
abbrev S64x1 : Shape := ⟨2, ![64, 1]⟩
abbrev S64x64x1 : Shape := ⟨3, ![64, 64, 1]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S8x8 : Shape := ⟨2, ![8, 8]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S1x4096 : Shape := ⟨2, ![1, 4096]⟩
abbrev S4096x4096 : Shape := ⟨2, ![4096, 4096]⟩
abbrev S2048x128 : Shape := ⟨2, ![2048, 128]⟩
abbrev S1x128x512 : Shape := ⟨3, ![1, 128, 512]⟩
abbrev S1x512x128 : Shape := ⟨3, ![1, 512, 128]⟩
abbrev S1x512 : Shape := ⟨2, ![1, 512]⟩
abbrev S1x128 : Shape := ⟨2, ![1, 128]⟩
abbrev S2048x512 : Shape := ⟨2, ![2048, 512]⟩
abbrev S128x512 : Shape := ⟨2, ![128, 512]⟩
abbrev S512x128 : Shape := ⟨2, ![512, 128]⟩

abbrev nBuf : Space → Nat
  | .hbm => 123
  | .vmem => 24
  | .smem => 0
  | _ => 0

abbrev bufTy : (tb : Table) → Fin (tcTables nBuf tb) → BufTy
  | .hbm, ⟨0, _⟩ => ⟨S4096x1024, .bf16⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64x16, .f32⟩
  | .hbm, ⟨5, _⟩ => ⟨S64x64x16, .f32⟩
  | .hbm, ⟨6, _⟩ => ⟨S64x16x64, .f32⟩
  | .hbm, ⟨7, _⟩ => ⟨S64x16x64, .f32⟩
  | .hbm, ⟨8, _⟩ => ⟨S1x1024, .f32⟩
  | .hbm, ⟨9, _⟩ => ⟨S_, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x1, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64x1, .f32⟩
  | .hbm, ⟨40, _⟩ => ⟨S64x64x16, .f32⟩
  | .hbm, ⟨41, _⟩ => ⟨S64x64x16, .f32⟩
  | .hbm, ⟨42, _⟩ => ⟨S64x64x1, .f32⟩
  | .hbm, ⟨43, _⟩ => ⟨S64x64x16, .f32⟩
  | .hbm, ⟨44, _⟩ => ⟨S64x64x16, .f32⟩
  | .hbm, ⟨45, _⟩ => ⟨S64x64x16, .f32⟩
  | .hbm, ⟨46, _⟩ => ⟨S64x64x1, .f32⟩
  | .hbm, ⟨47, _⟩ => ⟨S64x64x16, .f32⟩
  | .hbm, ⟨48, _⟩ => ⟨S64x64x16, .f32⟩
  | .hbm, ⟨49, _⟩ => ⟨S64x64x1, .f32⟩
  | .hbm, ⟨50, _⟩ => ⟨S64x64x16, .f32⟩
  | .hbm, ⟨51, _⟩ => ⟨S64x64x16, .f32⟩
  | .hbm, ⟨52, _⟩ => ⟨S64x64x16, .f32⟩
  | .hbm, ⟨53, _⟩ => ⟨S8x8x64x16, .f32⟩
  | .hbm, ⟨54, _⟩ => ⟨S8x8x16x64, .f32⟩
  | .hbm, ⟨55, _⟩ => ⟨S8x8x16x1x64, .f32⟩
  | .hbm, ⟨56, _⟩ => ⟨S8x8, .i32⟩
  | .hbm, ⟨57, _⟩ => ⟨S8x8, .i32⟩
  | .hbm, ⟨58, _⟩ => ⟨S_, .i32⟩
  | .hbm, ⟨59, _⟩ => ⟨S8x8, .i32⟩
  | .hbm, ⟨60, _⟩ => ⟨S8x8, .i32⟩
  | .hbm, ⟨61, _⟩ => ⟨S8x8, .i1⟩
  | .hbm, ⟨62, _⟩ => ⟨S8x8, .f32⟩
  | .hbm, ⟨63, _⟩ => ⟨S1x8x1x8x1, .f32⟩
  | .hbm, ⟨64, _⟩ => ⟨S8x8x16x8x64, .f32⟩
  | .hbm, ⟨65, _⟩ => ⟨S8x8x16x8x64, .f32⟩
  | .hbm, ⟨66, _⟩ => ⟨S8x8x16x8x64, .f32⟩
  | .hbm, ⟨67, _⟩ => ⟨S8x128x512, .f32⟩
  | .hbm, ⟨68, _⟩ => ⟨S8x128x512, .bf16⟩
  | .hbm, ⟨69, _⟩ => ⟨S8x8x64x16, .f32⟩
  | .hbm, ⟨70, _⟩ => ⟨S8x8x16x64, .f32⟩
  | .hbm, ⟨71, _⟩ => ⟨S8x8x16x1x64, .f32⟩
  | .hbm, ⟨72, _⟩ => ⟨S8x8, .i32⟩
  | .hbm, ⟨73, _⟩ => ⟨S8x8, .i32⟩
  | .hbm, ⟨74, _⟩ => ⟨S_, .i32⟩
  | .hbm, ⟨75, _⟩ => ⟨S8x8, .i32⟩
  | .hbm, ⟨76, _⟩ => ⟨S8x8, .i32⟩
  | .hbm, ⟨77, _⟩ => ⟨S8x8, .i1⟩
  | .hbm, ⟨78, _⟩ => ⟨S8x8, .f32⟩
  | .hbm, ⟨79, _⟩ => ⟨S1x8x1x8x1, .f32⟩
  | .hbm, ⟨80, _⟩ => ⟨S8x8x16x8x64, .f32⟩
  | .hbm, ⟨81, _⟩ => ⟨S8x8x16x8x64, .f32⟩
  | .hbm, ⟨82, _⟩ => ⟨S8x8x16x8x64, .f32⟩
  | .hbm, ⟨83, _⟩ => ⟨S8x128x512, .f32⟩
  | .hbm, ⟨84, _⟩ => ⟨S8x128x512, .bf16⟩
  | .hbm, ⟨85, _⟩ => ⟨S8x8x16x64, .f32⟩
  | .hbm, ⟨86, _⟩ => ⟨S8x8x64x16, .f32⟩
  | .hbm, ⟨87, _⟩ => ⟨S8x8x64x1x16, .f32⟩
  | .hbm, ⟨88, _⟩ => ⟨S8x8, .i32⟩
  | .hbm, ⟨89, _⟩ => ⟨S8x8, .i32⟩
  | .hbm, ⟨90, _⟩ => ⟨S_, .i32⟩
  | .hbm, ⟨91, _⟩ => ⟨S8x8, .i32⟩
  | .hbm, ⟨92, _⟩ => ⟨S8x8, .i32⟩
  | .hbm, ⟨93, _⟩ => ⟨S8x8, .i1⟩
  | .hbm, ⟨94, _⟩ => ⟨S8x8, .f32⟩
  | .hbm, ⟨95, _⟩ => ⟨S1x8x1x8x1, .f32⟩
  | .hbm, ⟨96, _⟩ => ⟨S8x8x64x8x16, .f32⟩
  | .hbm, ⟨97, _⟩ => ⟨S8x8x64x8x16, .f32⟩
  | .hbm, ⟨98, _⟩ => ⟨S8x8x64x8x16, .f32⟩
  | .hbm, ⟨99, _⟩ => ⟨S8x512x128, .f32⟩
  | .hbm, ⟨100, _⟩ => ⟨S8x512x128, .bf16⟩
  | .hbm, ⟨101, _⟩ => ⟨S8x8x16x64, .f32⟩
  | .hbm, ⟨102, _⟩ => ⟨S8x8x64x16, .f32⟩
  | .hbm, ⟨103, _⟩ => ⟨S8x8x64x1x16, .f32⟩
  | .hbm, ⟨104, _⟩ => ⟨S8x8, .i32⟩
  | .hbm, ⟨105, _⟩ => ⟨S8x8, .i32⟩
  | .hbm, ⟨106, _⟩ => ⟨S_, .i32⟩
  | .hbm, ⟨107, _⟩ => ⟨S8x8, .i32⟩
  | .hbm, ⟨108, _⟩ => ⟨S8x8, .i32⟩
  | .hbm, ⟨109, _⟩ => ⟨S8x8, .i1⟩
  | .hbm, ⟨110, _⟩ => ⟨S8x8, .f32⟩
  | .hbm, ⟨111, _⟩ => ⟨S1x8x1x8x1, .f32⟩
  | .hbm, ⟨112, _⟩ => ⟨S8x8x64x8x16, .f32⟩
  | .hbm, ⟨113, _⟩ => ⟨S8x8x64x8x16, .f32⟩
  | .hbm, ⟨114, _⟩ => ⟨S8x8x64x8x16, .f32⟩
  | .hbm, ⟨115, _⟩ => ⟨S8x512x128, .f32⟩
  | .hbm, ⟨116, _⟩ => ⟨S8x512x128, .bf16⟩
  | .hbm, ⟨117, _⟩ => ⟨S1x4096, .f32⟩
  | .hbm, ⟨118, _⟩ => ⟨S1x4096, .f32⟩
  | .hbm, ⟨119, _⟩ => ⟨S4096x4096, .f32⟩
  | .hbm, ⟨120, _⟩ => ⟨S4096x4096, .f32⟩
  | .hbm, ⟨121, _⟩ => ⟨S4096x1024, .f32⟩
  | .hbm, ⟨122, _⟩ => ⟨S4096x1024, .bf16⟩
  | .local _ .vmem, ⟨0, _⟩ => ⟨S2048x128, .bf16⟩
  | .local _ .vmem, ⟨1, _⟩ => ⟨S2048x128, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x128, .f32⟩
  | .local _ .vmem, ⟨15, _⟩ => ⟨S1x128, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | .local _ .vmem, ⟨20, _⟩ => ⟨S2048x128, .f32⟩
  | .local _ .vmem, ⟨21, _⟩ => ⟨S2048x128, .f32⟩
  | .local _ .vmem, ⟨22, _⟩ => ⟨S2048x128, .bf16⟩
  | .local _ .vmem, ⟨23, _⟩ => ⟨S2048x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_c_1 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_c_2 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_c_3 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104_0 : Ref sig .tc := ⟨.hbm, 119, rfl⟩
abbrev main_v104_1 : Ref sig .tc := ⟨.hbm, 120, rfl⟩
abbrev main_v104_2 : Ref sig .tc := ⟨.hbm, 121, rfl⟩
abbrev main_v104_3 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c2048_i32 : BitVec 32 := 2048#32
  let v14 : BitVec 32 := Scalar.addi c0_i32 c2048_i32
  let c1_i32 : BitVec 32 := 1#32
  ⟨c0_i32, v14, c1_i32⟩
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let v53 : Index := Scalar.indexCast arg14
  let c0_40 : Index := 0#32
  ![v53.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== S5FwdRefIdeal.lean ====
abbrev S4096x1024 : Shape := ⟨2, ![4096, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1x1024 : Shape := ⟨2, ![1, 1024]⟩
abbrev S_ : Shape := ⟨0, ![]⟩
abbrev S64x1 : Shape := ⟨2, ![64, 1]⟩
abbrev S64x64x1 : Shape := ⟨3, ![64, 64, 1]⟩
abbrev S2x2048x64x16 : Shape := ⟨4, ![2, 2048, 64, 16]⟩
abbrev S2048x2x64x16 : Shape := ⟨4, ![2048, 2, 64, 16]⟩
abbrev S2x64x64 : Shape := ⟨3, ![2, 64, 64]⟩
abbrev S2048x2x64x64 : Shape := ⟨4, ![2048, 2, 64, 64]⟩
abbrev S1x2x64x16 : Shape := ⟨4, ![1, 2, 64, 16]⟩
abbrev S2x64x16 : Shape := ⟨3, ![2, 64, 16]⟩
abbrev S1x64x64 : Shape := ⟨3, ![1, 64, 64]⟩
abbrev S64x64x2 : Shape := ⟨3, ![64, 64, 2]⟩
abbrev S1x2x64x64 : Shape := ⟨4, ![1, 2, 64, 64]⟩
abbrev S2x2048x64x64 : Shape := ⟨4, ![2, 2048, 64, 64]⟩
abbrev S4096x64x64 : Shape := ⟨3, ![4096, 64, 64]⟩
abbrev S64x16x4096 : Shape := ⟨3, ![64, 16, 4096]⟩
abbrev S4096x64x16 : Shape := ⟨3, ![4096, 64, 16]⟩
abbrev S4096x4096 : Shape := ⟨2, ![4096, 4096]⟩

abbrev nBuf : Space → Nat
  | .hbm => 146
  | .vmem => 0
  | .smem => 0
  | _ => 0

abbrev hbmTy0_0 (i : Nat) : BufTy := match i % 128 with
  | 0 => ⟨S4096x1024, .bf16⟩
  | 1 => ⟨S64x64, .f32⟩
  | 2 => ⟨S64x64, .f32⟩
  | 3 => ⟨S64, .f32⟩
  | 4 => ⟨S64x64x16, .f32⟩
  | 5 => ⟨S64x64x16, .f32⟩
  | 6 => ⟨S64x16x64, .f32⟩
  | 7 => ⟨S64x16x64, .f32⟩
  | 8 => ⟨S1x1024, .f32⟩
  | 9 => ⟨S_, .f32⟩
  | 10 => ⟨S64x64, .f32⟩
  | 11 => ⟨S64x64, .f32⟩
  | 12 => ⟨S64, .f32⟩
  | 13 => ⟨S64x1, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S_, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64x1, .f32⟩
  | 40 => ⟨S64x64x16, .f32⟩
  | 41 => ⟨S64x64x16, .f32⟩
  | 42 => ⟨S64x64x1, .f32⟩
  | 43 => ⟨S64x64x16, .f32⟩
  | 44 => ⟨S64x64x16, .f32⟩
  | 45 => ⟨S64x64x16, .f32⟩
  | 46 => ⟨S64x64x1, .f32⟩
  | 47 => ⟨S64x64x16, .f32⟩
  | 48 => ⟨S64x64x16, .f32⟩
  | 49 => ⟨S64x64x1, .f32⟩
  | 50 => ⟨S64x64x16, .f32⟩
  | 51 => ⟨S64x64x16, .f32⟩
  | 52 => ⟨S64x64x16, .f32⟩
  | 53 => ⟨S4096x1024, .f32⟩
  | 54 => ⟨S2x2048x64x16, .f32⟩
  | 55 => ⟨S2048x2x64x16, .f32⟩
  | 56 => ⟨S_, .f32⟩
  | 57 => ⟨S2x64x64, .f32⟩
  | 58 => ⟨S_, .f32⟩
  | 59 => ⟨S2048x2x64x64, .f32⟩
  | 60 => ⟨S_, .f32⟩
  | 61 => ⟨S2048x2x64x64, .f32⟩
  | 62 => ⟨S_, .i32⟩
  | 63 => ⟨S2048x2x64x16, .f32⟩
  | 64 => ⟨S64x64, .f32⟩
  | 65 => ⟨S64x64, .f32⟩
  | 66 => ⟨S64x64x16, .f32⟩
  | 67 => ⟨S64x64x16, .f32⟩
  | 68 => ⟨S_, .i32⟩
  | 69 => ⟨S2x64x64, .f32⟩
  | 70 => ⟨S2x64x64, .f32⟩
  | 71 => ⟨S2048x2x64x64, .f32⟩
  | 72 => ⟨S2048x2x64x64, .f32⟩
  | 73 => ⟨S_, .i32⟩
  | 74 => ⟨S_, .i1⟩
  | 75 => ⟨S_, .i32⟩
  | 76 => ⟨S_, .i32⟩
  | 77 => ⟨S_, .i32⟩
  | 78 => ⟨S1x2x64x16, .f32⟩
  | 79 => ⟨S2x64x16, .f32⟩
  | 80 => ⟨S1x64x64, .f32⟩
  | 81 => ⟨S2x64x64, .f32⟩
  | 82 => ⟨S2x64x64, .f32⟩
  | 83 => ⟨S1x64x64, .f32⟩
  | 84 => ⟨S2x64x64, .f32⟩
  | 85 => ⟨S2x64x64, .f32⟩
  | 86 => ⟨S2x64x64, .f32⟩
  | 87 => ⟨S64x64x2, .f32⟩
  | 88 => ⟨S2x64x64, .f32⟩
  | 89 => ⟨S2x64x64, .f32⟩
  | 90 => ⟨S1x64x64, .f32⟩
  | 91 => ⟨S2x64x64, .f32⟩
  | 92 => ⟨S2x64x64, .f32⟩
  | 93 => ⟨S1x64x64, .f32⟩
  | 94 => ⟨S2x64x64, .f32⟩
  | 95 => ⟨S2x64x64, .f32⟩
  | 96 => ⟨S2x64x64, .f32⟩
  | 97 => ⟨S64x64x2, .f32⟩
  | 98 => ⟨S2x64x64, .f32⟩
  | 99 => ⟨S2x64x64, .f32⟩
  | 100 => ⟨S1x2x64x64, .f32⟩
  | 101 => ⟨S_, .i32⟩
  | 102 => ⟨S_, .i32⟩
  | 103 => ⟨S_, .i32⟩
  | 104 => ⟨S2048x2x64x64, .f32⟩
  | 105 => ⟨S1x2x64x64, .f32⟩
  | 106 => ⟨S_, .i32⟩
  | 107 => ⟨S_, .i32⟩
  | 108 => ⟨S_, .i32⟩
  | 109 => ⟨S2048x2x64x64, .f32⟩
  | 110 => ⟨S_, .i32⟩
  | 111 => ⟨S_, .i32⟩
  | 112 => ⟨S2x2048x64x64, .f32⟩
  | 113 => ⟨S4096x64x64, .f32⟩
  | 114 => ⟨S2x2048x64x64, .f32⟩
  | 115 => ⟨S4096x64x64, .f32⟩
  | 116 => ⟨S64x16x4096, .f32⟩
  | 117 => ⟨S4096x64x16, .f32⟩
  | 118 => ⟨S64x16x4096, .f32⟩
  | 119 => ⟨S4096x64x16, .f32⟩
  | 120 => ⟨S4096x64x16, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x4096, .f32⟩
  | 127 => ⟨S4096x4096, .f32⟩
  | _ => ⟨S4096x1024, .bf16⟩

abbrev hbmTy0_1 (i : Nat) : BufTy := match i % 128 with
  | 0 => ⟨S4096x1024, .f32⟩
  | 1 => ⟨S4096x1024, .f32⟩
  | 2 => ⟨S_, .f32⟩
  | 3 => ⟨S4096x1024, .f32⟩
  | 4 => ⟨S4096x1024, .f32⟩
  | 5 => ⟨S4096x1024, .f32⟩
  | 6 => ⟨S_, .f32⟩
  | 7 => ⟨S4096x1024, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S4096x1024, .f32⟩
  | 17 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_1 : Ref sig .tc := ⟨.hbm, 56, rfl⟩
abbrev main_v45 : Ref sig .tc := ⟨.hbm, 57, rfl⟩
abbrev main_cst_2 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_c : Ref sig .tc := ⟨.hbm, 62, rfl⟩
abbrev main_v48_0 : Ref sig .tc := ⟨.hbm, 63, rfl⟩
abbrev main_v48_1 : Ref sig .tc := ⟨.hbm, 64, rfl⟩
abbrev main_v48_2 : Ref sig .tc := ⟨.hbm, 65, rfl⟩
abbrev main_v48_3 : Ref sig .tc := ⟨.hbm, 66, rfl⟩
abbrev main_v48_4 : Ref sig .tc := ⟨.hbm, 67, rfl⟩
abbrev main_v48_5 : Ref sig .tc := ⟨.hbm, 68, rfl⟩
abbrev main_v48_6 : Ref sig .tc := ⟨.hbm, 69, rfl⟩
abbrev main_v48_7 : Ref sig .tc := ⟨.hbm, 70, rfl⟩
abbrev main_v48_8 : Ref sig .tc := ⟨.hbm, 71, rfl⟩
abbrev main_v48_9 : Ref sig .tc := ⟨.hbm, 72, rfl⟩
abbrev main_while0c_c_17 : Ref sig .tc := ⟨.hbm, 73, rfl⟩
abbrev main_while0c_v79 : Ref sig .tc := ⟨.hbm, 74, rfl⟩
abbrev main_while0b_call0_c : Ref sig .tc := ⟨.hbm, 75, rfl⟩
abbrev main_while0b_call0_c_0 : Ref sig .tc := ⟨.hbm, 76, rfl⟩
abbrev main_while0b_call0_c_1 : Ref sig .tc := ⟨.hbm, 77, rfl⟩
abbrev main_while0b_call0_v0 : Ref sig .tc := ⟨.hbm, 78, rfl⟩
abbrev main_while0b_v79 : Ref sig .tc := ⟨.hbm, 79, rfl⟩
abbrev main_while0b_v80 : Ref sig .tc := ⟨.hbm, 80, rfl⟩
abbrev main_while0b_v81 : Ref sig .tc := ⟨.hbm, 81, rfl⟩
abbrev main_while0b_v82 : Ref sig .tc := ⟨.hbm, 82, rfl⟩
abbrev main_while0b_v83 : Ref sig .tc := ⟨.hbm, 83, rfl⟩
abbrev main_while0b_v84 : Ref sig .tc := ⟨.hbm, 84, rfl⟩
abbrev main_while0b_v85 : Ref sig .tc := ⟨.hbm, 85, rfl⟩
abbrev main_while0b_v86 : Ref sig .tc := ⟨.hbm, 86, rfl⟩
abbrev main_while0b_v87 : Ref sig .tc := ⟨.hbm, 87, rfl⟩
abbrev main_while0b_v88 : Ref sig .tc := ⟨.hbm, 88, rfl⟩
abbrev main_while0b_v89 : Ref sig .tc := ⟨.hbm, 89, rfl⟩
abbrev main_while0b_v90 : Ref sig .tc := ⟨.hbm, 90, rfl⟩
abbrev main_while0b_v91 : Ref sig .tc := ⟨.hbm, 91, rfl⟩
abbrev main_while0b_v92 : Ref sig .tc := ⟨.hbm, 92, rfl⟩
abbrev main_while0b_v93 : Ref sig .tc := ⟨.hbm, 93, rfl⟩
abbrev main_while0b_v94 : Ref sig .tc := ⟨.hbm, 94, rfl⟩
abbrev main_while0b_v95 : Ref sig .tc := ⟨.hbm, 95, rfl⟩
abbrev main_while0b_v96 : Ref sig .tc := ⟨.hbm, 96, rfl⟩
abbrev main_while0b_v97 : Ref sig .tc := ⟨.hbm, 97, rfl⟩
abbrev main_while0b_v98 : Ref sig .tc := ⟨.hbm, 98, rfl⟩
abbrev main_while0b_v99 : Ref sig .tc := ⟨.hbm, 99, rfl⟩
abbrev main_while0b_call1_v0 : Ref sig .tc := ⟨.hbm, 100, rfl⟩
abbrev main_while0b_call1_c : Ref sig .tc := ⟨.hbm, 101, rfl⟩
abbrev main_while0b_call1_c_0 : Ref sig .tc := ⟨.hbm, 102, rfl⟩
abbrev main_while0b_call1_c_1 : Ref sig .tc := ⟨.hbm, 103, rfl⟩
abbrev main_while0b_v100 : Ref sig .tc := ⟨.hbm, 104, rfl⟩
abbrev main_while0b_call2_v0 : Ref sig .tc := ⟨.hbm, 105, rfl⟩
abbrev main_while0b_call2_c : Ref sig .tc := ⟨.hbm, 106, rfl⟩
abbrev main_while0b_call2_c_0 : Ref sig .tc := ⟨.hbm, 107, rfl⟩
abbrev main_while0b_call2_c_1 : Ref sig .tc := ⟨.hbm, 108, rfl⟩
abbrev main_while0b_v101 : Ref sig .tc := ⟨.hbm, 109, rfl⟩
abbrev main_while0b_c_17 : Ref sig .tc := ⟨.hbm, 110, rfl⟩
abbrev main_while0b_v102 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_cst_4 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_cst_5 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_cst_6 : Ref sig .tc := ⟨.hbm, 138, rfl⟩
abbrev main_v73 : Ref sig .tc := ⟨.hbm, 139, rfl⟩
abbrev main_v74 : Ref sig .tc := ⟨.hbm, 140, rfl⟩
abbrev main_cst_7 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩

abbrev nD : Nat := 1
abbrev τ : Topo := Topo.v7x

variable {F : FTy → Type} [FloatOps F]

abbrev main_while0_count : Scf.Loop 32 := ⟨0#32, 2048#32, 1#32⟩
-- ==== UpDw.lean ====
abbrev S4096x5632 : Shape := ⟨2, ![4096, 5632]⟩
abbrev S4096x1024 : Shape := ⟨2, ![4096, 1024]⟩
abbrev S5632x1024 : Shape := ⟨2, ![5632, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDwRefIdeal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AdamW.lean ====
abbrev S8x1024x256 : Shape := ⟨3, ![8, 1024, 256]⟩
abbrev S2x1024x256 : Shape := ⟨3, ![2, 1024, 256]⟩
abbrev S2048x256 : Shape := ⟨2, ![2048, 256]⟩
abbrev S8x512x256 : Shape := ⟨3, ![8, 512, 256]⟩
abbrev S512x256 : Shape := ⟨2, ![512, 256]⟩
abbrev S1x512x256 : Shape := ⟨3, ![1, 512, 256]⟩

abbrev nBuf : Space → Nat
  | .hbm => 12
  | .vmem => 18
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2048x256, .f32⟩
  | .local _ .vmem, ⟨0, _⟩ => ⟨S8x512x256, .bf16⟩
  | .local _ .vmem, ⟨1, _⟩ => ⟨S8x512x256, .bf16⟩
  | .local _ .vmem, ⟨2, _⟩ => ⟨S8x512x256, .bf16⟩
  | .local _ .vmem, ⟨3, _⟩ => ⟨S8x512x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c1_i32_1 : BitVec 32 := 1#32
  let c0_i32 : BitVec 32 := 0#32
  let v2 : BitVec 32 := Scalar.select v1 c1_i32_1 c0_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWRefIdeal.lean ====
abbrev S8x1024x256 : Shape := ⟨3, ![8, 1024, 256]⟩
abbrev S2x1024x256 : Shape := ⟨3, ![2, 1024, 256]⟩
abbrev S_ : Shape := ⟨0, ![]⟩
abbrev S1024x256 : Shape := ⟨2, ![1024, 256]⟩
abbrev S1x1024x256 : Shape := ⟨3, ![1, 1024, 256]⟩
abbrev S2048x256 : Shape := ⟨2, ![2048, 256]⟩

abbrev nBuf : Space → Nat
  | .hbm => 51
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S8x1024x256, .f32⟩
  | .hbm, ⟨6, _⟩ => ⟨S_, .f32⟩
  | .hbm, ⟨7, _⟩ => ⟨S1024x256, .f32⟩
  | .hbm, ⟨8, _⟩ => ⟨S8x1024x256, .f32⟩
  | .hbm, ⟨9, _⟩ => ⟨S_, .f32⟩
  | .hbm, ⟨10, _⟩ => ⟨S1024x256, .f32⟩
  | .hbm, ⟨11, _⟩ => ⟨S1x1024x256, .f32⟩
  | .hbm, ⟨12, _⟩ => ⟨S1x1024x256, .f32⟩
  | .hbm, ⟨13, _⟩ => ⟨S2x1024x256, .f32⟩
  | .hbm, ⟨14, _⟩ => ⟨S_, .f32⟩
  | .hbm, ⟨15, _⟩ => ⟨S2x1024x256, .f32⟩
  | .hbm, ⟨16, _⟩ => ⟨S2x1024x256, .f32⟩
  | .hbm, ⟨17, _⟩ => ⟨S_, .f32⟩
  | .hbm, ⟨18, _⟩ => ⟨S2x1024x256, .f32⟩
  | .hbm, ⟨19, _⟩ => ⟨S2x1024x256, .f32⟩
  | .hbm, ⟨20, _⟩ => ⟨S2x1024x256, .f32⟩
  | .hbm, ⟨21, _⟩ => ⟨S_, .f32⟩
  | .hbm, ⟨22, _⟩ => ⟨S2x1024x256, .f32⟩
  | .hbm, ⟨23, _⟩ => ⟨S2x1024x256, .f32⟩
  | .hbm, ⟨24, _⟩ => ⟨S2x1024x256, .f32⟩
  | .hbm, ⟨25, _⟩ => ⟨S_, .f32⟩
  | .hbm, ⟨26, _⟩ => ⟨S2x1024x256, .f32⟩
  | .hbm, ⟨27, _⟩ => ⟨S2x1024x256, .f32⟩
  | .hbm, ⟨28, _⟩ => ⟨S2x1024x256, .f32⟩
  | .hbm, ⟨29, _⟩ => ⟨S_, .f32⟩
  | .hbm, ⟨30, _⟩ => ⟨S2x1024x256, .f32⟩
  | .hbm, ⟨31, _⟩ => ⟨S2x1024x256, .f32⟩
  | .hbm, ⟨32, _⟩ => ⟨S_, .f32⟩
  | .hbm, ⟨33, _⟩ => ⟨S2x1024x256, .f32⟩
  | .hbm, ⟨34, _⟩ => ⟨S2x1024x256, .f32⟩
  | .hbm, ⟨35, _⟩ => ⟨S2x1024x256, .f32⟩
  | .hbm, ⟨36, _⟩ => ⟨S_, .f32⟩
  | .hbm, ⟨37, _⟩ => ⟨S2x1024x256, .f32⟩
  | .hbm, ⟨38, _⟩ => ⟨S2x1024x256, .f32⟩
  | .hbm, ⟨39, _⟩ => ⟨S2x1024x256, .f32⟩
  | .hbm, ⟨40, _⟩ => ⟨S_, .f32⟩
  | .hbm, ⟨41, _⟩ => ⟨S2x1024x256, .f32⟩
  | .hbm, ⟨42, _⟩ => ⟨S2x1024x256, .f32⟩
  | .hbm, ⟨43, _⟩ => ⟨S2x1024x256, .f32⟩
  | .hbm, ⟨44, _⟩ => ⟨S_, .f32⟩
  | .hbm, ⟨45, _⟩ => ⟨S2x1024x256, .f32⟩
  | .hbm, ⟨46, _⟩ => ⟨S2x1024x256, .f32⟩
  | .hbm, ⟨47, _⟩ => ⟨S2048x256, .f32⟩
  | .hbm, ⟨48, _⟩ => ⟨S2048x256, .f32⟩
  | .hbm, ⟨49, _⟩ => ⟨S2048x256, .f32⟩
  | .hbm, ⟨50, _⟩ => ⟨S2048x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Proof.Scalars.lean ====
/- Hand-written: facts about the extended reals that the value claims share. -/
module

public import Idealize.ShloMosaic.Lib.Pipeline.ValueKit

@[expose] public section

noncomputable section

namespace Cert.Scalars

open Idealize.ShloMosaic

/-- The word 0x3F000000 denotes one half. -/
theorem half_f32 : Ideal.ofBits .f32 0x3F000000#32 = ((1 / 2 : ℝ) : EReal) := by
  simp [Ideal.ofBits, Ideal.ieee, -EReal.coe_mul]; norm_num

/-- One half plus half the hyperbolic tangent of half the argument is the logistic function. -/
theorem half_tanh_eq_logistic (x : EReal) :
    ((1 / 2 : ℝ) : EReal) + ((1 / 2 : ℝ) : EReal) * Ideal.tanh (((1 / 2 : ℝ) : EReal) * x)
      = Ideal.div 1 (1 + Ideal.exp (-x)) := by
  change _ = Ideal.logistic x
  have hp : (0 : ℝ) < 1 / 2 := by norm_num
  induction x using EReal.rec with
  | bot =>
    rw [EReal.coe_mul_bot_of_pos hp, Ideal.tanh_bot, Ideal.logistic_bot, mul_neg, mul_one]
    rw [← EReal.coe_neg, ← EReal.coe_add, add_neg_cancel, EReal.coe_zero]
  | top =>
    rw [EReal.coe_mul_top_of_pos hp, Ideal.tanh_top, Ideal.logistic_top]
    norm_cast; norm_num
  | coe r =>
    rw [← EReal.coe_mul, Ideal.tanh_coe, Ideal.logistic_coe]
    norm_cast
    rw [Real.tanh_eq_sinh_div_cosh, Real.sinh_eq, Real.cosh_eq]
    have h1 : Real.exp (-(1 / 2 * r)) = (Real.exp (1 / 2 * r))⁻¹ := Real.exp_neg _
    have h2 : Real.exp (-r) = (Real.exp (1 / 2 * r))⁻¹ * (Real.exp (1 / 2 * r))⁻¹ := by
      rw [← Real.exp_neg, ← Real.exp_add]; congr 1; ring
    rw [h1, h2]
    have h3 := Real.exp_pos (1 / 2 * r)
    generalize Real.exp (1 / 2 * r) = e at h3 ⊢
    field_simp
    ring

/-- The words 0x7F800000 and 0x7F80 denote infinity. -/
theorem top_f32 : Ideal.ofBits .f32 0x7F800000#32 = ⊤ := by simp [Ideal.ofBits, Ideal.ieee]

theorem top_bf16 : Ideal.ofBits .bf16 0x7F80#16 = ⊤ := by simp [Ideal.ofBits, Ideal.ieee]

/-- A value whose magnitude is below infinity is a real number. -/
theorem real_of_lt (x y : EReal) (hy : y = ⊤) (h : Ideal.cmp .olt (max x (-x)) y = 1#1) : x = (x.toReal : EReal) := by
  subst hy
  induction x using EReal.rec with
  | bot => simp [Ideal.cmp] at h
  | top => simp [Ideal.cmp] at h
  | coe r => rfl

/-- An array all of whose magnitudes are below infinity is an array of real numbers. -/
theorem real_array {s : Shape} {φ : FTy} (x top : FVec Ideal s φ) (ht : ∀ i, top i = (⊤ : EReal))
    (h : cmpf .olt (Host.absf x) top = fun _ => 1#1) : ∃ r : s.Idx → ℝ, x = fun i => (r i : EReal) :=
  ⟨fun i => EReal.toReal (x i), funext fun i => real_of_lt (x i) (top i) (ht i) (congrFun h i)⟩

/-- A finite sum of real numbers, taken in the extended reals. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

end Cert.Scalars

end
-- ==== Proof.GluBwd.lean ====
/- Hand-written: what the gated-unit backward kernel leaves is the derivative of the plain gated unit. -/
module

public import proofs.«01_k».proof.Proof.Gen.GluBwdIdeal.Value
public import proofs.«01_k».proof.Proof.Gen.GluBwdRefIdeal.Run
public import proofs.«01_k».proof.Proof.Scalars
public import proofs.«01_k».proof.Defs
public import Idealize.ShloMosaic.Lib.Tactic.CleanTypes

@[expose] public section

set_option maxRecDepth 16384

noncomputable section

namespace Cert.GluBwdProof

open Idealize.ShloMosaic Idealize.ShloMosaic.TcCoe Idealize.SL.Sem Cert.GluBwdIdeal Cert.GluBwdIdeal.Gen
open Idealize.ShloMosaic.Pipeline (Dat)

variable (m : (ℓ : Loc nD τ sig) → Buf (Elt Ideal) ℓ)

/-- The derivative at one place of the first half: the incoming gradient times the gate. -/
def left (d g : EReal) : EReal := d * Ideal.div 1 (1 + Ideal.exp (-g))

/-- The derivative at one place of the second half. -/
def right (d v g : EReal) : EReal :=
  v * d * (Ideal.div 1 (1 + Ideal.exp (-g)) * (1 - Ideal.div 1 (1 + Ideal.exp (-g))))

theorem idx : ∀ t : Fin cfg0.N, win0_0.index t = ![t.val, 0] ∧ win0_1.index t = ![t.val, 0]
    ∧ win0_2.index t = ![t.val, 1] ∧ win0_3.index t = ![t.val, 0] :=
  (by decide +kernel : ∀ t : Fin grid0.N, _)

/-- The whole result, index by index. -/
def G (D : S4096x1024.Idx → EReal) (H : S4096x2048.Idx → EReal) : S4096x2048.Idx → EReal := fun i =>
  if h : (i 1 : ℕ) < 1024 then left (D (ix2 (i 0) ⟨i 1, h⟩)) (H (ix2 (i 0) ⟨1024 + (i 1 : ℕ), by omega⟩))
  else
    have h' : (i 1 : ℕ) - 1024 < 1024 := by have := (i 1).isLt; change (i 1 : ℕ) < 2048 at this; omega
    right (D (ix2 (i 0) ⟨(i 1 : ℕ) - 1024, h'⟩)) (H (ix2 (i 0) ⟨(i 1 : ℕ) - 1024, by omega⟩)) (H (ix2 (i 0) (i 1)))

theorem G_left (D : S4096x1024.Idx → EReal) (H : S4096x2048.Idx → EReal) (j : S4096x2048.Idx)
    (r : Fin 4096) (k : Fin 1024) (h0 : (j 0 : ℕ) = r) (h1 : (j 1 : ℕ) = k) :
    G D H j = left (D (ix2 r k)) (H (ix2 r ⟨1024 + (k : ℕ), by omega⟩)) := by
  unfold G
  rw [dif_pos (by omega)]
  unfold left
  blk_point []

theorem G_right (D : S4096x1024.Idx → EReal) (H : S4096x2048.Idx → EReal) (j : S4096x2048.Idx)
    (r : Fin 4096) (k : Fin 1024) (h0 : (j 0 : ℕ) = r) (h1 : (j 1 : ℕ) = 1024 + k) :
    G D H j = right (D (ix2 r k)) (H (ix2 r ⟨(k : ℕ), by omega⟩)) (H (ix2 r ⟨1024 + (k : ℕ), by omega⟩)) := by
  unfold G
  rw [dif_neg (by omega)]
  dsimp only [right]
  blk_point []

theorem pay2_at (v0 : S256x1024.Idx → EReal) (v2 : S256x1024.Idx → EReal) (x : S256x1024.Idx) :
    k0_pay2 (F := Ideal) v0 v2 x = left (v0 x) (v2 x) := by
  pointwise [k0_pay2, k0_pay1, Scalars.half_f32, Scalars.half_tanh_eq_logistic]
  rfl

theorem pay3_at (v0 v1 v2 : S256x1024.Idx → EReal) (x : S256x1024.Idx) :
    k0_pay3 (F := Ideal) v0 v1 v2 x = right (v0 x) (v1 x) (v2 x) := by
  pointwise [k0_pay3, k0_pay1, Scalars.half_f32, Scalars.half_tanh_eq_logistic]
  dsimp only [right]
  ac_rfl

theorem final (c : Dev nD) : (dats m 0 c).arrAt 3 cfg0.N
    = G (m ((c : Thread nD τ).loc main_arg0)) (m ((c : Thread nD τ).loc main_arg1)) := by
  refine (dats m 0 c).arrAt_eq_of_covers 3 _ (by decide +kernel) fun t _ y => ?_
  blk_simp
  rw [after0_3]
  have ht : t.val < 16 := lt_of_lt_of_eq t.isLt N_0
  canon_tiles x h
  · rw [pay3_at, G_right _ _ _ ⟨t.val * 256 + (x 0 : ℕ), by omega⟩ ⟨x 1, x1_lt⟩ (by blk_simp [idx t]; dsimp only; omega) (by blk_simp [idx t]; dsimp only; omega)]
    pointwise
    blk_point [iblk, V, idx t]
  · rw [pay2_at, G_left _ _ _ ⟨t.val * 256 + (x 0 : ℕ), by omega⟩ ⟨x 1, x1_lt⟩ (by blk_simp [idx t]; dsimp only; omega) (by blk_simp [idx t]; dsimp only; omega)]
    pointwise
    blk_point [iblk, V, idx t]

/-- The kernel leaves the plain gated unit's derivative. -/
theorem algebraic : Cert.algebraic_GluBwdIdeal_GluBwdRefIdeal
    (hGluBwdIdeal := Cert.GluBwdIdeal.Gen.facts) (hGluBwdRefIdeal := Cert.GluBwdRefIdeal.Gen.facts) := by
  pair_intro
  · run_from Cert.GluBwdIdeal.Value.run_blocks m g
  · run_from Cert.GluBwdRefIdeal.Value.run m' g'
    refine Eq.trans ?_ (final m c).symm
    funext j
    clean_types
    pointwise [G, left, right]
    by_cases h : (j 1 : ℕ) < 1024
    · rw [dif_pos h, dif_pos h]
    · rw [dif_neg h, dif_neg h]
      blk_point []

/-- The reference terminates, keeps its arguments, and has no semaphore. -/
theorem frame_ref : Cert.quiescent_GluBwdRefIdeal (hGluBwdRefIdeal := Cert.GluBwdRefIdeal.Gen.facts) := fun m ρ _ =>
  (θ_run Cert.GluBwdRefIdeal.defs _ _).mono (fun r h => ⟨fun c => (h c).2, sem_eq_zero_of_no_sems (by decide) r.2⟩)
    (Cert.GluBwdRefIdeal.Value.run m ρ)

end Cert.GluBwdProof

end
-- ==== Proof.ConvBwdBlocks.lean ====
/- Hand-written: what the backward kernel of the short convolution leaves is the derivative of the plain convolution. -/
module

public import proofs.«01_k».proof.Proof.Gen.ConvBwdIdeal.Value
public import proofs.«01_k».proof.Proof.Gen.ConvBwdRefIdeal.Run
public import proofs.«01_k».proof.Proof.Scalars
public import proofs.«01_k».proof.Defs
public import Idealize.ShloMosaic.Lib.Tactic.CleanTypes
public import Idealize.ShloMosaic.Lib.Pipeline.ReadBack

@[expose] public section

set_option maxRecDepth 16384

noncomputable section

namespace Cert.ConvBwdProof

open Idealize.ShloMosaic Idealize.ShloMosaic.TcCoe Idealize.SL.Sem Cert.ConvBwdIdeal Cert.ConvBwdIdeal.Gen
open Idealize.ShloMosaic.Pipeline (Dat)
open Idealize.ShloMosaic.WordCmp

variable (m : (ℓ : Loc nD τ sig) → Buf (Elt Ideal) ℓ)

theorem idx : ∀ t : Fin cfg0.N, win0_0.index t = ![t.val % 2, t.val / 2]
    ∧ win0_1.index t = ![t.val % 2, t.val / 2]
    ∧ win0_2.index t = ![t.val % 2, 4 + t.val / 2]
    ∧ win0_3.index t = ![t.val % 2, 8 + t.val / 2]
    ∧ win0_4.index t = ![0, t.val / 2]
    ∧ win0_5.index t = ![t.val % 2, t.val / 2]
    ∧ win0_6.index t = ![t.val % 2, t.val / 2]
    ∧ win0_7.index t = ![t.val % 2, t.val / 2]
    ∧ win0_8.index t = ![0, t.val / 2] :=
  (by decide +kernel : ∀ t : Fin grid0.N, _)

/-- Row `r`, channel `k` of the given gradient. -/
def dz (D : S4096x1024.Idx → EReal) (r k : ℕ) : EReal := D (ix2 ⟨r % 4096, by omega⟩ ⟨k % 1024, by omega⟩)

/-- Row `r`, column `k` of the saved projection. -/
def pr (H : S4096x3072.Idx → EReal) (r k : ℕ) : EReal := H (ix2 ⟨r % 4096, by omega⟩ ⟨k % 3072, by omega⟩)

/-- Filter tap `i`, channel `k`. -/
def tap (W : S3x1024.Idx → EReal) (i : Fin 3) (k : ℕ) : EReal := W (ix2 i ⟨k % 1024, by omega⟩)

variable (D : S4096x1024.Idx → EReal) (H : S4096x3072.Idx → EReal) (W : S3x1024.Idx → EReal)

/-- The gradient at the convolution's output: the output gate times the given gradient. -/
def ct (r k : ℕ) : EReal := pr H r (1024 + k) * dz D r k

/-- The convolution's input: the input gate times the value. -/
def u (r k : ℕ) : EReal := pr H r k * pr H r (2048 + k)

/-- The gradient at the convolution's input. -/
def du (r k : ℕ) : EReal :=
  tap W 2 k * ct D H r k + (if r % 2048 < 2047 then tap W 1 k * ct D H (r + 1) k else 0)
    + (if r % 2048 < 2046 then tap W 0 k * ct D H (r + 2) k else 0)

/-- One tap's product `n` rows earlier in its sequence, zero before the sequence starts. -/
def late (i : Fin 3) (n r k : ℕ) : EReal := if n ≤ r % 2048 then tap W i k * u H (r - n) k else 0

/-- The convolution. -/
def conv (r k : ℕ) : EReal := late H W 0 2 r k + late H W 1 1 r k + tap W 2 k * u H r k

theorem select_lt (y n : ℕ) (hy : y < 2048) (hn : n < 2048) (a b : EReal) :
    Scalar.select (IntOp.cmpi .slt (BitVec.ofNat 32 y) (BitVec.ofNat 32 n)) a b = if y < n then a else b := by
  rw [cmpi_slt_ofNat (by omega) (by omega), select_decide]

theorem select_ge (y n : ℕ) (hy : y < 2048) (hn : n < 2048) (a b : EReal) :
    Scalar.select (IntOp.cmpi .sge (BitVec.ofNat 32 y) (BitVec.ofNat 32 n)) a b = if n ≤ y then a else b := by
  rw [cmpi_sge_ofNat (by omega) (by omega), select_decide]

section Blocks

variable (c : Dev nD) (t : Fin cfg0.N) (r : Fin 2048) (k : Fin 256)

theorem blk0 : iblk m c 0 t (ix2 r k) = dz (V m c main_arg0) (t.val % 2 * 2048 + r.val) (t.val / 2 * 256 + k.val) := by
  have := t.isLt
  unfold dz
  blk_point [iblk, V, idx t]
theorem blk1 : iblk m c 1 t (ix2 r k) = pr (V m c main_arg1) (t.val % 2 * 2048 + r.val) (t.val / 2 * 256 + k.val) := by
  have := t.isLt
  unfold pr
  blk_point [iblk, V, idx t]
theorem blk2 : iblk m c 2 t (ix2 r k) = pr (V m c main_arg1) (t.val % 2 * 2048 + r.val) (1024 + (t.val / 2 * 256 + k.val)) := by
  have := t.isLt
  unfold pr
  blk_point [iblk, V, idx t]
theorem blk3 : iblk m c 3 t (ix2 r k) = pr (V m c main_arg1) (t.val % 2 * 2048 + r.val) (2048 + (t.val / 2 * 256 + k.val)) := by
  have := t.isLt
  unfold pr
  blk_point [iblk, V, idx t]
theorem blk4 (i : Fin 3) : iblk m c 4 t (ix2 i k) = tap (V m c main_arg2) i (t.val / 2 * 256 + k.val) := by
  have := t.isLt
  unfold tap
  blk_point [iblk, V, idx t]

end Blocks

/-- The first result: the gradient at the input gate. -/
def G5 : S4096x1024.Idx → EReal := fun j => du D H W (j 0).val (j 1).val * pr H (j 0).val (2048 + (j 1).val)

/-- The second result: the gradient at the output gate. -/
def G6 : S4096x1024.Idx → EReal := fun j => dz D (j 0).val (j 1).val * conv H W (j 0).val (j 1).val

/-- The third result: the gradient at the value. -/
def G7 : S4096x1024.Idx → EReal := fun j => du D H W (j 0).val (j 1).val * pr H (j 0).val (j 1).val

theorem G5_at (j) (r k : ℕ) (h0 : (j 0).val = r) (h1 : (j 1).val = k) :
    G5 D H W j = du D H W r k * pr H r (2048 + k) := by subst h0 h1; rfl
theorem G6_at (j) (r k : ℕ) (h0 : (j 0).val = r) (h1 : (j 1).val = k) :
    G6 D H W j = dz D r k * conv H W r k := by subst h0 h1; rfl
theorem G7_at (j) (r k : ℕ) (h0 : (j 0).val = r) (h1 : (j 1).val = k) :
    G7 D H W j = du D H W r k * pr H r k := by subst h0 h1; rfl

/-- The gradient at the convolution's input, as a block spells it: rows counted inside the sequence. -/
theorem du_block (s r k : ℕ) (hr : r < 2048) :
    (tap W 2 k * (pr H (s * 2048 + r) (1024 + k) * dz D (s * 2048 + r) k)
      + if r < 2047 then tap W 1 k * (pr H (s * 2048 + (r + 2048 - 2047) % 2048) (1024 + k)
          * dz D (s * 2048 + (r + 2048 - 2047) % 2048) k) else 0)
      + (if r < 2046 then tap W 0 k * (pr H (s * 2048 + (r + 2048 - 2046) % 2048) (1024 + k)
          * dz D (s * 2048 + (r + 2048 - 2046) % 2048) k) else 0)
      = du D H W (s * 2048 + r) k := by
  have e : (s * 2048 + r) % 2048 = r := by omega
  unfold du ct
  rw [e]
  have e1 : r < 2047 → s * 2048 + (r + 2048 - 2047) % 2048 = s * 2048 + r + 1 := fun h => by omega
  have e2 : r < 2046 → s * 2048 + (r + 2048 - 2046) % 2048 = s * 2048 + r + 2 := fun h => by omega
  congr 1
  · congr 1
    split_ifs with h
    · rw [e1 h]
    · rfl
  · split_ifs with h
    · rw [e2 h]
    · rfl

/-- One tap's product `n` rows earlier, as a block spells it. -/
theorem late_block (i : Fin 3) (n s r k : ℕ) (hr : r < 2048) (hn : n ≤ 2) :
    (if n ≤ r then tap W i k * (pr H (s * 2048 + (r + 2048 - n) % 2048) k * pr H (s * 2048 + (r + 2048 - n) % 2048) (2048 + k)) else 0)
      = late H W i n (s * 2048 + r) k := by
  have e : (s * 2048 + r) % 2048 = r := by omega
  have e1 : n ≤ r → s * 2048 + (r + 2048 - n) % 2048 = s * 2048 + r - n := fun h => by omega
  unfold late u
  rw [e]
  split_ifs with h
  · rw [e1 h]
  · rfl

theorem final5 (c : Dev nD) : (dats m 0 c).arrAt 5 cfg0.N = G5 (V m c main_arg0) (V m c main_arg1) (V m c main_arg2) := by
  refine (dats m 0 c).arrAt_eq_of_covers 5 _ (by decide +kernel) fun t _ y => ?_
  blk_simp
  rw [after0_5]
  idx_vars y
  rw [G5_at _ _ _ _ (t.val % 2 * 2048 + y0.val) (t.val / 2 * 256 + y1.val) (by blk_simp [idx t] <;> (dsimp only; omega)) (by blk_simp [idx t] <;> (dsimp only; omega)),
    ← du_block _ _ _ _ _ _ y0.isLt]
  by_cases h : t.val % 2 = 0
  · rw [outsAt0_A m c t h]; frame_out
    pointwise [k0_pay13, k0_pay12, k0_pay11, k0_pay3, k0_pay4, k0_pay5, k0_pay6]
    rw [select_lt _ _ y0.isLt (by omega), select_lt _ _ y0.isLt (by omega)]
    simp only [blk0, blk1, blk2, blk3, blk4, mul_comm (dz _ _ _)]
  · rw [outsAt0_B m c t h]; frame_out
    pointwise [k0_pay13, k0_pay12, k0_pay11, k0_pay3, k0_pay4, k0_pay5, k0_pay6]
    rw [select_lt _ _ y0.isLt (by omega), select_lt _ _ y0.isLt (by omega)]
    simp only [blk0, blk1, blk2, blk3, blk4, mul_comm (dz _ _ _)]

theorem final6 (c : Dev nD) : (dats m 0 c).arrAt 6 cfg0.N = G6 (V m c main_arg0) (V m c main_arg1) (V m c main_arg2) := by
  refine (dats m 0 c).arrAt_eq_of_covers 6 _ (by decide +kernel) fun t _ y => ?_
  blk_simp
  rw [after0_6]
  idx_vars y
  rw [G6_at _ _ _ _ (t.val % 2 * 2048 + y0.val) (t.val / 2 * 256 + y1.val) (by blk_simp [idx t] <;> (dsimp only; omega)) (by blk_simp [idx t] <;> (dsimp only; omega)),
    conv, ← late_block _ _ _ _ _ _ _ y0.isLt (by omega), ← late_block _ _ _ _ _ _ _ y0.isLt (by omega)]
  by_cases h : t.val % 2 = 0
  · rw [outsAt0_A m c t h]; frame_out
    pointwise [k0_pay10, k0_pay9, k0_pay8, k0_pay7, k0_pay3, k0_pay4, k0_pay5, k0_pay6]
    rw [select_ge _ _ y0.isLt (by omega), select_ge _ _ y0.isLt (by omega)]
    simp only [blk0, blk1, blk2, blk3, blk4]
    rfl
  · rw [outsAt0_B m c t h]; frame_out
    pointwise [k0_pay10, k0_pay9, k0_pay8, k0_pay7, k0_pay3, k0_pay4, k0_pay5, k0_pay6]
    rw [select_ge _ _ y0.isLt (by omega), select_ge _ _ y0.isLt (by omega)]
    simp only [blk0, blk1, blk2, blk3, blk4]
    rfl

theorem final7 (c : Dev nD) : (dats m 0 c).arrAt 7 cfg0.N = G7 (V m c main_arg0) (V m c main_arg1) (V m c main_arg2) := by
  refine (dats m 0 c).arrAt_eq_of_covers 7 _ (by decide +kernel) fun t _ y => ?_
  blk_simp
  rw [after0_7]
  idx_vars y
  rw [G7_at _ _ _ _ (t.val % 2 * 2048 + y0.val) (t.val / 2 * 256 + y1.val) (by blk_simp [idx t] <;> (dsimp only; omega)) (by blk_simp [idx t] <;> (dsimp only; omega)),
    ← du_block _ _ _ _ _ _ y0.isLt]
  by_cases h : t.val % 2 = 0
  · rw [outsAt0_A m c t h]; frame_out
    pointwise [k0_pay14, k0_pay12, k0_pay11, k0_pay3, k0_pay4, k0_pay5, k0_pay6]
    rw [select_lt _ _ y0.isLt (by omega), select_lt _ _ y0.isLt (by omega)]
    simp only [blk0, blk1, blk2, blk3, blk4, mul_comm (dz _ _ _)]
  · rw [outsAt0_B m c t h]; frame_out
    pointwise [k0_pay14, k0_pay12, k0_pay11, k0_pay3, k0_pay4, k0_pay5, k0_pay6]
    rw [select_lt _ _ y0.isLt (by omega), select_lt _ _ y0.isLt (by omega)]
    simp only [blk0, blk1, blk2, blk3, blk4, mul_comm (dz _ _ _)]

theorem du_ref (j0 : Fin 4096) (j1 : Fin 1024) : (((if h : j0.val / 2048 < 2 ∧ j0.val % 2048 < 2048 then
            W (ix2 2 j1) * (H (ix2 j0 ⟨1024 + j1.val, by omega⟩) * D (ix2 j0 j1)) else 0) +
          if h : j0.val / 2048 < 2 ∧ 1 ≤ 2 + j0.val % 2048 ∧ 2 + j0.val % 2048 - 1 < 2048 then
            W (ix2 1 j1) * (H (ix2 ⟨j0.val / 2048 * 2048 + (2 + j0.val % 2048 - 1), by omega⟩ ⟨1024 + j1.val, by omega⟩) *
                D (ix2 ⟨j0.val / 2048 * 2048 + (2 + j0.val % 2048 - 1), by omega⟩ j1))
          else 0) +
        if h : j0.val / 2048 < 2 ∧ 2 + j0.val % 2048 < 2048 then
          W (ix2 0 j1) * (H (ix2 ⟨j0.val / 2048 * 2048 + (2 + j0.val % 2048), by omega⟩ ⟨1024 + j1.val, by omega⟩) *
              D (ix2 ⟨j0.val / 2048 * 2048 + (2 + j0.val % 2048), by omega⟩ j1))
        else 0) = du D H W j0.val j1.val := by
  unfold du ct pr dz tap
  split_ifs <;> first | omega | blk_point []

theorem ref6 (j0 : Fin 4096) (j1 : Fin 1024) : D (ix2 j0 j1) *
      (((W (ix2 0 j1) *
            if h : j0.val % 2048 < 2 then 0
            else
              H (ix2 ⟨j0.val / 2048 * 2048 + (j0.val % 2048 - 2), by omega⟩ ⟨j1.val, by omega⟩) *
                H (ix2 ⟨j0.val / 2048 * 2048 + (j0.val % 2048 - 2), by omega⟩ ⟨2048 + j1.val, by omega⟩)) +
          W (ix2 1 j1) *
            if h : 1 + j0.val % 2048 < 2 then 0
            else
              H (ix2 ⟨j0.val / 2048 * 2048 + (1 + j0.val % 2048 - 2), by omega⟩ ⟨j1.val, by omega⟩) *
                H (ix2 ⟨j0.val / 2048 * 2048 + (1 + j0.val % 2048 - 2), by omega⟩ ⟨2048 + j1.val, by omega⟩)) +
        W (ix2 2 j1) * (H (ix2 j0 ⟨j1.val, by omega⟩) * H (ix2 j0 ⟨2048 + j1.val, by omega⟩))) =
    dz D j0.val j1.val * conv H W j0.val j1.val := by
  unfold conv late u tap pr dz
  split_ifs <;> first | omega | ((try simp only [mul_zero]); blk_point [])

/-- What sequence `s` adds to tap `i`, channel `k`. -/
def part (s i k : ℕ) : EReal :=
  ∑ r : Fin 2048, if 2 - i ≤ r.val then ct D H (s * 2048 + r.val) k * u H (s * 2048 + r.val - (2 - i)) k else 0

/-- What one grid point adds to the filter's gradient. -/
def S (c : Dev nD) (t : Fin cfg0.N) : S3x256.Idx → EReal := fun j =>
  part (V m c main_arg0) (V m c main_arg1) (t.val % 2) (j 0).val (t.val / 2 * 256 + (j 1).val)

theorem row_block (n s r k : ℕ) (hr : r < 2048) (hn : n ≤ 2) :
    (if n ≤ r then dz D (s * 2048 + r) k * pr H (s * 2048 + r) (1024 + k)
      * (pr H (s * 2048 + (r + 2048 - n) % 2048) k * pr H (s * 2048 + (r + 2048 - n) % 2048) (2048 + k)) else 0)
      = if n ≤ r then ct D H (s * 2048 + r) k * u H (s * 2048 + r - n) k else 0 := by
  have e1 : n ≤ r → s * 2048 + (r + 2048 - n) % 2048 = s * 2048 + r - n := fun h => by omega
  unfold ct u
  rw [mul_comm (dz _ _ _)]
  split_ifs with h
  · rw [e1 h]
  · rfl

theorem row_block0 (s r k : ℕ) (hr : r < 2048) :
    dz D (s * 2048 + r) k * pr H (s * 2048 + r) (1024 + k)
      * (pr H (s * 2048 + r) k * pr H (s * 2048 + r) (2048 + k))
      = if 0 ≤ r then ct D H (s * 2048 + r) k * u H (s * 2048 + r - 0) k else 0 := by
  unfold ct u
  rw [mul_comm (dz _ _ _), if_pos (Nat.zero_le _)]
  rfl

theorem idx_ext (j : S3x256.Idx) (a : Fin 3) (b : Fin 256) (h0 : (j 0).val = a.val) (h1 : (j 1).val = b.val) : j = ix2 a b := by
  funext i
  apply Fin.ext
  match i with
  | ⟨0, _⟩ => exact h0
  | ⟨1, _⟩ => exact h1

section Rows

variable (B0 B1 B2 B3 : S2048x256.Idx → EReal) (q : Fin 256) (s k : ℕ)
  (e0 : ∀ r : Fin 2048, B0 (ix2 r q) = dz D (s * 2048 + r.val) k) (e1 : ∀ r : Fin 2048, B1 (ix2 r q) = pr H (s * 2048 + r.val) k)
  (e2 : ∀ r : Fin 2048, B2 (ix2 r q) = pr H (s * 2048 + r.val) (1024 + k)) (e3 : ∀ r : Fin 2048, B3 (ix2 r q) = pr H (s * 2048 + r.val) (2048 + k))

include e0 e1 e2 e3

theorem row2 : (∑ x : Fin 2048, B0 (ix2 x q) * B2 (ix2 x q) * (B1 (ix2 x q) * B3 (ix2 x q))) = part D H s 2 k := by
  unfold part
  refine Finset.sum_congr rfl fun r _ => ?_
  simp only [e0, e1, e2, e3]
  exact row_block0 _ _ _ r.val _ r.isLt

theorem row1 : (∑ x : Fin 2048, Scalar.select (IntOp.cmpi .sge (BitVec.ofNat 32 x.val) 1#32)
        (B0 (ix2 x q) * B2 (ix2 x q) * (B1 (ix2 ⟨(x.val + 2048 - 1) % 2048, by omega⟩ q) * B3 (ix2 ⟨(x.val + 2048 - 1) % 2048, by omega⟩ q))) 0) = part D H s 1 k := by
  unfold part
  refine Finset.sum_congr rfl fun r _ => ?_
  rw [select_ge _ _ r.isLt (by omega)]
  simp only [e0, e1, e2, e3]
  exact row_block _ _ 1 _ r.val _ r.isLt (by omega)

theorem row0 : (∑ x : Fin 2048, Scalar.select (IntOp.cmpi .sge (BitVec.ofNat 32 x.val) 2#32)
        (B0 (ix2 x q) * B2 (ix2 x q) * (B1 (ix2 ⟨(x.val + 2048 - 2) % 2048, by omega⟩ q) * B3 (ix2 ⟨(x.val + 2048 - 2) % 2048, by omega⟩ q))) 0) = part D H s 0 k := by
  unfold part
  refine Finset.sum_congr rfl fun r _ => ?_
  rw [select_ge _ _ r.isLt (by omega)]
  simp only [e0, e1, e2, e3]
  exact row_block _ _ 2 _ r.val _ r.isLt (by omega)

end Rows

/-- A place inside a rectangle, counted in the whole array. -/
theorem emb_val (off size : Fin 2 → ℕ) (inb) (x) (a : Fin 2) {n : ℕ} (h : off a + (x a).val = n) :
    ((Rect.unit (s := S3x256) off size inb).emb x a).val = n := by
  rw [← h]
  exact congrArg (off a + ·) (Nat.one_mul _)

theorem stepB (c : Dev nD) (t : Fin cfg0.N) (h : ¬ t.val % 2 = 0) (j : S3x256.Idx) :
    (outsAt0 m c t.val t.isLt).2.2.2 j = (outsAt0 m c (t.val - 1) (by have := t.isLt; omega)).2.2.2 j + S m c t j := by
  rw [outsAt0_B m c t h]; frame_out
  canon_tiles x h
  · idx_vars x
    obtain rfl : j = ix2 (2 : Fin 3) x1 := idx_ext j _ _ (by rw [h0, Nat.lt_one_iff.mp x0_lt]; rfl) h1
    pointwise [k0_pay2, k0_pay7, k0_pay11, k0_pay3, k0_pay4, k0_pay5, k0_pay6]
    exact congrArg₂ (· + ·) (by blk_point []) (row2 _ _ (iblk m c 0 t) (iblk m c 1 t) (iblk m c 2 t) (iblk m c 3 t) x1 _ _ (fun r => blk0 m c t r x1) (fun r => blk1 m c t r x1) (fun r => blk2 m c t r x1) (fun r => blk3 m c t r x1))
  · idx_vars x
    obtain rfl : j = ix2 (1 : Fin 3) x1 := idx_ext j _ _ (by rw [h0, Nat.lt_one_iff.mp x0_lt]; rfl) h1
    pointwise [k0_pay1, k0_pay8, k0_pay7, k0_pay11, k0_pay3, k0_pay4, k0_pay5, k0_pay6]
    exact congrArg₂ (· + ·) (by blk_point []) (row1 _ _ (iblk m c 0 t) (iblk m c 1 t) (iblk m c 2 t) (iblk m c 3 t) x1 _ _ (fun r => blk0 m c t r x1) (fun r => blk1 m c t r x1) (fun r => blk2 m c t r x1) (fun r => blk3 m c t r x1))
  · idx_vars x
    obtain rfl : j = ix2 (0 : Fin 3) x1 := idx_ext j _ _ (by rw [h0, Nat.lt_one_iff.mp x0_lt]; rfl) h1
    pointwise [k0_pay16, k0_pay9, k0_pay7, k0_pay11, k0_pay3, k0_pay4, k0_pay5, k0_pay6]
    exact congrArg₂ (· + ·) (by blk_point []) (row0 _ _ (iblk m c 0 t) (iblk m c 1 t) (iblk m c 2 t) (iblk m c 3 t) x1 _ _ (fun r => blk0 m c t r x1) (fun r => blk1 m c t r x1) (fun r => blk2 m c t r x1) (fun r => blk3 m c t r x1))

theorem stepA (c : Dev nD) (t : Fin cfg0.N) (h : t.val % 2 = 0) (j : S3x256.Idx) :
    (outsAt0 m c t.val t.isLt).2.2.2 j = 0 + S m c t j := by
  rw [outsAt0_A m c t h]; frame_out
  simp (disch := decide) only [↓ View.readCov_skip, ↓ View.readCov_fill]
  refine View.canon_append_of_piecesOf (s := S3x256) (e := .f32) (Val := Elt Ideal) (fun j => ((0 : EReal) + S m c t j : EReal)) [_] [_, _, _] ⟨?_, ?_, ?_, trivial⟩ j
    (View.cover_of_tiledL _ ![1, 256] rfl j)
  · intro x
    idx_vars x
    pointwise [k0_pay2, k0_pay7, k0_pay11, k0_pay3, k0_pay4, k0_pay5, k0_pay6, k0_pay15]
    exact (row2 _ _ (iblk m c 0 t) (iblk m c 1 t) (iblk m c 2 t) (iblk m c 3 t) x1 _ _ (fun r => blk0 m c t r x1) (fun r => blk1 m c t r x1) (fun r => blk2 m c t r x1) (fun r => blk3 m c t r x1)).trans (congrArg (S m c t) (idx_ext _ 2 x1 (emb_val _ _ _ _ _ (by show 2 + x0.val = 2; omega)) (emb_val _ _ _ _ _ (Nat.zero_add _)))).symm
  · intro x
    idx_vars x
    pointwise [k0_pay1, k0_pay8, k0_pay7, k0_pay11, k0_pay3, k0_pay4, k0_pay5, k0_pay6, k0_pay15]
    exact (row1 _ _ (iblk m c 0 t) (iblk m c 1 t) (iblk m c 2 t) (iblk m c 3 t) x1 _ _ (fun r => blk0 m c t r x1) (fun r => blk1 m c t r x1) (fun r => blk2 m c t r x1) (fun r => blk3 m c t r x1)).trans (congrArg (S m c t) (idx_ext _ 1 x1 (emb_val _ _ _ _ _ (by show 1 + x0.val = 1; omega)) (emb_val _ _ _ _ _ (Nat.zero_add _)))).symm
  · intro x
    idx_vars x
    pointwise [k0_pay16, k0_pay9, k0_pay7, k0_pay11, k0_pay3, k0_pay4, k0_pay5, k0_pay6, k0_pay15]
    exact (row0 _ _ (iblk m c 0 t) (iblk m c 1 t) (iblk m c 2 t) (iblk m c 3 t) x1 _ _ (fun r => blk0 m c t r x1) (fun r => blk1 m c t r x1) (fun r => blk2 m c t r x1) (fun r => blk3 m c t r x1)).trans (congrArg (S m c t) (idx_ext _ 0 x1 (emb_val _ _ _ _ _ (by show 0 + x0.val = 0; omega)) (emb_val _ _ _ _ _ (Nat.zero_add _)))).symm

/-- The fourth result: the filter's gradient, summed over the two sequences. -/
def G8 : S3x1024.Idx → EReal := fun j => ∑ s : Fin 2, part D H s.val (j 0).val (j 1).val

theorem G8_at (j) (i k : ℕ) (h0 : (j 0).val = i) (h1 : (j 1).val = k) : G8 D H j = ∑ s : Fin 2, part D H s.val i k := by
  subst h0 h1; rfl

theorem final8 (c : Dev nD) : (dats m 0 c).arrAt 8 cfg0.N = G8 (V m c main_arg0) (V m c main_arg1) := by
  refine (dats m 0 c).arrAt_eq_of_covers 8 _ (by decide +kernel) fun t hf y => ?_
  blk_simp
  rw [after0_8]
  refine (Pipeline.eq_sum_fin_of_reset_step_apply_of_flush (fun n h => (outsAt0 m c n h).2.2.2) 2 (fun _ => 0) (S m c)
    (fun t h j => stepA m c t h j) (fun t h j => stepB m c t h j) t ((flush0_8 t).mp hf) _).trans ?_
  idx_vars y
  rw [zero_add, G8_at _ _ _ y0.val (t.val / 2 * 256 + y1.val) (by blk_simp [idx t] <;> (dsimp only; omega)) (by blk_simp [idx t] <;> (dsimp only; omega))]
  refine Finset.sum_congr rfl fun s _ => ?_
  show part _ _ ((2 * (t.val / 2) + s.val) % 2) y0.val ((2 * (t.val / 2) + s.val) / 2 * 256 + y1.val) = _
  rw [show (2 * (t.val / 2) + s.val) % 2 = s.val by omega, show (2 * (t.val / 2) + s.val) / 2 = t.val / 2 by omega]

end Cert.ConvBwdProof

end
-- ==== Proof.ConvBwd.lean ====
/- Hand-written: what the backward kernel of the short convolution leaves is the derivative of the plain convolution. -/
module

public import proofs.«01_k».proof.Proof.ConvBwdBlocks
public import proofs.«01_k».proof.Proof.Gen.ConvBwdRefIdeal.Run
public import proofs.«01_k».proof.Proof.Scalars
public import proofs.«01_k».proof.Defs
public import Idealize.ShloMosaic.Lib.Tactic.CleanTypes
public import Idealize.ShloMosaic.Lib.Pipeline.ReadBack

@[expose] public section

set_option maxRecDepth 16384

noncomputable section

namespace Cert.ConvBwdProof

open Idealize.ShloMosaic Idealize.ShloMosaic.TcCoe Idealize.SL.Sem Cert.ConvBwdIdeal Cert.ConvBwdIdeal.Gen
open Idealize.ShloMosaic.Pipeline (Dat)
open Idealize.ShloMosaic.WordCmp

variable (m : (ℓ : Loc nD τ sig) → Buf (Elt Ideal) ℓ)

theorem drop_iff {n0 n1 n2 : ℕ} {t : Shape} (h : (⟨3, ![n0, n1, n2]⟩ : Shape).ReducesTo [0, 1] t) (k : Fin n2) (j : t.Idx)
    (hj : ∀ a, (j a).val = k.val) (i : (⟨3, ![n0, n1, n2]⟩ : Shape).Idx) : h.drop i = j ↔ (i 2).val = k.val := by
  have hr : t.rank = 1 := h.1
  have e : ∀ b : Fin t.rank, (h.drop i b).val = (i 2).val := fun b => by
    match b with
    | ⟨0, _⟩ => rfl
    | ⟨_ + 1, hb⟩ => exact absurd hb (by omega)
  constructor
  · intro hd
    have := hj ⟨0, by omega⟩
    rw [← hd, e] at this
    exact this
  · intro hk
    funext b
    apply Fin.ext
    rw [e, hk, hj]

/-- The host's sum over the two leading axes of three. -/
theorem hostReduce01 {n0 n1 n2 : ℕ} {t : Shape} (h : (⟨3, ![n0, n1, n2]⟩ : Shape).ReducesTo [0, 1] t) (v : (⟨3, ![n0, n1, n2]⟩ : Shape).Idx → EReal)
    (init : EReal) (k : Fin n2) (j : t.Idx) (hj : ∀ a, (j a).val = k.val) :
    Ideal.hostReduceAdd h v init j = init + ∑ a : Fin n0, ∑ b : Fin n1, v (ix3 a b k) := by
  unfold Ideal.hostReduceAdd
  congr 1
  rw [Finset.sum_filter, sum_idx3]
  refine Finset.sum_congr rfl fun a _ => Finset.sum_congr rfl fun b _ => ?_
  simp only [drop_iff h k j hj]
  refine (Finset.sum_eq_single k (fun x _ hx => if_neg fun e => hx (Fin.ext e)) fun hk => absurd (Finset.mem_univ k) hk).trans ?_
  exact if_pos rfl

theorem outer (v : Cert.ConvBwdRefIdeal.S1x1x1024.Idx → EReal) (k : Fin 1024) :
    Ideal.hostReduceAdd Cert.ConvBwdRefIdeal.Gen.reducesTo_S1x1x1024_S1024_d0_1 v 0 (ix1 k) = v (ix3 0 0 k) := by
  rw [hostReduce01 _ v 0 k (ix1 k) (fun a => by match a with | ⟨0, _⟩ => rfl), zero_add]
  simp only [Fin.sum_univ_one]

theorem inner (v : Cert.ConvBwdRefIdeal.S2x2048x1024.Idx → EReal) (k : Fin 1024) :
    Ideal.hostReduceAdd Cert.ConvBwdRefIdeal.Gen.reducesTo_S2x2048x1024_S1024_d0_1 v 0 (ix1 k) = ∑ a : Fin 2, ∑ b : Fin 2048, v (ix3 a b k) := by
  rw [hostReduce01 _ v 0 k (ix1 k) (fun a => by match a with | ⟨0, _⟩ => rfl), zero_add]

theorem ref8 (m' : (ℓ : Loc Cert.ConvBwdRefIdeal.nD Cert.ConvBwdRefIdeal.τ Cert.ConvBwdRefIdeal.sig) → Buf (Elt Ideal) ℓ)
    (c : Dev Cert.ConvBwdRefIdeal.nD) : Cert.ConvBwdRefIdeal.Value.res_main_v64 m' c
      = G8 (m' (c.tc.loc Cert.ConvBwdRefIdeal.main_arg0)) (m' (c.tc.loc Cert.ConvBwdRefIdeal.main_arg1)) := by
  funext j; clean_types
  unfold Cert.ConvBwdRefIdeal.Value.res_main_v64
  idx_vars j
  pointwise
  simp only [outer]
  pointwise
  simp only [inner]
  by_cases h0 : j0.val = 0
  · rw [dif_neg (by omega), dif_neg (by omega), dif_pos (by omega), zero_add, zero_add]
    rw [G8_at _ _ _ 0 j1.val h0 rfl]
    refine Finset.sum_congr rfl fun s _ => ?_
    unfold part
    refine Finset.sum_congr rfl fun r _ => ?_
    generalize e : (if 2 - 0 ≤ r.val then _ else _ : EReal) = R
    clean_types
    pointwise
    by_cases h : r.val < 2
    · rw [if_neg (by omega)] at e
      rw [dif_pos h, mul_zero, e]
    · rw [if_pos (by omega)] at e
      rw [dif_neg h, ← e]
      unfold ct u pr dz
      blk_point []
  by_cases h1 : j0.val = 1
  · rw [dif_neg (by omega), dif_pos (by omega), dif_neg (by omega), zero_add, add_zero]
    rw [G8_at _ _ _ 1 j1.val h1 rfl]
    refine Finset.sum_congr rfl fun s _ => ?_
    unfold part
    refine Finset.sum_congr rfl fun r _ => ?_
    generalize e : (if 2 - 1 ≤ r.val then _ else _ : EReal) = R
    clean_types
    pointwise
    by_cases h : 1 + r.val < 2
    · rw [if_neg (by omega)] at e
      rw [dif_pos h, mul_zero, e]
    · rw [if_pos (by omega)] at e
      rw [dif_neg h, ← e]
      unfold ct u pr dz
      blk_point []
  · rw [dif_pos (by omega), dif_neg (by omega), dif_neg (by omega), add_zero, add_zero]
    rw [G8_at _ _ _ 2 j1.val (show j0.val = 2 by omega) rfl]
    refine Finset.sum_congr rfl fun s _ => ?_
    unfold part
    refine Finset.sum_congr rfl fun r _ => ?_
    generalize e : (if 2 - 2 ≤ r.val then _ else _ : EReal) = R
    clean_types
    pointwise
    rw [if_pos (by omega)] at e
    rw [← e]
    unfold ct u pr dz
    blk_point []

theorem algebraic : Cert.algebraic_ConvBwdIdeal_ConvBwdRefIdeal (hConvBwdIdeal := Cert.ConvBwdIdeal.Gen.facts)
    (hConvBwdRefIdeal := Cert.ConvBwdRefIdeal.Gen.facts) := by
  pair_intro
  · run_from Cert.ConvBwdIdeal.Value.run_blocks m g
  · run_from Cert.ConvBwdRefIdeal.Value.run m' g'
    · refine Eq.trans ?_ (final5 m c).symm
      funext j; clean_types; idx_vars j
      pointwise
      refine congrArg₂ (· * ·) (du_ref _ _ _ j0 j1) ?_
      show _ = pr _ j0.val (2048 + j1.val)
      unfold pr
      blk_point []
    · refine Eq.trans ?_ (final6 m c).symm
      funext j; clean_types; idx_vars j
      pointwise
      simp only [(hagree c).2.1]
      exact ref6 _ _ _ j0 j1
    · refine Eq.trans ?_ (final7 m c).symm
      funext j; clean_types; idx_vars j
      pointwise
      rw [mul_comm]
      refine congrArg₂ (· * ·) (du_ref _ _ _ j0 j1) ?_
      show _ = pr _ j0.val j1.val
      unfold pr
      blk_point []
    · refine Eq.trans ?_ (final8 m c).symm
      funext j; clean_types
      rw [ref8, (hagree c).1, (hagree c).2.1]

theorem frame_ref : Cert.quiescent_ConvBwdRefIdeal (hConvBwdRefIdeal := Cert.ConvBwdRefIdeal.Gen.facts) := fun m ρ _ =>
  (θ_run Cert.ConvBwdRefIdeal.defs _ _).mono (fun r h => ⟨fun c => (h c).2.2.2.2, sem_eq_zero_of_no_sems (by decide) r.2⟩)
    (Cert.ConvBwdRefIdeal.Value.run m ρ)

end Cert.ConvBwdProof

end
-- ==== Proof.DownDx.lean ====
/- Hand-written: the feed-forward block's backward product with the gated unit's derivative folded in. -/
module

public import proofs.«01_k».proof.Proof.Gen.DownDxIdeal.Value
public import proofs.«01_k».proof.Proof.Gen.DownDxRefIdeal.Run
public import proofs.«01_k».proof.Proof.Gen.Pre_finite_down
public import proofs.«01_k».proof.Proof.Scalars
public import proofs.«01_k».proof.Defs
public import Idealize.ShloMosaic.Lib.Tactic.CleanTypes

@[expose] public section

set_option maxRecDepth 16384

noncomputable section

namespace Cert.DownDxProof

open Idealize.ShloMosaic Idealize.ShloMosaic.TcCoe Idealize.SL.Sem Cert.DownDxIdeal Cert.DownDxIdeal.Gen
open Idealize.ShloMosaic.Pipeline (Dat)

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![t.val, 1] ∧ win0_4.index t = ![t.val, 0] :=
  (by decide +kernel : ∀ t : Fin grid0.N, _)

/-- The logistic function. -/
def sg (g : EReal) : EReal := Ideal.div 1 (1 + Ideal.exp (-g))

/-- The product with the down weight, before the gated unit. -/
def prod (D : S4096x1024.Idx → EReal) (W : S2816x1024.Idx → EReal) (r : Fin 4096) (k : Fin 2816) : EReal :=
  (∑ l, D (ix2 r l) * W (ix2 k l)) * ((1 / 2 : ℝ) : EReal)

/-- The gate's gradient at one place, from the incoming gradient `a`, the gate `g` and the other half `u`. -/
def gate (a g u : EReal) : EReal := a * u * (sg g * (1 + g * (1 - sg g)))

/-- The other half's gradient. -/
def up (a g : EReal) : EReal := a * (g * sg g)

/-- The whole result, index by index. -/
def G (D : S4096x1024.Idx → EReal) (W : S2816x1024.Idx → EReal) (H : S4096x5632.Idx → EReal) : S4096x5632.Idx → EReal := fun i =>
  if h : (i 1 : ℕ) < 2816 then gate (prod D W (i 0) ⟨i 1, h⟩) (H (i)) (H (ix2 (i 0) ⟨2816 + (i 1 : ℕ), by omega⟩))
  else
    have h' : (i 1 : ℕ) - 2816 < 2816 := by have := (i 1).isLt; change (i 1 : ℕ) < 5632 at this; omega
    up (prod D W (i 0) ⟨(i 1 : ℕ) - 2816, h'⟩) (H (ix2 (i 0) ⟨(i 1 : ℕ) - 2816, by omega⟩))

theorem G_gate (D : S4096x1024.Idx → EReal) (W : S2816x1024.Idx → EReal) (H : S4096x5632.Idx → EReal) (j : S4096x5632.Idx)
    (r : Fin 4096) (k : Fin 2816) (h0 : (j 0 : ℕ) = r) (h1 : (j 1 : ℕ) = k) :
    G D W H j = gate (prod D W r k) (H (ix2 r ⟨k, by omega⟩)) (H (ix2 r ⟨2816 + (k : ℕ), by omega⟩)) := by
  unfold G
  rw [dif_pos (by omega)]
  have e : j = ix2 r ⟨k, lt_of_lt_of_le k.isLt (by decide)⟩ := by funext a; fin_cases a; exacts [Fin.ext h0, Fin.ext h1]
  subst e
  rfl

theorem G_up (D : S4096x1024.Idx → EReal) (W : S2816x1024.Idx → EReal) (H : S4096x5632.Idx → EReal) (j : S4096x5632.Idx)
    (r : Fin 4096) (k : Fin 2816) (h0 : (j 0 : ℕ) = r) (h1 : (j 1 : ℕ) = 2816 + k) :
    G D W H j = up (prod D W r k) (H (ix2 r ⟨k, by omega⟩)) := by
  unfold G
  rw [dif_neg (by omega)]
  blk_point []

theorem pay4_at (v0 : S256x1024.Idx → EReal) (v1 : S2816x1024.Idx → EReal) (v5 v6 : S256x2816.Idx → EReal) (x : S256x2816.Idx) :
    k0_pay4 (F := Ideal) v0 v1 v5 v6 x
      = gate ((∑ l, v0 (ix2 (x 0) l) * v1 (ix2 (x 1) l)) * ((1 / 2 : ℝ) : EReal)) (v5 x) (v6 x) := by
  pointwise [k0_pay4, k0_pay3, k0_pay2, k0_pay1, Scalars.half_f32, Scalars.half_tanh_eq_logistic]
  rfl

theorem pay5_at (v0 : S256x1024.Idx → EReal) (v1 : S2816x1024.Idx → EReal) (v5 : S256x2816.Idx → EReal) (x : S256x2816.Idx) :
    k0_pay5 (F := Ideal) v0 v1 v5 x
      = up ((∑ l, v0 (ix2 (x 0) l) * v1 (ix2 (x 1) l)) * ((1 / 2 : ℝ) : EReal)) (v5 x) := by
  pointwise [k0_pay5, k0_pay3, k0_pay2, k0_pay1, Scalars.half_f32, Scalars.half_tanh_eq_logistic]
  rfl

theorem final (c : Dev nD) : (dats m 0 c).arrAt 4 cfg0.N
    = G (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  have ht : t.val < 16 := lt_of_lt_of_eq t.isLt N_0
  canon_tiles x h
  · rw [pay5_at, G_up _ _ _ _ ⟨t.val * 256 + (x 0 : ℕ), by omega⟩ ⟨x 1, x1_lt⟩ (by blk_simp [idx t]; dsimp only; omega) (by blk_simp [idx t]; dsimp only; omega)]
    unfold prod
    blk_point [iblk, V, idx t]
  · rw [pay4_at, G_gate _ _ _ _ ⟨t.val * 256 + (x 0 : ℕ), by omega⟩ ⟨x 1, x1_lt⟩ (by blk_simp [idx t]; dsimp only; omega) (by blk_simp [idx t]; dsimp only; omega)]
    unfold prod
    blk_point [iblk, V, idx t]

/-- At real numbers the product is a real number, and the half may stand inside the sum. -/
theorem prod_half (D : S4096x1024.Idx → ℝ) (W : S2816x1024.Idx → ℝ) (r : Fin 4096) (k : Fin 2816) :
    (∑ l, ((1 / 2 : ℝ) : EReal) * (D (ix2 r l) : EReal) * (W (ix2 k l) : EReal)) = (((∑ l, D (ix2 r l) * W (ix2 k l)) * (1 / 2) : ℝ) : EReal)
      ∧ prod (fun i => (D i : EReal)) (fun i => (W i : EReal)) r k = (((∑ l, D (ix2 r l) * W (ix2 k l)) * (1 / 2) : ℝ) : EReal) := by
  unfold prod
  simp only [← EReal.coe_mul, ← Scalars.coe_sum]
  refine ⟨congrArg _ ?_, trivial⟩
  rw [Finset.sum_mul]
  exact Finset.sum_congr rfl fun l _ => by ring

/-- At real numbers the gate's gradient is the product rule's two terms. -/
theorem gate_real (a g u : ℝ) : (a * u * sg g + g * (a * u) * (sg g * (1 - sg g)) : EReal) = gate a g u := by
  have hs : sg (g : EReal) = (((1 + Real.exp (-g))⁻¹ : ℝ) : EReal) := Ideal.logistic_coe g
  unfold gate
  rw [hs]
  norm_cast
  ring

/-- The reference's text for the gate's half, and for the other half. -/
theorem gate_eq (D : S4096x1024.Idx → ℝ) (W : S2816x1024.Idx → ℝ) (r : Fin 4096) (k : Fin 2816) (g u : ℝ) :
    (∑ l, ((1 / 2 : ℝ) : EReal) * (D (ix2 r l) : EReal) * (W (ix2 k l) : EReal)) * u * sg g
      + g * ((∑ l, ((1 / 2 : ℝ) : EReal) * (D (ix2 r l) : EReal) * (W (ix2 k l) : EReal)) * u) * (sg g * (1 - sg g))
      = gate (prod (fun i => (D i : EReal)) (fun i => (W i : EReal)) r k) g u := by
  rw [(prod_half D W r k).1, (prod_half D W r k).2]
  exact gate_real _ _ _

theorem up_eq (D : S4096x1024.Idx → ℝ) (W : S2816x1024.Idx → ℝ) (r : Fin 4096) (k : Fin 2816) (g : ℝ) :
    g * sg g * (∑ l, ((1 / 2 : ℝ) : EReal) * (D (ix2 r l) : EReal) * (W (ix2 k l) : EReal))
      = up (prod (fun i => (D i : EReal)) (fun i => (W i : EReal)) r k) g := by
  rw [(prod_half D W r k).1, (prod_half D W r k).2]
  exact mul_comm _ _

/-- The kernel leaves the derivative of the gated unit followed by the down product. -/
theorem algebraic : Cert.algebraic_DownDxIdeal_DownDxRefIdeal_pre_finite_down
    (hDownDxIdeal := Cert.DownDxIdeal.Gen.facts) (hDownDxRefIdeal := Cert.DownDxRefIdeal.Gen.facts)
    (hPre_finite_down := Cert.Pre_finite_down.Gen.facts) := by
  pair_intro
  · run_from Cert.DownDxIdeal.Value.run_blocks m g
  · run_from Cert.DownDxRefIdeal.Value.run m' g'
    refine Eq.trans ?_ (final m c).symm
    obtain ⟨h0, h1, h2⟩ := hpre c
    obtain ⟨D, hD⟩ := Scalars.real_array _ _ (fun _ => Scalars.top_bf16) h0
    obtain ⟨W, hW⟩ := Scalars.real_array _ _ (fun _ => Scalars.top_bf16) h1
    obtain ⟨H, hH⟩ := Scalars.real_array _ _ (fun _ => Scalars.top_bf16) h2
    rw [(hagree c).2.2, hD, hW, hH]
    funext j
    clean_types
    pointwise [G, Scalars.half_f32]
    refine dite_congr rfl (fun h => ?_) (fun h => ?_)
    · exact gate_eq D W _ _ _ _
    · exact up_eq D W _ _ _

/-- The reference terminates, keeps its arguments, and has no semaphore. -/
theorem frame_ref : Cert.quiescent_DownDxRefIdeal (hDownDxRefIdeal := Cert.DownDxRefIdeal.Gen.facts) := fun m ρ _ =>
  (θ_run Cert.DownDxRefIdeal.defs _ _).mono (fun r h => ⟨fun c => (h c).2, sem_eq_zero_of_no_sems (by decide) r.2⟩)
    (Cert.DownDxRefIdeal.Value.run m ρ)

end Cert.DownDxProof

end
-- ==== Proof.Softmax.lean ====
/- Hand-written: a row of attention weights and its gradient, as the kernel and as the reference write them. -/
module

public import Idealize.ShloMosaic.Lib.Pipeline.ValueKit
public import proofs.«01_k».proof.Proof.Scalars

@[expose] public section

noncomputable section

namespace Cert.Softmax

open Idealize.ShloMosaic

/-- The bits both programs start a row's maximum from. -/
abbrev low : EReal := Ideal.ofBits .f32 0xFF800000#32

/-- The scale of the scores. -/
abbrev scale : EReal := Ideal.ofBits .f32 0x3D800000#32

/-- A row's largest score. -/
def mx (s : Fin 256 → EReal) : EReal := Finset.fold max low s Finset.univ

/-- A row's exponentials. -/
def ex (s : Fin 256 → EReal) (k : Fin 256) : EReal := Ideal.exp (s k - mx s)

/-- A row's weights, as the kernel has them. -/
def wt (s : Fin 256 → EReal) (k : Fin 256) : EReal := ex s k * Ideal.div 1 (∑ l, ex s l)

/-- The gradient of a row's products from the gradient `d` of its weights, as the kernel has it. -/
def grad (s d : Fin 256 → EReal) (k : Fin 256) : EReal := wt s k * (d k - ∑ l, d l * wt s l) * scale

/-- The same gradient as the chain rule gives it, term by term. -/
def chain (s d : Fin 256 → EReal) (k : Fin 256) : EReal :=
  (Ideal.div (d k) (∑ l, ex s l) + -(∑ l, d l * Ideal.div 1 ((∑ l, ex s l) * (∑ l, ex s l)) * ex s l)) * ex s k * scale

theorem low_eq : low = ⊥ := by
  simp [low, Ideal.ofBits, Ideal.ieee]

theorem max_low (s : Fin 256 → EReal) : max low (Finset.fold max low s Finset.univ) = mx s := by
  unfold mx
  rw [low_eq, max_eq_right bot_le]

/-- The largest of real scores is a real number. -/
theorem mx_real (s : Fin 256 → ℝ) : ∃ M : ℝ, mx (fun k => (s k : EReal)) = M := by
  have h : ∀ S : Finset (Fin 256), S.fold max low (fun k => (s k : EReal)) = ⊥ ∨ ∃ M : ℝ, S.fold max low (fun k => (s k : EReal)) = M := by
    intro S
    induction S using Finset.induction_on with
    | empty => exact .inl low_eq
    | insert a S ha ih =>
      rw [Finset.fold_insert ha]
      rcases ih with h | ⟨M, h⟩
      · exact .inr ⟨s a, by rw [h, max_eq_left bot_le]⟩
      · exact .inr ⟨max (s a) M, by rw [h]; exact (EReal.coe_strictMono.monotone.map_max).symm⟩
  rcases h Finset.univ with h | h
  · exfalso
    have h0 : ((s 0 : ℝ) : EReal) ≤ Finset.univ.fold max low (fun k => (s k : EReal)) := (Finset.le_fold_max _).mpr (.inr ⟨0, Finset.mem_univ _, le_rfl⟩)
    rw [h] at h0
    exact (EReal.coe_ne_bot _) (le_bot_iff.mp h0)
  · exact h

theorem ex_real (s : Fin 256 → ℝ) : ∃ M : ℝ, ∀ k, ex (fun k => (s k : EReal)) k = ((Real.exp (s k - M) : ℝ) : EReal) := by
  obtain ⟨M, h⟩ := mx_real s
  refine ⟨M, fun k => ?_⟩
  unfold ex
  rw [h, ← EReal.coe_sub, Ideal.exp_coe]

theorem div_real (x : ℝ) {y : ℝ} (h : 0 < y) : Ideal.div (x : EReal) (y : EReal) = ((x / y : ℝ) : EReal) := by
  rw [Ideal.div, if_neg (by exact_mod_cast h.ne'), ← EReal.coe_inv, ← EReal.coe_mul, div_eq_mul_inv]

theorem scale_real : ∃ c : ℝ, scale = c := ⟨(1 / 16 : ℝ), by
  simp [scale, Ideal.ofBits, Ideal.ieee, -EReal.coe_mul]
  norm_num⟩

/-- At real scores the weights are the quotients. -/
theorem wt_real (s : Fin 256 → ℝ) (k : Fin 256) :
    Ideal.div (ex (fun k => (s k : EReal)) k) (∑ l, ex (fun k => (s k : EReal)) l) = wt (fun k => (s k : EReal)) k := by
  obtain ⟨M, h⟩ := ex_real s
  unfold wt
  simp only [h, ← Scalars.coe_sum]
  have hp : 0 < ∑ l, Real.exp (s l - M) := Finset.sum_pos (fun _ _ => Real.exp_pos _) ⟨0, Finset.mem_univ _⟩
  rw [div_real _ hp, ← EReal.coe_one, div_real _ hp, ← EReal.coe_mul]
  congr 1
  ring

/-- At real scores and a real gradient the two forms agree. -/
theorem chain_real (s d : Fin 256 → ℝ) (k : Fin 256) :
    chain (fun k => (s k : EReal)) (fun k => (d k : EReal)) k = grad (fun k => (s k : EReal)) (fun k => (d k : EReal)) k := by
  obtain ⟨M, h⟩ := ex_real s
  obtain ⟨c, hc⟩ := scale_real
  unfold chain grad wt
  simp only [h, hc, ← Scalars.coe_sum]
  have hp : 0 < ∑ l, Real.exp (s l - M) := Finset.sum_pos (fun _ _ => Real.exp_pos _) ⟨0, Finset.mem_univ _⟩
  generalize hS : (∑ l, Real.exp (s l - M)) = S at hp
  rw [← EReal.coe_one, ← EReal.coe_mul, div_real _ hp, div_real _ hp, div_real _ (mul_pos hp hp)]
  simp only [← EReal.coe_mul, ← Scalars.coe_sum, ← EReal.coe_neg, ← EReal.coe_add, ← EReal.coe_sub]
  congr 1
  have e1 : ∑ l, d l * (1 / (S * S)) * Real.exp (s l - M) = (∑ l, d l * Real.exp (s l - M)) * (1 / S * (1 / S)) := by
    rw [Finset.sum_mul]; exact Finset.sum_congr rfl fun l _ => by field_simp
  have e2 : ∑ l, d l * (Real.exp (s l - M) * (1 / S)) = (∑ l, d l * Real.exp (s l - M)) * (1 / S) := by
    rw [Finset.sum_mul]; exact Finset.sum_congr rfl fun l _ => by ring
  rw [e1, e2]
  ring

end Cert.Softmax
-- ==== Proof.AttnBwdRef.lean ====
/- Hand-written: the attention backward pass's reference, stage by stage. -/
module

public import proofs.«01_k».proof.Proof.Gen.AttnBwdRefIdeal.Run
public import Idealize.ShloMosaic.Lib.Pipeline.ValueKit
public import proofs.«01_k».proof.Proof.Softmax
public import Idealize.ShloMosaic.Lib.Tactic.CleanTypes

@[expose] public section

set_option maxRecDepth 16384

noncomputable section

namespace Cert.AttnBwdRef

open Idealize.ShloMosaic Idealize.ShloMosaic.TcCoe Idealize.SL.Sem Cert.AttnBwdRefIdeal Cert.AttnBwdRefIdeal.Gen Cert.AttnBwdRefIdeal.Value

variable (Q DO : S4096x1024.Idx → EReal) (KV : S512x2048.Idx → EReal)

def heads (x : S4096x1024.Idx → EReal) : FVec Ideal S2x2048x4x256 .f32 :=
  shapeCast _ (extf (F := Ideal) (φ := .bf16) .f32 x bitsLt_bf16_f32) shapeCasts_S4096x1024_S2x2048x4x256

def keys : FVec Ideal S2x256x4x256 .f32 :=
  shapeCast _ (extractStridedSlice S512x1024 ![0, 0] (extf (F := Ideal) (φ := .bf16) .f32 KV bitsLt_bf16_f32) slices_S512x2048_S512x1024_0_0) shapeCasts_S512x1024_S2x256x4x256

def vals : FVec Ideal S2x256x4x256 .f32 :=
  shapeCast _ (extractStridedSlice S512x1024 ![0, 1024] (extf (F := Ideal) (φ := .bf16) .f32 KV bitsLt_bf16_f32) slices_S512x2048_S512x1024_0_1024) shapeCasts_S512x1024_S2x256x4x256

def turned (x : S4096x1024.Idx → EReal) : FVec Ideal S2x4x256x2048 .f32 :=
  transpose S2x4x256x2048 [0, 2, 3, 1] (heads x) transposes_S2x2048x4x256_S2x4x256x2048_0_2_3_1

/-- The scores. -/
def sc (q : FVec Ideal S2x2048x4x256 .f32) (k : FVec Ideal S2x256x4x256 .f32) : FVec Ideal S2x4x2048x256 .f32 :=
  mulf (Host.dotGeneral dot_S2x2048x4x256_S2x256x4x256_S2x4x2048x256_3_3_1_1_02_02 none q k) (broadcastInDim S2x4x2048x256 ![] bcast_S_S2x4x2048x256 (constant S_ .f32 0x3D800000#32))

/-- The gradient of the weights. -/
def dw (d : FVec Ideal S2x4x256x2048 .f32) (v : FVec Ideal S2x256x4x256 .f32) : FVec Ideal S2x4x2048x256 .f32 :=
  Host.dotGeneral dot_S2x4x256x2048_S2x256x4x256_S2x4x2048x256_2_3_3_1_01_02 none d v

/-- One number of each row, along the row. -/
def along (x : FVec Ideal S2x4x2048 .f32) : FVec Ideal S2x4x2048x256 .f32 :=
  broadcastInDim S2x4x2048x256 ![0, 1, 2, 3] bcast_S2x4x2048x1_S2x4x2048x256_0_1_2_3 (broadcastInDim S2x4x2048x1 ![0, 1, 2] bcast_S2x4x2048_S2x4x2048x1_0_1_2 x)

def rowMax (s : FVec Ideal S2x4x2048x256 .f32) : FVec Ideal S2x4x2048 .f32 :=
  Host.reduce FloatOps.maximumf s (constant S_ .f32 0xFF800000#32) reducesTo_S2x4x2048x256_S2x4x2048_d3 h_S_

def rowSum (s : FVec Ideal S2x4x2048x256 .f32) : FVec Ideal S2x4x2048 .f32 :=
  Host.reduceAdd s (constant S_ .f32 0x00000000#32) reducesTo_S2x4x2048x256_S2x4x2048_d3 h_S_

def cap (x : FVec Ideal S2x4x2048 .f32) : FVec Ideal S2x4x2048 .f32 :=
  maximumf (broadcastInDim S2x4x2048 ![] bcast_S_S2x4x2048 (constant S_ .f32 0xFF800000#32)) x

def low (s : FVec Ideal S2x4x2048x256 .f32) (x : FVec Ideal S2x4x2048 .f32) : FVec Ideal S2x4x2048x256 .f32 := Host.exp (subf s (along x))

/-- The exponentials. -/
def ex (s : FVec Ideal S2x4x2048x256 .f32) : FVec Ideal S2x4x2048x256 .f32 := low s (cap (rowMax s))

/-- The weights. -/
def wt (s : FVec Ideal S2x4x2048x256 .f32) : FVec Ideal S2x4x2048x256 .f32 := Host.divf (ex s) (along (rowSum (ex s)))

/-- One over the square of a row's sum. -/
def sq (r : FVec Ideal S2x4x2048 .f32) : FVec Ideal S2x4x2048x256 .f32 :=
  broadcastInDim S2x4x2048x256 ![0, 1, 2, 3] bcast_S2x4x2048x1_S2x4x2048x256_0_1_2_3 (Host.divf (broadcastInDim S2x4x2048x1 ![] bcast_S_S2x4x2048x1 (constant S_ .f32 0x3F800000#32)) (mulf (broadcastInDim S2x4x2048x1 ![0, 1, 2] bcast_S2x4x2048_S2x4x2048x1_0_1_2 r) (broadcastInDim S2x4x2048x1 ![0, 1, 2] bcast_S2x4x2048_S2x4x2048x1_0_1_2 r)))

/-- A row's sum, negated, along the row. -/
def back (r : FVec Ideal S2x4x2048 .f32) : FVec Ideal S2x4x2048x256 .f32 :=
  broadcastInDim S2x4x2048x256 ![0, 1, 2] bcast_S2x4x2048_S2x4x2048x256_0_1_2 (Host.reduceAdd (Host.negf (shapeCast _ r shapeCasts_S2x4x2048_S2x4x2048x1)) (constant S_ .f32 0x00000000#32) reducesTo_S2x4x2048x1_S2x4x2048_d3 h_S_)

/-- The gradient of the scores' products. -/
def ds (s d : FVec Ideal S2x4x2048x256 .f32) : FVec Ideal S2x4x2048x256 .f32 :=
  mulf (mulf (addf (Host.divf d (along (rowSum (ex s)))) (back (rowSum (mulf (mulf d (sq (rowSum (ex s)))) (ex s))))) (ex s)) (broadcastInDim S2x4x2048x256 ![] bcast_S_S2x4x2048x256 (constant S_ .f32 0x3D800000#32))

def outK (g : FVec Ideal S2x4x2048x256 .f32) (q : FVec Ideal S2x2048x4x256 .f32) : FVec Ideal S512x1024 .f32 :=
  shapeCast _ (transpose S2x256x4x256 [0, 2, 1, 3] (Host.dotGeneral dot_S2x4x2048x256_S2x2048x4x256_S2x4x256x256_2_1_3_3_01_02 none g q) transposes_S2x4x256x256_S2x256x4x256_0_2_1_3) shapeCasts_S2x256x4x256_S512x1024

def outQ (g : FVec Ideal S2x4x2048x256 .f32) (k : FVec Ideal S2x256x4x256 .f32) : FVec Ideal S4096x1024 .bf16 :=
  truncf .bf16 (shapeCast _ (transpose S2x2048x4x256 [0, 2, 1, 3] (Host.dotGeneral dot_S2x4x2048x256_S2x256x4x256_S2x4x2048x256_3_1_2_3_01_02 none g k) transposes_S2x4x2048x256_S2x2048x4x256_0_2_1_3) shapeCasts_S2x2048x4x256_S4096x1024) bitsLt_bf16_f32

def outV (d : FVec Ideal S2x4x256x2048 .f32) (w : FVec Ideal S2x4x2048x256 .f32) : FVec Ideal S512x1024 .f32 :=
  shapeCast _ (transpose S2x256x4x256 [0, 3, 1, 2] (Host.dotGeneral dot_S2x4x256x2048_S2x4x2048x256_S2x4x256x256_3_2_2_3_01_01 none d w) transposes_S2x4x256x256_S2x256x4x256_0_3_1_2) shapeCasts_S2x256x4x256_S512x1024

theorem heads_at (x : S4096x1024.Idx → EReal) (b : Fin 2) (q : Fin 2048) (h : Fin 4) (d : Fin 256) :
    heads x (ix4 b q h d) = x (ix2 ⟨(b : ℕ) * 2048 + (q : ℕ), by omega⟩ ⟨(h : ℕ) * 256 + (d : ℕ), by omega⟩) := by
  pointwise [heads]

theorem keys_at (b : Fin 2) (k : Fin 256) (h : Fin 4) (d : Fin 256) :
    keys KV (ix4 b k h d) = KV (ix2 ⟨(b : ℕ) * 256 + (k : ℕ), by omega⟩ ⟨(h : ℕ) * 256 + (d : ℕ), by omega⟩) := by
  pointwise [keys]

theorem vals_at (b : Fin 2) (k : Fin 256) (h : Fin 4) (d : Fin 256) :
    vals KV (ix4 b k h d) = KV (ix2 ⟨(b : ℕ) * 256 + (k : ℕ), by omega⟩ ⟨1024 + ((h : ℕ) * 256 + (d : ℕ)), by omega⟩) := by
  pointwise [vals]

/-- A row of the scores, and of the gradient of the weights. -/
def scoreRow (r : Fin 4096) (h : Fin 4) (k : Fin 256) : EReal :=
  (∑ d : Fin 256, Q (ix2 r ⟨(h : ℕ) * 256 + (d : ℕ), by omega⟩) * KV (ix2 ⟨(r : ℕ) / 2048 * 256 + (k : ℕ), by omega⟩ ⟨(h : ℕ) * 256 + (d : ℕ), by omega⟩)) * Softmax.scale

def weightRow (r : Fin 4096) (h : Fin 4) (k : Fin 256) : EReal :=
  ∑ d : Fin 256, DO (ix2 r ⟨(h : ℕ) * 256 + (d : ℕ), by omega⟩) * KV (ix2 ⟨(r : ℕ) / 2048 * 256 + (k : ℕ), by omega⟩ ⟨1024 + ((h : ℕ) * 256 + (d : ℕ)), by omega⟩)

abbrev row (b : Fin 2) (q : Fin 2048) : Fin 4096 := ⟨(b : ℕ) * 2048 + (q : ℕ), by omega⟩

theorem turned_at (x : S4096x1024.Idx → EReal) (b : Fin 2) (h : Fin 4) (d : Fin 256) (q : Fin 2048) :
    turned x (ix4 b h d q) = x (ix2 ⟨(b : ℕ) * 2048 + (q : ℕ), by omega⟩ ⟨(h : ℕ) * 256 + (d : ℕ), by omega⟩) := by
  pointwise [turned, heads]

section rows

variable (b : Fin 2) (h : Fin 4) (q : Fin 2048) (k : Fin 256)

theorem sc_at (x : FVec Ideal S2x2048x4x256 .f32) (y : FVec Ideal S2x256x4x256 .f32) :
    sc x y (ix4 b h q k) = (∑ l, x (ix4 b q h l) * y (ix4 b k h l)) * Softmax.scale := by
  pointwise [sc]

theorem dw_at (d : FVec Ideal S2x4x256x2048 .f32) (v : FVec Ideal S2x256x4x256 .f32) :
    dw d v (ix4 b h q k) = ∑ l, d (ix4 b h l q) * v (ix4 b k h l) := by
  pointwise [dw]

theorem along_at (x : FVec Ideal S2x4x2048 .f32) : along x (ix4 b h q k) = x (ix3 b h q) := by
  pointwise [along]

theorem rowMax_at (s : FVec Ideal S2x4x2048x256 .f32) :
    rowMax s (ix3 b h q) = Finset.fold max Softmax.low (fun x => s (ix4 b h q x)) Finset.univ := by
  pointwise [rowMax]

theorem cap_at (x : FVec Ideal S2x4x2048 .f32) : cap x (ix3 b h q) = max Softmax.low (x (ix3 b h q)) := by
  pointwise [cap]

theorem low_at (s : FVec Ideal S2x4x2048x256 .f32) (x : FVec Ideal S2x4x2048 .f32) :
    low s x (ix4 b h q k) = Ideal.exp (s (ix4 b h q k) - x (ix3 b h q)) := by
  pointwise [low, along]

theorem rowSum_at (s : FVec Ideal S2x4x2048x256 .f32) : rowSum s (ix3 b h q) = ∑ x, s (ix4 b h q x) := by
  pointwise [rowSum]

theorem sq_at (r : FVec Ideal S2x4x2048 .f32) : sq r (ix4 b h q k) = Ideal.div 1 (r (ix3 b h q) * r (ix3 b h q)) := by
  pointwise [sq]

theorem back_at (r : FVec Ideal S2x4x2048 .f32) : back r (ix4 b h q k) = -(r (ix3 b h q)) := by
  pointwise [back]
  exact (Fintype.sum_unique _).trans rfl

theorem ex_at (s : FVec Ideal S2x4x2048x256 .f32) : ex s (ix4 b h q k) = Softmax.ex (fun l => s (ix4 b h q l)) k := by
  unfold ex Softmax.ex
  rw [low_at, cap_at, rowMax_at, Softmax.max_low]

theorem sum_at (s : FVec Ideal S2x4x2048x256 .f32) : rowSum (ex s) (ix3 b h q) = ∑ l, Softmax.ex (fun l => s (ix4 b h q l)) l := by
  rw [rowSum_at]
  exact Finset.sum_congr rfl fun l _ => ex_at b h q l s

theorem wt_at (s : FVec Ideal S2x4x2048x256 .f32) :
    wt s (ix4 b h q k) = Ideal.div (Softmax.ex (fun l => s (ix4 b h q l)) k) (∑ l, Softmax.ex (fun l => s (ix4 b h q l)) l) := by
  have e : wt s (ix4 b h q k) = Ideal.div (ex s (ix4 b h q k)) (along (rowSum (ex s)) (ix4 b h q k)) := by
    pointwise [wt]
  rw [e, along_at, ex_at, sum_at]

theorem prod_at (s d : FVec Ideal S2x4x2048x256 .f32) (r : FVec Ideal S2x4x2048 .f32) :
    mulf (mulf d (sq r)) s (ix4 b h q k) = d (ix4 b h q k) * Ideal.div 1 (r (ix3 b h q) * r (ix3 b h q)) * s (ix4 b h q k) := by
  rw [← sq_at b h q k]
  pointwise []

theorem ds_at (s d : FVec Ideal S2x4x2048x256 .f32) :
    ds s d (ix4 b h q k) = Softmax.chain (fun l => s (ix4 b h q l)) (fun l => d (ix4 b h q l)) k := by
  have e : ds s d (ix4 b h q k) = (Ideal.div (d (ix4 b h q k)) (along (rowSum (ex s)) (ix4 b h q k))
      + back (rowSum (mulf (mulf d (sq (rowSum (ex s)))) (ex s))) (ix4 b h q k)) * ex s (ix4 b h q k) * Softmax.scale := by
    pointwise [ds]
  rw [e]
  unfold Softmax.chain
  rw [along_at, back_at, rowSum_at b h q (mulf _ _)]
  simp only [prod_at, ex_at, sum_at]

/-- A row of the scores, and of the gradient of the weights. -/
theorem score_row : sc (heads Q) (keys KV) (ix4 b h q k) = scoreRow Q KV (row b q) h k := by
  rw [sc_at]
  unfold scoreRow
  simp only [heads_at, keys_at]
  blk_point []

theorem weight_row : dw (turned DO) (vals KV) (ix4 b h q k) = weightRow DO KV (row b q) h k := by
  rw [dw_at]
  unfold weightRow
  simp only [turned_at, vals_at]
  blk_point []

end rows

theorem outK_at (g : FVec Ideal S2x4x2048x256 .f32) (q : FVec Ideal S2x2048x4x256 .f32) (i : S512x1024.Idx)
    (b : Fin 2) (h : Fin 4) (k d : Fin 256) (e0 : (i 0 : ℕ) = b * 256 + k) (e1 : (i 1 : ℕ) = h * 256 + d) :
    outK g q i = ∑ r, g (ix4 b h r k) * q (ix4 b r h d) := by
  pointwise [outK]
  blk_point []

theorem outQ_at (g : FVec Ideal S2x4x2048x256 .f32) (k : FVec Ideal S2x256x4x256 .f32) (i : S4096x1024.Idx)
    (b : Fin 2) (h : Fin 4) (q : Fin 2048) (d : Fin 256) (e0 : (i 0 : ℕ) = b * 2048 + q) (e1 : (i 1 : ℕ) = h * 256 + d) :
    outQ g k i = ∑ l, g (ix4 b h q l) * k (ix4 b l h d) := by
  pointwise [outQ]
  blk_point []

theorem outV_at (x : FVec Ideal S2x4x256x2048 .f32) (w : FVec Ideal S2x4x2048x256 .f32) (i : S512x1024.Idx)
    (b : Fin 2) (h : Fin 4) (k d : Fin 256) (e0 : (i 0 : ℕ) = b * 256 + k) (e1 : (i 1 : ℕ) = h * 256 + d) :
    outV x w i = ∑ r, x (ix4 b h d r) * w (ix4 b h r k) := by
  pointwise [outV]
  blk_point []

abbrev mQ (m : (ℓ : Loc nD τ sig) → Buf (Elt Ideal) ℓ) (c : Dev nD) : S4096x1024.Idx → EReal := m ((c.tc : Thread nD τ).loc main_arg0)
abbrev mKV (m : (ℓ : Loc nD τ sig) → Buf (Elt Ideal) ℓ) (c : Dev nD) : S512x2048.Idx → EReal := m ((c.tc : Thread nD τ).loc main_arg1)
abbrev mDO (m : (ℓ : Loc nD τ sig) → Buf (Elt Ideal) ℓ) (c : Dev nD) : S4096x1024.Idx → EReal := m ((c.tc : Thread nD τ).loc main_arg2)

set_option maxHeartbeats 4000000 in
theorem resQ (m : (ℓ : Loc nD τ sig) → Buf (Elt Ideal) ℓ) (c : Dev nD) :
    res_main_v68 m c = outQ (ds (sc (heads (mQ m c)) (keys (mKV m c))) (dw (turned (mDO m c)) (vals (mKV m c)))) (keys (mKV m c)) := by
  unfold res_main_v68
  simp only [outQ, ds, sc, heads, keys, dw, turned, vals, along, rowSum, back, sq, ex, low, cap, rowMax]
  congr! 30

set_option maxHeartbeats 4000000 in
theorem resK (m : (ℓ : Loc nD τ sig) → Buf (Elt Ideal) ℓ) (c : Dev nD) :
    res_main_v66 m c = outK (ds (sc (heads (mQ m c)) (keys (mKV m c))) (dw (turned (mDO m c)) (vals (mKV m c)))) (heads (mQ m c)) := by
  unfold res_main_v66
  simp only [outK, ds, sc, heads, keys, dw, turned, vals, along, rowSum, back, sq, ex, low, cap, rowMax]
  congr! 30

/-- The three results: at a row, a head and a column of it. -/
def gQ (R : Fin 4096) (h : Fin 4) (d : Fin 256) : EReal :=
  ∑ l : Fin 256, Softmax.grad (scoreRow Q KV R h) (weightRow DO KV R h) l
    * KV (ix2 ⟨(R : ℕ) / 2048 * 256 + (l : ℕ), by omega⟩ ⟨(h : ℕ) * 256 + (d : ℕ), by omega⟩)

def gK (b : Fin 2) (k : Fin 256) (h : Fin 4) (d : Fin 256) : EReal :=
  ∑ r : Fin 2048, Softmax.grad (scoreRow Q KV (row b r) h) (weightRow DO KV (row b r) h) k * Q (ix2 (row b r) ⟨(h : ℕ) * 256 + (d : ℕ), by omega⟩)

def gV (b : Fin 2) (k : Fin 256) (h : Fin 4) (d : Fin 256) : EReal :=
  ∑ r : Fin 2048, Softmax.wt (scoreRow Q KV (row b r) h) k * DO (ix2 (row b r) ⟨(h : ℕ) * 256 + (d : ℕ), by omega⟩)

/-- A column's head, and its place in the head; a key's sequence, and its place there. -/
abbrev hd (n : Fin 1024) : Fin 4 := ⟨(n : ℕ) / 256, by omega⟩
abbrev co (n : Fin 1024) : Fin 256 := ⟨(n : ℕ) % 256, by omega⟩
abbrev sq2 (n : Fin 512) : Fin 2 := ⟨(n : ℕ) / 256, by omega⟩
abbrev ke (n : Fin 512) : Fin 256 := ⟨(n : ℕ) % 256, by omega⟩

def GQ (i : S4096x1024.Idx) : EReal := gQ Q DO KV (i 0) (hd (i 1)) (co (i 1))

def GK (i : S512x1024.Idx) : EReal := gK Q DO KV (sq2 (i 0)) (ke (i 0)) (hd (i 1)) (co (i 1))

def GV (i : S512x1024.Idx) : EReal := gV Q DO KV (sq2 (i 0)) (ke (i 0)) (hd (i 1)) (co (i 1))

theorem scoreRow_real (Q : S4096x1024.Idx → ℝ) (KV : S512x2048.Idx → ℝ) (r : Fin 4096) (h : Fin 4) :
    ∃ s : Fin 256 → ℝ, scoreRow (fun i => (Q i : EReal)) (fun i => (KV i : EReal)) r h = fun k => (s k : EReal) := by
  obtain ⟨c, hc⟩ := Softmax.scale_real
  unfold scoreRow
  simp only [hc, ← EReal.coe_mul, ← Scalars.coe_sum]
  exact ⟨_, rfl⟩

theorem weightRow_real (DO : S4096x1024.Idx → ℝ) (KV : S512x2048.Idx → ℝ) (r : Fin 4096) (h : Fin 4) :
    ∃ s : Fin 256 → ℝ, weightRow (fun i => (DO i : EReal)) (fun i => (KV i : EReal)) r h = fun k => (s k : EReal) := by
  unfold weightRow
  simp only [← EReal.coe_mul, ← Scalars.coe_sum]
  exact ⟨_, rfl⟩

section real

variable (Q DO : S4096x1024.Idx → ℝ) (KV : S512x2048.Idx → ℝ) (b : Fin 2) (h : Fin 4) (q : Fin 2048) (k : Fin 256)

/-- At real arrays the reference's gradient of a score is the kernel's. -/
theorem ds_row : ds (sc (heads fun i => (Q i : EReal)) (keys fun i => (KV i : EReal))) (dw (turned fun i => (DO i : EReal)) (vals fun i => (KV i : EReal))) (ix4 b h q k)
    = Softmax.grad (scoreRow (fun i => (Q i : EReal)) (fun i => (KV i : EReal)) (row b q) h) (weightRow (fun i => (DO i : EReal)) (fun i => (KV i : EReal)) (row b q) h) k := by
  rw [ds_at]
  simp only [score_row, weight_row]
  obtain ⟨s, hs⟩ := scoreRow_real Q KV (row b q) h
  obtain ⟨d, hd⟩ := weightRow_real DO KV (row b q) h
  rw [hs, hd]
  exact Softmax.chain_real s d k

theorem wt_row : wt (sc (heads fun i => (Q i : EReal)) (keys fun i => (KV i : EReal))) (ix4 b h q k)
    = Softmax.wt (scoreRow (fun i => (Q i : EReal)) (fun i => (KV i : EReal)) (row b q) h) k := by
  rw [wt_at]
  simp only [score_row]
  obtain ⟨s, hs⟩ := scoreRow_real Q KV (row b q) h
  rw [hs]
  exact Softmax.wt_real s k

end real

theorem outQ_eq (Q DO : S4096x1024.Idx → ℝ) (KV : S512x2048.Idx → ℝ) :
    outQ (ds (sc (heads fun i => (Q i : EReal)) (keys fun i => (KV i : EReal))) (dw (turned fun i => (DO i : EReal)) (vals fun i => (KV i : EReal)))) (keys fun i => (KV i : EReal))
      = GQ (fun i => (Q i : EReal)) (fun i => (DO i : EReal)) (fun i => (KV i : EReal)) := by
  funext i
  have h1 : (i 1 : ℕ) < 1024 := (i 1).isLt
  have h0 : (i 0 : ℕ) < 4096 := (i 0).isLt
  rw [outQ_at _ _ i ⟨(i 0 : ℕ) / 2048, by omega⟩ ⟨(i 1 : ℕ) / 256, by omega⟩ ⟨(i 0 : ℕ) % 2048, by omega⟩ ⟨(i 1 : ℕ) % 256, by omega⟩ (by dsimp only; omega) (by dsimp only; omega)]
  unfold GQ gQ
  have er : row ⟨(i 0 : ℕ) / 2048, by omega⟩ ⟨(i 0 : ℕ) % 2048, by omega⟩ = i 0 := Fin.ext (by dsimp only; omega)
  refine Finset.sum_congr rfl fun l _ => ?_
  rw [ds_row, keys_at, er]

theorem outK_eq (Q DO : S4096x1024.Idx → ℝ) (KV : S512x2048.Idx → ℝ) :
    outK (ds (sc (heads fun i => (Q i : EReal)) (keys fun i => (KV i : EReal))) (dw (turned fun i => (DO i : EReal)) (vals fun i => (KV i : EReal)))) (heads fun i => (Q i : EReal))
      = GK (fun i => (Q i : EReal)) (fun i => (DO i : EReal)) (fun i => (KV i : EReal)) := by
  funext i
  have h1 : (i 1 : ℕ) < 1024 := (i 1).isLt
  have h0 : (i 0 : ℕ) < 512 := (i 0).isLt
  rw [outK_at _ _ i ⟨(i 0 : ℕ) / 256, by omega⟩ ⟨(i 1 : ℕ) / 256, by omega⟩ ⟨(i 0 : ℕ) % 256, by omega⟩ ⟨(i 1 : ℕ) % 256, by omega⟩ (by dsimp only; omega) (by dsimp only; omega)]
  unfold GK gK
  refine Finset.sum_congr rfl fun r _ => ?_
  rw [ds_row, heads_at]

theorem outV_eq (Q DO : S4096x1024.Idx → ℝ) (KV : S512x2048.Idx → ℝ) :
    outV (turned fun i => (DO i : EReal)) (wt (sc (heads fun i => (Q i : EReal)) (keys fun i => (KV i : EReal))))
      = GV (fun i => (Q i : EReal)) (fun i => (DO i : EReal)) (fun i => (KV i : EReal)) := by
  funext i
  have h1 : (i 1 : ℕ) < 1024 := (i 1).isLt
  have h0 : (i 0 : ℕ) < 512 := (i 0).isLt
  rw [outV_at _ _ i ⟨(i 0 : ℕ) / 256, by omega⟩ ⟨(i 1 : ℕ) / 256, by omega⟩ ⟨(i 0 : ℕ) % 256, by omega⟩ ⟨(i 1 : ℕ) % 256, by omega⟩ (by dsimp only; omega) (by dsimp only; omega)]
  unfold GV gV
  refine Finset.sum_congr rfl fun r _ => ?_
  rw [wt_row, turned_at]
  exact mul_comm _ _

end Cert.AttnBwdRef
-- ==== Proof.AttnBwd.lean ====
/- Hand-written: the attention backward pass. -/
module

public import proofs.«01_k».proof.Proof.Gen.AttnBwdIdeal.Value
public import proofs.«01_k».proof.Proof.AttnBwdRef
public import proofs.«01_k».proof.Proof.Gen.Pre_finite_attn
public import proofs.«01_k».proof.Defs
public import Idealize.ShloMosaic.Lib.Pipeline.ReadBack

@[expose] public section

set_option maxRecDepth 16384

noncomputable section

namespace Cert.AttnBwdProof

open Idealize.ShloMosaic Idealize.ShloMosaic.TcCoe Idealize.SL.Sem Cert.AttnBwdIdeal Cert.AttnBwdIdeal.Gen
open Idealize.ShloMosaic.Pipeline (Dat)

variable (m : (ℓ : Loc nD τ sig) → Buf (Elt Ideal) ℓ)

theorem idx : ∀ t : Fin cfg0.N, win0_0.index t = ![t.val, 0] ∧ win0_1.index t = ![t.val / 2, 0] ∧ win0_2.index t = ![t.val / 2, 1]
    ∧ win0_3.index t = ![t.val, 0] ∧ win0_4.index t = ![t.val, 0] ∧ win0_5.index t = ![t.val / 2, 0] ∧ win0_6.index t = ![t.val / 2, 0] :=
  (by decide +kernel : ∀ t : Fin grid0.N, _)

variable (q d : S1024x256.Idx → EReal) (k v : S256x256.Idx → EReal)

/-- A block's rows of scores, and of the gradient of the weights. -/
def sRow (r : Fin 1024) (l : Fin 256) : EReal := (∑ j, q (ix2 r j) * k (ix2 l j)) * Softmax.scale

def dRow (r : Fin 1024) (l : Fin 256) : EReal := ∑ j, d (ix2 r j) * v (ix2 l j)

theorem pay4_at (x : S1024x256.Idx) : k0_pay4 (F := Ideal) q k x = Softmax.wt (sRow q k (x 0)) (x 1) := by
  pointwise [k0_pay4]
  rfl

theorem pay5_at (x : S1024x256.Idx) : k0_pay5 (F := Ideal) q k v d x = Softmax.grad (sRow q k (x 0)) (dRow d v (x 0)) (x 1) := by
  unfold Softmax.grad
  simp only [← pay4_at]
  pointwise [k0_pay5]
  simp only [pay4_at]
  rfl

theorem pay6_at (x : S1024x256.Idx) : k0_pay6 (F := Ideal) q k v d x
    = ∑ l, Softmax.grad (sRow q k (x 0)) (dRow d v (x 0)) l * k (ix2 l (x 1)) := by
  pointwise [k0_pay6]
  exact Finset.sum_congr rfl fun l _ => congrArg (· * _) (pay5_at q d k v (ix2 (x 0) l))

theorem pay7_at (g : S1024x256.Idx → EReal) (o : S256x256.Idx → EReal) (x : S256x256.Idx) :
    k0_pay7 (F := Ideal) q g o x = o x + ∑ r, g (ix2 r (x 0)) * q (ix2 r (x 1)) := by
  pointwise [k0_pay7]

theorem pay8_at (w : S1024x256.Idx → EReal) (o : S256x256.Idx → EReal) (x : S256x256.Idx) :
    k0_pay8 (F := Ideal) d w o x = o x + ∑ r, w (ix2 r (x 0)) * d (ix2 r (x 1)) := by
  pointwise [k0_pay8]

theorem pay13_eq : k0_pay13 (F := Ideal) k (k0_pay9 q k) (k0_pay10 v d) (k0_pay11 q k v d) = k0_pay6 q k v d := rfl
theorem pay19_eq : k0_pay19 (F := Ideal) k v d (k0_pay16 q k) = k0_pay6 q k v d := rfl
theorem pay24_eq : k0_pay24 (F := Ideal) q k v d = k0_pay6 q k v d := rfl
theorem pay14_eq (o : S256x256.Idx → EReal) : k0_pay14 (F := Ideal) q (k0_pay9 q k) (k0_pay10 v d) (k0_pay11 q k v d) o = k0_pay7 q (k0_pay5 q k v d) o := rfl
theorem pay20_eq (o : S256x256.Idx → EReal) : k0_pay20 (F := Ideal) q v d (k0_pay16 q k) o = k0_pay7 q (k0_pay5 q k v d) o := rfl
theorem pay25_eq (o : S256x256.Idx → EReal) : k0_pay25 (F := Ideal) q k v d o = k0_pay7 q (k0_pay5 q k v d) o := rfl
theorem pay15_eq (o : S256x256.Idx → EReal) : k0_pay15 (F := Ideal) d (k0_pay9 q k) o = k0_pay8 d (k0_pay4 q k) o := rfl
theorem pay21_eq (o : S256x256.Idx → EReal) : k0_pay21 (F := Ideal) d (k0_pay16 q k) o = k0_pay8 d (k0_pay4 q k) o := rfl
theorem pay1_eq (o : S256x256.Idx → EReal) : k0_pay1 (F := Ideal) d (k0_pay22 q k) (k0_pay26 o) = k0_pay8 d (k0_pay4 q k) o := rfl

abbrev mQ (c : Dev nD) : S4096x1024.Idx → EReal := m ((c : Thread nD τ).loc main_arg0)
abbrev mKV (c : Dev nD) : S512x2048.Idx → EReal := m ((c : Thread nD τ).loc main_arg1)
abbrev mDO (c : Dev nD) : S4096x1024.Idx → EReal := m ((c : Thread nD τ).loc main_arg2)

section pieces

variable (Q DO : S4096x1024.Idx → EReal) (KV : S512x2048.Idx → EReal)

theorem sRow_eq (r : Fin 1024) (R : Fin 4096) (h : Fin 4) (hq : ∀ j : Fin 256, q (ix2 r j) = Q (ix2 R ⟨(h : ℕ) * 256 + (j : ℕ), by omega⟩))
    (hk : ∀ l j : Fin 256, k (ix2 l j) = KV (ix2 ⟨(R : ℕ) / 2048 * 256 + (l : ℕ), by omega⟩ ⟨(h : ℕ) * 256 + (j : ℕ), by omega⟩)) :
    sRow q k r = AttnBwdRef.scoreRow Q KV R h := by
  funext l
  unfold sRow AttnBwdRef.scoreRow
  simp only [hq, hk]

theorem dRow_eq (r : Fin 1024) (R : Fin 4096) (h : Fin 4) (hd : ∀ j : Fin 256, d (ix2 r j) = DO (ix2 R ⟨(h : ℕ) * 256 + (j : ℕ), by omega⟩))
    (hv : ∀ l j : Fin 256, v (ix2 l j) = KV (ix2 ⟨(R : ℕ) / 2048 * 256 + (l : ℕ), by omega⟩ ⟨1024 + ((h : ℕ) * 256 + (j : ℕ)), by omega⟩)) :
    dRow d v r = AttnBwdRef.weightRow DO KV R h := by
  funext l
  unfold dRow AttnBwdRef.weightRow
  simp only [hd, hv]

/-- What one point adds to the keys' gradient, and to the values'. -/
def stepK (t : Fin 4) (k : Fin 256) (h : Fin 4) (d : Fin 256) : EReal :=
  ∑ r : Fin 1024, Softmax.grad (AttnBwdRef.scoreRow Q KV ⟨(t : ℕ) * 1024 + r, by omega⟩ h)
      (AttnBwdRef.weightRow DO KV ⟨(t : ℕ) * 1024 + r, by omega⟩ h) k * Q (ix2 ⟨(t : ℕ) * 1024 + r, by omega⟩ ⟨(h : ℕ) * 256 + (d : ℕ), by omega⟩)

def stepV (t : Fin 4) (k : Fin 256) (h : Fin 4) (d : Fin 256) : EReal :=
  ∑ r : Fin 1024, Softmax.wt (AttnBwdRef.scoreRow Q KV ⟨(t : ℕ) * 1024 + r, by omega⟩ h) k
    * DO (ix2 ⟨(t : ℕ) * 1024 + r, by omega⟩ ⟨(h : ℕ) * 256 + (d : ℕ), by omega⟩)

/-- The same over a block's indices. -/
def blockK (t : Fin 4) (i : S256x1024.Idx) : EReal := stepK Q DO KV t (i 0) (AttnBwdRef.hd (i 1)) (AttnBwdRef.co (i 1))
def blockV (t : Fin 4) (i : S256x1024.Idx) : EReal := stepV Q DO KV t (i 0) (AttnBwdRef.hd (i 1)) (AttnBwdRef.co (i 1))

section

variable (t h : Fin 4)
  (hq : ∀ (r : Fin 1024) (j : Fin 256), q (ix2 r j) = Q (ix2 ⟨t * 1024 + r, by omega⟩ ⟨(h : ℕ) * 256 + (j : ℕ), by omega⟩))
  (hd : ∀ (r : Fin 1024) (j : Fin 256), d (ix2 r j) = DO (ix2 ⟨t * 1024 + r, by omega⟩ ⟨(h : ℕ) * 256 + (j : ℕ), by omega⟩))
  (hk : ∀ l j : Fin 256, k (ix2 l j) = KV (ix2 ⟨t / 2 * 256 + (l : ℕ), by omega⟩ ⟨(h : ℕ) * 256 + (j : ℕ), by omega⟩))
  (hv : ∀ l j : Fin 256, v (ix2 l j) = KV (ix2 ⟨t / 2 * 256 + (l : ℕ), by omega⟩ ⟨1024 + ((h : ℕ) * 256 + (j : ℕ)), by omega⟩))

include hq hk in
theorem sRow_step (r : Fin 1024) : sRow q k r = AttnBwdRef.scoreRow Q KV ⟨(t : ℕ) * 1024 + r, by omega⟩ h :=
  sRow_eq q k Q KV r _ h (hq r) fun l j => (hk l j).trans (congrArg KV (congrArg₂ ix2 (Fin.ext (by dsimp only; omega)) rfl))

include hd hv in
theorem dRow_step (r : Fin 1024) : dRow d v r = AttnBwdRef.weightRow DO KV ⟨(t : ℕ) * 1024 + r, by omega⟩ h :=
  dRow_eq d v DO KV r _ h (hd r) fun l j => (hv l j).trans (congrArg KV (congrArg₂ ix2 (Fin.ext (by dsimp only; omega)) rfl))

variable (x : S256x256.Idx) (i : S256x1024.Idx) (o : S256x256.Idx → EReal) (old : EReal)
  (e0 : (i 0 : ℕ) = x 0) (e1 : (i 1 : ℕ) = h * 256 + (x 1 : ℕ)) (ho : o x = old)

include hq hd hk hv in
/-- One head's columns of a block of the queries' gradient. -/
theorem pieceQ (y : S1024x256.Idx) (i : S4096x1024.Idx) (e0 : (i 0 : ℕ) = t * 1024 + (y 0 : ℕ)) (e1 : (i 1 : ℕ) = h * 256 + (y 1 : ℕ)) :
    k0_pay6 (F := Ideal) q k v d y = AttnBwdRef.GQ Q DO KV i := by
  have y0 : (y 0 : ℕ) < 1024 := (y 0).isLt
  have y1 : (y 1 : ℕ) < 256 := (y 1).isLt
  have e : AttnBwdRef.GQ Q DO KV i = AttnBwdRef.gQ Q DO KV ⟨t * 1024 + (y 0 : ℕ), by omega⟩ h (y 1) := by
    unfold AttnBwdRef.GQ
    exact congr (congrArg₂ (AttnBwdRef.gQ Q DO KV) (Fin.ext e0) (Fin.ext (by dsimp only; omega))) (Fin.ext (by dsimp only; omega))
  rw [e, pay6_at]
  unfold AttnBwdRef.gQ
  refine Finset.sum_congr rfl fun l _ => congrArg₂ (· * ·) ?_ ((hk l (y 1)).trans (congrArg KV (congrArg₂ ix2 (Fin.ext (by dsimp only; omega)) rfl)))
  exact congrArg₂ (fun a b => Softmax.grad a b l) (sRow_step q k Q KV t h hq hk (y 0)) (dRow_step d v DO KV t h hd hv (y 0))

include e0 e1 ho hq hd hk hv in
theorem pieceK : k0_pay7 (F := Ideal) q (k0_pay5 (F := Ideal) q k v d) o x = old + blockK Q DO KV t i := by
  have x1 : (x 1 : ℕ) < 256 := (x 1).isLt
  have e : blockK Q DO KV t i = stepK Q DO KV t (x 0) h (x 1) := by
    unfold blockK
    exact congr (congrArg₂ (stepK Q DO KV t) (Fin.ext e0) (Fin.ext (by dsimp only; omega))) (Fin.ext (by dsimp only; omega))
  rw [e, pay7_at, ho]
  unfold stepK
  refine congrArg _ (Finset.sum_congr rfl fun r _ => congrArg₂ (· * ·) ((pay5_at q d k v (ix2 r (x 0))).trans ?_) (hq r (x 1)))
  exact congrArg₂ (fun a b => Softmax.grad a b (x 0)) (sRow_step q k Q KV t h hq hk r) (dRow_step d v DO KV t h hd hv r)

include e0 e1 ho hq hd hk in
theorem pieceV : k0_pay8 (F := Ideal) d (k0_pay4 (F := Ideal) q k) o x = old + blockV Q DO KV t i := by
  have x1 : (x 1 : ℕ) < 256 := (x 1).isLt
  have e : blockV Q DO KV t i = stepV Q DO KV t (x 0) h (x 1) := by
    unfold blockV
    exact congr (congrArg₂ (stepV Q DO KV t) (Fin.ext e0) (Fin.ext (by dsimp only; omega))) (Fin.ext (by dsimp only; omega))
  rw [e, pay8_at, ho]
  unfold stepV
  refine congrArg _ (Finset.sum_congr rfl fun r _ => congrArg₂ (· * ·) ((pay4_at q k (ix2 r (x 0))).trans ?_) (hd r (x 1)))
  exact congrArg (fun a => Softmax.wt a (x 0)) (sRow_step q k Q KV t h hq hk r)

end

end pieces

section loads

variable (c : Dev nD) (t : Fin cfg0.N) (o : ℕ) (h : Fin 4) (ho : o = h * 256)

abbrev pt : Fin 4 := ⟨t.val, lt_of_lt_of_eq t.isLt N_0⟩

include ho in
theorem ld0 (hin : _) (r : Fin 1024) (j : Fin 256) : View.ld (iblk m c 0 t) (Rect.unit ![0, o] ![1024, 256] hin) (ix2 r j)
    = mQ m c (ix2 ⟨(pt t : ℕ) * 1024 + r, by omega⟩ ⟨(h : ℕ) * 256 + (j : ℕ), by omega⟩) := by
  blk_point [iblk, V, idx t]

include ho in
theorem ld3 (hin : _) (r : Fin 1024) (j : Fin 256) : View.ld (iblk m c 3 t) (Rect.unit ![0, o] ![1024, 256] hin) (ix2 r j)
    = mDO m c (ix2 ⟨(pt t : ℕ) * 1024 + r, by omega⟩ ⟨(h : ℕ) * 256 + (j : ℕ), by omega⟩) := by
  blk_point [iblk, V, idx t]

include ho in
theorem ld1 (hin : _) (l j : Fin 256) : View.ld (iblk m c 1 t) (Rect.unit ![0, o] ![256, 256] hin) (ix2 l j)
    = mKV m c (ix2 ⟨(pt t : ℕ) / 2 * 256 + l, by omega⟩ ⟨(h : ℕ) * 256 + (j : ℕ), by omega⟩) := by
  blk_point [iblk, V, idx t]

include ho in
theorem ld2 (hin : _) (l j : Fin 256) : View.ld (iblk m c 2 t) (Rect.unit ![0, o] ![256, 256] hin) (ix2 l j)
    = mKV m c (ix2 ⟨(pt t : ℕ) / 2 * 256 + l, by omega⟩ ⟨1024 + ((h : ℕ) * 256 + (j : ℕ)), by omega⟩) := by
  blk_point [iblk, V, idx t]

variable (i0 : ∀ a, ![0, o] a + ![1024, 256] a ≤ S1024x1024.size a) (i1 : ∀ a, ![0, o] a + ![256, 256] a ≤ S256x1024.size a)

abbrev lq : S1024x256.Idx → EReal := View.ld (iblk m c 0 t) (Rect.unit ![0, o] ![1024, 256] i0)
abbrev ldo : S1024x256.Idx → EReal := View.ld (iblk m c 3 t) (Rect.unit ![0, o] ![1024, 256] i0)
abbrev lk : S256x256.Idx → EReal := View.ld (iblk m c 1 t) (Rect.unit ![0, o] ![256, 256] i1)
abbrev lv : S256x256.Idx → EReal := View.ld (iblk m c 2 t) (Rect.unit ![0, o] ![256, 256] i1)

include ho in
theorem atQ (x : S1024x256.Idx) (i : S4096x1024.Idx) (e0 : (i 0 : ℕ) = pt t * 1024 + (x 0 : ℕ)) (e1 : (i 1 : ℕ) = h * 256 + (x 1 : ℕ)) :
    k0_pay6 (F := Ideal) (lq m c t o i0) (lk m c t o i1) (lv m c t o i1) (ldo m c t o i0) x = AttnBwdRef.GQ (mQ m c) (mDO m c) (mKV m c) i :=
  pieceQ _ _ _ _ _ _ _ (pt t) h (ld0 m c t o h ho _) (ld3 m c t o h ho _) (ld1 m c t o h ho _) (ld2 m c t o h ho _) x i e0 e1

include ho in
theorem atK (x : S256x256.Idx) (i : S256x1024.Idx) (e0 : (i 0 : ℕ) = x 0) (e1 : (i 1 : ℕ) = h * 256 + (x 1 : ℕ))
    (w : S256x256.Idx → EReal) (old : EReal) (hw : w x = old) :
    k0_pay7 (F := Ideal) (lq m c t o i0) (k0_pay5 (F := Ideal) (lq m c t o i0) (lk m c t o i1) (lv m c t o i1) (ldo m c t o i0)) w x
      = old + blockK (mQ m c) (mDO m c) (mKV m c) (pt t) i :=
  pieceK _ _ _ _ _ _ _ (pt t) h (ld0 m c t o h ho _) (ld3 m c t o h ho _) (ld1 m c t o h ho _) (ld2 m c t o h ho _) x i w old e0 e1 hw

include ho in
theorem atV (x : S256x256.Idx) (i : S256x1024.Idx) (e0 : (i 0 : ℕ) = x 0) (e1 : (i 1 : ℕ) = h * 256 + (x 1 : ℕ))
    (w : S256x256.Idx → EReal) (old : EReal) (hw : w x = old) :
    k0_pay8 (F := Ideal) (ldo m c t o i0) (k0_pay4 (F := Ideal) (lq m c t o i0) (lk m c t o i1)) w x
      = old + blockV (mQ m c) (mDO m c) (mKV m c) (pt t) i :=
  pieceV _ _ _ _ _ _ (pt t) h (ld0 m c t o h ho _) (ld3 m c t o h ho _) (ld1 m c t o h ho _) x i w old e0 e1 hw

end loads

theorem final4 (c : Dev nD) : (dats m 0 c).arrAt 4 cfg0.N = AttnBwdRef.GQ (mQ m c) (mDO m c) (mKV m c) := by
  refine (dats m 0 c).arrAt_eq_of_covers 4 _ (by decide +kernel) fun t hf y => ?_
  blk_simp
  rw [after0_4]
  have key (h : Fin 4) (x : S1024x256.Idx) (h0 : (y 0 : ℕ) = (x 0 : ℕ)) (h1 : (y 1 : ℕ) = h * 256 + (x 1 : ℕ)) :
      (((View.whole main_v0_0).slice (win0_4.rect t)).emb y 0 : ℕ) = pt t * 1024 + (x 0 : ℕ)
        ∧ (((View.whole main_v0_0).slice (win0_4.rect t)).emb y 1 : ℕ) = h * 256 + (x 1 : ℕ) := by
    constructor <;> (blk_simp [idx t]; dsimp only; omega)
  by_cases h : t.val % 2 = 0
  · rw [outsAt0_A m c t h]
    frame_out
    canon_tiles x h
    · exact atQ m c t 768 3 rfl _ _ x _ (key 3 x h0 h1).1 (key 3 x h0 h1).2
    · exact atQ m c t 512 2 rfl _ _ x _ (key 2 x h0 h1).1 (key 2 x h0 h1).2
    · exact atQ m c t 256 1 rfl _ _ x _ (key 1 x h0 h1).1 (key 1 x h0 h1).2
    · exact atQ m c t 0 0 rfl _ _ x _ (key 0 x h0 (by rw [h1]; exact (Nat.zero_add _).symm)).1 (key 0 x h0 (by rw [h1]; exact (Nat.zero_add _).symm)).2
  · rw [outsAt0_B m c t h]
    frame_out
    canon_tiles x h
    · exact atQ m c t 768 3 rfl _ _ x _ (key 3 x h0 h1).1 (key 3 x h0 h1).2
    · exact atQ m c t 512 2 rfl _ _ x _ (key 2 x h0 h1).1 (key 2 x h0 h1).2
    · exact atQ m c t 256 1 rfl _ _ x _ (key 1 x h0 h1).1 (key 1 x h0 h1).2
    · exact atQ m c t 0 0 rfl _ _ x _ (key 0 x h0 (by rw [h1]; exact (Nat.zero_add _).symm)).1 (key 0 x h0 (by rw [h1]; exact (Nat.zero_add _).symm)).2

theorem ld_old (X : S256x1024.Idx → EReal) (o : ℕ) (hin : ∀ a, ![0, o] a + ![256, 256] a ≤ S256x1024.size a) (x : S256x256.Idx) (j : S256x1024.Idx)
    (e0 : (j 0 : ℕ) = x 0) (e1 : (j 1 : ℕ) = o + (x 1 : ℕ)) :
    View.ld (e' := .f32) (Val := Elt Ideal) X (Rect.unit ![0, o] ![256, 256] hin) x = X j := by
  refine congrArg X (?_ : (Rect.unit (s := S256x1024) ![0, o] ![256, 256] hin).emb x = j)
  funext a
  apply Fin.ext
  fin_cases a
  · rw [show (j ⟨0, by decide⟩ : ℕ) = x 0 from e0]; blk_simp; rfl
  · rw [show (j ⟨1, by decide⟩ : ℕ) = o + (x 1 : ℕ) from e1]; blk_simp; rfl

theorem zero2 : (k0_pay2 (F := Ideal)) = fun _ => (0 : EReal) := by
  funext j
  pointwise [k0_pay2]

theorem zero3 : (k0_pay3 (F := Ideal)) = fun _ => (0 : EReal) := by
  funext j
  pointwise [k0_pay3]

theorem stepB5 (c : Dev nD) (t : Fin cfg0.N) (h : ¬t.val % 2 = 0) (j : S256x1024.Idx) :
    (outsAt0 m c t.val t.isLt).2.1 j = (outsAt0 m c (t.val - 1) (by omega)).2.1 j + blockK (mQ m c) (mDO m c) (mKV m c) (pt t) j := by
  rw [outsAt0_B m c t h]; frame_out
  canon_tiles x h
  · exact atK m c t 768 3 rfl _ _ x _ h0 h1 _ _ (ld_old _ _ _ x j h0 h1)
  · exact atK m c t 512 2 rfl _ _ x _ h0 h1 _ _ (ld_old _ _ _ x j h0 h1)
  · exact atK m c t 256 1 rfl _ _ x _ h0 h1 _ _ (ld_old _ _ _ x j h0 h1)
  · exact atK m c t 0 0 rfl _ _ x _ h0 (h1.trans (Nat.zero_add _).symm) _ _ (ld_old _ _ _ x j h0 (h1.trans (Nat.zero_add _).symm))

theorem stepB6 (c : Dev nD) (t : Fin cfg0.N) (h : ¬t.val % 2 = 0) (j : S256x1024.Idx) :
    (outsAt0 m c t.val t.isLt).2.2 j = (outsAt0 m c (t.val - 1) (by omega)).2.2 j + blockV (mQ m c) (mDO m c) (mKV m c) (pt t) j := by
  rw [outsAt0_B m c t h]; frame_out
  canon_tiles x h
  · exact atV m c t 768 3 rfl _ _ x _ h0 h1 _ _ (ld_old _ _ _ x j h0 h1)
  · exact atV m c t 512 2 rfl _ _ x _ h0 h1 _ _ (ld_old _ _ _ x j h0 h1)
  · exact atV m c t 256 1 rfl _ _ x _ h0 h1 _ _ (ld_old _ _ _ x j h0 h1)
  · exact atV m c t 0 0 rfl _ _ x _ h0 (h1.trans (Nat.zero_add _).symm) _ _ (ld_old _ _ _ x j h0 (h1.trans (Nat.zero_add _).symm))

theorem emb0 (o : ℕ) (hin : ∀ a, ![0, o] a + ![256, 256] a ≤ S256x1024.size a) (x : S256x256.Idx) :
    ((Rect.unit (s := S256x1024) ![0, o] ![256, 256] hin).emb x 0 : ℕ) = x 0 := by
  blk_simp

theorem emb1 (o : ℕ) (hin : ∀ a, ![0, o] a + ![256, 256] a ≤ S256x1024.size a) (x : S256x256.Idx) :
    ((Rect.unit (s := S256x1024) ![0, o] ![256, 256] hin).emb x 1 : ℕ) = o + (x 1 : ℕ) := by
  blk_simp

section first

variable (c : Dev nD) (t : Fin cfg0.N) (o : ℕ) (h : Fin 4) (ho : o = h * 256) (i0 : ∀ a, ![0, o] a + ![1024, 256] a ≤ S1024x1024.size a)
  (i1 : ∀ a, ![0, o] a + ![256, 256] a ≤ S256x1024.size a)

include ho in
theorem firstK (x : S256x256.Idx) : k0_pay7 (F := Ideal) (lq m c t o i0) (k0_pay5 (F := Ideal) (lq m c t o i0) (lk m c t o i1) (lv m c t o i1) (ldo m c t o i0))
      (View.ld (e' := .f32) (Val := Elt Ideal) (k0_pay2 (F := Ideal)) (Rect.unit ![0, o] ![256, 256] i1)) x
      = 0 + blockK (mQ m c) (mDO m c) (mKV m c) (pt t) ((Rect.unit (s := S256x1024) ![0, o] ![256, 256] i1).emb x) :=
  atK m c t o h ho i0 i1 x _ (emb0 o i1 x) ((emb1 o i1 x).trans (congrArg (· + _) ho)) _ _ ((ld_old _ o i1 x _ (emb0 o i1 x) (emb1 o i1 x)).trans (congrFun zero2 _))

include ho in
theorem firstV (x : S256x256.Idx) : k0_pay8 (F := Ideal) (ldo m c t o i0) (k0_pay4 (F := Ideal) (lq m c t o i0) (lk m c t o i1))
      (View.ld (e' := .f32) (Val := Elt Ideal) (k0_pay3 (F := Ideal)) (Rect.unit ![0, o] ![256, 256] i1)) x
      = 0 + blockV (mQ m c) (mDO m c) (mKV m c) (pt t) ((Rect.unit (s := S256x1024) ![0, o] ![256, 256] i1).emb x) :=
  atV m c t o h ho i0 i1 x _ (emb0 o i1 x) ((emb1 o i1 x).trans (congrArg (· + _) ho)) _ _ ((ld_old _ o i1 x _ (emb0 o i1 x) (emb1 o i1 x)).trans (congrFun zero3 _))

end first

theorem stepA5 (c : Dev nD) (t : Fin cfg0.N) (h : t.val % 2 = 0) (j : S256x1024.Idx) :
    (outsAt0 m c t.val t.isLt).2.1 j = 0 + blockK (mQ m c) (mDO m c) (mKV m c) (pt t) j := by
  rw [outsAt0_A m c t h]; frame_out
  simp (disch := decide) only [↓ View.readCov_skip, ↓ View.readCov_fill]
  refine View.canon_append_of_piecesOf (s := S256x1024) (e := .f32) (Val := Elt Ideal) (fun j => ((0 : EReal) + blockK (mQ m c) (mDO m c) (mKV m c) (pt t) j : EReal)) [_] [_, _, _, _]
    ⟨fun x => ?_, fun x => ?_, fun x => ?_, fun x => ?_, trivial⟩ j (View.cover_of_tiledL _ ![256, 256] rfl j)
  · exact firstK m c t 768 3 rfl _ _ x
  · exact firstK m c t 512 2 rfl _ _ x
  · exact firstK m c t 256 1 rfl _ _ x
  · exact firstK m c t 0 0 rfl _ _ x

theorem stepA6 (c : Dev nD) (t : Fin cfg0.N) (h : t.val % 2 = 0) (j : S256x1024.Idx) :
    (outsAt0 m c t.val t.isLt).2.2 j = 0 + blockV (mQ m c) (mDO m c) (mKV m c) (pt t) j := by
  rw [outsAt0_A m c t h]; frame_out
  simp (disch := decide) only [↓ View.readCov_skip, ↓ View.readCov_fill]
  refine View.canon_append_of_piecesOf (s := S256x1024) (e := .f32) (Val := Elt Ideal) (fun j => ((0 : EReal) + blockV (mQ m c) (mDO m c) (mKV m c) (pt t) j : EReal)) [_] [_, _, _, _]
    ⟨fun x => ?_, fun x => ?_, fun x => ?_, fun x => ?_, trivial⟩ j (View.cover_of_tiledL _ ![256, 256] rfl j)
  · exact firstV m c t 768 3 rfl _ _ x
  · exact firstV m c t 512 2 rfl _ _ x
  · exact firstV m c t 256 1 rfl _ _ x
  · exact firstV m c t 0 0 rfl _ _ x

/-- Two blocks of queries are the sequence. -/
theorem blocksK (Q DO : S4096x1024.Idx → EReal) (KV : S512x2048.Idx → EReal) (b : Fin 2) (k : Fin 256) (h : Fin 4) (d : Fin 256) (hs : ∀ s : Fin 2, 2 * (b : ℕ) + s < 4) :
    ∑ s : Fin 2, stepK Q DO KV ⟨2 * (b : ℕ) + s, hs s⟩ k h d = AttnBwdRef.gK Q DO KV b k h d := by
  unfold stepK AttnBwdRef.gK
  refine Fin.sum_mul_add_congr fun s r hl => ?_
  have e : (⟨(2 * (b : ℕ) + s) * 1024 + r, by omega⟩ : Fin 4096) = AttnBwdRef.row b ⟨s * 1024 + r, hl⟩ := Fin.ext (by dsimp only; omega)
  rw [← e]

theorem blocksV (Q DO : S4096x1024.Idx → EReal) (KV : S512x2048.Idx → EReal) (b : Fin 2) (k : Fin 256) (h : Fin 4) (d : Fin 256) (hs : ∀ s : Fin 2, 2 * (b : ℕ) + s < 4) :
    ∑ s : Fin 2, stepV Q DO KV ⟨2 * (b : ℕ) + s, hs s⟩ k h d = AttnBwdRef.gV Q DO KV b k h d := by
  unfold stepV AttnBwdRef.gV
  refine Fin.sum_mul_add_congr fun s r hl => ?_
  have e : (⟨(2 * (b : ℕ) + s) * 1024 + r, by omega⟩ : Fin 4096) = AttnBwdRef.row b ⟨s * 1024 + r, hl⟩ := Fin.ext (by dsimp only; omega)
  rw [← e]

theorem final5 (c : Dev nD) : (dats m 0 c).arrAt 5 cfg0.N = AttnBwdRef.GK (mQ m c) (mDO m c) (mKV m c) := by
  refine (dats m 0 c).arrAt_eq_of_covers 5 _ (by decide +kernel) fun t hf y => ?_
  blk_simp
  rw [after0_5]
  refine (Pipeline.eq_sum_fin_of_reset_step_apply_of_flush (fun n h => (outsAt0 m c n h).2.1) 2 (fun _ => 0) (fun t j => blockK (mQ m c) (mDO m c) (mKV m c) (pt t) j)
    (fun t h j => stepA5 m c t h j) (fun t h j => stepB5 m c t h j) t ((flush0_5 t).mp hf) _).trans ?_
  have ht : t.val < 4 := lt_of_lt_of_eq t.isLt N_0
  idx_vars y
  refine (zero_add _).trans ((blocksK (mQ m c) (mDO m c) (mKV m c) ⟨t.val / 2, by omega⟩ y0 (AttnBwdRef.hd y1) (AttnBwdRef.co y1) (fun s => by dsimp only; omega)).trans ?_)
  unfold AttnBwdRef.GK
  have e0 : (((View.whole main_v0_1).slice (win0_5.rect t)).emb (ix2 y0 y1) 0 : ℕ) = t.val / 2 * 256 + (y0 : ℕ) := by blk_simp [idx t]
  have e1 : (((View.whole main_v0_1).slice (win0_5.rect t)).emb (ix2 y0 y1) 1 : ℕ) = y1 := by blk_simp [idx t]
  exact congr (congr (congrArg₂ (AttnBwdRef.gK (mQ m c) (mDO m c) (mKV m c)) (Fin.ext (by dsimp only; omega)) (Fin.ext (by dsimp only; omega)))
    (Fin.ext (by dsimp only; omega))) (Fin.ext (by dsimp only; omega))

theorem final6 (c : Dev nD) : (dats m 0 c).arrAt 6 cfg0.N = AttnBwdRef.GV (mQ m c) (mDO m c) (mKV m c) := by
  refine (dats m 0 c).arrAt_eq_of_covers 6 _ (by decide +kernel) fun t hf y => ?_
  blk_simp
  rw [after0_6]
  refine (Pipeline.eq_sum_fin_of_reset_step_apply_of_flush (fun n h => (outsAt0 m c n h).2.2) 2 (fun _ => 0) (fun t j => blockV (mQ m c) (mDO m c) (mKV m c) (pt t) j)
    (fun t h j => stepA6 m c t h j) (fun t h j => stepB6 m c t h j) t ((flush0_6 t).mp hf) _).trans ?_
  have ht : t.val < 4 := lt_of_lt_of_eq t.isLt N_0
  idx_vars y
  refine (zero_add _).trans ((blocksV (mQ m c) (mDO m c) (mKV m c) ⟨t.val / 2, by omega⟩ y0 (AttnBwdRef.hd y1) (AttnBwdRef.co y1) (fun s => by dsimp only; omega)).trans ?_)
  unfold AttnBwdRef.GV
  have e0 : (((View.whole main_v0_2).slice (win0_6.rect t)).emb (ix2 y0 y1) 0 : ℕ) = t.val / 2 * 256 + (y0 : ℕ) := by blk_simp [idx t]
  have e1 : (((View.whole main_v0_2).slice (win0_6.rect t)).emb (ix2 y0 y1) 1 : ℕ) = y1 := by blk_simp [idx t]
  exact congr (congr (congrArg₂ (AttnBwdRef.gV (mQ m c) (mDO m c) (mKV m c)) (Fin.ext (by dsimp only; omega)) (Fin.ext (by dsimp only; omega)))
    (Fin.ext (by dsimp only; omega))) (Fin.ext (by dsimp only; omega))

set_option maxHeartbeats 4000000 in
/-- The kernel leaves the derivatives of the attention lines with respect to the queries, the keys and the values. -/
theorem algebraic : Cert.algebraic_AttnBwdIdeal_AttnBwdRefIdeal_pre_finite_attn
    (hAttnBwdIdeal := Cert.AttnBwdIdeal.Gen.facts) (hAttnBwdRefIdeal := Cert.AttnBwdRefIdeal.Gen.facts)
    (hPre_finite_attn := Cert.Pre_finite_attn.Gen.facts) := by
  pair_intro
  · run_from Cert.AttnBwdIdeal.Value.run_blocks m g
  · run_from Cert.AttnBwdRefIdeal.Value.run m' g'
    all_goals
      obtain ⟨h0, h1, h2⟩ := hpre c
      obtain ⟨Q, hQ⟩ := Scalars.real_array _ _ (fun _ => Scalars.top_bf16) h0
      obtain ⟨KV, hKV⟩ := Scalars.real_array _ _ (fun _ => Scalars.top_bf16) h1
      obtain ⟨DO, hDO⟩ := Scalars.real_array _ _ (fun _ => Scalars.top_bf16) h2
      have q : mQ m c = fun i => (Q i : EReal) := hQ
      have kv : mKV m c = fun i => (KV i : EReal) := hKV
      have d : mDO m c = fun i => (DO i : EReal) := hDO
      have q' : AttnBwdRef.mQ m' c = fun i => (Q i : EReal) := ((hagree c).1).trans hQ
      have kv' : AttnBwdRef.mKV m' c = fun i => (KV i : EReal) := ((hagree c).2.1).trans hKV
      have d' : AttnBwdRef.mDO m' c = fun i => (DO i : EReal) := ((hagree c).2.2).trans hDO
    · refine Eq.trans ?_ (final4 m c).symm
      refine (AttnBwdRef.resQ m' c).trans ?_
      rw [q, kv, d, q', kv', d']
      exact AttnBwdRef.outQ_eq Q DO KV
    · refine Eq.trans ?_ (final5 m c).symm
      refine (AttnBwdRef.resK m' c).trans ?_
      rw [q, kv, d, q', kv', d']
      exact AttnBwdRef.outK_eq Q DO KV
    · refine Eq.trans ?_ (final6 m c).symm
      refine Eq.trans (b := AttnBwdRef.outV (AttnBwdRef.turned (mDO m c)) (AttnBwdRef.wt (AttnBwdRef.sc (AttnBwdRef.heads (mQ m c)) (AttnBwdRef.keys (mKV m c))))) ?_ ?_
      · simp only [AttnBwdRef.outV, AttnBwdRef.wt, AttnBwdRef.sc, AttnBwdRef.heads, AttnBwdRef.keys, AttnBwdRef.turned, AttnBwdRef.along,
          AttnBwdRef.rowSum, AttnBwdRef.ex, AttnBwdRef.low, AttnBwdRef.cap, AttnBwdRef.rowMax]
      · rw [q, kv, d]
        exact AttnBwdRef.outV_eq Q DO KV

/-- The reference terminates, keeps its arguments, and has no semaphore. -/
theorem frame_ref : Cert.quiescent_AttnBwdRefIdeal (hAttnBwdRefIdeal := Cert.AttnBwdRefIdeal.Gen.facts) := fun m ρ _ =>
  (θ_run Cert.AttnBwdRefIdeal.defs _ _).mono (fun r h => ⟨fun c => (h c).2.2.2, sem_eq_zero_of_no_sems (by decide) r.2⟩)
    (Cert.AttnBwdRefIdeal.Value.run m ρ)

end Cert.AttnBwdProof
-- ==== Proof.NormGrad.lean ====
/- Hand-written: the derivative of the root-mean-square norm, on one row of 1024 entries. -/
module

public import Idealize.ShloMosaic.Lib.Pipeline.ValueKit
public import proofs.«01_k».proof.Proof.Scalars
public import proofs.«01_k».proof.Proof.Softmax

@[expose] public section

noncomputable section

namespace Cert.NormGrad

open Idealize.ShloMosaic

/-- The number of entries of a row, and the norm's small constant, as the programs write them. -/
def len : EReal := Ideal.ofBits .f32 0x44800000#32
def eps : EReal := Ideal.ofBits .f32 0x358637BD#32

/-- The mean square of a row with the constant added, and its inverse root. -/
def ms (x : Fin 1024 → EReal) : EReal := Ideal.div (∑ l, x l * x l) len + eps
def inv (x : Fin 1024 → EReal) : EReal := Ideal.rsqrt (ms x)

/-- The derivative of the row, from the derivative `d` of its scaled entries. -/
def dx (x d : Fin 1024 → EReal) (j : Fin 1024) : EReal :=
  inv x * (d j - x j * inv x * Ideal.div (∑ l, d l * (x l * inv x)) len)

/-- What differentiating the mean square adds to every entry, per unit of the entry. -/
def slope (x d : Fin 1024 → EReal) : EReal :=
  ∑ _k : Fin 1, Ideal.div ((∑ l, x l * d l) * (Ideal.ofBits .f32 0xBF000000#32 * Ideal.div (inv x) (ms x))) len

theorem len_eq : len = ((1024 : ℝ) : EReal) := by
  simp [len, Ideal.ofBits, Ideal.ieee, -EReal.coe_mul]; norm_num

theorem eps_eq : ∃ e : ℝ, 0 < e ∧ eps = (e : EReal) := by
  refine ⟨_, ?_, by simp [eps, Ideal.ofBits, Ideal.ieee, -EReal.coe_mul]; rfl⟩
  positivity

theorem minus_half : Ideal.ofBits .f32 0xBF000000#32 = ((-(1 / 2) : ℝ) : EReal) := by
  simp [Ideal.ofBits, Ideal.ieee, -EReal.coe_mul]; norm_num

/-- The mean square of a real row is a positive real number, and the inverse root is its. -/
theorem ms_real (x : Fin 1024 → ℝ) : ∃ v : ℝ, 0 < v ∧ ms (fun l => (x l : EReal)) = (v : EReal)
    ∧ inv (fun l => (x l : EReal)) = (((√v)⁻¹ : ℝ) : EReal) := by
  obtain ⟨e, he, h⟩ := eps_eq
  have hs : 0 ≤ ∑ l, x l * x l := Finset.sum_nonneg fun l _ => mul_self_nonneg _
  have hv : 0 < (∑ l, x l * x l) / 1024 + e := by positivity
  have hm : ms (fun l => (x l : EReal)) = (((∑ l, x l * x l) / 1024 + e : ℝ) : EReal) := by
    unfold ms
    rw [len_eq, h, show (∑ l, (x l : EReal) * (x l : EReal)) = ((∑ l, x l * x l : ℝ) : EReal) from by
      rw [Scalars.coe_sum]; exact Finset.sum_congr rfl fun l _ => (EReal.coe_mul _ _).symm,
      Softmax.div_real _ (by norm_num), ← EReal.coe_add]
  refine ⟨_, hv, hm, ?_⟩
  unfold inv
  rw [hm]
  generalize (∑ l, x l * x l) / 1024 + e = v at hv ⊢
  rw [Ideal.rsqrt_coe, if_neg (not_lt.mpr hv.le), if_neg hv.ne']

/-- The two ways of writing the derivative of a real row agree, whatever is added to it. -/
theorem dx_eq (x d : Fin 1024 → ℝ) (j : Fin 1024) (r : EReal) :
    r + (d j : EReal) * inv (fun l => (x l : EReal)) + (x j : EReal) * slope (fun l => (x l : EReal)) (fun l => (d l : EReal))
        + slope (fun l => (x l : EReal)) (fun l => (d l : EReal)) * (x j : EReal)
      = dx (fun l => (x l : EReal)) (fun l => (d l : EReal)) j + r := by
  obtain ⟨v, hv, hm, hi⟩ := ms_real x
  have hr := Real.sq_sqrt hv.le
  have hp := Real.sqrt_pos.mpr hv
  have hsl : slope (fun l => (x l : EReal)) (fun l => (d l : EReal)) = (((∑ l, x l * d l) * (-(1 / 2) * ((√v)⁻¹ / v)) / 1024 : ℝ) : EReal) := by
    unfold slope
    rw [Fin.sum_univ_one, hi, hm, len_eq, minus_half, show (∑ l, (x l : EReal) * (d l : EReal)) = ((∑ l, x l * d l : ℝ) : EReal) from by
      rw [Scalars.coe_sum]; exact Finset.sum_congr rfl fun l _ => (EReal.coe_mul _ _).symm, Softmax.div_real _ hv,
      ← EReal.coe_mul, ← EReal.coe_mul, Softmax.div_real _ (by norm_num)]
  have hdx : dx (fun l => (x l : EReal)) (fun l => (d l : EReal)) j
      = (((√v)⁻¹ * (d j - x j * (√v)⁻¹ * ((∑ l, d l * (x l * (√v)⁻¹)) / 1024)) : ℝ) : EReal) := by
    unfold dx
    rw [hi, len_eq, show (∑ l, (d l : EReal) * ((x l : EReal) * (((√v)⁻¹ : ℝ) : EReal))) = ((∑ l, d l * (x l * (√v)⁻¹) : ℝ) : EReal) from by
      rw [Scalars.coe_sum]; exact Finset.sum_congr rfl fun l _ => by push_cast; rfl, Softmax.div_real _ (by norm_num)]
    norm_cast
  rw [hsl, hdx, hi, add_comm _ r, add_assoc, add_assoc]
  congr 1
  norm_cast
  rw [show (∑ l, d l * (x l * (√v)⁻¹)) = (∑ l, x l * d l) * (√v)⁻¹ from by
    rw [Finset.sum_mul]; exact Finset.sum_congr rfl fun l _ => by ring]
  generalize (∑ l, x l * d l) = S
  generalize √v = q at hr hp
  subst hr
  field_simp
  ring

/-- The two gradients of a norm of `n` rows: at a place of a row, with a residual, and at a column of the scale. -/
def gDx {n : ℕ} (X D : Fin n → Fin 1024 → EReal) (G : Fin 1024 → EReal) (E : Fin n → Fin 1024 → EReal) (r : Fin n) (j : Fin 1024) : EReal :=
  dx (X r) (fun l => D r l * G l) j + E r j

def gDg {n : ℕ} (X D : Fin n → Fin 1024 → EReal) (j : Fin 1024) : EReal := ∑ r, D r j * (X r j * inv (X r))

/-- The same two as a derivative of the forward lines writes them. -/
def refDx {n : ℕ} (X D : Fin n → Fin 1024 → EReal) (G : Fin 1024 → EReal) (E : Fin n → Fin 1024 → EReal) (r : Fin n) (j : Fin 1024) : EReal :=
  E r j + D r j * G j * inv (X r) + X r j * slope (X r) (fun l => D r l * G l) + slope (X r) (fun l => D r l * G l) * X r j

def refDg {n : ℕ} (X D : Fin n → Fin 1024 → EReal) (j : Fin 1024) : EReal := ∑ r, X r j * inv (X r) * D r j

theorem refDx_eq {n : ℕ} (X D : Fin n → Fin 1024 → ℝ) (G : Fin 1024 → ℝ) (E : Fin n → Fin 1024 → EReal) :
    refDx (fun r l => (X r l : EReal)) (fun r l => (D r l : EReal)) (fun l => (G l : EReal)) E
      = gDx (fun r l => (X r l : EReal)) (fun r l => (D r l : EReal)) (fun l => (G l : EReal)) E := by
  funext r j
  have h := dx_eq (X r) (fun l => D r l * G l) j (E r j)
  simp only [EReal.coe_mul] at h
  exact h

theorem refDg_eq {n : ℕ} (X D : Fin n → Fin 1024 → EReal) : refDg X D = gDg X D :=
  funext fun j => Finset.sum_congr rfl fun r _ => mul_comm _ _

/-- A product of real arrays is an array of real numbers. -/
theorem real_product {n k : ℕ} (A : Fin n → Fin k → ℝ) (W : Fin k → Fin 1024 → ℝ) :
    (fun (r : Fin n) (j : Fin 1024) => ∑ l, (A r l : EReal) * (W l j : EReal)) = fun r j => ((∑ l, A r l * W l j : ℝ) : EReal) := by
  funext r j
  rw [Scalars.coe_sum]
  exact Finset.sum_congr rfl fun l _ => (EReal.coe_mul _ _).symm

end Cert.NormGrad

end
-- ==== Proof.NormBwd.lean ====
/- Hand-written: the backward kernel of the root-mean-square norm, its residual added. -/
module

public import proofs.«01_k».proof.Proof.Gen.NormBwdIdeal.Value
public import proofs.«01_k».proof.Proof.Gen.NormBwdRefIdeal.Run
public import proofs.«01_k».proof.Proof.Gen.Pre_finite_norm
public import proofs.«01_k».proof.Proof.NormGrad
public import proofs.«01_k».proof.Defs
public import Idealize.ShloMosaic.Lib.Tactic.CleanTypes

@[expose] public section

set_option maxRecDepth 16384

noncomputable section

namespace Cert.NormBwdProof

open Idealize.ShloMosaic Idealize.ShloMosaic.TcCoe Idealize.SL.Sem Cert.NormBwdIdeal Cert.NormBwdIdeal.Gen
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

theorem pay5_at (v0 v1 v2 : S256x1024.Idx → EReal) (v3 : S1x1024.Idx → EReal) (r : Fin 256) (j : Fin 1024) :
    k0_pay5 (F := Ideal) v0 v1 v2 v3 (ix2 r j)
      = NormGrad.dx (fun l => v0 (ix2 r l)) (fun l => v1 (ix2 r l) * v3 (ix2 0 l)) j + v2 (ix2 r j) := by
  pointwise [k0_pay5, k0_pay3, k0_pay2]
  rfl

theorem pay4_at (v0 v1 : S256x1024.Idx → EReal) (r : Fin 1) (j : Fin 1024) :
    k0_pay4 (F := Ideal) v0 v1 (ix2 r j)
      = ∑ l : Fin 256, v1 (ix2 l j) * (v0 (ix2 l j) * NormGrad.inv (fun k => v0 (ix2 l k))) := by
  pointwise [k0_pay4, k0_pay3, k0_pay2]
  rfl

theorem pay1_at (v old : S1x1024.Idx → EReal) (x : S1x1024.Idx) : k0_pay1 (F := Ideal) v old x = old x + v x := by
  pointwise [k0_pay1]

abbrev mX (c : Dev nD) (r : Fin 4096) (j : Fin 1024) : EReal := m ((c : Thread nD τ).loc main_arg0) (ix2 r j)
abbrev mG (c : Dev nD) (j : Fin 1024) : EReal := m ((c : Thread nD τ).loc main_arg1) (ix2 0 j)
abbrev mD (c : Dev nD) (r : Fin 4096) (j : Fin 1024) : EReal := m ((c : Thread nD τ).loc main_arg2) (ix2 r j)
abbrev mE (c : Dev nD) (r : Fin 4096) (j : Fin 1024) : EReal := m ((c : Thread nD τ).loc main_arg3) (ix2 r j)

/-- A row of the array, from the grid point and the row of its block. -/
def row (t : Fin cfg0.N) (r : Fin 256) : Fin 4096 :=
  ⟨t.val * 256 + (r : ℕ), by have ht : t.val < 16 := lt_of_lt_of_eq t.isLt N_0; omega⟩

theorem ld0 (c : Dev nD) (t : Fin cfg0.N) (r : Fin 256) (j : Fin 1024) : iblk m c 0 t (ix2 r j) = mX m c (row t r) j := by
  unfold row; blk_point [iblk, V, idx t]
theorem ld1 (c : Dev nD) (t : Fin cfg0.N) (r : Fin 256) (j : Fin 1024) : iblk m c 1 t (ix2 r j) = mD m c (row t r) j := by
  unfold row; blk_point [iblk, V, idx t]
theorem ld2 (c : Dev nD) (t : Fin cfg0.N) (r : Fin 256) (j : Fin 1024) : iblk m c 2 t (ix2 r j) = mE m c (row t r) j := by
  unfold row; blk_point [iblk, V, idx t]
theorem ld3 (c : Dev nD) (t : Fin cfg0.N) (j : Fin 1024) : iblk m c 3 t (ix2 0 j) = mG m c j := by
  blk_point [iblk, V, idx t]

/-- What a grid point writes of the row gradient. -/
theorem dx_at (c : Dev nD) (t : Fin cfg0.N) (r : Fin 256) (j : Fin 1024) :
    k0_pay5 (F := Ideal) (iblk m c 0 t) (iblk m c 1 t) (iblk m c 2 t) (iblk m c 3 t) (ix2 r j)
      = NormGrad.gDx (mX m c) (mD m c) (mG m c) (mE m c) (row t r) j := by
  rw [pay5_at, ld2]
  simp only [ld0, ld1, ld3]
  rfl

/-- What a grid point adds to the scale's gradient. -/
def part (c : Dev nD) (t : Fin cfg0.N) (j : Fin 1024) : EReal :=
  ∑ l : Fin 256, mD m c (row t l) j * (mX m c (row t l) j * NormGrad.inv (mX m c (row t l)))

theorem dg_at (c : Dev nD) (t : Fin cfg0.N) (r : Fin 1) (j : Fin 1024) :
    k0_pay4 (F := Ideal) (iblk m c 0 t) (iblk m c 1 t) (ix2 r j) = part m c t j := by
  rw [pay4_at]
  simp only [ld0, ld1]
  rfl

/-- A block's place in the arrays of rows. -/
theorem emb4 (t : Fin cfg0.N) (r : Fin 256) (j : Fin 1024) :
    ((View.whole main_v0_0).slice (win0_4.rect t)).emb (ix2 r j) 0 = row t r ∧ ((View.whole main_v0_0).slice (win0_4.rect t)).emb (ix2 r j) 1 = j := by
  constructor <;> refine Fin.ext ?_ <;> blk_simp [idx t] <;> rfl

theorem emb5 (t : Fin cfg0.N) (r : Fin 256) (j : Fin 1024) :
    ((View.whole main_v0_1).slice (win0_5.rect t)).emb (ix2 r j) 0 = row t r ∧ ((View.whole main_v0_1).slice (win0_5.rect t)).emb (ix2 r j) 1 = j := by
  constructor <;> refine Fin.ext ?_ <;> blk_simp [idx t] <;> rfl

theorem final4 (c : Dev nD) : (dats m 0 c).arrAt 4 cfg0.N
    = fun i => NormGrad.gDx (mX m c) (mD m c) (mG m c) (mE m c) (i 0) (i 1) := by
  refine (dats m 0 c).arrAt_eq_of_covers 4 _ (by decide +kernel) fun t _ y => ?_
  blk_simp
  rw [after0_4]
  idx_vars y
  refine Eq.trans ?_ (congrArg₂ (NormGrad.gDx (mX m c) (mD m c) (mG m c) (mE m c)) (emb4 t y0 y1).1 (emb4 t y0 y1).2).symm
  by_cases h : t.val % 16 = 0
  · rw [outsAt0_A m c t h]
    frame_out
    exact dx_at m c t y0 y1
  · rw [outsAt0_B m c t h]
    frame_out
    exact dx_at m c t y0 y1

theorem final5 (c : Dev nD) : (dats m 0 c).arrAt 5 cfg0.N
    = fun i => NormGrad.gDx (mX m c) (mD m c) (mG m c) (mE m c) (i 0) (i 1) := by
  refine (dats m 0 c).arrAt_eq_of_covers 5 _ (by decide +kernel) fun t _ y => ?_
  blk_simp
  rw [after0_5]
  idx_vars y
  refine Eq.trans ?_ (congrArg₂ (NormGrad.gDx (mX m c) (mD m c) (mG m c) (mE m c)) (emb5 t y0 y1).1 (emb5 t y0 y1).2).symm
  by_cases h : t.val % 16 = 0
  · rw [outsAt0_A m c t h]
    frame_out
    exact dx_at m c t y0 y1
  · rw [outsAt0_B m c t h]
    frame_out
    exact dx_at m c t y0 y1

theorem stepA6 (c : Dev nD) (t : Fin cfg0.N) (h : t.val % 16 = 0) (j : S1x1024.Idx) :
    (outsAt0 m c t.val t.isLt).2.2 j = 0 + part m c t (j 1) := by
  rw [outsAt0_A m c t h]
  frame_out
  idx_vars j
  rw [pay1_at, dg_at]
  exact congrArg (· + _) (by pointwise [k0_pay7])

theorem stepB6 (c : Dev nD) (t : Fin cfg0.N) (h : ¬t.val % 16 = 0) (j : S1x1024.Idx) :
    (outsAt0 m c t.val t.isLt).2.2 j = (outsAt0 m c (t.val - 1) (by omega)).2.2 j + part m c t (j 1) := by
  rw [outsAt0_B m c t h]
  frame_out
  idx_vars j
  rw [pay1_at, dg_at]

theorem final6 (c : Dev nD) : (dats m 0 c).arrAt 6 cfg0.N = fun i => NormGrad.gDg (mX m c) (mD m c) (i 1) := by
  refine (dats m 0 c).arrAt_eq_of_covers 6 _ (by decide +kernel) fun t hf y => ?_
  blk_simp
  rw [after0_6]
  refine (Pipeline.eq_sum_fin_of_reset_step_apply_of_flush (fun n h => (outsAt0 m c n h).2.2) 16 (fun _ => 0) (fun t j => part m c t (j 1))
    (fun t h j => stepA6 m c t h j) (fun t h j => stepB6 m c t h j) t ((flush0_6 t).mp hf) _).trans ?_
  have ht : t.val < 16 := lt_of_lt_of_eq t.isLt N_0
  idx_vars y
  refine (zero_add _).trans ?_
  unfold NormGrad.gDg part
  have e1 : ((View.whole main_v0_2).slice (win0_6.rect t)).emb (ix2 y0 y1) 1 = y1 := Fin.ext (by blk_simp [idx t])
  rw [e1]
  refine Fin.sum_mul_add_congr fun s r hl => ?_
  exact congrArg (fun R => mD m c R y1 * (mX m c R y1 * NormGrad.inv (mX m c R))) (Fin.ext (by unfold row; dsimp only; omega))

theorem reals (h : Cert.Pre_NormBwdIdeal_finite_norm (hPre_finite_norm := Cert.Pre_finite_norm.Gen.facts) m) (c : Dev nD) :
    ∃ (X D : Fin 4096 → Fin 1024 → ℝ) (G : Fin 1024 → ℝ), mX m c = (fun r l => (X r l : EReal)) ∧ mG m c = (fun l => (G l : EReal))
      ∧ mD m c = (fun r l => (D r l : EReal)) := by
  obtain ⟨h0, h1, h2⟩ := h c
  obtain ⟨X, hX⟩ := Scalars.real_array _ _ (fun _ => Scalars.top_f32) h0
  obtain ⟨G, hG⟩ := Scalars.real_array _ _ (fun _ => Scalars.top_f32) h1
  obtain ⟨D, hD⟩ := Scalars.real_array _ _ (fun _ => Scalars.top_f32) h2
  exact ⟨fun r l => X (ix2 r l), fun r l => D (ix2 r l), fun l => G (ix2 0 l), funext fun r => funext fun l => congrFun hX _,
    funext fun l => congrFun hG _, funext fun r => funext fun l => congrFun hD _⟩

section reference

variable (m' : (ℓ : Loc Cert.NormBwdRefIdeal.nD Cert.NormBwdRefIdeal.τ Cert.NormBwdRefIdeal.sig) → Buf (Elt Ideal) ℓ) (c : Dev Cert.NormBwdRefIdeal.nD)

abbrev rX (r : Fin 4096) (j : Fin 1024) : EReal := m' (c.tc.loc Cert.NormBwdRefIdeal.main_arg0) (ix2 r j)
abbrev rG (j : Fin 1024) : EReal := m' (c.tc.loc Cert.NormBwdRefIdeal.main_arg1) (ix2 0 j)
abbrev rD (r : Fin 4096) (j : Fin 1024) : EReal := m' (c.tc.loc Cert.NormBwdRefIdeal.main_arg2) (ix2 r j)
abbrev rE (r : Fin 4096) (j : Fin 1024) : EReal := m' (c.tc.loc Cert.NormBwdRefIdeal.main_arg3) (ix2 r j)

end reference

/-- The reference's run, its results read at an index. -/
theorem ref_run (m' : (ℓ : Loc Cert.NormBwdRefIdeal.nD Cert.NormBwdRefIdeal.τ Cert.NormBwdRefIdeal.sig) → Buf (Elt Ideal) ℓ)
    (ρ : Dev Cert.NormBwdRefIdeal.nD → PrngReg) :
    θ_run (Cert.NormBwdRefIdeal.defs (F := Ideal)) (onTc (τ := Cert.NormBwdRefIdeal.τ) (Cert.NormBwdRefIdeal.main (F := Ideal))) ⟨m', fun _ => 0, ρ⟩ fun r => ∀ c : Dev Cert.NormBwdRefIdeal.nD,
      r.2.mem (c.tc.loc Cert.NormBwdRefIdeal.main_v34) = (fun i => NormGrad.refDx (rX m' c) (rD m' c) (rG m' c) (rE m' c) (i 0) (i 1))
      ∧ r.2.mem (c.tc.loc Cert.NormBwdRefIdeal.main_v35) = (fun i => NormGrad.refDx (rX m' c) (rD m' c) (rG m' c) (rE m' c) (i 0) (i 1))
      ∧ r.2.mem (c.tc.loc Cert.NormBwdRefIdeal.main_v17) = (fun i => NormGrad.refDg (rX m' c) (rD m' c) (i 1))
      ∧ r.2.mem (c.tc.loc Cert.NormBwdRefIdeal.main_arg0) = m' (c.tc.loc Cert.NormBwdRefIdeal.main_arg0)
      ∧ r.2.mem (c.tc.loc Cert.NormBwdRefIdeal.main_arg1) = m' (c.tc.loc Cert.NormBwdRefIdeal.main_arg1)
      ∧ r.2.mem (c.tc.loc Cert.NormBwdRefIdeal.main_arg2) = m' (c.tc.loc Cert.NormBwdRefIdeal.main_arg2)
      ∧ r.2.mem (c.tc.loc Cert.NormBwdRefIdeal.main_arg3) = m' (c.tc.loc Cert.NormBwdRefIdeal.main_arg3) :=
  (θ_run Cert.NormBwdRefIdeal.defs _ _).mono (fun r h c =>
    ⟨(h c).1.trans (by funext i; idx_vars i; pointwise; rfl), (h c).2.1.trans (by funext i; idx_vars i; pointwise; rfl),
     (h c).2.2.1.trans (by funext i; idx_vars i; pointwise; rfl), (h c).2.2.2⟩)
    (Cert.NormBwdRefIdeal.Value.run m' ρ)

section agree

variable (m' : (ℓ : Loc Cert.NormBwdRefIdeal.nD Cert.NormBwdRefIdeal.τ Cert.NormBwdRefIdeal.sig) → Buf (Elt Ideal) ℓ) (c : Dev nD)
  (h : m' (c.tc.loc Cert.NormBwdRefIdeal.main_arg0) = m (c.tc.loc main_arg0) ∧ m' (c.tc.loc Cert.NormBwdRefIdeal.main_arg1) = m (c.tc.loc main_arg1)
    ∧ m' (c.tc.loc Cert.NormBwdRefIdeal.main_arg2) = m (c.tc.loc main_arg2) ∧ m' (c.tc.loc Cert.NormBwdRefIdeal.main_arg3) = m (c.tc.loc main_arg3))

include h in
theorem agree : rX m' c = mX m c ∧ rG m' c = mG m c ∧ rD m' c = mD m c ∧ rE m' c = mE m c :=
  ⟨funext fun r => funext fun j => congrFun h.1 _, funext fun j => congrFun h.2.1 _, funext fun r => funext fun j => congrFun h.2.2.1 _,
    funext fun r => funext fun j => congrFun h.2.2.2 _⟩

include h in
theorem rows (hp : Cert.Pre_NormBwdIdeal_finite_norm (hPre_finite_norm := Cert.Pre_finite_norm.Gen.facts) m) :
    NormGrad.refDx (rX m' c) (rD m' c) (rG m' c) (rE m' c) = NormGrad.gDx (mX m c) (mD m c) (mG m c) (mE m c) := by
  obtain ⟨X, D, G, hX, hG, hD⟩ := reals m hp c
  obtain ⟨e0, e1, e2, e3⟩ := agree m m' c h
  rw [e0, e1, e2, e3, hX, hG, hD]
  exact NormGrad.refDx_eq X D G _

end agree

/-- The kernel leaves the norm's derivatives with respect to its rows and its scale. -/
theorem algebraic : Cert.algebraic_NormBwdIdeal_NormBwdRefIdeal_pre_finite_norm
    (hNormBwdIdeal := Cert.NormBwdIdeal.Gen.facts) (hNormBwdRefIdeal := Cert.NormBwdRefIdeal.Gen.facts)
    (hPre_finite_norm := Cert.Pre_finite_norm.Gen.facts) := by
  pair_intro
  · run_from Cert.NormBwdIdeal.Value.run_blocks m g
  · run_from ref_run m' g'
    · rw [rows m m' c (hagree c) hpre]
      exact (final4 m c).symm
    · rw [rows m m' c (hagree c) hpre]
      exact (final5 m c).symm
    · rw [(agree m m' c (hagree c)).1, (agree m m' c (hagree c)).2.2.1, NormGrad.refDg_eq]
      exact (final6 m c).symm

/-- The reference terminates, keeps its arguments, and has no semaphore. -/
theorem frame_ref : Cert.quiescent_NormBwdRefIdeal (hNormBwdRefIdeal := Cert.NormBwdRefIdeal.Gen.facts) := fun m ρ _ =>
  (θ_run Cert.NormBwdRefIdeal.defs _ _).mono (fun r h => ⟨fun c => (h c).2.2.2, sem_eq_zero_of_no_sems (by decide) r.2⟩)
    (Cert.NormBwdRefIdeal.Value.run m ρ)

end Cert.NormBwdProof

end
-- ==== Proof.MemNormBwd.lean ====
/- Hand-written: the backward kernel of the memory's norm, the gradient of its scale. -/
module

public import proofs.«01_k».proof.Proof.Gen.MemNormBwdIdeal.Value
public import proofs.«01_k».proof.Proof.Gen.MemNormBwdRefIdeal.Run
public import proofs.«01_k».proof.Proof.NormGrad
public import proofs.«01_k».proof.Defs
public import Idealize.ShloMosaic.Lib.Tactic.CleanTypes

@[expose] public section

set_option maxRecDepth 16384

noncomputable section

namespace Cert.MemNormBwdProof

open Idealize.ShloMosaic Idealize.ShloMosaic.TcCoe Idealize.SL.Sem Cert.MemNormBwdIdeal Cert.MemNormBwdIdeal.Gen
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_3.index t = ![0, 0] :=
  (by decide +kernel : ∀ t : Fin grid0.N, _)

abbrev mX (c : Dev nD) (r : Fin 512) (j : Fin 1024) : EReal := m ((c : Thread nD τ).loc main_arg0) (ix2 r j)
abbrev mD (c : Dev nD) (r : Fin 512) (j : Fin 1024) : EReal := m ((c : Thread nD τ).loc main_arg2) (ix2 r j)

theorem pay2_at (v0 v1 : S256x1024.Idx → EReal) (old : S1x1024.Idx → EReal) (r : Fin 1) (j : Fin 1024) :
    k0_pay2 (F := Ideal) v0 v1 old (ix2 r j)
      = old (ix2 r j) + ∑ l : Fin 256, v1 (ix2 l j) * (v0 (ix2 l j) * NormGrad.inv (fun k => v0 (ix2 l k))) := by
  pointwise [k0_pay2]
  rfl

def row (t : Fin cfg0.N) (r : Fin 256) : Fin 512 :=
  ⟨t.val * 256 + (r : ℕ), by have ht : t.val < 2 := lt_of_lt_of_eq t.isLt N_0; omega⟩

theorem ld0 (c : Dev nD) (t : Fin cfg0.N) (r : Fin 256) (j : Fin 1024) : iblk m c 0 t (ix2 r j) = mX m c (row t r) j := by
  unfold row; blk_point [iblk, V, idx t]
theorem ld1 (c : Dev nD) (t : Fin cfg0.N) (r : Fin 256) (j : Fin 1024) : iblk m c 1 t (ix2 r j) = mD m c (row t r) j := by
  unfold row; blk_point [iblk, V, idx t]

/-- What one of the two blocks of rows adds. -/
def part (c : Dev nD) (t : Fin cfg0.N) (j : Fin 1024) : EReal :=
  ∑ l : Fin 256, mD m c (row t l) j * (mX m c (row t l) j * NormGrad.inv (mX m c (row t l)))

theorem add_at (c : Dev nD) (t : Fin cfg0.N) (old : S1x1024.Idx → EReal) (j : S1x1024.Idx) :
    k0_pay2 (F := Ideal) (iblk m c 0 t) (iblk m c 1 t) old j = old j + part m c t (j 1) := by
  idx_vars j
  rw [pay2_at]
  simp only [ld0, ld1]
  rfl

theorem final3 (c : Dev nD) : (dats m 0 c).arrAt 3 cfg0.N = fun i => NormGrad.gDg (mX m c) (mD m c) (i 1) := by
  refine (dats m 0 c).arrAt_eq_of_covers 3 _ (by decide +kernel) fun t hf y => ?_
  blk_simp
  rw [after0_3]
  refine (Pipeline.eq_sum_fin_of_reset_step_apply_of_flush (fun n h => outsAt0 m c n h) 2 (fun _ => 0) (fun t j => part m c t (j 1))
    (fun t h j => ?_) (fun t h j => ?_) t ((flush0_3 t).mp hf) _).trans ?_
  · rw [outsAt0_A m c t h]
    frame_out
    rw [add_at]
    exact congrArg (· + _) (by pointwise [k0_pay1])
  · rw [outsAt0_B m c t h]
    frame_out
    rw [add_at]
  have ht : t.val < 2 := lt_of_lt_of_eq t.isLt N_0
  idx_vars y
  refine (zero_add _).trans ?_
  unfold NormGrad.gDg part
  have e1 : ((View.whole main_v0).slice (win0_3.rect t)).emb (ix2 y0 y1) 1 = y1 := Fin.ext (by blk_simp [idx t])
  rw [e1]
  refine Fin.sum_mul_add_congr fun s r hl => ?_
  exact congrArg (fun R => mD m c R y1 * (mX m c R y1 * NormGrad.inv (mX m c R))) (Fin.ext (by unfold row; dsimp only; omega))

/-- The reference's run, its result read at an index. -/
theorem ref_run (m' : (ℓ : Loc Cert.MemNormBwdRefIdeal.nD Cert.MemNormBwdRefIdeal.τ Cert.MemNormBwdRefIdeal.sig) → Buf (Elt Ideal) ℓ)
    (ρ : Dev Cert.MemNormBwdRefIdeal.nD → PrngReg) :
    θ_run (Cert.MemNormBwdRefIdeal.defs (F := Ideal)) (onTc (τ := Cert.MemNormBwdRefIdeal.τ) (Cert.MemNormBwdRefIdeal.main (F := Ideal))) ⟨m', fun _ => 0, ρ⟩
      fun r => ∀ c : Dev Cert.MemNormBwdRefIdeal.nD,
      r.2.mem (c.tc.loc Cert.MemNormBwdRefIdeal.main_v15)
        = (fun i => NormGrad.refDg (fun (r : Fin 512) l => m' (c.tc.loc Cert.MemNormBwdRefIdeal.main_arg0) (ix2 r l))
            (fun r l => m' (c.tc.loc Cert.MemNormBwdRefIdeal.main_arg2) (ix2 r l)) (i 1))
      ∧ r.2.mem (c.tc.loc Cert.MemNormBwdRefIdeal.main_arg0) = m' (c.tc.loc Cert.MemNormBwdRefIdeal.main_arg0)
      ∧ r.2.mem (c.tc.loc Cert.MemNormBwdRefIdeal.main_arg1) = m' (c.tc.loc Cert.MemNormBwdRefIdeal.main_arg1)
      ∧ r.2.mem (c.tc.loc Cert.MemNormBwdRefIdeal.main_arg2) = m' (c.tc.loc Cert.MemNormBwdRefIdeal.main_arg2) :=
  (θ_run Cert.MemNormBwdRefIdeal.defs _ _).mono (fun r h c => ⟨(h c).1.trans (by funext i; idx_vars i; pointwise; rfl), (h c).2⟩)
    (Cert.MemNormBwdRefIdeal.Value.run m' ρ)

/-- The kernel leaves the derivative of the memory's norm with respect to its scale. -/
theorem algebraic : Cert.algebraic_MemNormBwdIdeal_MemNormBwdRefIdeal
    (hMemNormBwdIdeal := Cert.MemNormBwdIdeal.Gen.facts) (hMemNormBwdRefIdeal := Cert.MemNormBwdRefIdeal.Gen.facts) := by
  pair_intro
  · run_from Cert.MemNormBwdIdeal.Value.run_blocks m g
  · run_from ref_run m' g'
    rw [NormGrad.refDg_eq]
    exact (final3 m c).symm

/-- The reference terminates, keeps its arguments, and has no semaphore. -/
theorem frame_ref : Cert.quiescent_MemNormBwdRefIdeal (hMemNormBwdRefIdeal := Cert.MemNormBwdRefIdeal.Gen.facts) := fun m ρ _ =>
  (θ_run Cert.MemNormBwdRefIdeal.defs _ _).mono (fun r h => ⟨fun c => (h c).2, sem_eq_zero_of_no_sems (by decide) r.2⟩)
    (Cert.MemNormBwdRefIdeal.Value.run m ρ)

end Cert.MemNormBwdProof

end
-- ==== Proof.UpDx.lean ====
/- Hand-written: the backward product of the feed-forward block with its norm's derivative folded in. -/
module

public import proofs.«01_k».proof.Proof.Gen.UpDxIdeal.Value
public import proofs.«01_k».proof.Proof.Gen.UpDxRefIdeal.Run
public import proofs.«01_k».proof.Proof.Gen.Pre_finite_up
public import proofs.«01_k».proof.Proof.NormGrad
public import proofs.«01_k».proof.Defs
public import Idealize.ShloMosaic.Lib.Tactic.CleanTypes

@[expose] public section

set_option maxRecDepth 16384

noncomputable section

namespace Cert.UpDxProof

open Idealize.ShloMosaic Idealize.ShloMosaic.TcCoe Idealize.SL.Sem Cert.UpDxIdeal Cert.UpDxIdeal.Gen
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0] ∧ win0_7.index t = ![0, 0] :=
  (by decide +kernel : ∀ t : Fin grid0.N, _)

theorem pay7_at (v0 : S512x5632.Idx → EReal) (v1 : S5632x1024.Idx → EReal) (v3 v4 : S512x1024.Idx → EReal) (v5 : S1x1024.Idx → EReal) (r : Fin 512) (j : Fin 1024) :
    k0_pay7 (F := Ideal) v0 v1 v3 v4 v5 (ix2 r j)
      = NormGrad.dx (fun l => v3 (ix2 r l)) (fun l => (∑ k, v0 (ix2 r k) * v1 (ix2 k l)) * v5 (ix2 0 l)) j + v4 (ix2 r j) := by
  pointwise [k0_pay7, k0_pay5, k0_pay4, k0_pay3]
  rfl

theorem pay6_at (v0 : S512x5632.Idx → EReal) (v1 : S5632x1024.Idx → EReal) (v3 : S512x1024.Idx → EReal) (r : Fin 1) (j : Fin 1024) :
    k0_pay6 (F := Ideal) v0 v1 v3 (ix2 r j)
      = ∑ l : Fin 512, (∑ k, v0 (ix2 l k) * v1 (ix2 k j)) * (v3 (ix2 l j) * NormGrad.inv (fun k => v3 (ix2 l k))) := by
  pointwise [k0_pay6, k0_pay5, k0_pay4, k0_pay3]
  rfl

theorem pay2_at (v old : S1x1024.Idx → EReal) (x : S1x1024.Idx) : k0_pay2 (F := Ideal) v old x = old x + v x := by
  pointwise [k0_pay2]

abbrev mA (c : Dev nD) (r : Fin 4096) (k : Fin 5632) : EReal := m ((c : Thread nD τ).loc main_arg0) (ix2 r k)
abbrev mW (c : Dev nD) (k : Fin 5632) (j : Fin 1024) : EReal := m ((c : Thread nD τ).loc main_arg1) (ix2 k j)
abbrev mD (c : Dev nD) (r : Fin 4096) (j : Fin 1024) : EReal := ∑ k, mA m c r k * mW m c k j
abbrev mX (c : Dev nD) (r : Fin 4096) (j : Fin 1024) : EReal := m ((c : Thread nD τ).loc main_arg2) (ix2 r j)
abbrev mG (c : Dev nD) (j : Fin 1024) : EReal := m ((c : Thread nD τ).loc main_arg3) (ix2 0 j)
abbrev mE (c : Dev nD) (r : Fin 4096) (j : Fin 1024) : EReal := m ((c : Thread nD τ).loc main_arg4) (ix2 r j)

/-- A row of the array, from the grid point and the row of its block. -/
def row (t : Fin cfg0.N) (r : Fin 512) : Fin 4096 :=
  ⟨t.val * 512 + (r : ℕ), by have ht : t.val < 8 := lt_of_lt_of_eq t.isLt N_0; omega⟩

theorem ld0 (c : Dev nD) (t : Fin cfg0.N) (r : Fin 512) (k : Fin 5632) : iblk m c 0 t (ix2 r k) = mA m c (row t r) k := by
  unfold row; blk_point [iblk, V, idx t]
theorem ld1 (c : Dev nD) (t : Fin cfg0.N) (k : Fin 5632) (j : Fin 1024) : iblk m c 1 t (ix2 k j) = mW m c k j := by
  blk_point [iblk, V, idx t]
theorem ld2 (c : Dev nD) (t : Fin cfg0.N) (r : Fin 512) (j : Fin 1024) : iblk m c 2 t (ix2 r j) = mX m c (row t r) j := by
  unfold row; blk_point [iblk, V, idx t]
theorem ld3 (c : Dev nD) (t : Fin cfg0.N) (r : Fin 512) (j : Fin 1024) : iblk m c 3 t (ix2 r j) = mE m c (row t r) j := by
  unfold row; blk_point [iblk, V, idx t]
theorem ld4 (c : Dev nD) (t : Fin cfg0.N) (j : Fin 1024) : iblk m c 4 t (ix2 0 j) = mG m c j := by
  blk_point [iblk, V, idx t]

/-- What a grid point writes of the row gradient. -/
theorem dx_at (c : Dev nD) (t : Fin cfg0.N) (r : Fin 512) (j : Fin 1024) :
    k0_pay7 (F := Ideal) (iblk m c 0 t) (iblk m c 1 t) (iblk m c 2 t) (iblk m c 3 t) (iblk m c 4 t) (ix2 r j)
      = NormGrad.gDx (mX m c) (mD m c) (mG m c) (mE m c) (row t r) j := by
  rw [pay7_at, ld3]
  simp only [ld0, ld1, ld2, ld4]
  rfl

/-- What a grid point adds to the scale's gradient. -/
def part (c : Dev nD) (t : Fin cfg0.N) (j : Fin 1024) : EReal :=
  ∑ l : Fin 512, mD m c (row t l) j * (mX m c (row t l) j * NormGrad.inv (mX m c (row t l)))

theorem dg_at (c : Dev nD) (t : Fin cfg0.N) (r : Fin 1) (j : Fin 1024) :
    k0_pay6 (F := Ideal) (iblk m c 0 t) (iblk m c 1 t) (iblk m c 2 t) (ix2 r j) = part m c t j := by
  rw [pay6_at]
  simp only [ld0, ld1, ld2]
  rfl

/-- A block's place in the arrays of rows. -/
theorem emb5 (t : Fin cfg0.N) (r : Fin 512) (j : Fin 1024) :
    ((View.whole main_v0_0).slice (win0_5.rect t)).emb (ix2 r j) 0 = row t r ∧ ((View.whole main_v0_0).slice (win0_5.rect t)).emb (ix2 r j) 1 = j := by
  constructor <;> refine Fin.ext ?_ <;> blk_simp [idx t] <;> rfl

theorem emb6 (t : Fin cfg0.N) (r : Fin 512) (j : Fin 1024) :
    ((View.whole main_v0_1).slice (win0_6.rect t)).emb (ix2 r j) 0 = row t r ∧ ((View.whole main_v0_1).slice (win0_6.rect t)).emb (ix2 r j) 1 = j := by
  constructor <;> refine Fin.ext ?_ <;> blk_simp [idx t] <;> rfl

theorem final5 (c : Dev nD) : (dats m 0 c).arrAt 5 cfg0.N
    = fun i => NormGrad.gDx (mX m c) (mD m c) (mG m c) (mE m c) (i 0) (i 1) := by
  refine (dats m 0 c).arrAt_eq_of_covers 5 _ (by decide +kernel) fun t _ y => ?_
  blk_simp
  rw [after0_5]
  idx_vars y
  refine Eq.trans ?_ (congrArg₂ (NormGrad.gDx (mX m c) (mD m c) (mG m c) (mE m c)) (emb5 t y0 y1).1 (emb5 t y0 y1).2).symm
  by_cases h : t.val % 8 = 0
  · rw [outsAt0_A m c t h]
    frame_out
    exact dx_at m c t y0 y1
  · rw [outsAt0_B m c t h]
    frame_out
    exact dx_at m c t y0 y1

theorem final6 (c : Dev nD) : (dats m 0 c).arrAt 6 cfg0.N
    = fun i => NormGrad.gDx (mX m c) (mD m c) (mG m c) (mE m c) (i 0) (i 1) := by
  refine (dats m 0 c).arrAt_eq_of_covers 6 _ (by decide +kernel) fun t _ y => ?_
  blk_simp
  rw [after0_6]
  idx_vars y
  refine Eq.trans ?_ (congrArg₂ (NormGrad.gDx (mX m c) (mD m c) (mG m c) (mE m c)) (emb6 t y0 y1).1 (emb6 t y0 y1).2).symm
  by_cases h : t.val % 8 = 0
  · rw [outsAt0_A m c t h]
    frame_out
    exact dx_at m c t y0 y1
  · rw [outsAt0_B m c t h]
    frame_out
    exact dx_at m c t y0 y1

theorem stepA7 (c : Dev nD) (t : Fin cfg0.N) (h : t.val % 8 = 0) (j : S1x1024.Idx) :
    (outsAt0 m c t.val t.isLt).2.2 j = 0 + part m c t (j 1) := by
  rw [outsAt0_A m c t h]
  frame_out
  idx_vars j
  rw [pay2_at, dg_at]
  exact congrArg (· + _) (by pointwise [k0_pay1])

theorem stepB7 (c : Dev nD) (t : Fin cfg0.N) (h : ¬t.val % 8 = 0) (j : S1x1024.Idx) :
    (outsAt0 m c t.val t.isLt).2.2 j = (outsAt0 m c (t.val - 1) (by omega)).2.2 j + part m c t (j 1) := by
  rw [outsAt0_B m c t h]
  frame_out
  idx_vars j
  rw [pay2_at, dg_at]

theorem final7 (c : Dev nD) : (dats m 0 c).arrAt 7 cfg0.N = fun i => NormGrad.gDg (mX m c) (mD m c) (i 1) := by
  refine (dats m 0 c).arrAt_eq_of_covers 7 _ (by decide +kernel) fun t hf y => ?_
  blk_simp
  rw [after0_7]
  refine (Pipeline.eq_sum_fin_of_reset_step_apply_of_flush (fun n h => (outsAt0 m c n h).2.2) 8 (fun _ => 0) (fun t j => part m c t (j 1))
    (fun t h j => stepA7 m c t h j) (fun t h j => stepB7 m c t h j) t ((flush0_7 t).mp hf) _).trans ?_
  have ht : t.val < 8 := lt_of_lt_of_eq t.isLt N_0
  idx_vars y
  refine (zero_add _).trans ?_
  unfold NormGrad.gDg part
  have e1 : ((View.whole main_v0_2).slice (win0_7.rect t)).emb (ix2 y0 y1) 1 = y1 := Fin.ext (by blk_simp [idx t])
  rw [e1]
  refine Fin.sum_mul_add_congr fun s r hl => ?_
  exact congrArg (fun R => mD m c R y1 * (mX m c R y1 * NormGrad.inv (mX m c R))) (Fin.ext (by unfold row; dsimp only; omega))

theorem reals (h : Cert.Pre_UpDxIdeal_finite_up (hPre_finite_up := Cert.Pre_finite_up.Gen.facts) m) (c : Dev nD) :
    ∃ (X D : Fin 4096 → Fin 1024 → ℝ) (G : Fin 1024 → ℝ), mX m c = (fun r l => (X r l : EReal)) ∧ mG m c = (fun l => (G l : EReal))
      ∧ mD m c = (fun r l => (D r l : EReal)) := by
  obtain ⟨h0, h1, h2, h3⟩ := h c
  obtain ⟨A, hA⟩ := Scalars.real_array _ _ (fun _ => Scalars.top_bf16) h0
  obtain ⟨W, hW⟩ := Scalars.real_array _ _ (fun _ => Scalars.top_bf16) h1
  obtain ⟨X, hX⟩ := Scalars.real_array _ _ (fun _ => Scalars.top_f32) h2
  obtain ⟨G, hG⟩ := Scalars.real_array _ _ (fun _ => Scalars.top_f32) h3
  refine ⟨fun r l => X (ix2 r l), fun r j => ∑ k, A (ix2 r k) * W (ix2 k j), fun l => G (ix2 0 l), funext fun r => funext fun l => congrFun hX _,
    funext fun l => congrFun hG _, Eq.trans ?_ (NormGrad.real_product (fun r k => A (ix2 r k)) (fun k j => W (ix2 k j)))⟩
  exact funext fun r => funext fun j => Finset.sum_congr rfl fun k _ => congrArg₂ (fun a b : EReal => a * b) (congrFun hA _) (congrFun hW _)

section reference

variable (m' : (ℓ : Loc Cert.UpDxRefIdeal.nD Cert.UpDxRefIdeal.τ Cert.UpDxRefIdeal.sig) → Buf (Elt Ideal) ℓ) (c : Dev Cert.UpDxRefIdeal.nD)

abbrev rA (r : Fin 4096) (k : Fin 5632) : EReal := m' (c.tc.loc Cert.UpDxRefIdeal.main_arg0) (ix2 r k)
abbrev rW (k : Fin 5632) (j : Fin 1024) : EReal := m' (c.tc.loc Cert.UpDxRefIdeal.main_arg1) (ix2 k j)
abbrev rD (r : Fin 4096) (j : Fin 1024) : EReal := ∑ k, rA m' c r k * rW m' c k j
abbrev rX (r : Fin 4096) (j : Fin 1024) : EReal := m' (c.tc.loc Cert.UpDxRefIdeal.main_arg2) (ix2 r j)
abbrev rG (j : Fin 1024) : EReal := m' (c.tc.loc Cert.UpDxRefIdeal.main_arg3) (ix2 0 j)
abbrev rE (r : Fin 4096) (j : Fin 1024) : EReal := m' (c.tc.loc Cert.UpDxRefIdeal.main_arg4) (ix2 r j)

end reference

/-- The reference's run, its results read at an index. -/
theorem ref_run (m' : (ℓ : Loc Cert.UpDxRefIdeal.nD Cert.UpDxRefIdeal.τ Cert.UpDxRefIdeal.sig) → Buf (Elt Ideal) ℓ)
    (ρ : Dev Cert.UpDxRefIdeal.nD → PrngReg) :
    θ_run (Cert.UpDxRefIdeal.defs (F := Ideal)) (onTc (τ := Cert.UpDxRefIdeal.τ) (Cert.UpDxRefIdeal.main (F := Ideal))) ⟨m', fun _ => 0, ρ⟩ fun r => ∀ c : Dev Cert.UpDxRefIdeal.nD,
      r.2.mem (c.tc.loc Cert.UpDxRefIdeal.main_v39) = (fun i => NormGrad.refDx (rX m' c) (rD m' c) (rG m' c) (rE m' c) (i 0) (i 1))
      ∧ r.2.mem (c.tc.loc Cert.UpDxRefIdeal.main_v40) = (fun i => NormGrad.refDx (rX m' c) (rD m' c) (rG m' c) (rE m' c) (i 0) (i 1))
      ∧ r.2.mem (c.tc.loc Cert.UpDxRefIdeal.main_v22) = (fun i => NormGrad.refDg (rX m' c) (rD m' c) (i 1))
      ∧ r.2.mem (c.tc.loc Cert.UpDxRefIdeal.main_arg0) = m' (c.tc.loc Cert.UpDxRefIdeal.main_arg0)
      ∧ r.2.mem (c.tc.loc Cert.UpDxRefIdeal.main_arg1) = m' (c.tc.loc Cert.UpDxRefIdeal.main_arg1)
      ∧ r.2.mem (c.tc.loc Cert.UpDxRefIdeal.main_arg2) = m' (c.tc.loc Cert.UpDxRefIdeal.main_arg2)
      ∧ r.2.mem (c.tc.loc Cert.UpDxRefIdeal.main_arg3) = m' (c.tc.loc Cert.UpDxRefIdeal.main_arg3)
      ∧ r.2.mem (c.tc.loc Cert.UpDxRefIdeal.main_arg4) = m' (c.tc.loc Cert.UpDxRefIdeal.main_arg4) :=
  (θ_run Cert.UpDxRefIdeal.defs _ _).mono (fun r h c =>
    ⟨(h c).1.trans (by unfold Cert.UpDxRefIdeal.Value.res_main_v39; funext i; idx_vars i; pointwise; rfl), (h c).2.1.trans (by unfold Cert.UpDxRefIdeal.Value.res_main_v40; funext i; idx_vars i; pointwise; rfl),
     (h c).2.2.1.trans (by funext i; idx_vars i; pointwise; rfl), (h c).2.2.2⟩)
    (Cert.UpDxRefIdeal.Value.run m' ρ)

section agree

variable (m' : (ℓ : Loc Cert.UpDxRefIdeal.nD Cert.UpDxRefIdeal.τ Cert.UpDxRefIdeal.sig) → Buf (Elt Ideal) ℓ) (c : Dev nD)
  (h : m' (c.tc.loc Cert.UpDxRefIdeal.main_arg0) = m (c.tc.loc main_arg0) ∧ m' (c.tc.loc Cert.UpDxRefIdeal.main_arg1) = m (c.tc.loc main_arg1)
    ∧ m' (c.tc.loc Cert.UpDxRefIdeal.main_arg2) = m (c.tc.loc main_arg2) ∧ m' (c.tc.loc Cert.UpDxRefIdeal.main_arg3) = m (c.tc.loc main_arg3)
    ∧ m' (c.tc.loc Cert.UpDxRefIdeal.main_arg4) = m (c.tc.loc main_arg4))

include h in
theorem agree : rX m' c = mX m c ∧ rG m' c = mG m c ∧ rD m' c = mD m c ∧ rE m' c = mE m c :=
  ⟨funext fun r => funext fun j => congrFun h.2.2.1 _, funext fun j => congrFun h.2.2.2.1 _,
    funext fun r => funext fun j => Finset.sum_congr rfl fun k _ => congrArg₂ (fun a b : EReal => a * b) (congrFun h.1 _) (congrFun h.2.1 _),
    funext fun r => funext fun j => congrFun h.2.2.2.2 _⟩

include h in
theorem rows (hp : Cert.Pre_UpDxIdeal_finite_up (hPre_finite_up := Cert.Pre_finite_up.Gen.facts) m) :
    NormGrad.refDx (rX m' c) (rD m' c) (rG m' c) (rE m' c) = NormGrad.gDx (mX m c) (mD m c) (mG m c) (mE m c) := by
  obtain ⟨X, D, G, hX, hG, hD⟩ := reals m hp c
  obtain ⟨e0, e1, e2, e3⟩ := agree m m' c h
  rw [e0, e1, e2, e3, hX, hG, hD]
  exact NormGrad.refDx_eq X D G _

end agree

/-- The kernel leaves the derivatives of the norm before the up product, with respect to its rows and its scale. -/
theorem algebraic : Cert.algebraic_UpDxIdeal_UpDxRefIdeal_pre_finite_up
    (hUpDxIdeal := Cert.UpDxIdeal.Gen.facts) (hUpDxRefIdeal := Cert.UpDxRefIdeal.Gen.facts)
    (hPre_finite_up := Cert.Pre_finite_up.Gen.facts) := by
  pair_intro
  · run_from Cert.UpDxIdeal.Value.run_blocks m g
  · run_from ref_run m' g'
    · rw [rows m m' c (hagree c) hpre]
      exact (final5 m c).symm
    · rw [rows m m' c (hagree c) hpre]
      exact (final6 m c).symm
    · rw [(agree m m' c (hagree c)).1, (agree m m' c (hagree c)).2.2.1, NormGrad.refDg_eq]
      exact (final7 m c).symm

/-- The reference terminates, keeps its arguments, and has no semaphore. -/
theorem frame_ref : Cert.quiescent_UpDxRefIdeal (hUpDxRefIdeal := Cert.UpDxRefIdeal.Gen.facts) := fun m ρ _ =>
  (θ_run Cert.UpDxRefIdeal.defs _ _).mono (fun r h => ⟨fun c => (h c).2.2.2, sem_eq_zero_of_no_sems (by decide) r.2⟩)
    (Cert.UpDxRefIdeal.Value.run m ρ)

end Cert.UpDxProof

end
-- ==== Proof.InDx.lean ====
/- Hand-written: the backward product of the mixer's input with its norm's derivative folded in. -/
module

public import proofs.«01_k».proof.Proof.Gen.InDxIdeal.Value
public import proofs.«01_k».proof.Proof.Gen.InDxRefIdeal.Run
public import proofs.«01_k».proof.Proof.Gen.Pre_finite_in
public import proofs.«01_k».proof.Proof.NormGrad
public import proofs.«01_k».proof.Defs
public import Idealize.ShloMosaic.Lib.Tactic.CleanTypes

@[expose] public section

set_option maxRecDepth 16384

noncomputable section

namespace Cert.InDxProof

open Idealize.ShloMosaic Idealize.ShloMosaic.TcCoe Idealize.SL.Sem Cert.InDxIdeal Cert.InDxIdeal.Gen
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0] ∧ win0_7.index t = ![0, 0] :=
  (by decide +kernel : ∀ t : Fin grid0.N, _)

theorem pay7_at (v0 : S512x3072.Idx → EReal) (v1 : S1024x3072.Idx → EReal) (v3 v4 : S512x1024.Idx → EReal) (v5 : S1x1024.Idx → EReal) (r : Fin 512) (j : Fin 1024) :
    k0_pay7 (F := Ideal) v0 v1 v3 v4 v5 (ix2 r j)
      = NormGrad.dx (fun l => v3 (ix2 r l)) (fun l => (∑ k, v0 (ix2 r k) * v1 (ix2 l k)) * v5 (ix2 0 l)) j + v4 (ix2 r j) := by
  pointwise [k0_pay7, k0_pay5, k0_pay4, k0_pay3]
  rfl

theorem pay6_at (v0 : S512x3072.Idx → EReal) (v1 : S1024x3072.Idx → EReal) (v3 : S512x1024.Idx → EReal) (r : Fin 1) (j : Fin 1024) :
    k0_pay6 (F := Ideal) v0 v1 v3 (ix2 r j)
      = ∑ l : Fin 512, (∑ k, v0 (ix2 l k) * v1 (ix2 j k)) * (v3 (ix2 l j) * NormGrad.inv (fun k => v3 (ix2 l k))) := by
  pointwise [k0_pay6, k0_pay5, k0_pay4, k0_pay3]
  rfl

theorem pay2_at (v old : S1x1024.Idx → EReal) (x : S1x1024.Idx) : k0_pay2 (F := Ideal) v old x = old x + v x := by
  pointwise [k0_pay2]

abbrev mA (c : Dev nD) (r : Fin 4096) (k : Fin 3072) : EReal := m ((c : Thread nD τ).loc main_arg0) (ix2 r k)
abbrev mW (c : Dev nD) (k : Fin 3072) (j : Fin 1024) : EReal := m ((c : Thread nD τ).loc main_arg1) (ix2 j k)
abbrev mD (c : Dev nD) (r : Fin 4096) (j : Fin 1024) : EReal := ∑ k, mA m c r k * mW m c k j
abbrev mX (c : Dev nD) (r : Fin 4096) (j : Fin 1024) : EReal := m ((c : Thread nD τ).loc main_arg2) (ix2 r j)
abbrev mG (c : Dev nD) (j : Fin 1024) : EReal := m ((c : Thread nD τ).loc main_arg3) (ix2 0 j)
abbrev mE (c : Dev nD) (r : Fin 4096) (j : Fin 1024) : EReal := m ((c : Thread nD τ).loc main_arg4) (ix2 r j)

/-- A row of the array, from the grid point and the row of its block. -/
def row (t : Fin cfg0.N) (r : Fin 512) : Fin 4096 :=
  ⟨t.val * 512 + (r : ℕ), by have ht : t.val < 8 := lt_of_lt_of_eq t.isLt N_0; omega⟩

theorem ld0 (c : Dev nD) (t : Fin cfg0.N) (r : Fin 512) (k : Fin 3072) : iblk m c 0 t (ix2 r k) = mA m c (row t r) k := by
  unfold row; blk_point [iblk, V, idx t]
theorem ld1 (c : Dev nD) (t : Fin cfg0.N) (k : Fin 3072) (j : Fin 1024) : iblk m c 1 t (ix2 j k) = mW m c k j := by
  blk_point [iblk, V, idx t]
theorem ld2 (c : Dev nD) (t : Fin cfg0.N) (r : Fin 512) (j : Fin 1024) : iblk m c 2 t (ix2 r j) = mX m c (row t r) j := by
  unfold row; blk_point [iblk, V, idx t]
theorem ld3 (c : Dev nD) (t : Fin cfg0.N) (r : Fin 512) (j : Fin 1024) : iblk m c 3 t (ix2 r j) = mE m c (row t r) j := by
  unfold row; blk_point [iblk, V, idx t]
theorem ld4 (c : Dev nD) (t : Fin cfg0.N) (j : Fin 1024) : iblk m c 4 t (ix2 0 j) = mG m c j := by
  blk_point [iblk, V, idx t]

/-- What a grid point writes of the row gradient. -/
theorem dx_at (c : Dev nD) (t : Fin cfg0.N) (r : Fin 512) (j : Fin 1024) :
    k0_pay7 (F := Ideal) (iblk m c 0 t) (iblk m c 1 t) (iblk m c 2 t) (iblk m c 3 t) (iblk m c 4 t) (ix2 r j)
      = NormGrad.gDx (mX m c) (mD m c) (mG m c) (mE m c) (row t r) j := by
  rw [pay7_at, ld3]
  simp only [ld0, ld1, ld2, ld4]
  rfl

/-- What a grid point adds to the scale's gradient. -/
def part (c : Dev nD) (t : Fin cfg0.N) (j : Fin 1024) : EReal :=
  ∑ l : Fin 512, mD m c (row t l) j * (mX m c (row t l) j * NormGrad.inv (mX m c (row t l)))

theorem dg_at (c : Dev nD) (t : Fin cfg0.N) (r : Fin 1) (j : Fin 1024) :
    k0_pay6 (F := Ideal) (iblk m c 0 t) (iblk m c 1 t) (iblk m c 2 t) (ix2 r j) = part m c t j := by
  rw [pay6_at]
  simp only [ld0, ld1, ld2]
  rfl

/-- A block's place in the arrays of rows. -/
theorem emb5 (t : Fin cfg0.N) (r : Fin 512) (j : Fin 1024) :
    ((View.whole main_v0_0).slice (win0_5.rect t)).emb (ix2 r j) 0 = row t r ∧ ((View.whole main_v0_0).slice (win0_5.rect t)).emb (ix2 r j) 1 = j := by
  constructor <;> refine Fin.ext ?_ <;> blk_simp [idx t] <;> rfl

theorem emb6 (t : Fin cfg0.N) (r : Fin 512) (j : Fin 1024) :
    ((View.whole main_v0_1).slice (win0_6.rect t)).emb (ix2 r j) 0 = row t r ∧ ((View.whole main_v0_1).slice (win0_6.rect t)).emb (ix2 r j) 1 = j := by
  constructor <;> refine Fin.ext ?_ <;> blk_simp [idx t] <;> rfl

theorem final5 (c : Dev nD) : (dats m 0 c).arrAt 5 cfg0.N
    = fun i => NormGrad.gDx (mX m c) (mD m c) (mG m c) (mE m c) (i 0) (i 1) := by
  refine (dats m 0 c).arrAt_eq_of_covers 5 _ (by decide +kernel) fun t _ y => ?_
  blk_simp
  rw [after0_5]
  idx_vars y
  refine Eq.trans ?_ (congrArg₂ (NormGrad.gDx (mX m c) (mD m c) (mG m c) (mE m c)) (emb5 t y0 y1).1 (emb5 t y0 y1).2).symm
  by_cases h : t.val % 8 = 0
  · rw [outsAt0_A m c t h]
    frame_out
    exact dx_at m c t y0 y1
  · rw [outsAt0_B m c t h]
    frame_out
    exact dx_at m c t y0 y1

theorem final6 (c : Dev nD) : (dats m 0 c).arrAt 6 cfg0.N
    = fun i => NormGrad.gDx (mX m c) (mD m c) (mG m c) (mE m c) (i 0) (i 1) := by
  refine (dats m 0 c).arrAt_eq_of_covers 6 _ (by decide +kernel) fun t _ y => ?_
  blk_simp
  rw [after0_6]
  idx_vars y
  refine Eq.trans ?_ (congrArg₂ (NormGrad.gDx (mX m c) (mD m c) (mG m c) (mE m c)) (emb6 t y0 y1).1 (emb6 t y0 y1).2).symm
  by_cases h : t.val % 8 = 0
  · rw [outsAt0_A m c t h]
    frame_out
    exact dx_at m c t y0 y1
  · rw [outsAt0_B m c t h]
    frame_out
    exact dx_at m c t y0 y1

theorem stepA7 (c : Dev nD) (t : Fin cfg0.N) (h : t.val % 8 = 0) (j : S1x1024.Idx) :
    (outsAt0 m c t.val t.isLt).2.2 j = 0 + part m c t (j 1) := by
  rw [outsAt0_A m c t h]
  frame_out
  idx_vars j
  rw [pay2_at, dg_at]
  exact congrArg (· + _) (by pointwise [k0_pay1])

theorem stepB7 (c : Dev nD) (t : Fin cfg0.N) (h : ¬t.val % 8 = 0) (j : S1x1024.Idx) :
    (outsAt0 m c t.val t.isLt).2.2 j = (outsAt0 m c (t.val - 1) (by omega)).2.2 j + part m c t (j 1) := by
  rw [outsAt0_B m c t h]
  frame_out
  idx_vars j
  rw [pay2_at, dg_at]

theorem final7 (c : Dev nD) : (dats m 0 c).arrAt 7 cfg0.N = fun i => NormGrad.gDg (mX m c) (mD m c) (i 1) := by
  refine (dats m 0 c).arrAt_eq_of_covers 7 _ (by decide +kernel) fun t hf y => ?_
  blk_simp
  rw [after0_7]
  refine (Pipeline.eq_sum_fin_of_reset_step_apply_of_flush (fun n h => (outsAt0 m c n h).2.2) 8 (fun _ => 0) (fun t j => part m c t (j 1))
    (fun t h j => stepA7 m c t h j) (fun t h j => stepB7 m c t h j) t ((flush0_7 t).mp hf) _).trans ?_
  have ht : t.val < 8 := lt_of_lt_of_eq t.isLt N_0
  idx_vars y
  refine (zero_add _).trans ?_
  unfold NormGrad.gDg part
  have e1 : ((View.whole main_v0_2).slice (win0_7.rect t)).emb (ix2 y0 y1) 1 = y1 := Fin.ext (by blk_simp [idx t])
  rw [e1]
  refine Fin.sum_mul_add_congr fun s r hl => ?_
  exact congrArg (fun R => mD m c R y1 * (mX m c R y1 * NormGrad.inv (mX m c R))) (Fin.ext (by unfold row; dsimp only; omega))

theorem reals (h : Cert.Pre_InDxIdeal_finite_in (hPre_finite_in := Cert.Pre_finite_in.Gen.facts) m) (c : Dev nD) :
    ∃ (X D : Fin 4096 → Fin 1024 → ℝ) (G : Fin 1024 → ℝ), mX m c = (fun r l => (X r l : EReal)) ∧ mG m c = (fun l => (G l : EReal))
      ∧ mD m c = (fun r l => (D r l : EReal)) := by
  obtain ⟨h0, h1, h2, h3⟩ := h c
  obtain ⟨A, hA⟩ := Scalars.real_array _ _ (fun _ => Scalars.top_bf16) h0
  obtain ⟨W, hW⟩ := Scalars.real_array _ _ (fun _ => Scalars.top_bf16) h1
  obtain ⟨X, hX⟩ := Scalars.real_array _ _ (fun _ => Scalars.top_f32) h2
  obtain ⟨G, hG⟩ := Scalars.real_array _ _ (fun _ => Scalars.top_f32) h3
  refine ⟨fun r l => X (ix2 r l), fun r j => ∑ k, A (ix2 r k) * W (ix2 j k), fun l => G (ix2 0 l), funext fun r => funext fun l => congrFun hX _,
    funext fun l => congrFun hG _, Eq.trans ?_ (NormGrad.real_product (fun r k => A (ix2 r k)) (fun k j => W (ix2 j k)))⟩
  exact funext fun r => funext fun j => Finset.sum_congr rfl fun k _ => congrArg₂ (fun a b : EReal => a * b) (congrFun hA _) (congrFun hW _)

section reference

variable (m' : (ℓ : Loc Cert.InDxRefIdeal.nD Cert.InDxRefIdeal.τ Cert.InDxRefIdeal.sig) → Buf (Elt Ideal) ℓ) (c : Dev Cert.InDxRefIdeal.nD)

abbrev rA (r : Fin 4096) (k : Fin 3072) : EReal := m' (c.tc.loc Cert.InDxRefIdeal.main_arg0) (ix2 r k)
abbrev rW (k : Fin 3072) (j : Fin 1024) : EReal := m' (c.tc.loc Cert.InDxRefIdeal.main_arg1) (ix2 j k)
abbrev rD (r : Fin 4096) (j : Fin 1024) : EReal := ∑ k, rA m' c r k * rW m' c k j
abbrev rX (r : Fin 4096) (j : Fin 1024) : EReal := m' (c.tc.loc Cert.InDxRefIdeal.main_arg2) (ix2 r j)
abbrev rG (j : Fin 1024) : EReal := m' (c.tc.loc Cert.InDxRefIdeal.main_arg3) (ix2 0 j)
abbrev rE (r : Fin 4096) (j : Fin 1024) : EReal := m' (c.tc.loc Cert.InDxRefIdeal.main_arg4) (ix2 r j)

end reference

/-- The reference's run, its results read at an index. -/
theorem ref_run (m' : (ℓ : Loc Cert.InDxRefIdeal.nD Cert.InDxRefIdeal.τ Cert.InDxRefIdeal.sig) → Buf (Elt Ideal) ℓ)
    (ρ : Dev Cert.InDxRefIdeal.nD → PrngReg) :
    θ_run (Cert.InDxRefIdeal.defs (F := Ideal)) (onTc (τ := Cert.InDxRefIdeal.τ) (Cert.InDxRefIdeal.main (F := Ideal))) ⟨m', fun _ => 0, ρ⟩ fun r => ∀ c : Dev Cert.InDxRefIdeal.nD,
      r.2.mem (c.tc.loc Cert.InDxRefIdeal.main_v38) = (fun i => NormGrad.refDx (rX m' c) (rD m' c) (rG m' c) (rE m' c) (i 0) (i 1))
      ∧ r.2.mem (c.tc.loc Cert.InDxRefIdeal.main_v39) = (fun i => NormGrad.refDx (rX m' c) (rD m' c) (rG m' c) (rE m' c) (i 0) (i 1))
      ∧ r.2.mem (c.tc.loc Cert.InDxRefIdeal.main_v21) = (fun i => NormGrad.refDg (rX m' c) (rD m' c) (i 1))
      ∧ r.2.mem (c.tc.loc Cert.InDxRefIdeal.main_arg0) = m' (c.tc.loc Cert.InDxRefIdeal.main_arg0)
      ∧ r.2.mem (c.tc.loc Cert.InDxRefIdeal.main_arg1) = m' (c.tc.loc Cert.InDxRefIdeal.main_arg1)
      ∧ r.2.mem (c.tc.loc Cert.InDxRefIdeal.main_arg2) = m' (c.tc.loc Cert.InDxRefIdeal.main_arg2)
      ∧ r.2.mem (c.tc.loc Cert.InDxRefIdeal.main_arg3) = m' (c.tc.loc Cert.InDxRefIdeal.main_arg3)
      ∧ r.2.mem (c.tc.loc Cert.InDxRefIdeal.main_arg4) = m' (c.tc.loc Cert.InDxRefIdeal.main_arg4) :=
  (θ_run Cert.InDxRefIdeal.defs _ _).mono (fun r h c =>
    ⟨(h c).1.trans (by unfold Cert.InDxRefIdeal.Value.res_main_v38; funext i; idx_vars i; pointwise; rfl), (h c).2.1.trans (by unfold Cert.InDxRefIdeal.Value.res_main_v39; funext i; idx_vars i; pointwise; rfl),
     (h c).2.2.1.trans (by funext i; idx_vars i; pointwise; rfl), (h c).2.2.2⟩)
    (Cert.InDxRefIdeal.Value.run m' ρ)

section agree

variable (m' : (ℓ : Loc Cert.InDxRefIdeal.nD Cert.InDxRefIdeal.τ Cert.InDxRefIdeal.sig) → Buf (Elt Ideal) ℓ) (c : Dev nD)
  (h : m' (c.tc.loc Cert.InDxRefIdeal.main_arg0) = m (c.tc.loc main_arg0) ∧ m' (c.tc.loc Cert.InDxRefIdeal.main_arg1) = m (c.tc.loc main_arg1)
    ∧ m' (c.tc.loc Cert.InDxRefIdeal.main_arg2) = m (c.tc.loc main_arg2) ∧ m' (c.tc.loc Cert.InDxRefIdeal.main_arg3) = m (c.tc.loc main_arg3)
    ∧ m' (c.tc.loc Cert.InDxRefIdeal.main_arg4) = m (c.tc.loc main_arg4))

include h in
theorem agree : rX m' c = mX m c ∧ rG m' c = mG m c ∧ rD m' c = mD m c ∧ rE m' c = mE m c :=
  ⟨funext fun r => funext fun j => congrFun h.2.2.1 _, funext fun j => congrFun h.2.2.2.1 _,
    funext fun r => funext fun j => Finset.sum_congr rfl fun k _ => congrArg₂ (fun a b : EReal => a * b) (congrFun h.1 _) (congrFun h.2.1 _),
    funext fun r => funext fun j => congrFun h.2.2.2.2 _⟩

include h in
theorem rows (hp : Cert.Pre_InDxIdeal_finite_in (hPre_finite_in := Cert.Pre_finite_in.Gen.facts) m) :
    NormGrad.refDx (rX m' c) (rD m' c) (rG m' c) (rE m' c) = NormGrad.gDx (mX m c) (mD m c) (mG m c) (mE m c) := by
  obtain ⟨X, D, G, hX, hG, hD⟩ := reals m hp c
  obtain ⟨e0, e1, e2, e3⟩ := agree m m' c h
  rw [e0, e1, e2, e3, hX, hG, hD]
  exact NormGrad.refDx_eq X D G _

end agree

/-- The kernel leaves the derivatives of the norm before the input product, with respect to its rows and its scale. -/
theorem algebraic : Cert.algebraic_InDxIdeal_InDxRefIdeal_pre_finite_in
    (hInDxIdeal := Cert.InDxIdeal.Gen.facts) (hInDxRefIdeal := Cert.InDxRefIdeal.Gen.facts)
    (hPre_finite_in := Cert.Pre_finite_in.Gen.facts) := by
  pair_intro
  · run_from Cert.InDxIdeal.Value.run_blocks m g
  · run_from ref_run m' g'
    · rw [rows m m' c (hagree c) hpre]
      exact (final5 m c).symm
    · rw [rows m m' c (hagree c) hpre]
      exact (final6 m c).symm
    · rw [(agree m m' c (hagree c)).1, (agree m m' c (hagree c)).2.2.1, NormGrad.refDg_eq]
      exact (final7 m c).symm

/-- The reference terminates, keeps its arguments, and has no semaphore. -/
theorem frame_ref : Cert.quiescent_InDxRefIdeal (hInDxRefIdeal := Cert.InDxRefIdeal.Gen.facts) := fun m ρ _ =>
  (θ_run Cert.InDxRefIdeal.defs _ _).mono (fun r h => ⟨fun c => (h c).2.2.2, sem_eq_zero_of_no_sems (by decide) r.2⟩)
    (Cert.InDxRefIdeal.Value.run m ρ)

end Cert.InDxProof

end
-- ==== Proof.LossHead.lean ====
/- Hand-written: the loss and the gradients of the last norm. -/
module

public import proofs.«01_k».proof.Proof.Gen.LossHeadIdeal.Frame
public import proofs.«01_k».proof.Proof.Gen.LossHeadRefIdeal.Run
public import proofs.«01_k».proof.Proof.Gen.Pre_finite_loss
public import Idealize.ShloMosaic.Lib.Pipeline.ValueKit
public import proofs.«01_k».proof.Proof.NormGrad
public import proofs.«01_k».proof.Defs
public import Idealize.ShloMosaic.Lib.Tactic.CleanTypes

@[expose] public section

set_option maxRecDepth 16384

noncomputable section

namespace Cert.LossHeadProof

open Idealize.ShloMosaic Idealize.ShloMosaic.TcCoe Idealize.SL.Sem Cert.LossHeadIdeal Cert.LossHeadIdeal.Gen
open Idealize.ShloMosaic.Pipeline (Dat)

/-- A row's error: the normed row, scaled, less its target. -/
def err (x g t : Fin 1024 → EReal) (l : Fin 1024) : EReal := x l * NormGrad.inv x * g l - t l

/-- The error divided by the row's length, as the kernel writes it, and as a derivative of the loss writes it. -/
def kErr (x g t : Fin 1024 → EReal) (l : Fin 1024) : EReal := err x g t l * Ideal.ofBits .f32 0x3A800000#32
def rErr (x g t : Fin 1024 → EReal) (l : Fin 1024) : EReal :=
  Ideal.div (Ideal.ofBits .f32 0x3F000000#32) NormGrad.len * (Ideal.ofBits .f32 0x40000000#32 * err x g t l)

/-- The loss as the kernel sums it, column by column, and as its definition does, row by row. -/
def kLoss (X T : Fin 4096 → Fin 1024 → EReal) (G : Fin 1024 → EReal) : EReal :=
  Ideal.div (Ideal.ofBits .f32 0x3F000000#32 * ∑ j, ∑ r, err (X r) G (T r) j * err (X r) G (T r) j) NormGrad.len
def rLoss (X T : Fin 4096 → Fin 1024 → EReal) (G : Fin 1024 → EReal) : EReal :=
  Ideal.ofBits .f32 0x3F000000#32 * ∑ r, Ideal.div (∑ j, err (X r) G (T r) j * err (X r) G (T r) j) NormGrad.len

/-- The row gradient, and a derivative's writing of it. -/
def kDx (X T : Fin 4096 → Fin 1024 → EReal) (G : Fin 1024 → EReal) (r : Fin 4096) (j : Fin 1024) : EReal :=
  NormGrad.dx (X r) (fun l => kErr (X r) G (T r) l * G l) j
def rDx (X T : Fin 4096 → Fin 1024 → EReal) (G : Fin 1024 → EReal) (r : Fin 4096) (j : Fin 1024) : EReal :=
  rErr (X r) G (T r) j * G j * NormGrad.inv (X r) + X r j * NormGrad.slope (X r) (fun l => rErr (X r) G (T r) l * G l)
    + NormGrad.slope (X r) (fun l => rErr (X r) G (T r) l * G l) * X r j

theorem err_real (x g t : Fin 1024 → ℝ) : ∃ e : Fin 1024 → ℝ, ∀ l,
    err (fun l => (x l : EReal)) (fun l => (g l : EReal)) (fun l => (t l : EReal)) l = (e l : EReal) := by
  obtain ⟨v, hv, hm, hi⟩ := NormGrad.ms_real x
  refine ⟨fun l => x l * (√v)⁻¹ * g l - t l, fun l => ?_⟩
  unfold err
  rw [hi]
  norm_cast

theorem half_eq : Ideal.ofBits .f32 0x3F000000#32 = ((1 / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem share_eq : Ideal.ofBits .f32 0x3A800000#32 = ((1 / 1024 : ℝ) : EReal) := by
  simp [Ideal.ofBits, Ideal.ieee, -EReal.coe_mul]; norm_num

/-- The two writings of the error's share are one, and a real number. -/
theorem rErr_eq (x g t : Fin 1024 → ℝ) : ∃ d : Fin 1024 → ℝ, (∀ l,
    rErr (fun l => (x l : EReal)) (fun l => (g l : EReal)) (fun l => (t l : EReal)) l = (d l : EReal))
      ∧ ∀ l, kErr (fun l => (x l : EReal)) (fun l => (g l : EReal)) (fun l => (t l : EReal)) l = (d l : EReal) := by
  obtain ⟨e, he⟩ := err_real x g t
  refine ⟨fun l => e l * (1 / 1024), fun l => ?_, fun l => ?_⟩
  · unfold rErr
    rw [he, half_eq, two_eq, NormGrad.len_eq, Softmax.div_real _ (by norm_num)]
    norm_cast
    ring
  · unfold kErr
    rw [he, share_eq]
    norm_cast

theorem rDx_eq (X T : Fin 4096 → Fin 1024 → ℝ) (G : Fin 1024 → ℝ) :
    rDx (fun r l => (X r l : EReal)) (fun r l => (T r l : EReal)) (fun l => (G l : EReal))
      = kDx (fun r l => (X r l : EReal)) (fun r l => (T r l : EReal)) (fun l => (G l : EReal)) := by
  funext r j
  obtain ⟨d, h1, h2⟩ := rErr_eq (X r) G (T r)
  unfold rDx kDx
  simp only [h1, h2]
  have h := NormGrad.dx_eq (X r) (fun l => d l * G l) j 0
  simp only [EReal.coe_mul, zero_add, add_zero] at h
  exact h

theorem rDg_eq (X T : Fin 4096 → Fin 1024 → ℝ) (G : Fin 1024 → ℝ) :
    NormGrad.refDg (fun r l => (X r l : EReal)) (fun r => rErr (fun l => (X r l : EReal)) (fun l => (G l : EReal)) (fun l => (T r l : EReal)))
      = NormGrad.gDg (fun r l => (X r l : EReal)) (fun r => kErr (fun l => (X r l : EReal)) (fun l => (G l : EReal)) (fun l => (T r l : EReal))) := by
  rw [NormGrad.refDg_eq]
  refine congrArg _ (funext fun r => funext fun l => ?_)
  obtain ⟨d, h1, h2⟩ := rErr_eq (X r) G (T r)
  rw [h1, h2]

theorem rLoss_eq (X T : Fin 4096 → Fin 1024 → ℝ) (G : Fin 1024 → ℝ) :
    rLoss (fun r l => (X r l : EReal)) (fun r l => (T r l : EReal)) (fun l => (G l : EReal))
      = kLoss (fun r l => (X r l : EReal)) (fun r l => (T r l : EReal)) (fun l => (G l : EReal)) := by
  choose e he using fun r => err_real (X r) G (T r)
  have h1 : ∀ r, (∑ j, (e r j : EReal) * (e r j : EReal)) = ((∑ j, e r j * e r j : ℝ) : EReal) := fun r => by
    rw [Scalars.coe_sum]; exact Finset.sum_congr rfl fun l _ => (EReal.coe_mul _ _).symm
  have h2 : (∑ j, ∑ r, (e r j : EReal) * (e r j : EReal)) = ((∑ r, ∑ j, e r j * e r j : ℝ) : EReal) := by
    rw [Finset.sum_comm, Scalars.coe_sum]; exact Finset.sum_congr rfl fun r _ => h1 r
  unfold rLoss kLoss
  simp only [he]
  rw [h2, half_eq, NormGrad.len_eq]
  simp only [h1]
  rw [← EReal.coe_mul, Softmax.div_real _ (by norm_num)]
  simp only [fun r => Softmax.div_real (∑ j, e r j * e r j) (show (0 : ℝ) < 1024 by norm_num)]
  rw [← Scalars.coe_sum, ← EReal.coe_mul, ← Finset.sum_div]
  exact congrArg _ (by ring)

variable (m : (ℓ : Loc nD τ sig) → Buf (Elt Ideal) ℓ)

theorem idx : ∀ t : Fin cfg0.N, win0_0.index t = ![t.val, 0] ∧ win0_1.index t = ![t.val, 0]
    ∧ win0_2.index t = ![0, 0] ∧ win0_3.index t = ![t.val, 0] ∧ win0_4.index t = ![t.val, 0] ∧ win0_5.index t = ![0, 0] ∧ win0_6.index t = ![0, 0] :=
  (by decide +kernel : ∀ t : Fin grid0.N, _)

theorem pay10_at (v0 v1 : S256x1024.Idx → EReal) (v2 : S1x1024.Idx → EReal) (r : Fin 256) (j : Fin 1024) :
    k0_pay10 (F := Ideal) v0 v1 v2 (ix2 r j)
      = NormGrad.dx (fun l => v0 (ix2 r l)) (fun l => kErr (fun l => v0 (ix2 r l)) (fun l => v2 (ix2 0 l)) (fun l => v1 (ix2 r l)) l * v2 (ix2 0 l)) j := by
  pointwise [k0_pay10, k0_pay9, k0_pay8, k0_pay7, k0_pay6, k0_pay5]
  rfl

theorem pay11_at (v0 v1 : S256x1024.Idx → EReal) (v2 : S1x1024.Idx → EReal) (r : Fin 1) (j : Fin 1024) :
    k0_pay11 (F := Ideal) v0 v1 v2 (ix2 r j)
      = ∑ k : Fin 256, err (fun l => v0 (ix2 k l)) (fun l => v2 (ix2 0 l)) (fun l => v1 (ix2 k l)) j
          * err (fun l => v0 (ix2 k l)) (fun l => v2 (ix2 0 l)) (fun l => v1 (ix2 k l)) j := by
  pointwise [k0_pay11, k0_pay8, k0_pay7, k0_pay6, k0_pay5]
  rfl

theorem pay12_at (v0 v1 : S256x1024.Idx → EReal) (v2 : S1x1024.Idx → EReal) (r : Fin 1) (j : Fin 1024) :
    k0_pay12 (F := Ideal) v0 v1 v2 (ix2 r j)
      = ∑ k : Fin 256, kErr (fun l => v0 (ix2 k l)) (fun l => v2 (ix2 0 l)) (fun l => v1 (ix2 k l)) j
          * (v0 (ix2 k j) * NormGrad.inv (fun l => v0 (ix2 k l))) := by
  pointwise [k0_pay12, k0_pay9, k0_pay8, k0_pay7, k0_pay6, k0_pay5]
  rfl

theorem pay3_at (v old : S1x1024.Idx → EReal) (x : S1x1024.Idx) : k0_pay3 (F := Ideal) v old x = old x + v x := by
  pointwise [k0_pay3]
theorem pay4_at (v old : S1x1024.Idx → EReal) (x : S1x1024.Idx) : k0_pay4 (F := Ideal) v old x = old x + v x := by
  pointwise [k0_pay4]

abbrev mX (c : Dev nD) (r : Fin 4096) (j : Fin 1024) : EReal := m ((c : Thread nD τ).loc main_arg0) (ix2 r j)
abbrev mG (c : Dev nD) (j : Fin 1024) : EReal := m ((c : Thread nD τ).loc main_arg1) (ix1 j)
abbrev mT (c : Dev nD) (r : Fin 4096) (j : Fin 1024) : EReal := m ((c : Thread nD τ).loc main_arg2) (ix2 r j)

/-- A row of the array, from the grid point and the row of its block. -/
def row (t : Fin cfg0.N) (r : Fin 256) : Fin 4096 :=
  ⟨t.val * 256 + (r : ℕ), by have ht : t.val < 16 := lt_of_lt_of_eq t.isLt N_0; omega⟩

theorem ld0 (c : Dev nD) (t : Fin cfg0.N) (r : Fin 256) (j : Fin 1024) : iblk m c 0 t (ix2 r j) = mX m c (row t r) j := by
  unfold row; blk_point [iblk, V, idx t]
theorem ld1 (c : Dev nD) (t : Fin cfg0.N) (r : Fin 256) (j : Fin 1024) : iblk m c 1 t (ix2 r j) = mT m c (row t r) j := by
  unfold row; blk_point [iblk, V, idx t]
/-- The scale as the region finds it, a row. -/
theorem scale_row (c : Dev nD) (j : Fin 1024) : V m c main_v0 (ix2 0 j) = mG m c j := by
  unfold V V0 hostOps0
  simp only [List.flatten_cons, List.flatten_nil, List.append_nil]
  after_results_simp
  pointwise
theorem ld2 (c : Dev nD) (t : Fin cfg0.N) (j : Fin 1024) : iblk m c 2 t (ix2 0 j) = mG m c j := by
  refine Eq.trans ?_ (scale_row m c j)
  blk_point [iblk, idx t]

/-- What a grid point writes of the row gradient. -/
theorem dx_at (c : Dev nD) (t : Fin cfg0.N) (r : Fin 256) (j : Fin 1024) :
    k0_pay10 (F := Ideal) (iblk m c 0 t) (iblk m c 1 t) (iblk m c 2 t) (ix2 r j) = kDx (mX m c) (mT m c) (mG m c) (row t r) j := by
  rw [pay10_at]
  simp only [ld0, ld1, ld2]
  rfl

/-- What a grid point adds to the squared errors of a column, and to the scale's gradient. -/
def part5 (c : Dev nD) (t : Fin cfg0.N) (j : Fin 1024) : EReal :=
  ∑ l : Fin 256, err (mX m c (row t l)) (mG m c) (mT m c (row t l)) j * err (mX m c (row t l)) (mG m c) (mT m c (row t l)) j
def part6 (c : Dev nD) (t : Fin cfg0.N) (j : Fin 1024) : EReal :=
  ∑ l : Fin 256, kErr (mX m c (row t l)) (mG m c) (mT m c (row t l)) j * (mX m c (row t l) j * NormGrad.inv (mX m c (row t l)))

theorem err_at (c : Dev nD) (t : Fin cfg0.N) (r : Fin 1) (j : Fin 1024) :
    k0_pay11 (F := Ideal) (iblk m c 0 t) (iblk m c 1 t) (iblk m c 2 t) (ix2 r j) = part5 m c t j := by
  rw [pay11_at]
  simp only [ld0, ld1, ld2]
  rfl

theorem dg_at (c : Dev nD) (t : Fin cfg0.N) (r : Fin 1) (j : Fin 1024) :
    k0_pay12 (F := Ideal) (iblk m c 0 t) (iblk m c 1 t) (iblk m c 2 t) (ix2 r j) = part6 m c t j := by
  rw [pay12_at]
  simp only [ld0, ld1, ld2]
  rfl

/-- A block's place in the array of window 3. -/
theorem emb3 (t : Fin cfg0.N) (r : Fin 256) (j : Fin 1024) :
    ((View.whole main_v1_0).slice (win0_3.rect t)).emb (ix2 r j) 0 = row t r ∧ ((View.whole main_v1_0).slice (win0_3.rect t)).emb (ix2 r j) 1 = j := by
  constructor <;> refine Fin.ext ?_ <;> blk_simp [idx t] <;> rfl

theorem final3 (c : Dev nD) : (dats m 0 c).arrAt 3 cfg0.N = fun i => kDx (mX m c) (mT m c) (mG m c) (i 0) (i 1) := by
  refine (dats m 0 c).arrAt_eq_of_covers 3 _ (by decide +kernel) fun t _ y => ?_
  blk_simp
  rw [after0_3]
  idx_vars y
  refine Eq.trans ?_ (congrArg₂ (kDx (mX m c) (mT m c) (mG m c)) (emb3 t y0 y1).1 (emb3 t y0 y1).2).symm
  by_cases h : t.val % 16 = 0
  · rw [outsAt0_A m c t h]
    frame_out
    exact dx_at m c t y0 y1
  · rw [outsAt0_B m c t h]
    frame_out
    exact dx_at m c t y0 y1

/-- A block's place in the array of window 4. -/
theorem emb4 (t : Fin cfg0.N) (r : Fin 256) (j : Fin 1024) :
    ((View.whole main_v1_1).slice (win0_4.rect t)).emb (ix2 r j) 0 = row t r ∧ ((View.whole main_v1_1).slice (win0_4.rect t)).emb (ix2 r j) 1 = j := by
  constructor <;> refine Fin.ext ?_ <;> blk_simp [idx t] <;> rfl

theorem final4 (c : Dev nD) : (dats m 0 c).arrAt 4 cfg0.N = fun i => kDx (mX m c) (mT m c) (mG m c) (i 0) (i 1) := by
  refine (dats m 0 c).arrAt_eq_of_covers 4 _ (by decide +kernel) fun t _ y => ?_
  blk_simp
  rw [after0_4]
  idx_vars y
  refine Eq.trans ?_ (congrArg₂ (kDx (mX m c) (mT m c) (mG m c)) (emb4 t y0 y1).1 (emb4 t y0 y1).2).symm
  by_cases h : t.val % 16 = 0
  · rw [outsAt0_A m c t h]
    frame_out
    exact dx_at m c t y0 y1
  · rw [outsAt0_B m c t h]
    frame_out
    exact dx_at m c t y0 y1

theorem stepA5 (c : Dev nD) (t : Fin cfg0.N) (h : t.val % 16 = 0) (j : S1x1024.Idx) :
    (outsAt0 m c t.val t.isLt).2.2.1 j = 0 + part5 m c t (j 1) := by
  rw [outsAt0_A m c t h]
  frame_out
  idx_vars j
  rw [pay3_at, err_at]
  exact congrArg (· + _) (by pointwise [k0_pay1])

theorem stepB5 (c : Dev nD) (t : Fin cfg0.N) (h : ¬t.val % 16 = 0) (j : S1x1024.Idx) :
    (outsAt0 m c t.val t.isLt).2.2.1 j = (outsAt0 m c (t.val - 1) (by omega)).2.2.1 j + part5 m c t (j 1) := by
  rw [outsAt0_B m c t h]
  frame_out
  idx_vars j
  rw [pay3_at, err_at]

theorem final5 (c : Dev nD) : (dats m 0 c).arrAt 5 cfg0.N = fun i => ∑ r, err (mX m c r) (mG m c) (mT m c r) (i 1) * err (mX m c r) (mG m c) (mT m c r) (i 1) := by
  refine (dats m 0 c).arrAt_eq_of_covers 5 _ (by decide +kernel) fun t hf y => ?_
  blk_simp
  rw [after0_5]
  refine (Pipeline.eq_sum_fin_of_reset_step_apply_of_flush (fun n h => (outsAt0 m c n h).2.2.1) 16 (fun _ => 0) (fun t j => part5 m c t (j 1))
    (fun t h j => stepA5 m c t h j) (fun t h j => stepB5 m c t h j) t ((flush0_5 t).mp hf) _).trans ?_
  have ht : t.val < 16 := lt_of_lt_of_eq t.isLt N_0
  idx_vars y
  refine (zero_add _).trans ?_
  unfold part5
  have e1 : ((View.whole main_v1_2).slice (win0_5.rect t)).emb (ix2 y0 y1) 1 = y1 := Fin.ext (by blk_simp [idx t])
  rw [e1]
  refine Fin.sum_mul_add_congr fun s r hl => ?_
  exact congrArg (fun R => err (mX m c R) (mG m c) (mT m c R) y1 * err (mX m c R) (mG m c) (mT m c R) y1) (Fin.ext (by unfold row; dsimp only; omega))

theorem stepA6 (c : Dev nD) (t : Fin cfg0.N) (h : t.val % 16 = 0) (j : S1x1024.Idx) :
    (outsAt0 m c t.val t.isLt).2.2.2 j = 0 + part6 m c t (j 1) := by
  rw [outsAt0_A m c t h]
  frame_out
  idx_vars j
  rw [pay4_at, dg_at]
  exact congrArg (· + _) (by pointwise [k0_pay2])

theorem stepB6 (c : Dev nD) (t : Fin cfg0.N) (h : ¬t.val % 16 = 0) (j : S1x1024.Idx) :
    (outsAt0 m c t.val t.isLt).2.2.2 j = (outsAt0 m c (t.val - 1) (by omega)).2.2.2 j + part6 m c t (j 1) := by
  rw [outsAt0_B m c t h]
  frame_out
  idx_vars j
  rw [pay4_at, dg_at]

theorem final6 (c : Dev nD) : (dats m 0 c).arrAt 6 cfg0.N = fun i => NormGrad.gDg (mX m c) (fun r => kErr (mX m c r) (mG m c) (mT m c r)) (i 1) := by
  refine (dats m 0 c).arrAt_eq_of_covers 6 _ (by decide +kernel) fun t hf y => ?_
  blk_simp
  rw [after0_6]
  refine (Pipeline.eq_sum_fin_of_reset_step_apply_of_flush (fun n h => (outsAt0 m c n h).2.2.2) 16 (fun _ => 0) (fun t j => part6 m c t (j 1))
    (fun t h j => stepA6 m c t h j) (fun t h j => stepB6 m c t h j) t ((flush0_6 t).mp hf) _).trans ?_
  have ht : t.val < 16 := lt_of_lt_of_eq t.isLt N_0
  idx_vars y
  refine (zero_add _).trans ?_
  unfold NormGrad.gDg part6
  have e1 : ((View.whole main_v1_3).slice (win0_6.rect t)).emb (ix2 y0 y1) 1 = y1 := Fin.ext (by blk_simp [idx t])
  rw [e1]
  refine Fin.sum_mul_add_congr fun s r hl => ?_
  exact congrArg (fun R => kErr (mX m c R) (mG m c) (mT m c R) y1 * (mX m c R y1 * NormGrad.inv (mX m c R))) (Fin.ext (by unfold row; dsimp only; omega))

theorem reals (h : Cert.Pre_LossHeadIdeal_finite_loss (hPre_finite_loss := Cert.Pre_finite_loss.Gen.facts) m) (c : Dev nD) :
    ∃ (X T : Fin 4096 → Fin 1024 → ℝ) (G : Fin 1024 → ℝ), mX m c = (fun r l => (X r l : EReal)) ∧ mG m c = (fun l => (G l : EReal))
      ∧ mT m c = (fun r l => (T r l : EReal)) := by
  obtain ⟨h0, h1, h2⟩ := h c
  obtain ⟨X, hX⟩ := Scalars.real_array _ _ (fun _ => Scalars.top_f32) h0
  obtain ⟨G, hG⟩ := Scalars.real_array _ _ (fun _ => Scalars.top_f32) h1
  obtain ⟨T, hT⟩ := Scalars.real_array _ _ (fun _ => Scalars.top_f32) h2
  exact ⟨fun r l => X (ix2 r l), fun r l => T (ix2 r l), fun l => G (ix1 l), funext fun r => funext fun l => congrFun hX _,
    funext fun l => congrFun hG _, funext fun r => funext fun l => congrFun hT _⟩

/-- What the lines after the kernel make of its column sums. -/
theorem tail_loss (c : Dev nD) : Pipeline.afterTail₀ cfgs (dats m) 0 (V0 m) [hostOps1] c main_v4 = fun _ => kLoss (mX m c) (mT m c) (mG m c) := by
  have e : _ = _ := Pipeline.withArrays_arr (cfgs 0).spec (by decide +kernel) c (V0 m c) (fun w => (dats m 0 c).arrAt w (cfgs 0).N) 5
  unfold Pipeline.afterTail₀ hostOps1
  generalize Pipeline.withArrays (cfgs 0).spec c (V0 m c) (fun w => (dats m 0 c).arrAt w (cfgs 0).N) = U at e ⊢
  simp only [List.flatten_cons, List.flatten_nil, List.append_nil]
  after_results_simp
  rw [show U (Proc.devRef .tc main_v1_2) = _ from e.trans (final5 m c)]
  funext i
  pointwise
  rw [Fin.sum_univ_one]
  rfl

theorem tail_scale (c : Dev nD) : Pipeline.afterTail₀ cfgs (dats m) 0 (V0 m) [hostOps1] c main_v5
    = fun i => NormGrad.gDg (mX m c) (fun r => kErr (mX m c r) (mG m c) (mT m c r)) (i 0) := by
  have e : _ = _ := Pipeline.withArrays_arr (cfgs 0).spec (by decide +kernel) c (V0 m c) (fun w => (dats m 0 c).arrAt w (cfgs 0).N) 6
  unfold Pipeline.afterTail₀ hostOps1
  generalize Pipeline.withArrays (cfgs 0).spec c (V0 m c) (fun w => (dats m 0 c).arrAt w (cfgs 0).N) = U at e ⊢
  simp only [List.flatten_cons, List.flatten_nil, List.append_nil]
  after_results_simp
  rw [show U (Proc.devRef .tc main_v1_3) = _ from e.trans (final6 m c)]
  funext i
  idx_vars i
  pointwise

/-- The kernel's run, its results read at an index. -/
theorem ker_run (ρ : Dev nD → PrngReg) :
    θ_run (defs (F := Ideal)) (onTc (τ := τ) (main (F := Ideal))) ⟨m, fun _ => 0, ρ⟩ fun r => ∀ c : Dev nD,
      r.2.mem (c.tc.loc main_v4) = (fun _ => kLoss (mX m c) (mT m c) (mG m c))
      ∧ r.2.mem (c.tc.loc main_v1_0) = (fun i => kDx (mX m c) (mT m c) (mG m c) (i 0) (i 1))
      ∧ r.2.mem (c.tc.loc main_v1_1) = (fun i => kDx (mX m c) (mT m c) (mG m c) (i 0) (i 1))
      ∧ r.2.mem (c.tc.loc main_v5) = (fun i => NormGrad.gDg (mX m c) (fun r => kErr (mX m c r) (mG m c) (mT m c r)) (i 0))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  run_from Gen.run_main m ρ
  · exact tail_loss m c
  · exact final3 m c
  · exact final4 m c
  · exact tail_scale m c
  · exact W_main_arg1 m (dats m) c

section reference

variable (m' : (ℓ : Loc Cert.LossHeadRefIdeal.nD Cert.LossHeadRefIdeal.τ Cert.LossHeadRefIdeal.sig) → Buf (Elt Ideal) ℓ) (c : Dev Cert.LossHeadRefIdeal.nD)

abbrev rX (r : Fin 4096) (j : Fin 1024) : EReal := m' (c.tc.loc Cert.LossHeadRefIdeal.main_arg0) (ix2 r j)
abbrev rG (j : Fin 1024) : EReal := m' (c.tc.loc Cert.LossHeadRefIdeal.main_arg1) (ix1 j)
abbrev rT (r : Fin 4096) (j : Fin 1024) : EReal := m' (c.tc.loc Cert.LossHeadRefIdeal.main_arg2) (ix2 r j)

end reference

/-- The scale's gradient as the derivative sums it. -/
def rDg (X T : Fin 4096 → Fin 1024 → EReal) (G : Fin 1024 → EReal) (j : Fin 1024) : EReal :=
  ∑ _k : Fin 1, NormGrad.refDg X (fun r => rErr (X r) G (T r)) j

/-- The reference's run, its results read at an index. -/
theorem ref_run (m' : (ℓ : Loc Cert.LossHeadRefIdeal.nD Cert.LossHeadRefIdeal.τ Cert.LossHeadRefIdeal.sig) → Buf (Elt Ideal) ℓ)
    (ρ : Dev Cert.LossHeadRefIdeal.nD → PrngReg) :
    θ_run (Cert.LossHeadRefIdeal.defs (F := Ideal)) (onTc (τ := Cert.LossHeadRefIdeal.τ) (Cert.LossHeadRefIdeal.main (F := Ideal))) ⟨m', fun _ => 0, ρ⟩ fun r => ∀ c : Dev Cert.LossHeadRefIdeal.nD,
      r.2.mem (c.tc.loc Cert.LossHeadRefIdeal.main_v24) = (fun _ => rLoss (rX m' c) (rT m' c) (rG m' c))
      ∧ r.2.mem (c.tc.loc Cert.LossHeadRefIdeal.main_v50) = (fun i => rDx (rX m' c) (rT m' c) (rG m' c) (i 0) (i 1))
      ∧ r.2.mem (c.tc.loc Cert.LossHeadRefIdeal.main_v51) = (fun i => rDx (rX m' c) (rT m' c) (rG m' c) (i 0) (i 1))
      ∧ r.2.mem (c.tc.loc Cert.LossHeadRefIdeal.main_v36) = (fun i => rDg (rX m' c) (rT m' c) (rG m' c) (i 0))
      ∧ r.2.mem (c.tc.loc Cert.LossHeadRefIdeal.main_arg0) = m' (c.tc.loc Cert.LossHeadRefIdeal.main_arg0)
      ∧ r.2.mem (c.tc.loc Cert.LossHeadRefIdeal.main_arg1) = m' (c.tc.loc Cert.LossHeadRefIdeal.main_arg1)
      ∧ r.2.mem (c.tc.loc Cert.LossHeadRefIdeal.main_arg2) = m' (c.tc.loc Cert.LossHeadRefIdeal.main_arg2) :=
  (θ_run Cert.LossHeadRefIdeal.defs _ _).mono (fun r h c =>
    ⟨(h c).1.trans (by funext i; pointwise; rfl),
     (h c).2.1.trans (by unfold Cert.LossHeadRefIdeal.Value.res_main_v50; funext i; idx_vars i; pointwise; rfl),
     (h c).2.2.1.trans (by unfold Cert.LossHeadRefIdeal.Value.res_main_v51; funext i; idx_vars i; pointwise; rfl),
     (h c).2.2.2.1.trans (by funext i; idx_vars i; pointwise; rfl), (h c).2.2.2.2⟩)
    (Cert.LossHeadRefIdeal.Value.run m' ρ)

section agree

variable (m' : (ℓ : Loc Cert.LossHeadRefIdeal.nD Cert.LossHeadRefIdeal.τ Cert.LossHeadRefIdeal.sig) → Buf (Elt Ideal) ℓ) (c : Dev nD)
  (h : m' (c.tc.loc Cert.LossHeadRefIdeal.main_arg0) = m (c.tc.loc main_arg0) ∧ m' (c.tc.loc Cert.LossHeadRefIdeal.main_arg1) = m (c.tc.loc main_arg1)
    ∧ m' (c.tc.loc Cert.LossHeadRefIdeal.main_arg2) = m (c.tc.loc main_arg2))

include h in
theorem agree : rX m' c = mX m c ∧ rG m' c = mG m c ∧ rT m' c = mT m c :=
  ⟨funext fun r => funext fun j => congrFun h.1 _, funext fun j => congrFun h.2.1 _, funext fun r => funext fun j => congrFun h.2.2 _⟩

include h in
theorem rows (hp : Cert.Pre_LossHeadIdeal_finite_loss (hPre_finite_loss := Cert.Pre_finite_loss.Gen.facts) m) :
    rLoss (rX m' c) (rT m' c) (rG m' c) = kLoss (mX m c) (mT m c) (mG m c)
      ∧ rDx (rX m' c) (rT m' c) (rG m' c) = kDx (mX m c) (mT m c) (mG m c)
      ∧ rDg (rX m' c) (rT m' c) (rG m' c) = NormGrad.gDg (mX m c) (fun r => kErr (mX m c r) (mG m c) (mT m c r)) := by
  obtain ⟨X, T, G, hX, hG, hT⟩ := reals m hp c
  obtain ⟨e0, e1, e2⟩ := agree m m' c h
  rw [e0, e1, e2, hX, hG, hT]
  exact ⟨rLoss_eq X T G, rDx_eq X T G, (funext fun j => Fin.sum_univ_one _).trans (rDg_eq X T G)⟩

end agree

/-- The kernel leaves the loss and its derivatives with respect to the rows and the last norm's scale. -/
theorem algebraic : Cert.algebraic_LossHeadIdeal_LossHeadRefIdeal_pre_finite_loss
    (hLossHeadIdeal := Cert.LossHeadIdeal.Gen.facts) (hLossHeadRefIdeal := Cert.LossHeadRefIdeal.Gen.facts)
    (hPre_finite_loss := Cert.Pre_finite_loss.Gen.facts) := by
  pair_intro
  · run_from ker_run m g
  · run_from ref_run m' g'
    · rw [(rows m m' c (hagree c) hpre).1]
      rfl
    · rw [(rows m m' c (hagree c) hpre).2.1]
      rfl
    · rw [(rows m m' c (hagree c) hpre).2.1]
      rfl
    · rw [(rows m m' c (hagree c) hpre).2.2]
      rfl

/-- The reference terminates, keeps its arguments, and has no semaphore. -/
theorem frame_ref : Cert.quiescent_LossHeadRefIdeal (hLossHeadRefIdeal := Cert.LossHeadRefIdeal.Gen.facts) := fun m ρ _ =>
  (θ_run Cert.LossHeadRefIdeal.defs _ _).mono (fun r h => ⟨fun c => (h c).2.2.2.2, sem_eq_zero_of_no_sems (by decide) r.2⟩)
    (Cert.LossHeadRefIdeal.Value.run m ρ)

end Cert.LossHeadProof

end
-- ==== Proof.AttnFwd.lean ====
/- Hand-written: the attention forward pass. -/
module

public import proofs.«01_k».proof.Proof.Gen.AttnFwdIdeal.Value
public import proofs.«01_k».proof.Proof.Gen.AttnFwdRefIdeal.Run
public import proofs.«01_k».proof.Proof.AttnBwdRef
public import proofs.«01_k».proof.Proof.Gen.Pre_finite_attn_fwd
public import proofs.«01_k».proof.Defs

@[expose] public section

set_option maxRecDepth 16384

noncomputable section

namespace Cert.AttnFwdProof

open Idealize.ShloMosaic Idealize.ShloMosaic.TcCoe Idealize.SL.Sem Cert.AttnFwdIdeal Cert.AttnFwdIdeal.Gen
open Idealize.ShloMosaic.Pipeline (Dat)
open Cert.AttnBwdRef (scoreRow hd co row)

/-! ## The output, row by row -/

section out

variable (Q : S4096x1024.Idx → EReal) (KV : S512x2048.Idx → EReal)

/-- A row's output in one head: its weights times the values. -/
def gO (R : Fin 4096) (h : Fin 4) (d : Fin 256) : EReal :=
  ∑ l : Fin 256, Softmax.wt (scoreRow Q KV R h) l * KV (ix2 ⟨(R : ℕ) / 2048 * 256 + (l : ℕ), by omega⟩ ⟨1024 + ((h : ℕ) * 256 + (d : ℕ)), by omega⟩)

def GO (i : S4096x1024.Idx) : EReal := gO Q KV (i 0) (hd (i 1)) (co (i 1))

end out

/-! ## The reference -/

/-- Values times weights, back in rows. -/
def outO (v : FVec Ideal AttnFwdRefIdeal.S2x256x4x256 .f32) (w : FVec Ideal AttnFwdRefIdeal.S2x4x2048x256 .f32) : FVec Ideal S4096x1024 .bf16 :=
  truncf .bf16 (shapeCast _ (transpose AttnFwdRefIdeal.S2x2048x4x256 [0, 3, 1, 2] (Host.dotGeneral AttnFwdRefIdeal.dot_S2x256x4x256_S2x4x2048x256_S2x4x256x2048_1_3_3_2_02_01 none v w)
    AttnFwdRefIdeal.Gen.facts.toFacts₀.transposes_S2x4x256x2048_S2x2048x4x256_0_3_1_2) AttnFwdRefIdeal.Gen.facts.toFacts₀.shapeCasts_S2x2048x4x256_S4096x1024) AttnFwdRefIdeal.Gen.facts.toFacts₀.bitsLt_bf16_f32

theorem outO_at (v : FVec Ideal AttnFwdRefIdeal.S2x256x4x256 .f32) (w : FVec Ideal AttnFwdRefIdeal.S2x4x2048x256 .f32) (i : S4096x1024.Idx)
    (b : Fin 2) (h : Fin 4) (q : Fin 2048) (d : Fin 256) (e0 : (i 0 : ℕ) = b * 2048 + q) (e1 : (i 1 : ℕ) = h * 256 + d) :
    outO v w i = ∑ l, v (ix4 b l h d) * w (ix4 b h q l) := by
  pointwise [outO]
  blk_point []

/-- At real arrays the reference's output is the rows' outputs. -/
theorem outO_eq (Q : S4096x1024.Idx → ℝ) (KV : S512x2048.Idx → ℝ) :
    outO (AttnBwdRef.vals fun i => (KV i : EReal)) (AttnBwdRef.wt (AttnBwdRef.sc (AttnBwdRef.heads fun i => (Q i : EReal)) (AttnBwdRef.keys fun i => (KV i : EReal))))
      = GO (fun i => (Q i : EReal)) (fun i => (KV i : EReal)) := by
  funext i
  have h1 : (i 1 : ℕ) < 1024 := (i 1).isLt
  have h0 : (i 0 : ℕ) < 4096 := (i 0).isLt
  rw [outO_at _ _ i ⟨(i 0 : ℕ) / 2048, by omega⟩ ⟨(i 1 : ℕ) / 256, by omega⟩ ⟨(i 0 : ℕ) % 2048, by omega⟩ ⟨(i 1 : ℕ) % 256, by omega⟩ (by dsimp only; omega) (by dsimp only; omega)]
  unfold GO gO
  have er : row ⟨(i 0 : ℕ) / 2048, by omega⟩ ⟨(i 0 : ℕ) % 2048, by omega⟩ = i 0 := Fin.ext (by dsimp only; omega)
  refine Finset.sum_congr rfl fun l _ => ?_
  rw [AttnBwdRef.wt_row, AttnBwdRef.vals_at, er]
  exact mul_comm _ _

/-! ## The kernel -/

variable (m : (ℓ : Loc nD τ sig) → Buf (Elt Ideal) ℓ)

theorem idx : ∀ t : Fin cfg0.N, win0_0.index t = ![t.val, 0] ∧ win0_1.index t = ![t.val / 2, 0] ∧ win0_2.index t = ![t.val / 2, 1]
    ∧ win0_3.index t = ![t.val, 0] :=
  (by decide +kernel : ∀ t : Fin grid0.N, _)

section block

variable (q : S1024x256.Idx → EReal) (k v : S256x256.Idx → EReal)

/-- A block's rows of scores. -/
def scores (r : Fin 1024) (l : Fin 256) : EReal := (∑ j, q (ix2 r j) * k (ix2 l j)) * Softmax.scale

theorem pay3_at (r : Fin 1024) (l : Fin 256) : k0_pay3 (F := Ideal) q k (ix2 r l) = Softmax.ex (scores q k r) l := by
  pointwise [k0_pay3]
  rfl

theorem pay4_at (r : Fin 1024) (z : Fin 1) : k0_pay4 (F := Ideal) q k (ix2 r z) = ∑ l, Softmax.ex (scores q k r) l := by
  pointwise [k0_pay4]
  exact Finset.sum_congr rfl fun l _ => pay3_at q k r l

/-- One head's output of a block, from the exponentials and their sums. -/
theorem pay6_at (e : S1024x256.Idx → EReal) (z : S1024x1.Idx → EReal) (r : Fin 1024) (d : Fin 256) :
    k0_pay6 (F := Ideal) e z (k0_pay5 (F := Ideal)) v (ix2 r d) = ∑ l, e (ix2 r l) * Ideal.div 1 (z (ix2 r 0)) * v (ix2 l d) := by
  pointwise [k0_pay6, k0_pay5]

/-- One head's output of a block. -/
abbrev head : S1024x256.Idx → EReal := k0_pay6 (F := Ideal) (k0_pay3 q k) (k0_pay4 q k) (k0_pay5 (F := Ideal)) v

theorem head_at (r : Fin 1024) (d : Fin 256) : head q k v (ix2 r d) = ∑ l, Softmax.wt (scores q k r) l * v (ix2 l d) := by
  refine (pay6_at v _ _ r d).trans ?_
  simp only [pay3_at, pay4_at]
  rfl

theorem pay1_eq : k0_pay1 (F := Ideal) (k0_pay8 q k) (k0_pay9 (F := Ideal)) v = head q k v := rfl
theorem pay2_eq : k0_pay2 (F := Ideal) q k v = head q k v := rfl
theorem pay7_eq : k0_pay7 (F := Ideal) q k v = head q k v := rfl

end block

abbrev mQ (c : Dev nD) : S4096x1024.Idx → EReal := m ((c : Thread nD τ).loc main_arg0)
abbrev mKV (c : Dev nD) : S512x2048.Idx → EReal := m ((c : Thread nD τ).loc main_arg1)

/-- A row of point `t`'s block of queries, in the array. -/
abbrev qrow (t : Fin cfg0.N) (r : Fin 1024) : Fin 4096 := ⟨t.val * 1024 + r, by have := lt_of_lt_of_eq t.isLt N_0; omega⟩

section loads

variable (c : Dev nD) (t : Fin cfg0.N) (o : ℕ) (h : Fin 4) (ho : o = h * 256)

include ho in
theorem ldQ (hin : _) (r : Fin 1024) (j : Fin 256) : View.ld (iblk m c 0 t) (Rect.unit ![0, o] ![1024, 256] hin) (ix2 r j)
    = mQ m c (ix2 (qrow t r) ⟨(h : ℕ) * 256 + (j : ℕ), by omega⟩) := by
  blk_point [iblk, V, idx t]

include ho in
theorem ldK (hin : _) (r : Fin 1024) (l j : Fin 256) : View.ld (iblk m c 1 t) (Rect.unit ![0, o] ![256, 256] hin) (ix2 l j)
    = mKV m c (ix2 ⟨(qrow t r : ℕ) / 2048 * 256 + l, by omega⟩ ⟨(h : ℕ) * 256 + (j : ℕ), by omega⟩) := by
  have e : (qrow t r : ℕ) / 2048 = t.val / 2 := by dsimp only; omega
  blk_point [iblk, V, idx t, e]

include ho in
theorem ldV (hin : _) (r : Fin 1024) (l j : Fin 256) : View.ld (iblk m c 2 t) (Rect.unit ![0, o] ![256, 256] hin) (ix2 l j)
    = mKV m c (ix2 ⟨(qrow t r : ℕ) / 2048 * 256 + l, by omega⟩ ⟨1024 + ((h : ℕ) * 256 + (j : ℕ)), by omega⟩) := by
  have e : (qrow t r : ℕ) / 2048 = t.val / 2 := by dsimp only; omega
  blk_point [iblk, V, idx t, e]

include ho in
theorem head_row (i0 : ∀ a, ![0, o] a + ![1024, 256] a ≤ S1024x1024.size a) (i1 : ∀ a, ![0, o] a + ![256, 256] a ≤ S256x1024.size a)
    (x : S1024x256.Idx) (i : S4096x1024.Idx) (e0 : (i 0 : ℕ) = t.val * 1024 + (x 0 : ℕ)) (e1 : (i 1 : ℕ) = h * 256 + (x 1 : ℕ)) :
    head (View.ld (iblk m c 0 t) (Rect.unit ![0, o] ![1024, 256] i0)) (View.ld (iblk m c 1 t) (Rect.unit ![0, o] ![256, 256] i1))
      (View.ld (iblk m c 2 t) (Rect.unit ![0, o] ![256, 256] i1)) x = GO (mQ m c) (mKV m c) i := by
  idx_vars x
  have e : GO (mQ m c) (mKV m c) i = gO (mQ m c) (mKV m c) (qrow t x0) h x1 := by
    unfold GO
    exact congr (congrArg₂ (gO (mQ m c) (mKV m c)) (Fin.ext e0) (Fin.ext (by have h1 : (x1 : ℕ) < 256 := x1.isLt; have e2 : (i 1 : ℕ) = h * 256 + (x1 : ℕ) := e1; dsimp only; omega))) (Fin.ext (by have h1 : (x1 : ℕ) < 256 := x1.isLt; have e2 : (i 1 : ℕ) = h * 256 + (x1 : ℕ) := e1; dsimp only; omega))
  have es : scores (View.ld (iblk m c 0 t) (Rect.unit ![0, o] ![1024, 256] i0)) (View.ld (iblk m c 1 t) (Rect.unit ![0, o] ![256, 256] i1)) x0
      = scoreRow (mQ m c) (mKV m c) (qrow t x0) h := by
    funext l
    unfold scores scoreRow
    refine congrArg (· * _) (Finset.sum_congr rfl fun j _ => ?_)
    exact congrArg₂ (· * ·) (ldQ m c t o h ho i0 x0 j) (ldK m c t o h ho i1 x0 l j)
  rw [e, head_at, es]
  unfold gO
  exact Finset.sum_congr rfl fun l _ => congrArg (_ * ·) (ldV m c t o h ho i1 x0 l x1)

end loads

theorem final3 (c : Dev nD) : (dats m 0 c).arrAt 3 cfg0.N = GO (mQ m c) (mKV m c) := by
  refine (dats m 0 c).arrAt_eq_of_covers 3 _ (by decide +kernel) fun t hf y => ?_
  blk_simp
  rw [after0_3]
  have key (h : Fin 4) (x : S1024x256.Idx) (h0 : (y 0 : ℕ) = (x 0 : ℕ)) (h1 : (y 1 : ℕ) = h * 256 + (x 1 : ℕ)) :
      (((View.whole main_v0).slice (win0_3.rect t)).emb y 0 : ℕ) = t.val * 1024 + (x 0 : ℕ)
        ∧ (((View.whole main_v0).slice (win0_3.rect t)).emb y 1 : ℕ) = h * 256 + (x 1 : ℕ) := by
    constructor <;> (blk_simp [idx t]; dsimp only; omega)
  unfold out0_3
  canon_tiles x h
  · exact head_row m c t 768 3 rfl _ _ x _ (key 3 x h0 h1).1 (key 3 x h0 h1).2
  · exact head_row m c t 512 2 rfl _ _ x _ (key 2 x h0 h1).1 (key 2 x h0 h1).2
  · exact head_row m c t 256 1 rfl _ _ x _ (key 1 x h0 h1).1 (key 1 x h0 h1).2
  · exact head_row m c t 0 0 rfl _ _ x _ (key 0 x h0 (by rw [h1]; exact (Nat.zero_add _).symm)).1 (key 0 x h0 (by rw [h1]; exact (Nat.zero_add _).symm)).2

/-! ## The two runs -/

abbrev rQ (m : (ℓ : Loc AttnFwdRefIdeal.nD AttnFwdRefIdeal.τ AttnFwdRefIdeal.sig) → Buf (Elt Ideal) ℓ) (c : Dev AttnFwdRefIdeal.nD) : S4096x1024.Idx → EReal :=
  m ((c.tc : Thread AttnFwdRefIdeal.nD AttnFwdRefIdeal.τ).loc AttnFwdRefIdeal.main_arg0)
abbrev rKV (m : (ℓ : Loc AttnFwdRefIdeal.nD AttnFwdRefIdeal.τ AttnFwdRefIdeal.sig) → Buf (Elt Ideal) ℓ) (c : Dev AttnFwdRefIdeal.nD) : S512x2048.Idx → EReal :=
  m ((c.tc : Thread AttnFwdRefIdeal.nD AttnFwdRefIdeal.τ).loc AttnFwdRefIdeal.main_arg1)

set_option maxHeartbeats 4000000 in
theorem ref_run (m : (ℓ : Loc AttnFwdRefIdeal.nD AttnFwdRefIdeal.τ AttnFwdRefIdeal.sig) → Buf (Elt Ideal) ℓ) (ρ : Dev AttnFwdRefIdeal.nD → PrngReg) :
    θ_run (AttnFwdRefIdeal.defs (F := Ideal)) (onTc (τ := AttnFwdRefIdeal.τ) (AttnFwdRefIdeal.main (F := Ideal))) ⟨m, fun _ => 0, ρ⟩ fun r => ∀ c : Dev AttnFwdRefIdeal.nD,
      r.2.mem ((c.tc : Thread AttnFwdRefIdeal.nD AttnFwdRefIdeal.τ).loc AttnFwdRefIdeal.main_v24)
        = outO (AttnBwdRef.vals (rKV m c)) (AttnBwdRef.wt (AttnBwdRef.sc (AttnBwdRef.heads (rQ m c)) (AttnBwdRef.keys (rKV m c))))
      ∧ r.2.mem ((c.tc : Thread AttnFwdRefIdeal.nD AttnFwdRefIdeal.τ).loc AttnFwdRefIdeal.main_arg0) = m ((c.tc : Thread AttnFwdRefIdeal.nD AttnFwdRefIdeal.τ).loc AttnFwdRefIdeal.main_arg0)
      ∧ r.2.mem ((c.tc : Thread AttnFwdRefIdeal.nD AttnFwdRefIdeal.τ).loc AttnFwdRefIdeal.main_arg1) = m ((c.tc : Thread AttnFwdRefIdeal.nD AttnFwdRefIdeal.τ).loc AttnFwdRefIdeal.main_arg1) :=
  (θ_run AttnFwdRefIdeal.defs _ _).mono (fun r h c => ⟨(h c).1.trans (by
    simp only [outO, AttnBwdRef.sc, AttnBwdRef.heads, AttnBwdRef.keys, AttnBwdRef.vals, AttnBwdRef.along, AttnBwdRef.rowSum, AttnBwdRef.wt, AttnBwdRef.ex, AttnBwdRef.low, AttnBwdRef.cap, AttnBwdRef.rowMax]
    congr! 30), (h c).2⟩) (AttnFwdRefIdeal.Value.run m ρ)

/-- The kernel leaves the output of the attention lines. -/
theorem algebraic : Cert.algebraic_AttnFwdIdeal_AttnFwdRefIdeal_pre_finite_attn_fwd
    (hAttnFwdIdeal := Cert.AttnFwdIdeal.Gen.facts) (hAttnFwdRefIdeal := Cert.AttnFwdRefIdeal.Gen.facts)
    (hPre_finite_attn_fwd := Cert.Pre_finite_attn_fwd.Gen.facts) := by
  pair_intro
  · run_from Cert.AttnFwdIdeal.Value.run_blocks m g
  · run_from ref_run m' g'
    obtain ⟨h0, h1⟩ := hpre c
    obtain ⟨Q, hQ⟩ := Scalars.real_array _ _ (fun _ => Scalars.top_bf16) h0
    obtain ⟨KV, hKV⟩ := Scalars.real_array _ _ (fun _ => Scalars.top_bf16) h1
    have q : mQ m c = fun i => (Q i : EReal) := hQ
    have kv : mKV m c = fun i => (KV i : EReal) := hKV
    refine Eq.trans (?_ : outO (AttnBwdRef.vals (mKV m c)) (AttnBwdRef.wt (AttnBwdRef.sc (AttnBwdRef.heads (mQ m c)) (AttnBwdRef.keys (mKV m c)))) = _) (final3 m c).symm
    rw [q, kv]
    exact outO_eq Q KV

/-- The reference terminates, keeps its arguments, and has no semaphore. -/
theorem frame_ref : Cert.quiescent_AttnFwdRefIdeal (hAttnFwdRefIdeal := Cert.AttnFwdRefIdeal.Gen.facts) := fun m ρ _ =>
  (θ_run Cert.AttnFwdRefIdeal.defs _ _).mono (fun r h => ⟨fun c => (h c).2, sem_eq_zero_of_no_sems (by decide) r.2⟩)
    (Cert.AttnFwdRefIdeal.Value.run m ρ)

end Cert.AttnFwdProof

end
-- ==== Proof.NormRow.lean ====
/- Hand-written: the root-mean-square norm forward, on one row of 1024 entries, and the gates of the forward calls. -/
module

public import proofs.«01_k».proof.Proof.NormGrad

@[expose] public section

noncomputable section

namespace Cert.NormRow

open Idealize.ShloMosaic

/-- A row divided by its root mean square and scaled. -/
def nrm (x g : Fin 1024 → EReal) (j : Fin 1024) : EReal := x j * NormGrad.inv x * g j

/-- The same over an array of rows. -/
def rows {n : ℕ} (X : Fin n → Fin 1024 → EReal) (G : Fin 1024 → EReal) (r : Fin n) (j : Fin 1024) : EReal := nrm (X r) G j

/-- A normed row times a column of the weight. -/
def prod {n k : ℕ} (X : Fin n → Fin 1024 → EReal) (G : Fin 1024 → EReal) (W : Fin 1024 → Fin k → EReal) (r : Fin n) (j : Fin k) : EReal :=
  ∑ l, nrm (X r) G l * W l j

/-- The logistic function. -/
def sg (g : EReal) : EReal := Ideal.div 1 (1 + Ideal.exp (-g))

end Cert.NormRow

end
-- ==== Proof.UpFwd.lean ====
/- Hand-written: the up projection of the feed-forward block, its norm and gate folded in. -/
module

public import proofs.«01_k».proof.Proof.Gen.UpFwdIdeal.Value
public import proofs.«01_k».proof.Proof.Gen.UpFwdRefIdeal.Run
public import proofs.«01_k».proof.Proof.NormRow
public import proofs.«01_k».proof.Defs

@[expose] public section

set_option maxRecDepth 16384

noncomputable section

namespace Cert.UpFwdProof

open Idealize.ShloMosaic Idealize.ShloMosaic.TcCoe Idealize.SL.Sem Cert.UpFwdIdeal Cert.UpFwdIdeal.Gen
open Idealize.ShloMosaic.Pipeline (Dat)

/-- The gated unit of a row: the gate's half through its logistic function, times the other half. -/
def act {n : ℕ} (X : Fin n → Fin 1024 → EReal) (G : Fin 1024 → EReal) (W : Fin 1024 → Fin 5632 → EReal) (r : Fin n) (j : Fin 2816) : EReal :=
  NormRow.prod X G W r ⟨(j : ℕ), by omega⟩ * NormRow.sg (NormRow.prod X G W r ⟨(j : ℕ), by omega⟩) * NormRow.prod X G W r ⟨2816 + (j : ℕ), by omega⟩

/-! ## A block -/

section block

variable (v0 : S256x1024.Idx → EReal) (v1 : S1x1024.Idx → EReal) (w : S5632x1024.Idx → EReal)

theorem pay1_at (r : Fin 256) (j : Fin 1024) :
    k0_pay1 (F := Ideal) v0 v1 (ix2 r j) = NormRow.nrm (fun l => v0 (ix2 r l)) (fun l => v1 (ix2 0 l)) j := by
  pointwise [k0_pay1]
  rfl

theorem pay2_at (r : Fin 256) (j : Fin 5632) :
    k0_pay2 (F := Ideal) v0 v1 w (ix2 r j) = ∑ l : Fin 1024, NormRow.nrm (fun l => v0 (ix2 r l)) (fun l => v1 (ix2 0 l)) l * w (ix2 j l) := by
  pointwise [k0_pay2]
  exact Finset.sum_congr rfl fun l _ => congrArg (· * _) (pay1_at v0 v1 r l)

theorem pay3_at (r : Fin 256) (j : Fin 5632) : k0_pay3 (F := Ideal) v0 v1 w (ix2 r j) = k0_pay2 (F := Ideal) v0 v1 w (ix2 r j) := rfl

theorem pay4_at (r : Fin 256) (j : Fin 2816) :
    k0_pay4 (F := Ideal) v0 v1 w (ix2 r j) = k0_pay2 (F := Ideal) v0 v1 w (ix2 r ⟨(j : ℕ), by omega⟩)
      * NormRow.sg (k0_pay2 (F := Ideal) v0 v1 w (ix2 r ⟨(j : ℕ), by omega⟩)) * k0_pay2 (F := Ideal) v0 v1 w (ix2 r ⟨2816 + (j : ℕ), by omega⟩) := by
  pointwise [k0_pay4, Scalars.half_f32, Scalars.half_tanh_eq_logistic]
  rfl

end block

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

abbrev mX (c : Dev nD) (r : Fin 4096) (j : Fin 1024) : EReal := m ((c : Thread nD τ).loc main_arg0) (ix2 r j)
abbrev mW (c : Dev nD) (l : Fin 1024) (j : Fin 5632) : EReal := m ((c : Thread nD τ).loc main_arg1) (ix2 j l)
abbrev mG (c : Dev nD) (j : Fin 1024) : EReal := m ((c : Thread nD τ).loc main_arg2) (ix2 0 j)

/-- A row of the array, from the grid point and the row of its block. -/
def row (t : Fin cfg0.N) (r : Fin 256) : Fin 4096 :=
  ⟨t.val * 256 + (r : ℕ), by have ht : t.val < 16 := lt_of_lt_of_eq t.isLt N_0; omega⟩

section point

variable (c : Dev nD) (t : Fin cfg0.N)

theorem ld0 (r : Fin 256) (j : Fin 1024) : iblk m c 0 t (ix2 r j) = mX m c (row t r) j := by
  unfold row; blk_point [iblk, V, idx t]
theorem ld1 (l : Fin 1024) (j : Fin 5632) : iblk m c 1 t (ix2 j l) = mW m c l j := by
  blk_point [iblk, V, idx t]
theorem ld2 (j : Fin 1024) : iblk m c 2 t (ix2 0 j) = mG m c j := by
  blk_point [iblk, V, idx t]

theorem emb3 (r : Fin 256) (j : Fin 5632) :
    ((View.whole main_v0_0).slice (win0_3.rect t)).emb (ix2 r j) 0 = row t r ∧ ((View.whole main_v0_0).slice (win0_3.rect t)).emb (ix2 r j) 1 = j := by
  constructor <;> refine Fin.ext ?_ <;> blk_simp [idx t] <;> rfl

theorem emb4 (r : Fin 256) (j : Fin 2816) :
    ((View.whole main_v0_1).slice (win0_4.rect t)).emb (ix2 r j) 0 = row t r ∧ ((View.whole main_v0_1).slice (win0_4.rect t)).emb (ix2 r j) 1 = j := by
  constructor <;> refine Fin.ext ?_ <;> blk_simp [idx t] <;> rfl

theorem emb5 (r : Fin 256) (j : Fin 1024) :
    ((View.whole main_v0_2).slice (win0_5.rect t)).emb (ix2 r j) 0 = row t r ∧ ((View.whole main_v0_2).slice (win0_5.rect t)).emb (ix2 r j) 1 = j := by
  constructor <;> refine Fin.ext ?_ <;> blk_simp [idx t] <;> rfl

end point

/-- The product the kernel leaves. -/
theorem final3 (c : Dev nD) : (dats m 0 c).arrAt 3 cfg0.N = fun i => NormRow.prod (mX m c) (mG m c) (mW m c) (i 0) (i 1) := by
  refine (dats m 0 c).arrAt_eq_of_covers 3 _ (by decide +kernel) fun t _ y => ?_
  blk_simp
  rw [after0_3]
  idx_vars y
  refine Eq.trans ?_ (congrArg₂ (NormRow.prod (mX m c) (mG m c) (mW m c)) (emb3 t y0 y1).1 (emb3 t y0 y1).2).symm
  unfold out0_3
  frame_out
  rw [pay3_at, pay2_at]
  simp only [ld0, ld1, ld2]
  rfl

/-- The gated rows the kernel leaves. -/
theorem final4 (c : Dev nD) : (dats m 0 c).arrAt 4 cfg0.N = fun i => act (mX m c) (mG m c) (mW m c) (i 0) (i 1) := by
  refine (dats m 0 c).arrAt_eq_of_covers 4 _ (by decide +kernel) fun t _ y => ?_
  blk_simp
  rw [after0_4]
  idx_vars y
  refine Eq.trans ?_ (congrArg₂ (act (mX m c) (mG m c) (mW m c)) (emb4 t y0 y1).1 (emb4 t y0 y1).2).symm
  unfold out0_4
  frame_out
  rw [pay4_at]
  simp only [pay2_at, ld0, ld1, ld2]
  rfl

/-- The normed rows the kernel leaves. -/
theorem final5 (c : Dev nD) : (dats m 0 c).arrAt 5 cfg0.N = fun i => NormRow.rows (mX m c) (mG m c) (i 0) (i 1) := by
  refine (dats m 0 c).arrAt_eq_of_covers 5 _ (by decide +kernel) fun t _ y => ?_
  blk_simp
  rw [after0_5]
  idx_vars y
  refine Eq.trans ?_ (congrArg₂ (NormRow.rows (mX m c) (mG m c)) (emb5 t y0 y1).1 (emb5 t y0 y1).2).symm
  unfold out0_5
  frame_out
  rw [pay1_at]
  simp only [ld0, ld2]
  rfl

/-! ## The two runs -/

theorem ref_run (m' : (ℓ : Loc Cert.UpFwdRefIdeal.nD Cert.UpFwdRefIdeal.τ Cert.UpFwdRefIdeal.sig) → Buf (Elt Ideal) ℓ)
    (ρ : Dev Cert.UpFwdRefIdeal.nD → PrngReg) :
    θ_run (Cert.UpFwdRefIdeal.defs (F := Ideal)) (onTc (τ := Cert.UpFwdRefIdeal.τ) (Cert.UpFwdRefIdeal.main (F := Ideal))) ⟨m', fun _ => 0, ρ⟩ fun r => ∀ c : Dev Cert.UpFwdRefIdeal.nD,
      r.2.mem (c.tc.loc Cert.UpFwdRefIdeal.main_v17) = (fun i => NormRow.prod (fun (r : Fin 4096) (j : Fin 1024) => m' (c.tc.loc Cert.UpFwdRefIdeal.main_arg0) (ix2 r j)) (fun (j : Fin 1024) => m' (c.tc.loc Cert.UpFwdRefIdeal.main_arg2) (ix2 0 j)) (fun (l : Fin 1024) (j : Fin 5632) => m' (c.tc.loc Cert.UpFwdRefIdeal.main_arg1) (ix2 j l)) (i 0) (i 1))
      ∧ r.2.mem (c.tc.loc Cert.UpFwdRefIdeal.main_v20) = (fun i => act (fun (r : Fin 4096) (j : Fin 1024) => m' (c.tc.loc Cert.UpFwdRefIdeal.main_arg0) (ix2 r j)) (fun (j : Fin 1024) => m' (c.tc.loc Cert.UpFwdRefIdeal.main_arg2) (ix2 0 j)) (fun (l : Fin 1024) (j : Fin 5632) => m' (c.tc.loc Cert.UpFwdRefIdeal.main_arg1) (ix2 j l)) (i 0) (i 1))
      ∧ r.2.mem (c.tc.loc Cert.UpFwdRefIdeal.main_v21) = (fun i => NormRow.rows (fun (r : Fin 4096) (j : Fin 1024) => m' (c.tc.loc Cert.UpFwdRefIdeal.main_arg0) (ix2 r j)) (fun (j : Fin 1024) => m' (c.tc.loc Cert.UpFwdRefIdeal.main_arg2) (ix2 0 j)) (i 0) (i 1))
      ∧ r.2.mem (c.tc.loc Cert.UpFwdRefIdeal.main_arg0) = m' (c.tc.loc Cert.UpFwdRefIdeal.main_arg0)
      ∧ r.2.mem (c.tc.loc Cert.UpFwdRefIdeal.main_arg1) = m' (c.tc.loc Cert.UpFwdRefIdeal.main_arg1)
      ∧ r.2.mem (c.tc.loc Cert.UpFwdRefIdeal.main_arg2) = m' (c.tc.loc Cert.UpFwdRefIdeal.main_arg2) :=
  (θ_run Cert.UpFwdRefIdeal.defs _ _).mono (fun r h c => ⟨(h c).1.trans (by funext i; idx_vars i; pointwise; rfl),
    (h c).2.1.trans (by funext i; idx_vars i; pointwise; rfl),
    (h c).2.2.1.trans (by funext i; idx_vars i; pointwise; rfl), (h c).2.2.2⟩)
    (Cert.UpFwdRefIdeal.Value.run m' ρ)

/-- The kernel leaves the normed rows, their product with the weight, and the gated unit of it. -/
theorem algebraic : Cert.algebraic_UpFwdIdeal_UpFwdRefIdeal
    (hUpFwdIdeal := Cert.UpFwdIdeal.Gen.facts) (hUpFwdRefIdeal := Cert.UpFwdRefIdeal.Gen.facts) := by
  pair_intro
  · run_from Cert.UpFwdIdeal.Value.run_blocks m g
  · run_from ref_run m' g'
    · exact (final3 m c).symm
    · exact (final4 m c).symm
    · exact (final5 m c).symm

/-- The reference terminates, keeps its arguments, and has no semaphore. -/
theorem frame_ref : Cert.quiescent_UpFwdRefIdeal (hUpFwdRefIdeal := Cert.UpFwdRefIdeal.Gen.facts) := fun m ρ _ =>
  (θ_run Cert.UpFwdRefIdeal.defs _ _).mono (fun r h => ⟨fun c => (h c).2.2.2, sem_eq_zero_of_no_sems (by decide) r.2⟩)
    (Cert.UpFwdRefIdeal.Value.run m ρ)

end Cert.UpFwdProof

end
-- ==== Proof.InFwd.lean ====
/- Hand-written: the input projection of the mixing layers, its norm folded in. -/
module

public import proofs.«01_k».proof.Proof.Gen.InFwdIdeal.Value
public import proofs.«01_k».proof.Proof.Gen.InFwdRefIdeal.Run
public import proofs.«01_k».proof.Proof.NormRow
public import proofs.«01_k».proof.Defs

@[expose] public section

set_option maxRecDepth 16384

noncomputable section

namespace Cert.InFwdProof

open Idealize.ShloMosaic Idealize.ShloMosaic.TcCoe Idealize.SL.Sem Cert.InFwdIdeal Cert.InFwdIdeal.Gen
open Idealize.ShloMosaic.Pipeline (Dat)

/-! ## A block -/

section block

variable (v0 : S512x1024.Idx → EReal) (v1 : S1x1024.Idx → EReal) (w : S1024x3072.Idx → EReal)

theorem pay1_at (r : Fin 512) (j : Fin 1024) :
    k0_pay1 (F := Ideal) v0 v1 (ix2 r j) = NormRow.nrm (fun l => v0 (ix2 r l)) (fun l => v1 (ix2 0 l)) j := by
  pointwise [k0_pay1]
  rfl

theorem pay2_at (r : Fin 512) (j : Fin 3072) :
    k0_pay2 (F := Ideal) v0 v1 w (ix2 r j) = ∑ l : Fin 1024, NormRow.nrm (fun l => v0 (ix2 r l)) (fun l => v1 (ix2 0 l)) l * w (ix2 l j) := by
  pointwise [k0_pay2]
  exact Finset.sum_congr rfl fun l _ => congrArg (· * _) (pay1_at v0 v1 r l)

end block

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

abbrev mX (c : Dev nD) (r : Fin 4096) (j : Fin 1024) : EReal := m ((c : Thread nD τ).loc main_arg0) (ix2 r j)
abbrev mW (c : Dev nD) (l : Fin 1024) (j : Fin 3072) : EReal := m ((c : Thread nD τ).loc main_arg1) (ix2 l j)
abbrev mG (c : Dev nD) (j : Fin 1024) : EReal := m ((c : Thread nD τ).loc main_arg2) (ix2 0 j)

/-- A row of the array, from the grid point and the row of its block. -/
def row (t : Fin cfg0.N) (r : Fin 512) : Fin 4096 :=
  ⟨t.val * 512 + (r : ℕ), by have ht : t.val < 8 := lt_of_lt_of_eq t.isLt N_0; omega⟩

section point

variable (c : Dev nD) (t : Fin cfg0.N)

theorem ld0 (r : Fin 512) (j : Fin 1024) : iblk m c 0 t (ix2 r j) = mX m c (row t r) j := by
  unfold row; blk_point [iblk, V, idx t]
theorem ld1 (l : Fin 1024) (j : Fin 3072) : iblk m c 1 t (ix2 l j) = mW m c l j := by
  blk_point [iblk, V, idx t]
theorem ld2 (j : Fin 1024) : iblk m c 2 t (ix2 0 j) = mG m c j := by
  blk_point [iblk, V, idx t]

theorem emb3 (r : Fin 512) (j : Fin 3072) :
    ((View.whole main_v0_0).slice (win0_3.rect t)).emb (ix2 r j) 0 = row t r ∧ ((View.whole main_v0_0).slice (win0_3.rect t)).emb (ix2 r j) 1 = j := by
  constructor <;> refine Fin.ext ?_ <;> blk_simp [idx t] <;> rfl

theorem emb4 (r : Fin 512) (j : Fin 1024) :
    ((View.whole main_v0_1).slice (win0_4.rect t)).emb (ix2 r j) 0 = row t r ∧ ((View.whole main_v0_1).slice (win0_4.rect t)).emb (ix2 r j) 1 = j := by
  constructor <;> refine Fin.ext ?_ <;> blk_simp [idx t] <;> rfl

end point

/-- The product the kernel leaves. -/
theorem final3 (c : Dev nD) : (dats m 0 c).arrAt 3 cfg0.N = fun i => NormRow.prod (mX m c) (mG m c) (mW m c) (i 0) (i 1) := by
  refine (dats m 0 c).arrAt_eq_of_covers 3 _ (by decide +kernel) fun t _ y => ?_
  blk_simp
  rw [after0_3]
  idx_vars y
  refine Eq.trans ?_ (congrArg₂ (NormRow.prod (mX m c) (mG m c) (mW m c)) (emb3 t y0 y1).1 (emb3 t y0 y1).2).symm
  unfold out0_3
  frame_out
  rw [pay2_at]
  simp only [ld0, ld1, ld2]
  rfl

/-- The normed rows the kernel leaves. -/
theorem final4 (c : Dev nD) : (dats m 0 c).arrAt 4 cfg0.N = fun i => NormRow.rows (mX m c) (mG m c) (i 0) (i 1) := by
  refine (dats m 0 c).arrAt_eq_of_covers 4 _ (by decide +kernel) fun t _ y => ?_
  blk_simp
  rw [after0_4]
  idx_vars y
  refine Eq.trans ?_ (congrArg₂ (NormRow.rows (mX m c) (mG m c)) (emb4 t y0 y1).1 (emb4 t y0 y1).2).symm
  unfold out0_4
  frame_out
  rw [pay1_at]
  simp only [ld0, ld2]
  rfl

/-! ## The two runs -/

theorem ref_run (m' : (ℓ : Loc Cert.InFwdRefIdeal.nD Cert.InFwdRefIdeal.τ Cert.InFwdRefIdeal.sig) → Buf (Elt Ideal) ℓ)
    (ρ : Dev Cert.InFwdRefIdeal.nD → PrngReg) :
    θ_run (Cert.InFwdRefIdeal.defs (F := Ideal)) (onTc (τ := Cert.InFwdRefIdeal.τ) (Cert.InFwdRefIdeal.main (F := Ideal))) ⟨m', fun _ => 0, ρ⟩ fun r => ∀ c : Dev Cert.InFwdRefIdeal.nD,
      r.2.mem (c.tc.loc Cert.InFwdRefIdeal.main_v14) = (fun i => NormRow.prod (fun (r : Fin 4096) (j : Fin 1024) => m' (c.tc.loc Cert.InFwdRefIdeal.main_arg0) (ix2 r j)) (fun (j : Fin 1024) => m' (c.tc.loc Cert.InFwdRefIdeal.main_arg2) (ix2 0 j)) (fun (l : Fin 1024) (j : Fin 3072) => m' (c.tc.loc Cert.InFwdRefIdeal.main_arg1) (ix2 l j)) (i 0) (i 1))
      ∧ r.2.mem (c.tc.loc Cert.InFwdRefIdeal.main_v15) = (fun i => NormRow.rows (fun (r : Fin 4096) (j : Fin 1024) => m' (c.tc.loc Cert.InFwdRefIdeal.main_arg0) (ix2 r j)) (fun (j : Fin 1024) => m' (c.tc.loc Cert.InFwdRefIdeal.main_arg2) (ix2 0 j)) (i 0) (i 1))
      ∧ r.2.mem (c.tc.loc Cert.InFwdRefIdeal.main_arg0) = m' (c.tc.loc Cert.InFwdRefIdeal.main_arg0)
      ∧ r.2.mem (c.tc.loc Cert.InFwdRefIdeal.main_arg1) = m' (c.tc.loc Cert.InFwdRefIdeal.main_arg1)
      ∧ r.2.mem (c.tc.loc Cert.InFwdRefIdeal.main_arg2) = m' (c.tc.loc Cert.InFwdRefIdeal.main_arg2) :=
  (θ_run Cert.InFwdRefIdeal.defs _ _).mono (fun r h c => ⟨(h c).1.trans (by funext i; idx_vars i; pointwise; rfl),
    (h c).2.1.trans (by funext i; idx_vars i; pointwise; rfl), (h c).2.2⟩)
    (Cert.InFwdRefIdeal.Value.run m' ρ)

/-- The kernel leaves the normed rows and their product with the weight. -/
theorem algebraic : Cert.algebraic_InFwdIdeal_InFwdRefIdeal
    (hInFwdIdeal := Cert.InFwdIdeal.Gen.facts) (hInFwdRefIdeal := Cert.InFwdRefIdeal.Gen.facts) := by
  pair_intro
  · run_from Cert.InFwdIdeal.Value.run_blocks m g
  · run_from ref_run m' g'
    · exact (final3 m c).symm
    · exact (final4 m c).symm

/-- The reference terminates, keeps its arguments, and has no semaphore. -/
theorem frame_ref : Cert.quiescent_InFwdRefIdeal (hInFwdRefIdeal := Cert.InFwdRefIdeal.Gen.facts) := fun m ρ _ =>
  (θ_run Cert.InFwdRefIdeal.defs _ _).mono (fun r h => ⟨fun c => (h c).2.2, sem_eq_zero_of_no_sems (by decide) r.2⟩)
    (Cert.InFwdRefIdeal.Value.run m ρ)

end Cert.InFwdProof

end
-- ==== Proof.NormFwd.lean ====
/- Hand-written: the root-mean-square norm of the rows before attention. -/
module

public import proofs.«01_k».proof.Proof.Gen.NormFwdIdeal.Value
public import proofs.«01_k».proof.Proof.Gen.NormFwdRefIdeal.Run
public import proofs.«01_k».proof.Proof.NormRow
public import proofs.«01_k».proof.Defs

@[expose] public section

set_option maxRecDepth 16384

noncomputable section

namespace Cert.NormFwdProof

open Idealize.ShloMosaic Idealize.ShloMosaic.TcCoe Idealize.SL.Sem Cert.NormFwdIdeal Cert.NormFwdIdeal.Gen
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem pay_at (v0 : S512x1024.Idx → EReal) (v1 : S1x1024.Idx → EReal) (r : Fin 512) (j : Fin 1024) :
    k0_pay1 (F := Ideal) v0 v1 (ix2 r j) = NormRow.nrm (fun l => v0 (ix2 r l)) (fun l => v1 (ix2 0 l)) j := by
  pointwise [k0_pay1]
  rfl

abbrev mX (c : Dev nD) (r : Fin 4096) (j : Fin 1024) : EReal := m ((c : Thread nD τ).loc main_arg0) (ix2 r j)
abbrev mG (c : Dev nD) (j : Fin 1024) : EReal := m ((c : Thread nD τ).loc main_arg1) (ix2 0 j)

/-- A row of the array, from the grid point and the row of its block. -/
def row (t : Fin cfg0.N) (r : Fin 512) : Fin 4096 :=
  ⟨t.val * 512 + (r : ℕ), by have ht : t.val < 8 := lt_of_lt_of_eq t.isLt N_0; omega⟩

theorem ld0 (c : Dev nD) (t : Fin cfg0.N) (r : Fin 512) (j : Fin 1024) : iblk m c 0 t (ix2 r j) = mX m c (row t r) j := by
  unfold row; blk_point [iblk, V, idx t]
theorem ld1 (c : Dev nD) (t : Fin cfg0.N) (j : Fin 1024) : iblk m c 1 t (ix2 0 j) = mG m c j := by
  blk_point [iblk, V, idx t]

theorem emb2 (t : Fin cfg0.N) (r : Fin 512) (j : Fin 1024) :
    ((View.whole main_v0).slice (win0_2.rect t)).emb (ix2 r j) 0 = row t r ∧ ((View.whole main_v0).slice (win0_2.rect t)).emb (ix2 r j) 1 = j := by
  constructor <;> refine Fin.ext ?_ <;> blk_simp [idx t] <;> rfl

/-- The rows the kernel leaves. -/
theorem final (c : Dev nD) : (dats m 0 c).arrAt 2 cfg0.N = fun i => NormRow.rows (mX m c) (mG m c) (i 0) (i 1) := by
  refine (dats m 0 c).arrAt_eq_of_covers 2 _ (by decide +kernel) fun t hf y => ?_
  blk_simp
  rw [after0_2]
  idx_vars y
  refine Eq.trans ?_ (congrArg₂ (NormRow.rows (mX m c) (mG m c)) (emb2 t y0 y1).1 (emb2 t y0 y1).2).symm
  unfold out0_2
  frame_out
  rw [pay_at]
  simp only [ld0, ld1]
  rfl

theorem ref_run (m' : (ℓ : Loc Cert.NormFwdRefIdeal.nD Cert.NormFwdRefIdeal.τ Cert.NormFwdRefIdeal.sig) → Buf (Elt Ideal) ℓ)
    (ρ : Dev Cert.NormFwdRefIdeal.nD → PrngReg) :
    θ_run (Cert.NormFwdRefIdeal.defs (F := Ideal)) (onTc (τ := Cert.NormFwdRefIdeal.τ) (Cert.NormFwdRefIdeal.main (F := Ideal))) ⟨m', fun _ => 0, ρ⟩ fun r => ∀ c : Dev Cert.NormFwdRefIdeal.nD,
      r.2.mem (c.tc.loc Cert.NormFwdRefIdeal.main_v12) = (fun i => NormRow.rows (fun (r : Fin 4096) (j : Fin 1024) => m' (c.tc.loc Cert.NormFwdRefIdeal.main_arg0) (ix2 r j))
        (fun j => m' (c.tc.loc Cert.NormFwdRefIdeal.main_arg1) (ix2 0 j)) (i 0) (i 1))
      ∧ r.2.mem (c.tc.loc Cert.NormFwdRefIdeal.main_arg0) = m' (c.tc.loc Cert.NormFwdRefIdeal.main_arg0)
      ∧ r.2.mem (c.tc.loc Cert.NormFwdRefIdeal.main_arg1) = m' (c.tc.loc Cert.NormFwdRefIdeal.main_arg1) :=
  (θ_run Cert.NormFwdRefIdeal.defs _ _).mono (fun r h c => ⟨(h c).1.trans (by funext i; idx_vars i; pointwise; rfl), (h c).2⟩)
    (Cert.NormFwdRefIdeal.Value.run m' ρ)

/-- The kernel leaves the normed rows. -/
theorem algebraic : Cert.algebraic_NormFwdIdeal_NormFwdRefIdeal
    (hNormFwdIdeal := Cert.NormFwdIdeal.Gen.facts) (hNormFwdRefIdeal := Cert.NormFwdRefIdeal.Gen.facts) := by
  pair_intro
  · run_from Cert.NormFwdIdeal.Value.run_blocks m g
  · run_from ref_run m' g'
    exact (final m c).symm

/-- The reference terminates, keeps its arguments, and has no semaphore. -/
theorem frame_ref : Cert.quiescent_NormFwdRefIdeal (hNormFwdRefIdeal := Cert.NormFwdRefIdeal.Gen.facts) := fun m ρ _ =>
  (θ_run Cert.NormFwdRefIdeal.defs _ _).mono (fun r h => ⟨fun c => (h c).2, sem_eq_zero_of_no_sems (by decide) r.2⟩)
    (Cert.NormFwdRefIdeal.Value.run m ρ)

end Cert.NormFwdProof

end
-- ==== Proof.ConvFwd.lean ====
/- Hand-written: the gated short convolution. -/
module

public import proofs.«01_k».proof.Proof.Gen.ConvFwdIdeal.Value
public import proofs.«01_k».proof.Proof.Gen.ConvFwdRefIdeal.Run
public import proofs.«01_k».proof.Proof.ConvBwdBlocks
public import proofs.«01_k».proof.Defs
public import Idealize.ShloMosaic.Lib.Tactic.CleanTypes

@[expose] public section

set_option maxRecDepth 16384

noncomputable section

namespace Cert.ConvFwdProof

open Idealize.ShloMosaic Idealize.ShloMosaic.TcCoe Idealize.SL.Sem Cert.ConvFwdIdeal Cert.ConvFwdIdeal.Gen
open Idealize.ShloMosaic.Pipeline (Dat)
open Cert.ConvBwdProof (pr tap conv late_block select_ge)

variable (m : (ℓ : Loc nD τ sig) → Buf (Elt Ideal) ℓ)

theorem idx : ∀ t : Fin cfg0.N, win0_0.index t = ![t.val / 4, t.val % 4] ∧ win0_1.index t = ![t.val / 4, 4 + t.val % 4]
    ∧ win0_2.index t = ![t.val / 4, 8 + t.val % 4] ∧ win0_3.index t = ![0, t.val % 4] ∧ win0_4.index t = ![t.val / 4, t.val % 4] :=
  (by decide +kernel : ∀ t : Fin grid0.N, _)

/-- The output gate times the convolution of the gated values. -/
def G (H : S4096x3072.Idx → EReal) (W : S3x1024.Idx → EReal) (j : S4096x1024.Idx) : EReal :=
  pr H (j 0).val (1024 + (j 1).val) * conv H W (j 0).val (j 1).val

/-- The output gate as an array. -/
def gate (H : S4096x3072.Idx → EReal) (i : S4096x1024.Idx) : EReal := H (ix2 (i 0) ⟨1024 + (i 1 : ℕ), by have h1 : (i 1 : ℕ) < 1024 := (i 1).isLt; omega⟩)

theorem G_at (H : S4096x3072.Idx → EReal) (W : S3x1024.Idx → EReal) (j : S4096x1024.Idx) (r k : ℕ) (h0 : (j 0).val = r) (h1 : (j 1).val = k) :
    G H W j = pr H r (1024 + k) * conv H W r k := by subst h0 h1; rfl

section blocks

variable (c : Dev nD) (t : Fin cfg0.N) (r : Fin 2048) (k : Fin 256)

theorem blk0 : iblk m c 0 t (ix2 r k) = pr (V m c main_arg0) (t.val / 4 * 2048 + r.val) (t.val % 4 * 256 + k.val) := by
  have := lt_of_lt_of_eq t.isLt N_0
  unfold pr
  blk_point [iblk, V, idx t]
theorem blk1 : iblk m c 1 t (ix2 r k) = pr (V m c main_arg0) (t.val / 4 * 2048 + r.val) (1024 + (t.val % 4 * 256 + k.val)) := by
  have := lt_of_lt_of_eq t.isLt N_0
  unfold pr
  blk_point [iblk, V, idx t]
theorem blk2 : iblk m c 2 t (ix2 r k) = pr (V m c main_arg0) (t.val / 4 * 2048 + r.val) (2048 + (t.val % 4 * 256 + k.val)) := by
  have := lt_of_lt_of_eq t.isLt N_0
  unfold pr
  blk_point [iblk, V, idx t]
theorem blk3 (i : Fin 3) : iblk m c 3 t (ix2 i k) = tap (V m c main_arg1) i (t.val % 4 * 256 + k.val) := by
  have := lt_of_lt_of_eq t.isLt N_0
  unfold tap
  blk_point [iblk, V, idx t]

end blocks

/-- The rows the kernel leaves. -/
theorem final (c : Dev nD) : (dats m 0 c).arrAt 4 cfg0.N = G (V m c main_arg0) (V m c main_arg1) := by
  refine (dats m 0 c).arrAt_eq_of_covers 4 _ (by decide +kernel) fun t _ y => ?_
  blk_simp
  rw [after0_4]
  have ht := lt_of_lt_of_eq t.isLt N_0
  idx_vars y
  rw [G_at _ _ _ (t.val / 4 * 2048 + y0.val) (t.val % 4 * 256 + y1.val) (by blk_simp [idx t] <;> (dsimp only; omega)) (by blk_simp [idx t] <;> (dsimp only; omega)),
    conv, ← late_block _ _ _ _ _ _ _ y0.isLt (by omega), ← late_block _ _ _ _ _ _ _ y0.isLt (by omega)]
  unfold out0_4
  frame_out
  pointwise [k0_pay1]
  rw [select_ge _ _ y0.isLt (by omega), select_ge _ _ y0.isLt (by omega)]
  simp only [blk0, blk1, blk2, blk3]
  rfl

/-- The kernel leaves the gated convolution. -/
theorem algebraic : Cert.algebraic_ConvFwdIdeal_ConvFwdRefIdeal
    (hConvFwdIdeal := Cert.ConvFwdIdeal.Gen.facts) (hConvFwdRefIdeal := Cert.ConvFwdRefIdeal.Gen.facts) := by
  pair_intro
  · run_from Cert.ConvFwdIdeal.Value.run_blocks m g
  · run_from Cert.ConvFwdRefIdeal.Value.run m' g'
    refine Eq.trans ?_ (final m c).symm
    funext j; clean_types; idx_vars j
    pointwise
    refine (Cert.ConvBwdProof.ref6 (gate (V m c main_arg0)) (V m c main_arg0) (V m c main_arg1) j0 j1).trans (congrArg (· * _) ?_)
    unfold Cert.ConvBwdProof.dz gate pr
    blk_point []

/-- The reference terminates, keeps its arguments, and has no semaphore. -/
theorem frame_ref : Cert.quiescent_ConvFwdRefIdeal (hConvFwdRefIdeal := Cert.ConvFwdRefIdeal.Gen.facts) := fun m ρ _ =>
  (θ_run Cert.ConvFwdRefIdeal.defs _ _).mono (fun r h => ⟨fun c => (h c).2, sem_eq_zero_of_no_sems (by decide) r.2⟩)
    (Cert.ConvFwdRefIdeal.Value.run m ρ)

end Cert.ConvFwdProof

end
-- ==== Proof.GluFwd.lean ====
/- Hand-written: the gated output projection of the recurrence layers, its residual added. -/
module

public import proofs.«01_k».proof.Proof.Gen.GluFwdIdeal.Value
public import proofs.«01_k».proof.Proof.Gen.GluFwdRefIdeal.Run
public import proofs.«01_k».proof.Proof.NormRow
public import proofs.«01_k».proof.Defs

@[expose] public section

set_option maxRecDepth 16384

noncomputable section

namespace Cert.GluFwdProof

open Idealize.ShloMosaic Idealize.ShloMosaic.TcCoe Idealize.SL.Sem Cert.GluFwdIdeal Cert.GluFwdIdeal.Gen
open Idealize.ShloMosaic.Pipeline (Dat)

/-- A row times a column, and the gated half of the products added to a residual. -/
def dot {n k : ℕ} (Y : Fin n → Fin 1024 → EReal) (W : Fin 1024 → Fin k → EReal) (r : Fin n) (j : Fin k) : EReal := ∑ l, Y r l * W l j

def glu {n : ℕ} (Y : Fin n → Fin 1024 → EReal) (W : Fin 1024 → Fin 2048 → EReal) (E : Fin n → Fin 1024 → EReal) (r : Fin n) (j : Fin 1024) : EReal :=
  E r j + dot Y W r ⟨(j : ℕ), by omega⟩ * NormRow.sg (dot Y W r ⟨1024 + (j : ℕ), by omega⟩)

/-! ## A block -/

section block

variable (v0 : S256x1024.Idx → EReal) (v1 : S1024x2048.Idx → EReal) (v3 : S256x1024.Idx → EReal)

theorem pay3_at (r : Fin 256) (j : Fin 2048) :
    k0_pay3 (F := Ideal) v0 v1 (ix2 r j) = ∑ l, v0 (ix2 r l) * v1 (ix2 l j) := by
  pointwise [k0_pay3, k0_pay1]

theorem pay2_at (r : Fin 256) (j : Fin 1024) :
    k0_pay2 (F := Ideal) v0 v1 v3 (ix2 r j) = v3 (ix2 r j) + (∑ l, v0 (ix2 r l) * v1 (ix2 l ⟨(j : ℕ), by omega⟩))
      * NormRow.sg (∑ l, v0 (ix2 r l) * v1 (ix2 l ⟨1024 + (j : ℕ), by omega⟩)) := by
  pointwise [k0_pay2, k0_pay1, Scalars.half_f32, Scalars.half_tanh_eq_logistic]
  rfl

end block

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

abbrev mY (c : Dev nD) (r : Fin 4096) (j : Fin 1024) : EReal := m ((c : Thread nD τ).loc main_arg0) (ix2 r j)
abbrev mW (c : Dev nD) (l : Fin 1024) (j : Fin 2048) : EReal := m ((c : Thread nD τ).loc main_arg1) (ix2 l j)
abbrev mE (c : Dev nD) (r : Fin 4096) (j : Fin 1024) : EReal := m ((c : Thread nD τ).loc main_arg2) (ix2 r j)

/-- A row of the array, from the grid point and the row of its block. -/
def row (t : Fin cfg0.N) (r : Fin 256) : Fin 4096 :=
  ⟨t.val * 256 + (r : ℕ), by have ht : t.val < 16 := lt_of_lt_of_eq t.isLt N_0; omega⟩

section point

variable (c : Dev nD) (t : Fin cfg0.N)

theorem ld0 (r : Fin 256) (j : Fin 1024) : iblk m c 0 t (ix2 r j) = mY m c (row t r) j := by
  unfold row; blk_point [iblk, V, idx t]
theorem ld1 (l : Fin 1024) (j : Fin 2048) : iblk m c 1 t (ix2 l j) = mW m c l j := by
  blk_point [iblk, V, idx t]
theorem ld2 (r : Fin 256) (j : Fin 1024) : iblk m c 2 t (ix2 r j) = mE m c (row t r) j := by
  unfold row; blk_point [iblk, V, idx t]

theorem emb3 (r : Fin 256) (j : Fin 2048) :
    ((View.whole main_v0_0).slice (win0_3.rect t)).emb (ix2 r j) 0 = row t r ∧ ((View.whole main_v0_0).slice (win0_3.rect t)).emb (ix2 r j) 1 = j := by
  constructor <;> refine Fin.ext ?_ <;> blk_simp [idx t] <;> rfl

theorem emb4 (r : Fin 256) (j : Fin 1024) :
    ((View.whole main_v0_1).slice (win0_4.rect t)).emb (ix2 r j) 0 = row t r ∧ ((View.whole main_v0_1).slice (win0_4.rect t)).emb (ix2 r j) 1 = j := by
  constructor <;> refine Fin.ext ?_ <;> blk_simp [idx t] <;> rfl

end point

/-- The product the kernel leaves. -/
theorem final3 (c : Dev nD) : (dats m 0 c).arrAt 3 cfg0.N = fun i => dot (mY m c) (mW m c) (i 0) (i 1) := by
  refine (dats m 0 c).arrAt_eq_of_covers 3 _ (by decide +kernel) fun t _ y => ?_
  blk_simp
  rw [after0_3]
  idx_vars y
  refine Eq.trans ?_ (congrArg₂ (dot (mY m c) (mW m c)) (emb3 t y0 y1).1 (emb3 t y0 y1).2).symm
  unfold out0_3
  frame_out
  rw [pay3_at]
  simp only [ld0, ld1]
  rfl

/-- The gated rows the kernel leaves. -/
theorem final4 (c : Dev nD) : (dats m 0 c).arrAt 4 cfg0.N = fun i => glu (mY m c) (mW m c) (mE m c) (i 0) (i 1) := by
  refine (dats m 0 c).arrAt_eq_of_covers 4 _ (by decide +kernel) fun t _ y => ?_
  blk_simp
  rw [after0_4]
  idx_vars y
  refine Eq.trans ?_ (congrArg₂ (glu (mY m c) (mW m c) (mE m c)) (emb4 t y0 y1).1 (emb4 t y0 y1).2).symm
  unfold out0_4
  frame_out
  rw [pay2_at]
  simp only [ld0, ld1, ld2]
  rfl

/-! ## The two runs -/

theorem ref_run (m' : (ℓ : Loc Cert.GluFwdRefIdeal.nD Cert.GluFwdRefIdeal.τ Cert.GluFwdRefIdeal.sig) → Buf (Elt Ideal) ℓ)
    (ρ : Dev Cert.GluFwdRefIdeal.nD → PrngReg) :
    θ_run (Cert.GluFwdRefIdeal.defs (F := Ideal)) (onTc (τ := Cert.GluFwdRefIdeal.τ) (Cert.GluFwdRefIdeal.main (F := Ideal))) ⟨m', fun _ => 0, ρ⟩ fun r => ∀ c : Dev Cert.GluFwdRefIdeal.nD,
      r.2.mem (c.tc.loc Cert.GluFwdRefIdeal.main_v5) = (fun i => dot (fun (r : Fin 4096) (j : Fin 1024) => m' (c.tc.loc Cert.GluFwdRefIdeal.main_arg0) (ix2 r j)) (fun (l : Fin 1024) (j : Fin 2048) => m' (c.tc.loc Cert.GluFwdRefIdeal.main_arg1) (ix2 l j)) (i 0) (i 1))
      ∧ r.2.mem (c.tc.loc Cert.GluFwdRefIdeal.main_v13) = (fun i => glu (fun (r : Fin 4096) (j : Fin 1024) => m' (c.tc.loc Cert.GluFwdRefIdeal.main_arg0) (ix2 r j)) (fun (l : Fin 1024) (j : Fin 2048) => m' (c.tc.loc Cert.GluFwdRefIdeal.main_arg1) (ix2 l j)) (fun (r : Fin 4096) (j : Fin 1024) => m' (c.tc.loc Cert.GluFwdRefIdeal.main_arg2) (ix2 r j)) (i 0) (i 1))
      ∧ r.2.mem (c.tc.loc Cert.GluFwdRefIdeal.main_arg0) = m' (c.tc.loc Cert.GluFwdRefIdeal.main_arg0)
      ∧ r.2.mem (c.tc.loc Cert.GluFwdRefIdeal.main_arg1) = m' (c.tc.loc Cert.GluFwdRefIdeal.main_arg1)
      ∧ r.2.mem (c.tc.loc Cert.GluFwdRefIdeal.main_arg2) = m' (c.tc.loc Cert.GluFwdRefIdeal.main_arg2) :=
  (θ_run Cert.GluFwdRefIdeal.defs _ _).mono (fun r h c => ⟨(h c).1.trans (by funext i; idx_vars i; pointwise; rfl),
    (h c).2.1.trans (by funext i; idx_vars i; pointwise; rfl), (h c).2.2⟩)
    (Cert.GluFwdRefIdeal.Value.run m' ρ)

/-- The kernel leaves the product and the gated unit added to the residual. -/
theorem algebraic : Cert.algebraic_GluFwdIdeal_GluFwdRefIdeal
    (hGluFwdIdeal := Cert.GluFwdIdeal.Gen.facts) (hGluFwdRefIdeal := Cert.GluFwdRefIdeal.Gen.facts) := by
  pair_intro
  · run_from Cert.GluFwdIdeal.Value.run_blocks m g
  · run_from ref_run m' g'
    · exact (final3 m c).symm
    · exact (final4 m c).symm

/-- The reference terminates, keeps its arguments, and has no semaphore. -/
theorem frame_ref : Cert.quiescent_GluFwdRefIdeal (hGluFwdRefIdeal := Cert.GluFwdRefIdeal.Gen.facts) := fun m ρ _ =>
  (θ_run Cert.GluFwdRefIdeal.defs _ _).mono (fun r h => ⟨fun c => (h c).2.2, sem_eq_zero_of_no_sems (by decide) r.2⟩)
    (Cert.GluFwdRefIdeal.Value.run m ρ)

end Cert.GluFwdProof

end
-- ==== Proof.S5Loop.lean ====
module

public import proofs.«01_k».proof.Proof.Gen.S5FwdIdeal.Loops
public import proofs.«01_k».proof.Proof.Scalars
public import Idealize.ShloMosaic.Lib.Pipeline.ValueKit
public import Idealize.ShloMosaic.Lib.WritesUnit

@[expose] public section
set_option maxRecDepth 16384
noncomputable section
namespace Cert.S5FwdProof
open Idealize.ShloMosaic Idealize.ShloMosaic.TcCoe Idealize.SL.Sem

/-- The recurrence of one state: its real and imaginary part after `k` tokens, from zero, with the multiplier
`ar + i·ai` and the inputs `br r + i·bi r`. -/
def scan (ar ai : EReal) (br bi : Nat → EReal) : Nat → EReal × EReal
  | 0 => (0, 0)
  | k + 1 => (ar * (scan ar ai br bi k).1 - ai * (scan ar ai br bi k).2 + br k,
      ar * (scan ar ai br bi k).2 + ai * (scan ar ai br bi k).1 + bi k)

/-- The recurrence up to `k` reads its inputs below `k` only. -/
theorem scan_congr {ar ai ar' ai' : EReal} {br bi br' bi' : Nat → EReal} (har : ar = ar') (hai : ai = ai') : ∀ k,
    (∀ r, r < k → br r = br' r ∧ bi r = bi' r) → scan ar ai br bi k = scan ar' ai' br' bi' k
  | 0, _ => rfl
  | k + 1, h => by
    simp only [scan]
    rw [scan_congr har hai k fun r hr => h r (by omega), (h k (by omega)).1, (h k (by omega)).2, har, hai]

open Cert.S5FwdIdeal Cert.S5FwdIdeal.Gen

/-- Column `s` of a block of inputs, row by row. -/
def colOf (f : Vec Ideal S2048x512 .f32) (s : Fin 512) : Nat → EReal :=
  fun r => if h : r < 2048 then f (ix2 (⟨r, h⟩ : Fin 2048) s) else 0

theorem colOf_lt (f : Vec Ideal S2048x512 .f32) (s : Fin 512) (r : Fin 2048) : colOf f s r.val = f (ix2 r s) := by
  unfold colOf; rw [dif_pos r.isLt]

theorem trips_le : k0_t1_loop.trips ≤ 2048 := k0_t1_abs.2.1

/-- One row of a buffer, as the loop's load reads it. -/
theorem row_read (v : View sig .tc .vmem S2048x512 .f32) (f : v.ty.Contents (Elt Ideal)) (k : Fin k0_t1_loop.trips)
    (s : Fin 512) :
    v.readAt (Elt Ideal) (Rect.unit (s := S2048x512) (k0_off1 k) S1x512.size (k0_off1_inb k)).toLoadRect f (ix2 (0 : Fin 1) s)
      = v.read (Elt Ideal) f (ix2 (⟨k.val, lt_of_lt_of_le k.isLt trips_le⟩ : Fin 2048) s) := by
  rw [View.readAt_apply]
  congr 1
  funext a
  refine Fin.ext ?_
  show (k0_off1 k) a + 1 * ((ix2 (0 : Fin 1) s : S1x512.Idx) a).val = _
  rw [k0_off1_eq]
  fin_cases a
  · show k.val + 1 * 0 = k.val; omega
  · show 0 + 1 * s.val = s.val; omega

theorem pay8_at (v9 v11 sr si row : FVec Ideal S1x512 .f32) (s : Fin 512) :
    k0_pay8 (F := Ideal) v9 v11 sr si row (ix2 (0 : Fin 1) s)
      = v9 (ix2 (0 : Fin 1) s) * sr (ix2 (0 : Fin 1) s) - v11 (ix2 (0 : Fin 1) s) * si (ix2 (0 : Fin 1) s)
        + row (ix2 (0 : Fin 1) s) := by
  pointwise [k0_pay8, k0_pay5, k0_pay6]

theorem pay9_at (v9 v11 sr si row : FVec Ideal S1x512 .f32) (s : Fin 512) :
    k0_pay9 (F := Ideal) v9 v11 sr si row (ix2 (0 : Fin 1) s)
      = v9 (ix2 (0 : Fin 1) s) * si (ix2 (0 : Fin 1) s) + v11 (ix2 (0 : Fin 1) s) * sr (ix2 (0 : Fin 1) s)
        + row (ix2 (0 : Fin 1) s) := by
  pointwise [k0_pay9, k0_pay5, k0_pay6]

theorem pay7_at (s : Fin 512) : k0_pay7 (F := Ideal) (ix2 (0 : Fin 1) s) = (0 : EReal) := by
  pointwise [k0_pay7]
  <;> exact Ideal.ofBits_zero .f32

/-- A loop that reads a row of each buffer, makes one step of the recurrence with it and stores the step back over the
row: after `k` trips it carries the recurrence after `k` tokens, and each buffer holds it in the rows below `k`. -/
theorem loop_abs (u w : View sig .tc .vmem S2048x512 .f32) (G : u.ty.Contents (Elt Ideal)) (H : w.ty.Contents (Elt Ideal))
    (v9 v11 : Vec Ideal S1x512 .f32)
    (S : Nat → (FVec Ideal S1x512 .f32 × FVec Ideal S1x512 .f32) × List (View.Piece (Elt Ideal) S2048x512 .f32)
      × List (View.Piece (Elt Ideal) S2048x512 .f32))
    (h0 : (S 0).1 = (k0_pay7, k0_pay7)) (h1 : (S 0).2.1 = []) (h2 : (S 0).2.2 = [])
    (hc : ∀ k : Fin k0_t1_loop.trips, (S (k.val + 1)).1 =
      (k0_pay8 v9 v11 (S k.val).1.1 (S k.val).1.2 (u.readAt (Elt Ideal) (Rect.unit (s := S2048x512) (k0_off1 k) S1x512.size (k0_off1_inb k)).toLoadRect (u.writes (Elt Ideal) G (S k.val).2.1)),
       k0_pay9 v9 v11 (S k.val).1.1 (S k.val).1.2 (w.readAt (Elt Ideal) (Rect.unit (s := S2048x512) (k0_off1 k) S1x512.size (k0_off1_inb k)).toLoadRect (w.writes (Elt Ideal) H (S k.val).2.2))))
    (hu : ∀ k : Fin k0_t1_loop.trips, (S (k.val + 1)).2.1 =
      ⟨Rect.unit (s := S2048x512) (k0_off1 k) S1x512.size (k0_off1_inb k), (S (k.val + 1)).1.1⟩ :: (S k.val).2.1)
    (hw : ∀ k : Fin k0_t1_loop.trips, (S (k.val + 1)).2.2 =
      ⟨Rect.unit (s := S2048x512) (k0_off1 k) S1x512.size (k0_off1_inb k), (S (k.val + 1)).1.2⟩ :: (S k.val).2.2)
    (k : Nat) (hk : k ≤ k0_t1_loop.trips) :
    (∀ s : Fin 512, ((S k).1.1 (ix2 (0 : Fin 1) s), (S k).1.2 (ix2 (0 : Fin 1) s)) =
      scan (v9 (ix2 (0 : Fin 1) s)) (v11 (ix2 (0 : Fin 1) s)) (colOf (u.read (Elt Ideal) G) s) (colOf (w.read (Elt Ideal) H) s) k)
    ∧ ∀ (r : Fin 2048) (s : Fin 512),
      u.read (Elt Ideal) (u.writes (Elt Ideal) G (S k).2.1) (ix2 r s) = (if r.val < k then
        (scan (v9 (ix2 (0 : Fin 1) s)) (v11 (ix2 (0 : Fin 1) s)) (colOf (u.read (Elt Ideal) G) s) (colOf (w.read (Elt Ideal) H) s) (r.val + 1)).1
        else u.read (Elt Ideal) G (ix2 r s))
      ∧ w.read (Elt Ideal) (w.writes (Elt Ideal) H (S k).2.2) (ix2 r s) = (if r.val < k then
        (scan (v9 (ix2 (0 : Fin 1) s)) (v11 (ix2 (0 : Fin 1) s)) (colOf (u.read (Elt Ideal) G) s) (colOf (w.read (Elt Ideal) H) s) (r.val + 1)).2
        else w.read (Elt Ideal) H (ix2 r s)) := by
  induction k with
  | zero =>
    rw [h0, h1, h2]
    refine ⟨fun s => Prod.ext (pay7_at s) (pay7_at s), fun r s => ?_⟩
    simp only [Nat.not_lt_zero, if_false]
    exact ⟨rfl, rfl⟩
  | succ k ih =>
    obtain ⟨ihc, ihb⟩ := ih (by omega)
    have hlt : k < 2048 := lt_of_lt_of_le hk trips_le
    have step : ∀ s : Fin 512, ((S (k + 1)).1.1 (ix2 (0 : Fin 1) s), (S (k + 1)).1.2 (ix2 (0 : Fin 1) s)) =
        scan (v9 (ix2 (0 : Fin 1) s)) (v11 (ix2 (0 : Fin 1) s)) (colOf (u.read (Elt Ideal) G) s) (colOf (w.read (Elt Ideal) H) s) (k + 1) := by
      intro s
      have e := hc ⟨k, hk⟩
      simp only at e
      have h1 := congrArg Prod.fst (ihc s)
      have h2 := congrArg Prod.snd (ihc s)
      simp only at h1 h2
      have hb := ihb ⟨k, hlt⟩ s
      simp only [Nat.lt_irrefl, if_false] at hb
      rw [e]
      simp only [scan]
      refine Prod.ext ?_ ?_
      · refine (pay8_at v9 v11 _ _ _ s).trans ?_
        rw [row_read, h1, h2, hb.1, ← colOf_lt (u.read (Elt Ideal) G) s ⟨k, hlt⟩]
      · refine (pay9_at v9 v11 _ _ _ s).trans ?_
        rw [row_read, h1, h2, hb.2, ← colOf_lt (w.read (Elt Ideal) H) s ⟨k, hlt⟩]
    refine ⟨step, fun r s => ?_⟩
    have eu := hu ⟨k, hk⟩
    have ew := hw ⟨k, hk⟩
    simp only at eu ew
    rw [eu, ew]
    by_cases hr : r.val = k
    · have h1 := congrArg Prod.fst (step s)
      have h2 := congrArg Prod.snd (step s)
      simp only at h1 h2
      rw [if_pos (by omega), if_pos (by omega)]
      rw [View.read_writes_cons_rows_of_mem u G (k0_off1_inb ⟨k, hk⟩) _ _ (ix2 r s) (ix2 (0 : Fin 1) s : S1x512.Idx)
          (k0_off1_eq ⟨k, hk⟩) (by show r.val = k + 0; omega) rfl,
        View.read_writes_cons_rows_of_mem w H (k0_off1_inb ⟨k, hk⟩) _ _ (ix2 r s) (ix2 (0 : Fin 1) s : S1x512.Idx)
          (k0_off1_eq ⟨k, hk⟩) (by show r.val = k + 0; omega) rfl, hr]
      exact ⟨h1, h2⟩
    · rw [View.read_writes_cons_rows_of_not_mem u G (W := 1) (k0_off1_inb ⟨k, hk⟩) _ _ (ix2 r s)
          (k0_off1_eq ⟨k, hk⟩) rfl (by show r.val < k ∨ k + 1 ≤ r.val; omega),
        View.read_writes_cons_rows_of_not_mem w H (W := 1) (k0_off1_inb ⟨k, hk⟩) _ _ (ix2 r s)
          (k0_off1_eq ⟨k, hk⟩) rfl (by show r.val < k ∨ k + 1 ≤ r.val; omega)]
      have := ihb r s
      by_cases hrk : r.val < k
      · rw [if_pos hrk, if_pos hrk] at this
        rw [if_pos (by omega), if_pos (by omega)]
        exact this
      · rw [if_neg hrk, if_neg hrk] at this
        rw [if_neg (by omega), if_neg (by omega)]
        exact this

/-- The loop runs over all 2048 tokens of its sequence. -/
theorem trips_eq : k0_t1_loop.trips = 2048 := by decide

variable (𝒱 : Variants) (c : Dev nD) (bd : Option 𝒱.V) (i : grid0.Coords) (arg2 : Memref sig .tc .vmem S2048x128 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x128 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x128 .f32) (harg12 : arg12.IsWhole) (arg13 : Memref sig .tc .vmem S2048x128 .bf16) (harg13 : arg13.IsWhole) (v9 v11 : Vec Ideal S1x512 .f32)

theorem trip_c (k : Fin k0_t1_loop.trips) (acc : FVec Ideal S1x512 .f32 × FVec Ideal S1x512 .f32) (f10 : BufTy.Contents (Elt Ideal) arg10.view.ty) (f11 : BufTy.Contents (Elt Ideal) arg11.view.ty) :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 v9 v11 k).1 acc f10 f11 =
      (k0_pay8 v9 v11 acc.1 acc.2 (arg10.view.readAt (Elt Ideal) (Rect.unit (s := S2048x512) (k0_off1 k) S1x512.size (k0_off1_inb k)).toLoadRect f10),
       k0_pay9 v9 v11 acc.1 acc.2 (arg11.view.readAt (Elt Ideal) (Rect.unit (s := S2048x512) (k0_off1 k) S1x512.size (k0_off1_inb k)).toLoadRect f11)) := by
  unfold trip_k0_t1
  rfl

theorem trip_l (k : Fin k0_t1_loop.trips) (acc : FVec Ideal S1x512 .f32 × FVec Ideal S1x512 .f32) (f10 : BufTy.Contents (Elt Ideal) arg10.view.ty) (f11 : BufTy.Contents (Elt Ideal) arg11.view.ty) :
    (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 v9 v11 k acc f10 f11) =
      ([⟨Rect.unit (s := S2048x512) (k0_off1 k) S1x512.size (k0_off1_inb k), k0_pay8 v9 v11 acc.1 acc.2 (arg10.view.readAt (Elt Ideal) (Rect.unit (s := S2048x512) (k0_off1 k) S1x512.size (k0_off1_inb k)).toLoadRect f10)⟩],
       [⟨Rect.unit (s := S2048x512) (k0_off1 k) S1x512.size (k0_off1_inb k), k0_pay9 v9 v11 acc.1 acc.2 (arg11.view.readAt (Elt Ideal) (Rect.unit (s := S2048x512) (k0_off1 k) S1x512.size (k0_off1_inb k)).toLoadRect f11)⟩]) := by
  unfold tripL_k0_t1 trip_k0_t1
  rfl

/-- The kernel's loop: after all its trips the two buffers hold the recurrence, row by row. -/
theorem loop_out (G : arg10.view.ty.Contents (Elt Ideal)) (H : arg11.view.ty.Contents (Elt Ideal)) (r : Fin 2048) (s : Fin 512) :
    arg10.view.read (Elt Ideal) (arg10.view.writes (Elt Ideal) G (st_k0_t1 (F := Ideal) 𝒱 c bd i arg2 harg2 arg3 harg3 arg4 harg4 arg5 harg5 arg6 harg6 arg7 harg7 arg8 harg8 arg9 harg9 arg10 harg10 arg11 harg11 arg12 harg12 arg13 harg13 v9 v11 G H (k0_pay7, k0_pay7) k0_t1_loop.trips).2.1) (ix2 r s)
      = (scan (v9 (ix2 (0 : Fin 1) s)) (v11 (ix2 (0 : Fin 1) s)) (colOf (arg10.view.read (Elt Ideal) G) s) (colOf (arg11.view.read (Elt Ideal) H) s) (r.val + 1)).1
    ∧ arg11.view.read (Elt Ideal) (arg11.view.writes (Elt Ideal) H (st_k0_t1 (F := Ideal) 𝒱 c bd i arg2 harg2 arg3 harg3 arg4 harg4 arg5 harg5 arg6 harg6 arg7 harg7 arg8 harg8 arg9 harg9 arg10 harg10 arg11 harg11 arg12 harg12 arg13 harg13 v9 v11 G H (k0_pay7, k0_pay7) k0_t1_loop.trips).2.2) (ix2 r s)
      = (scan (v9 (ix2 (0 : Fin 1) s)) (v11 (ix2 (0 : Fin 1) s)) (colOf (arg10.view.read (Elt Ideal) G) s) (colOf (arg11.view.read (Elt Ideal) H) s) (r.val + 1)).2 := by
  have hs := fun k : Fin k0_t1_loop.trips => st_k0_t1_succ (F := Ideal) 𝒱 c bd i arg2 harg2 arg3 harg3 arg4 harg4 arg5 harg5 arg6 harg6 arg7 harg7 arg8 harg8 arg9 harg9 arg10 harg10 arg11 harg11 arg12 harg12 arg13 harg13 v9 v11 G H (k0_pay7, k0_pay7) k
  have h0 := st_k0_t1_zero (F := Ideal) 𝒱 c bd i arg2 harg2 arg3 harg3 arg4 harg4 arg5 harg5 arg6 harg6 arg7 harg7 arg8 harg8 arg9 harg9 arg10 harg10 arg11 harg11 arg12 harg12 arg13 harg13 v9 v11 G H (k0_pay7, k0_pay7)
  have h1 : (st_k0_t1 (F := Ideal) 𝒱 c bd i arg2 harg2 arg3 harg3 arg4 harg4 arg5 harg5 arg6 harg6 arg7 harg7 arg8 harg8 arg9 harg9 arg10 harg10 arg11 harg11 arg12 harg12 arg13 harg13 v9 v11 G H (k0_pay7, k0_pay7) 0).2.1 = [] := by rw [st_k0_t1.eq_1]
  have h2 : (st_k0_t1 (F := Ideal) 𝒱 c bd i arg2 harg2 arg3 harg3 arg4 harg4 arg5 harg5 arg6 harg6 arg7 harg7 arg8 harg8 arg9 harg9 arg10 harg10 arg11 harg11 arg12 harg12 arg13 harg13 v9 v11 G H (k0_pay7, k0_pay7) 0).2.2 = [] := by rw [st_k0_t1.eq_1]
  generalize st_k0_t1 (F := Ideal) 𝒱 c bd i arg2 harg2 arg3 harg3 arg4 harg4 arg5 harg5 arg6 harg6 arg7 harg7 arg8 harg8 arg9 harg9 arg10 harg10 arg11 harg11 arg12 harg12 arg13 harg13 v9 v11 G H (k0_pay7, k0_pay7) = S at hs h0 h1 h2 ⊢
  have hc : ∀ k : Fin k0_t1_loop.trips, (S (k.val + 1)).1 = _ := fun k =>
    (congrArg Prod.fst (hs k)).trans (trip_c 𝒱 c bd i arg2 harg2 arg3 harg3 arg4 harg4 arg5 harg5 arg6 harg6 arg7 harg7 arg8 harg8 arg9 harg9 arg10 harg10 arg11 harg11 arg12 harg12 arg13 harg13 v9 v11 k _ _ _)
  have hl : ∀ k : Fin k0_t1_loop.trips, (S (k.val + 1)).2 = _ := fun k =>
    (congrArg Prod.snd (hs k)).trans (by rw [trip_l])
  have hu : ∀ k : Fin k0_t1_loop.trips, (S (k.val + 1)).2.1 = ⟨Rect.unit (s := S2048x512) (k0_off1 k) S1x512.size (k0_off1_inb k), (S (k.val + 1)).1.1⟩ :: (S k.val).2.1 := fun k => by
    rw [hl k, hc k]; rfl
  have hw : ∀ k : Fin k0_t1_loop.trips, (S (k.val + 1)).2.2 = ⟨Rect.unit (s := S2048x512) (k0_off1 k) S1x512.size (k0_off1_inb k), (S (k.val + 1)).1.2⟩ :: (S k.val).2.2 := fun k => by
    rw [hl k, hc k]; rfl
  have := (loop_abs arg10.view arg11.view G H v9 v11 S h0 h1 h2 hc hu hw k0_t1_loop.trips le_rfl).2 r s
  rw [if_pos (by rw [trips_eq]; exact r.isLt), if_pos (by rw [trips_eq]; exact r.isLt)] at this
  exact this

end Cert.S5FwdProof
end
-- ==== Proof.S5Out.lean ====
module

public import proofs.«01_k».proof.Proof.Gen.S5FwdIdeal.Frame.RunA
public import proofs.«01_k».proof.Proof.S5Loop
public import Idealize.ShloMosaic.Lib.VecWindow

@[expose] public section
set_option maxRecDepth 16384
noncomputable section
namespace Cert.S5FwdProof
open Idealize.ShloMosaic Idealize.ShloMosaic.TcCoe Idealize.SL.Sem Cert.S5FwdIdeal Cert.S5FwdIdeal.Gen

/-- The store of a whole block of states. -/
abbrev whole (P : FVec Ideal S2048x512 .f32) : View.Piece (Elt Ideal) S2048x512 .f32 :=
  ⟨Rect.unit ![0, 0] S2048x512.size inb_S2048x512_S2048x512_0_0, P⟩

/-- The states of one block of channels and one sequence, from the block's inputs and multipliers. -/
def states (P Q : Vec Ideal S2048x512 .f32) (x5 x6 : Vec Ideal S1x512 .f32) (r : Nat) (s : Fin 512) : EReal × EReal :=
  scan (x5 (ix2 (0 : Fin 1) s)) (x6 (ix2 (0 : Fin 1) s)) (colOf P s) (colOf Q s) (r + 1)

/-- Their real parts. -/
def statesRe (P Q : Vec Ideal S2048x512 .f32) (x5 x6 : Vec Ideal S1x512 .f32) : Vec Ideal S2048x512 .f32 :=
  fun j => (states P Q x5 x6 (j (0 : Fin 2)).val (j (1 : Fin 2))).1

/-- Their imaginary parts. -/
def statesIm (P Q : Vec Ideal S2048x512 .f32) (x5 x6 : Vec Ideal S1x512 .f32) : Vec Ideal S2048x512 .f32 :=
  fun j => (states P Q x5 x6 (j (0 : Fin 2)).val (j (1 : Fin 2))).2

/-- A list of stores that ends with the store of a whole block reads the same through every view. -/
theorem read_any (v v' : View sig .tc .vmem S2048x512 .f32) (f : v.ty.Contents (Elt Ideal)) (f' : v'.ty.Contents (Elt Ideal))
    (L : List (View.Piece (Elt Ideal) S2048x512 .f32)) (P : FVec Ideal S2048x512 .f32) :
    v.read (Elt Ideal) (v.writes (Elt Ideal) f (L ++ [whole P]))
      = v'.read (Elt Ideal) (v'.writes (Elt Ideal) (v'.writes (Elt Ideal) f' [whole P]) L) := by
  rw [← View.writes_append]
  funext y
  refine View.read_writes_apply_eq v f v' f' y _ ⟨whole P, by simp, ?_⟩
  refine (whole P).1.mem_set.mpr fun a => ⟨(y a).val, (y a).isLt, ?_⟩
  show (y a).val = (![0, 0] : Fin 2 → Nat) a + 1 * (y a).val
  fin_cases a <;> simp

variable (c : Dev nD) (i : grid0.Coords) (arg2 : Memref sig .tc .vmem S2048x128 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x128 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x128 .f32) (harg12 : arg12.IsWhole) (arg13 : Memref sig .tc .vmem S2048x128 .bf16) (harg13 : arg13.IsWhole) (x0 : Vec Ideal S2048x128 .bf16) (x1 : Vec Ideal S1x128x512 .bf16) (x2 : Vec Ideal S1x128x512 .bf16) (x3 : Vec Ideal S1x512x128 .bf16) (x4 : Vec Ideal S1x512x128 .bf16) (x5 : Vec Ideal S1x512 .f32) (x6 : Vec Ideal S1x512 .f32) (x7 : Vec Ideal S1x128 .f32)

theorem pieces_out (v : View Cert.S5FwdIdeal.sig .tc .vmem S2048x512 .f32) (f : v.ty.Contents (Elt Ideal)) (P Q : FVec Ideal S2048x512 .f32) (N : Nat) (hN : N = k0_t1_loop.trips) :
    v.read (Elt Ideal) (v.writes (Elt Ideal) f ((st_k0_t1 (F := Ideal) Variants.none c none i arg2 harg2 arg3 harg3 arg4 harg4 arg5 harg5 arg6 harg6 arg7 harg7 arg8 harg8 arg9 harg9 arg10 harg10 arg11 harg11 arg12 harg12 arg13 harg13 x5 x6 (arg10.view.writes (Elt Ideal) arg10.view.junk [whole P]) (arg11.view.writes (Elt Ideal) arg11.view.junk [whole Q]) (k0_pay7, k0_pay7) N).2.1 ++ [whole P])) = statesRe P Q x5 x6
    ∧ v.read (Elt Ideal) (v.writes (Elt Ideal) f ((st_k0_t1 (F := Ideal) Variants.none c none i arg2 harg2 arg3 harg3 arg4 harg4 arg5 harg5 arg6 harg6 arg7 harg7 arg8 harg8 arg9 harg9 arg10 harg10 arg11 harg11 arg12 harg12 arg13 harg13 x5 x6 (arg10.view.writes (Elt Ideal) arg10.view.junk [whole P]) (arg11.view.writes (Elt Ideal) arg11.view.junk [whole Q]) (k0_pay7, k0_pay7) N).2.2 ++ [whole Q])) = statesIm P Q x5 x6 := by
  subst hN
  have h := loop_out Variants.none c none i arg2 harg2 arg3 harg3 arg4 harg4 arg5 harg5 arg6 harg6 arg7 harg7 arg8 harg8 arg9 harg9 arg10 harg10 arg11 harg11 arg12 harg12 arg13 harg13 x5 x6 (arg10.view.writes (Elt Ideal) arg10.view.junk [whole P])
    (arg11.view.writes (Elt Ideal) arg11.view.junk [whole Q])
  rw [read_any v arg10.view f arg10.view.junk, read_any v arg11.view f arg11.view.junk]
  have e10 : arg10.view.read (Elt Ideal) (arg10.view.writes (Elt Ideal) arg10.view.junk [whole P]) = P :=
    View.read_writes_full _ _ _ _ _
  have e11 : arg11.view.read (Elt Ideal) (arg11.view.writes (Elt Ideal) arg11.view.junk [whole Q]) = Q :=
    View.read_writes_full _ _ _ _ _
  rw [e10, e11] at h
  constructor
  · funext j
    idx_vars j
    exact (h _ _).1
  · funext j
    idx_vars j
    exact (h _ _).2

/-- What the run leaves in the two blocks of states. -/
theorem run_states (v : View Cert.S5FwdIdeal.sig .tc .vmem S2048x512 .f32) (f : v.ty.Contents (Elt Ideal)) :
    v.read (Elt Ideal) (v.writes (Elt Ideal) f (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7).1)
      = statesRe (k0_pay3 x0 x1) (k0_pay4 x0 x2) x5 x6
    ∧ v.read (Elt Ideal) (v.writes (Elt Ideal) f (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7).2.1)
      = statesIm (k0_pay3 x0 x1) (k0_pay4 x0 x2) x5 x6 := by
  have a2 : arg2.view.readAt (Elt Ideal) (Rect.unit (s := S2048x128) ![0, 0] S2048x128.size inb_S2048x128_S2048x128_0_0).toLoadRect (harg2.unread x0) = x0 :=
    (View.readAt_full _ _ _).trans (harg2.read_unread _)
  have a3 : arg3.view.readAt (Elt Ideal) (Rect.unit (s := S1x128x512) ![0, 0, 0] S1x128x512.size inb_S1x128x512_S1x128x512_0_0_0).toLoadRect (harg3.unread x1) = x1 :=
    (View.readAt_full _ _ _).trans (harg3.read_unread _)
  have a4 : arg4.view.readAt (Elt Ideal) (Rect.unit (s := S1x128x512) ![0, 0, 0] S1x128x512.size inb_S1x128x512_S1x128x512_0_0_0).toLoadRect (harg4.unread x2) = x2 :=
    (View.readAt_full _ _ _).trans (harg4.read_unread _)
  have a7 : arg7.view.readAt (Elt Ideal) (Rect.unit (s := S1x512) ![0, 0] S1x512.size inb_S1x512_S1x512_0_0).toLoadRect (harg7.unread x5) = x5 :=
    (View.readAt_full _ _ _).trans (harg7.read_unread _)
  have a8 : arg8.view.readAt (Elt Ideal) (Rect.unit (s := S1x512) ![0, 0] S1x512.size inb_S1x512_S1x512_0_0).toLoadRect (harg8.unread x6) = x6 :=
    (View.readAt_full _ _ _).trans (harg8.read_unread _)
  unfold kernelRun0_A
  dsimp only
  sl_unfold_words
  rw [a2, a3, a4, a7, a8]
  exact pieces_out c i arg2 harg2 arg3 harg3 arg4 harg4 arg5 harg5 arg6 harg6 arg7 harg7 arg8 harg8 arg9 harg9 arg10 harg10 arg11 harg11 arg12 harg12 arg13 harg13 x5 x6 v f (k0_pay3 x0 x1) (k0_pay4 x0 x2) _ rfl

/-- What the run leaves in the block of outputs, before and after the activation. -/
theorem run_y (v : View Cert.S5FwdIdeal.sig .tc .vmem S2048x128 .f32) (f : v.ty.Contents (Elt Ideal))
    (w : View Cert.S5FwdIdeal.sig .tc .vmem S2048x128 .bf16) (g : w.ty.Contents (Elt Ideal)) :
    v.read (Elt Ideal) (v.writes (Elt Ideal) f (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7).2.2.1)
      = k0_pay1 x0 (k0_pay10 (statesRe (k0_pay3 x0 x1) (k0_pay4 x0 x2) x5 x6) x3)
          (k0_pay11 (statesIm (k0_pay3 x0 x1) (k0_pay4 x0 x2) x5 x6)) x4 x7
    ∧ w.read (Elt Ideal) (w.writes (Elt Ideal) g (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7).2.2.2.1)
      = k0_pay2 x0 (k0_pay10 (statesRe (k0_pay3 x0 x1) (k0_pay4 x0 x2) x5 x6) x3)
          (k0_pay11 (statesIm (k0_pay3 x0 x1) (k0_pay4 x0 x2) x5 x6)) x4 x7 := by
  have hr := (View.readAt_full arg10.view _ inb_S2048x512_S2048x512_0_0).trans
    (pieces_out c i arg2 harg2 arg3 harg3 arg4 harg4 arg5 harg5 arg6 harg6 arg7 harg7 arg8 harg8 arg9 harg9 arg10 harg10 arg11 harg11 arg12 harg12 arg13 harg13 x5 x6 arg10.view arg10.view.junk (k0_pay3 x0 x1) (k0_pay4 x0 x2) (Scf.trips k0_t1_loop.lb k0_t1_loop.ub k0_t1_loop.st) rfl).1
  have hi := (View.readAt_full arg11.view _ inb_S2048x512_S2048x512_0_0).trans
    (pieces_out c i arg2 harg2 arg3 harg3 arg4 harg4 arg5 harg5 arg6 harg6 arg7 harg7 arg8 harg8 arg9 harg9 arg10 harg10 arg11 harg11 arg12 harg12 arg13 harg13 x5 x6 arg11.view arg11.view.junk (k0_pay3 x0 x1) (k0_pay4 x0 x2) (Scf.trips k0_t1_loop.lb k0_t1_loop.ub k0_t1_loop.st) rfl).2
  have a2 : arg2.view.readAt (Elt Ideal) (Rect.unit (s := S2048x128) ![0, 0] S2048x128.size inb_S2048x128_S2048x128_0_0).toLoadRect (harg2.unread x0) = x0 :=
    (View.readAt_full _ _ _).trans (harg2.read_unread _)
  have a3 : arg3.view.readAt (Elt Ideal) (Rect.unit (s := S1x128x512) ![0, 0, 0] S1x128x512.size inb_S1x128x512_S1x128x512_0_0_0).toLoadRect (harg3.unread x1) = x1 :=
    (View.readAt_full _ _ _).trans (harg3.read_unread _)
  have a4 : arg4.view.readAt (Elt Ideal) (Rect.unit (s := S1x128x512) ![0, 0, 0] S1x128x512.size inb_S1x128x512_S1x128x512_0_0_0).toLoadRect (harg4.unread x2) = x2 :=
    (View.readAt_full _ _ _).trans (harg4.read_unread _)
  have a5 : arg5.view.readAt (Elt Ideal) (Rect.unit (s := S1x512x128) ![0, 0, 0] S1x512x128.size inb_S1x512x128_S1x512x128_0_0_0).toLoadRect (harg5.unread x3) = x3 :=
    (View.readAt_full _ _ _).trans (harg5.read_unread _)
  have a6 : arg6.view.readAt (Elt Ideal) (Rect.unit (s := S1x512x128) ![0, 0, 0] ![1, 512, 128] inb_S1x512x128_S1x512x128_0_0_0).toLoadRect (harg6.unread x4) = x4 :=
    (View.readAt_full _ _ _).trans (harg6.read_unread _)
  have a7 : arg7.view.readAt (Elt Ideal) (Rect.unit (s := S1x512) ![0, 0] S1x512.size inb_S1x512_S1x512_0_0).toLoadRect (harg7.unread x5) = x5 :=
    (View.readAt_full _ _ _).trans (harg7.read_unread _)
  have a8 : arg8.view.readAt (Elt Ideal) (Rect.unit (s := S1x512) ![0, 0] S1x512.size inb_S1x512_S1x512_0_0).toLoadRect (harg8.unread x6) = x6 :=
    (View.readAt_full _ _ _).trans (harg8.read_unread _)
  have a9 : arg9.view.readAt (Elt Ideal) (Rect.unit (s := S1x128) ![0, 0] ![1, 128] inb_S1x128_S1x128_0_0).toLoadRect (harg9.unread x7) = x7 :=
    (View.readAt_full _ _ _).trans (harg9.read_unread _)
  unfold kernelRun0_A
  dsimp only
  sl_unfold_words
  rw [a2, a3, a4, a5, a6, a7, a8, a9]
  unfold View.readCov
  refine ⟨(View.read_writes_full _ _ _ _ _).trans ?_, (View.read_writes_full _ _ _ _ _).trans ?_⟩
  · exact congrArg₂ (fun A B => k0_pay1 x0 (k0_pay10 A x3) (k0_pay11 B) x4 x7) hr hi
  · exact congrArg₂ (fun A B => k0_pay2 x0 (k0_pay10 A x3) (k0_pay11 B) x4 x7) hr hi

end Cert.S5FwdProof
end
-- ==== Proof.S5Spec.lean ====
/- Hand-written: the state-space layer as a recurrence over the rows of each sequence, and the sums over a block-diagonal operand. -/
module

public import proofs.«01_k».proof.Proof.S5Loop

@[expose] public section
set_option maxRecDepth 16384
noncomputable section
namespace Cert.S5FwdProof
open Idealize.ShloMosaic Idealize.ShloMosaic.TcCoe Idealize.SL.Sem Cert.S5FwdIdeal Cert.S5FwdIdeal.Gen

/-- The layer's arrays: its input, the poles' real and imaginary parts, the log steps, the input and output matrices, the skip. -/
structure Args where
  x : S4096x1024.Idx → EReal
  lr : S64x64.Idx → EReal
  li : S64x64.Idx → EReal
  ls : S64.Idx → EReal
  br : S64x64x16.Idx → EReal
  bi : S64x64x16.Idx → EReal
  cr : S64x16x64.Idx → EReal
  ci : S64x16x64.Idx → EReal
  d : S1x1024.Idx → EReal

namespace Args

variable (A : Args)

/-- The pole's real part, kept negative. -/
def lam (g p : Fin 64) : EReal := min (A.lr (ix2 g p)) (Ideal.ofBits .f32 3100751639#32)

/-- The step of a group. -/
def dt (g : Fin 64) : EReal := Ideal.exp (A.ls (ix1 g))

/-- The discretised pole. -/
def aRe (g p : Fin 64) : EReal := Ideal.exp (A.lam g p * A.dt g) * Ideal.cos (A.li (ix2 g p) * A.dt g)
def aIm (g p : Fin 64) : EReal := Ideal.exp (A.lam g p * A.dt g) * Ideal.sin (A.li (ix2 g p) * A.dt g)

/-- The hold's factor, the discretised pole less one over the pole. -/
def hRe (g p : Fin 64) : EReal :=
  Ideal.div ((A.aRe g p - 1) * A.lam g p + A.aIm g p * A.li (ix2 g p)) (A.lam g p * A.lam g p + A.li (ix2 g p) * A.li (ix2 g p))
def hIm (g p : Fin 64) : EReal :=
  Ideal.div (A.aIm g p * A.lam g p - (A.aRe g p - 1) * A.li (ix2 g p)) (A.lam g p * A.lam g p + A.li (ix2 g p) * A.li (ix2 g p))

/-- The discretised input matrix. -/
def bRe (g p : Fin 64) (h : Fin 16) : EReal := A.hRe g p * A.br (ix3 g p h) - A.hIm g p * A.bi (ix3 g p h)
def bIm (g p : Fin 64) (h : Fin 16) : EReal := A.hRe g p * A.bi (ix3 g p h) + A.hIm g p * A.br (ix3 g p h)

/-- Row `r` of sequence `b`, channel `h` of group `g`. -/
def u (b : Fin 2) (r : Fin 2048) (g : Fin 64) (h : Fin 16) : EReal :=
  A.x (ix2 ⟨b.val * 2048 + r.val, by have := b.isLt; have := r.isLt; omega⟩ ⟨g.val * 16 + h.val, by have := g.isLt; have := h.isLt; omega⟩)

/-- What a row adds to a state. -/
def inRe (b : Fin 2) (g p : Fin 64) (r : Nat) : EReal := if hr : r < 2048 then ∑ h, A.bRe g p h * A.u b ⟨r, hr⟩ g h else 0
def inIm (b : Fin 2) (g p : Fin 64) (r : Nat) : EReal := if hr : r < 2048 then ∑ h, A.bIm g p h * A.u b ⟨r, hr⟩ g h else 0

/-- A state after `k` rows. -/
def st (b : Fin 2) (g p : Fin 64) (k : Nat) : EReal × EReal := scan (A.aRe g p) (A.aIm g p) (A.inRe b g p) (A.inIm b g p) k

/-- The layer's output before the activation. -/
def y (b : Fin 2) (r : Fin 2048) (g : Fin 64) (h : Fin 16) : EReal :=
  (∑ p, (A.st b g p (r.val + 1)).1 * A.cr (ix3 g h p) - ∑ p, (A.st b g p (r.val + 1)).2 * A.ci (ix3 g h p))
    + A.d (ix2 (0 : Fin 1) ⟨g.val * 16 + h.val, by have := g.isLt; have := h.isLt; omega⟩) * A.u b r g h

/-- The activation. -/
def act (y : EReal) : EReal :=
  (Ideal.ofBits .f32 0x3F000000#32 * y) * (Ideal.ofBits .f32 0x3F800000#32
    + Ideal.tanh (Ideal.ofBits .f32 0x3F4C422A#32 * (y + Ideal.ofBits .f32 0x3D372713#32 * y * y * y)))

/-- The states as arrays. -/
def sq (j : S4096x4096.Idx) : EReal × EReal :=
  A.st ⟨(j (0 : Fin 2)).val / 2048, by have h0 : (j (0 : Fin 2)).val < 4096 := (j 0).isLt; omega⟩
    ⟨(j (1 : Fin 2)).val / 64, by have h0 : (j (1 : Fin 2)).val < 4096 := (j 1).isLt; omega⟩
    ⟨(j (1 : Fin 2)).val % 64, by omega⟩ ((j (0 : Fin 2)).val % 2048 + 1)
def reArr : S4096x4096.Idx → EReal := fun j => (A.sq j).1
def imArr : S4096x4096.Idx → EReal := fun j => (A.sq j).2

/-- The outputs as arrays. -/
def yArr : S4096x1024.Idx → EReal := fun j =>
  A.y ⟨(j (0 : Fin 2)).val / 2048, by have h0 : (j (0 : Fin 2)).val < 4096 := (j 0).isLt; omega⟩ ⟨(j (0 : Fin 2)).val % 2048, by omega⟩
    ⟨(j (1 : Fin 2)).val / 16, by have h0 : (j (1 : Fin 2)).val < 1024 := (j 1).isLt; omega⟩ ⟨(j (1 : Fin 2)).val % 16, by omega⟩
def zArr : S4096x1024.Idx → EReal := fun j => act (A.yArr j)

theorem sq_at (j : S4096x4096.Idx) (b : Fin 2) (r : Fin 2048) (g p : Fin 64) (h0 : (j (0 : Fin 2)).val = b.val * 2048 + r.val)
    (h1 : (j (1 : Fin 2)).val = g.val * 64 + p.val) : A.sq j = A.st b g p (r.val + 1) := by
  have := b.isLt; have := r.isLt; have := g.isLt; have := p.isLt
  unfold sq
  congr 1
  · exact Fin.ext (by dsimp only; omega)
  · exact Fin.ext (by dsimp only; omega)
  · exact Fin.ext (by dsimp only; omega)
  · omega

theorem yArr_at (j : S4096x1024.Idx) (b : Fin 2) (r : Fin 2048) (g : Fin 64) (h : Fin 16) (h0 : (j (0 : Fin 2)).val = b.val * 2048 + r.val)
    (h1 : (j (1 : Fin 2)).val = g.val * 16 + h.val) : A.yArr j = A.y b r g h := by
  have := b.isLt; have := r.isLt; have := g.isLt; have := h.isLt
  unfold yArr
  congr 1
  · exact Fin.ext (by dsimp only; omega)
  · exact Fin.ext (by dsimp only; omega)
  · exact Fin.ext (by dsimp only; omega)
  · exact Fin.ext (by dsimp only; omega)

end Args

/-- The block-diagonal mask: one where the two blocks are the same, zero elsewhere. -/
def eye (a b : Nat) : EReal := FloatOps.uitofp (F := Ideal) .f32 (IntOp.cmpi .eq (IntOp.addi (BitVec.ofNat 32 a) 0#32) (BitVec.ofNat 32 b))

theorem eye_eq (a b : Nat) (h : a = b) : eye a b = 1 := by
  subst h
  unfold eye
  rw [show IntOp.cmpi .eq (IntOp.addi (BitVec.ofNat 32 a) 0#32) (BitVec.ofNat 32 a) = 1#1 by simp [IntOp.cmpi, IntOp.addi]]
  show (((1#1 : BitVec 1).toNat : ℝ) : EReal) = 1
  simp

theorem eye_ne (a b : Nat) (ha : a < 8) (hb : b < 8) (h : a ≠ b) : eye a b = 0 := by
  unfold eye
  have hw : ∀ a b : Fin 8, a ≠ b → IntOp.cmpi .eq (IntOp.addi (BitVec.ofNat 32 a.val) 0#32) (BitVec.ofNat 32 b.val) = 0#1 := by decide
  rw [hw ⟨a, ha⟩ ⟨b, hb⟩ fun e => h (congrArg Fin.val e)]
  show (((0#1 : BitVec 1).toNat : ℝ) : EReal) = 0
  simp

/-- A sum over eight blocks of which all but one vanish. -/
theorem sum_block {N n : Nat} (hN : N = 8 * n) (q : Fin 8) (f : Fin N → EReal) (g : Fin n → EReal)
    (hz : ∀ x : Fin N, x.val / n ≠ q.val → f x = 0) (he : ∀ h : Fin n, ∀ x : Fin N, x.val = q.val * n + h.val → f x = g h) :
    ∑ x, f x = ∑ h, g h := by
  subst hN
  rw [← (finProdFinEquiv (m := 8) (n := n)).sum_comp, Fintype.sum_prod_type, Finset.sum_eq_single q]
  · refine Finset.sum_congr rfl fun h _ => he h _ ?_
    simp [finProdFinEquiv]; ring
  · intro b _ hb
    refine Finset.sum_eq_zero fun h _ => hz _ ?_
    intro hq
    refine hb (Fin.ext (Eq.trans ?_ hq))
    have := h.isLt
    simp only [finProdFinEquiv, Equiv.coe_fn_mk]
    rw [Nat.add_mul_div_left _ _ (by omega), Nat.div_eq_of_lt h.isLt, Nat.zero_add]
  · intro h; exact absurd (Finset.mem_univ _) h

end Cert.S5FwdProof
end
-- ==== Proof.S5Kernel.lean ====
/- Hand-written: the four arrays the state-space kernel leaves. -/
module

public import proofs.«01_k».proof.Proof.Gen.S5FwdIdeal.Value
public import proofs.«01_k».proof.Proof.S5Out
public import proofs.«01_k».proof.Proof.S5Spec
public import Idealize.ShloMosaic.Lib.Tactic.CleanTypes
public import Idealize.ShloMosaic.Lib.StableHlo.RunRead

@[expose] public section
set_option maxRecDepth 16384
noncomputable section
namespace Cert.S5FwdProof
open Idealize.ShloMosaic Idealize.ShloMosaic.TcCoe Idealize.SL.Sem Cert.S5FwdIdeal Cert.S5FwdIdeal.Gen
open Idealize.ShloMosaic.Pipeline (Dat)

variable (m : (ℓ : Loc nD τ sig) → Buf (Elt Ideal) ℓ)

/-- The kernel's arguments. -/
def args (c : Dev nD) : Args where
  x := m (c, Proc.tc.devRef main_arg0)
  lr := m (c, Proc.tc.devRef main_arg1)
  li := m (c, Proc.tc.devRef main_arg2)
  ls := m (c, Proc.tc.devRef main_arg3)
  br := m (c, Proc.tc.devRef main_arg4)
  bi := m (c, Proc.tc.devRef main_arg5)
  cr := m (c, Proc.tc.devRef main_arg6)
  ci := m (c, Proc.tc.devRef main_arg7)
  d := m (c, Proc.tc.devRef main_arg8)

theorem idx : ∀ t : Fin cfg0.N, win0_0.index t = ![t.val % 2, t.val / 2] ∧ win0_1.index t = ![t.val / 2, 0, 0] ∧ win0_2.index t = ![t.val / 2, 0, 0]
    ∧ win0_3.index t = ![t.val / 2, 0, 0] ∧ win0_4.index t = ![t.val / 2, 0, 0] ∧ win0_5.index t = ![0, t.val / 2] ∧ win0_6.index t = ![0, t.val / 2]
    ∧ win0_7.index t = ![0, t.val / 2] ∧ win0_8.index t = ![t.val % 2, t.val / 2] ∧ win0_9.index t = ![t.val % 2, t.val / 2]
    ∧ win0_10.index t = ![t.val % 2, t.val / 2] ∧ win0_11.index t = ![t.val % 2, t.val / 2] :=
  (by decide +kernel : ∀ t : Fin grid0.N, _)

section host

variable (c : Dev nD)

theorem host5 (s : Fin 4096) : V m c main_v102 (ix2 (0 : Fin 1) s)
    = (args m c).aRe ⟨s.val / 64, by have := s.isLt; omega⟩ ⟨s.val % 64, by omega⟩ := by
  unfold V
  after_reads_simp
  pointwise
  rfl
theorem host6 (s : Fin 4096) : V m c main_v103 (ix2 (0 : Fin 1) s)
    = (args m c).aIm ⟨s.val / 64, by have := s.isLt; omega⟩ ⟨s.val % 64, by omega⟩ := by
  unfold V
  after_reads_simp
  pointwise
  rfl

variable (j : Fin 8) (x : Fin 128) (s : Fin 512)

theorem host1 : V m c main_v56 (ix3 j x s)
    = (args m c).bRe ⟨j.val * 8 + x.val / 16, by have := j.isLt; have := x.isLt; omega⟩ ⟨s.val % 64, by omega⟩ ⟨x.val % 16, by omega⟩
      * eye (x.val / 16) (s.val / 64) := by
  unfold V
  after_reads_simp
  pointwise
  rfl
theorem host2 : V m c main_v71 (ix3 j x s)
    = (args m c).bIm ⟨j.val * 8 + x.val / 16, by have := j.isLt; have := x.isLt; omega⟩ ⟨s.val % 64, by omega⟩ ⟨x.val % 16, by omega⟩
      * eye (x.val / 16) (s.val / 64) := by
  unfold V
  after_reads_simp
  pointwise
  rfl
theorem host3 : V m c main_v86 (ix3 j s x)
    = (args m c).cr (ix3 ⟨j.val * 8 + s.val / 64, by have := j.isLt; have := s.isLt; omega⟩ ⟨x.val % 16, by omega⟩ ⟨s.val % 64, by omega⟩)
      * eye (s.val / 64) (x.val / 16) := by
  unfold V
  after_reads_simp
  pointwise
  rfl
theorem host4 : V m c main_v101 (ix3 j s x)
    = (args m c).ci (ix3 ⟨j.val * 8 + s.val / 64, by have := j.isLt; have := s.isLt; omega⟩ ⟨x.val % 16, by omega⟩ ⟨s.val % 64, by omega⟩)
      * eye (s.val / 64) (x.val / 16) := by
  unfold V
  after_reads_simp
  pointwise
  rfl

end host

section blocks

variable (c : Dev nD) (t : Fin cfg0.N)

/-- The sequence and the block of channels of a grid point. -/
def sq (t : Fin cfg0.N) : Fin 2 := ⟨t.val % 2, by omega⟩
def ch (t : Fin cfg0.N) : Fin 8 := ⟨t.val / 2, by have := lt_of_lt_of_eq t.isLt N_0; omega⟩

/-- The group of a block of sixteen channels (or sixty-four states). -/
def gr (t : Fin cfg0.N) (q : Fin 8) : Fin 64 := ⟨t.val / 2 * 8 + q.val, by have := lt_of_lt_of_eq t.isLt N_0; have := q.isLt; omega⟩

theorem blk0 (r : Fin 2048) (q : Fin 8) (h : Fin 16) (x : Fin 128) (hx : x.val = q.val * 16 + h.val) :
    iblk m c 0 t (ix2 r x) = (args m c).u (sq t) r (gr t q) h := by
  have := lt_of_lt_of_eq t.isLt N_0
  unfold Args.u args sq gr
  blk_point [iblk, V, idx t, hx]
theorem blk1 (x : Fin 128) (s : Fin 512) : iblk m c 1 t (ix3 (0 : Fin 1) x s) = V m c main_v56 (ix3 (ch t) x s) := by
  have := lt_of_lt_of_eq t.isLt N_0
  unfold ch
  blk_point [iblk, idx t]
theorem blk2 (x : Fin 128) (s : Fin 512) : iblk m c 2 t (ix3 (0 : Fin 1) x s) = V m c main_v71 (ix3 (ch t) x s) := by
  have := lt_of_lt_of_eq t.isLt N_0
  unfold ch
  blk_point [iblk, idx t]
theorem blk3 (x : Fin 128) (s : Fin 512) : iblk m c 3 t (ix3 (0 : Fin 1) s x) = V m c main_v86 (ix3 (ch t) s x) := by
  have := lt_of_lt_of_eq t.isLt N_0
  unfold ch
  blk_point [iblk, idx t]
theorem blk4 (x : Fin 128) (s : Fin 512) : iblk m c 4 t (ix3 (0 : Fin 1) s x) = V m c main_v101 (ix3 (ch t) s x) := by
  have := lt_of_lt_of_eq t.isLt N_0
  unfold ch
  blk_point [iblk, idx t]
theorem blk5 (s : Fin 512) : iblk m c 5 t (ix2 (0 : Fin 1) s) = V m c main_v102 (ix2 (0 : Fin 1) ⟨t.val / 2 * 512 + s.val, by have := lt_of_lt_of_eq t.isLt N_0; have := s.isLt; omega⟩) := by
  have := lt_of_lt_of_eq t.isLt N_0
  blk_point [iblk, idx t]
theorem blk6 (s : Fin 512) : iblk m c 6 t (ix2 (0 : Fin 1) s) = V m c main_v103 (ix2 (0 : Fin 1) ⟨t.val / 2 * 512 + s.val, by have := lt_of_lt_of_eq t.isLt N_0; have := s.isLt; omega⟩) := by
  have := lt_of_lt_of_eq t.isLt N_0
  blk_point [iblk, idx t]
theorem blk7 (q : Fin 8) (h : Fin 16) (x : Fin 128) (hx : x.val = q.val * 16 + h.val) :
    iblk m c 7 t (ix2 (0 : Fin 1) x) = (args m c).d (ix2 (0 : Fin 1) ⟨(gr t q).val * 16 + h.val, by have := (gr t q).isLt; have := h.isLt; omega⟩) := by
  have := lt_of_lt_of_eq t.isLt N_0
  unfold args gr
  blk_point [iblk, V, idx t, hx]

end blocks

theorem pay3_at (v0 : Vec Ideal S2048x128 .bf16) (v1 : Vec Ideal S1x128x512 .bf16) (r : Fin 2048) (s : Fin 512) :
    k0_pay3 v0 v1 (ix2 r s) = ∑ x : Fin 128, v0 (ix2 r x) * v1 (ix3 (0 : Fin 1) x s) := by
  pointwise [k0_pay3]
theorem pay4_at (v0 : Vec Ideal S2048x128 .bf16) (v1 : Vec Ideal S1x128x512 .bf16) (r : Fin 2048) (s : Fin 512) :
    k0_pay4 v0 v1 (ix2 r s) = ∑ x : Fin 128, v0 (ix2 r x) * v1 (ix3 (0 : Fin 1) x s) := by
  pointwise [k0_pay4]
theorem pay1_at (v0 : Vec Ideal S2048x128 .bf16) (P Q : Vec Ideal S2048x512 .f32) (v3 v4 : Vec Ideal S1x512x128 .bf16) (v7 : Vec Ideal S1x128 .f32)
    (r : Fin 2048) (x : Fin 128) :
    k0_pay1 v0 (k0_pay10 P v3) (k0_pay11 Q) v4 v7 (ix2 r x)
      = (∑ s : Fin 512, P (ix2 r s) * v3 (ix3 (0 : Fin 1) s x) - ∑ s : Fin 512, Q (ix2 r s) * v4 (ix3 (0 : Fin 1) s x))
        + v7 (ix2 (0 : Fin 1) x) * v0 (ix2 r x) := by
  pointwise [k0_pay1, k0_pay10, k0_pay11]
theorem pay2_at (v0 : Vec Ideal S2048x128 .bf16) (P : FVec Ideal S2048x128 .f32) (Q : FVec Ideal S2048x512 .f32) (v4 : Vec Ideal S1x512x128 .bf16) (v7 : Vec Ideal S1x128 .f32)
    (r : Fin 2048) (x : Fin 128) :
    k0_pay2 v0 P Q v4 v7 (ix2 r x) = Args.act (k0_pay1 v0 P Q v4 v7 (ix2 r x)) := by
  unfold k0_pay2 Args.act
  generalize k0_pay1 v0 P Q v4 v7 = Y
  pointwise

/-- What the kernel adds to its states, row by row. -/
theorem in_re (c : Dev nD) (t : Fin cfg0.N) (q : Fin 8) (p : Fin 64) (r : Fin 2048) (s : Fin 512) (hs : s.val = q.val * 64 + p.val) :
    k0_pay3 (iblk m c 0 t) (iblk m c 1 t) (ix2 r s) = (args m c).inRe (sq t) (gr t q) p r.val := by
  have hp := p.isLt; have hq := q.isLt
  rw [pay3_at, Args.inRe, dif_pos r.isLt]
  refine sum_block (n := 16) rfl q _ _ (fun x hx => ?_) fun h x hx => ?_
  · rw [blk1, host1, eye_ne _ _ (by have := x.isLt; omega) (by omega) (by omega), mul_zero, mul_zero]
  · have hh := h.isLt
    rw [blk0 m c t r q h x hx, blk1, host1, eye_eq _ _ (show x.val / 16 = s.val / 64 by omega), mul_one, mul_comm]
    congr 2 <;> exact Fin.ext (by simp only [ch, gr]; omega)
theorem in_im (c : Dev nD) (t : Fin cfg0.N) (q : Fin 8) (p : Fin 64) (r : Fin 2048) (s : Fin 512) (hs : s.val = q.val * 64 + p.val) :
    k0_pay4 (iblk m c 0 t) (iblk m c 2 t) (ix2 r s) = (args m c).inIm (sq t) (gr t q) p r.val := by
  have hp := p.isLt; have hq := q.isLt
  rw [pay4_at, Args.inIm, dif_pos r.isLt]
  refine sum_block (n := 16) rfl q _ _ (fun x hx => ?_) fun h x hx => ?_
  · rw [blk2, host2, eye_ne _ _ (by have := x.isLt; omega) (by omega) (by omega), mul_zero, mul_zero]
  · have hh := h.isLt
    rw [blk0 m c t r q h x hx, blk2, host2, eye_eq _ _ (show x.val / 16 = s.val / 64 by omega), mul_one, mul_comm]
    congr 2 <;> exact Fin.ext (by simp only [ch, gr]; omega)

/-- The kernel's states of a grid point. -/
abbrev ptRe (c : Dev nD) (t : Fin cfg0.N) : Vec Ideal S2048x512 .f32 :=
  statesRe (k0_pay3 (iblk m c 0 t) (iblk m c 1 t)) (k0_pay4 (iblk m c 0 t) (iblk m c 2 t)) (iblk m c 5 t) (iblk m c 6 t)
abbrev ptIm (c : Dev nD) (t : Fin cfg0.N) : Vec Ideal S2048x512 .f32 :=
  statesIm (k0_pay3 (iblk m c 0 t) (iblk m c 1 t)) (k0_pay4 (iblk m c 0 t) (iblk m c 2 t)) (iblk m c 5 t) (iblk m c 6 t)

theorem pt_at (c : Dev nD) (t : Fin cfg0.N) (q : Fin 8) (p : Fin 64) (r : Fin 2048) (s : Fin 512) (hs : s.val = q.val * 64 + p.val) :
    states (k0_pay3 (iblk m c 0 t) (iblk m c 1 t)) (k0_pay4 (iblk m c 0 t) (iblk m c 2 t)) (iblk m c 5 t) (iblk m c 6 t) r.val s
      = (args m c).st (sq t) (gr t q) p (r.val + 1) := by
  have hp := p.isLt; have hq := q.isLt
  unfold states Args.st
  refine scan_congr ?_ ?_ _ fun k hk => ?_
  · rw [blk5, host5]; congr 1 <;> exact Fin.ext (by simp only [gr]; omega)
  · rw [blk6, host6]; congr 1 <;> exact Fin.ext (by simp only [gr]; omega)
  · have hk' : k < 2048 := by have := r.isLt; omega
    exact ⟨(colOf_lt _ s ⟨k, hk'⟩).trans (in_re m c t q p ⟨k, hk'⟩ s hs), (colOf_lt _ s ⟨k, hk'⟩).trans (in_im m c t q p ⟨k, hk'⟩ s hs)⟩

/-- The kernel's output of a grid point before the activation. -/
theorem y_at (c : Dev nD) (t : Fin cfg0.N) (q : Fin 8) (h : Fin 16) (r : Fin 2048) (x : Fin 128) (hx : x.val = q.val * 16 + h.val) :
    k0_pay1 (iblk m c 0 t) (k0_pay10 (ptRe m c t) (iblk m c 3 t)) (k0_pay11 (ptIm m c t)) (iblk m c 4 t) (iblk m c 7 t) (ix2 r x)
      = (args m c).y (sq t) r (gr t q) h := by
  have hh := h.isLt; have hq := q.isLt
  rw [pay1_at, blk0 m c t r q h x hx, blk7 m c t q h x hx]
  refine congrArg₂ (· + ·) (congrArg₂ (· - ·) (sum_block (n := 64) rfl q _ _ (fun s hs => ?_) fun p s hs => ?_)
    (sum_block (n := 64) rfl q _ _ (fun s hs => ?_) fun p s hs => ?_)) rfl
  · rw [blk3, host3, eye_ne _ _ (by have := s.isLt; omega) (by omega) (by omega), mul_zero, mul_zero]
  · have hp := p.isLt
    rw [blk3, host3, eye_eq _ _ (show s.val / 64 = x.val / 16 by omega), mul_one]
    refine congrArg₂ (· * ·) (congrArg Prod.fst (pt_at m c t q p r s hs)) ?_
    congr 2 <;> exact Fin.ext (by simp only [ch, gr]; omega)
  · rw [blk4, host4, eye_ne _ _ (by have := s.isLt; omega) (by omega) (by omega), mul_zero, mul_zero]
  · have hp := p.isLt
    rw [blk4, host4, eye_eq _ _ (show s.val / 64 = x.val / 16 by omega), mul_one]
    refine congrArg₂ (· * ·) (congrArg Prod.snd (pt_at m c t q p r s hs)) ?_
    congr 2 <;> exact Fin.ext (by simp only [ch, gr]; omega)

theorem final8 (c : Dev nD) : (dats m 0 c).arrAt 8 cfg0.N = (args m c).reArr := by
  refine (dats m 0 c).arrAt_eq_of_covers 8 _ (by decide +kernel) fun t _ y => ?_
  blk_simp
  rw [after0_8]
  have ht := lt_of_lt_of_eq t.isLt N_0
  idx_vars y
  have h1 := y1.isLt
  refine Eq.trans ?_ (congrArg Prod.fst (Args.sq_at _ _ (sq t) y0 (gr t ⟨y1.val / 64, by omega⟩) ⟨y1.val % 64, by omega⟩
    (by blk_simp [idx t] <;> (simp only [sq] <;> omega)) (by blk_simp [idx t] <;> (simp only [gr] <;> omega)))).symm
  refine Eq.trans ?_ (congrArg Prod.fst (pt_at m c t ⟨y1.val / 64, by omega⟩ ⟨y1.val % 64, by omega⟩ y0 y1 (by dsimp only; omega)))
  unfold outsAt0
  dsimp only
  refine Eq.trans (congrFun ?_ (ix2 y0 y1)) (rfl : ptRe m c t (ix2 y0 y1) = _)
  unfold out0_A_8
  exact (run_states _ _ _ _ _ _ _ _ _ _ _ _ _ _ _ _ _ _ _ _ _ _ _ _ _ _ _ _ _ _ _ _ _ _ _ _).1

theorem final9 (c : Dev nD) : (dats m 0 c).arrAt 9 cfg0.N = (args m c).imArr := by
  refine (dats m 0 c).arrAt_eq_of_covers 9 _ (by decide +kernel) fun t _ y => ?_
  blk_simp
  rw [after0_9]
  have ht := lt_of_lt_of_eq t.isLt N_0
  idx_vars y
  have h1 := y1.isLt
  refine Eq.trans ?_ (congrArg Prod.snd (Args.sq_at _ _ (sq t) y0 (gr t ⟨y1.val / 64, by omega⟩) ⟨y1.val % 64, by omega⟩
    (by blk_simp [idx t] <;> (simp only [sq] <;> omega)) (by blk_simp [idx t] <;> (simp only [gr] <;> omega)))).symm
  refine Eq.trans ?_ (congrArg Prod.snd (pt_at m c t ⟨y1.val / 64, by omega⟩ ⟨y1.val % 64, by omega⟩ y0 y1 (by dsimp only; omega)))
  unfold outsAt0
  dsimp only
  refine Eq.trans (congrFun ?_ (ix2 y0 y1)) (rfl : ptIm m c t (ix2 y0 y1) = _)
  unfold out0_A_9
  exact (run_states _ _ _ _ _ _ _ _ _ _ _ _ _ _ _ _ _ _ _ _ _ _ _ _ _ _ _ _ _ _ _ _ _ _ _ _).2

theorem final10 (c : Dev nD) : (dats m 0 c).arrAt 10 cfg0.N = (args m c).yArr := by
  refine (dats m 0 c).arrAt_eq_of_covers 10 _ (by decide +kernel) fun t _ y => ?_
  blk_simp
  rw [after0_10]
  have ht := lt_of_lt_of_eq t.isLt N_0
  idx_vars y
  have h1 := y1.isLt
  refine Eq.trans ?_ (Args.yArr_at _ _ (sq t) y0 (gr t ⟨y1.val / 16, by omega⟩) ⟨y1.val % 16, by omega⟩
    (by blk_simp [idx t] <;> (simp only [sq] <;> omega)) (by blk_simp [idx t] <;> (simp only [gr] <;> omega))).symm
  refine Eq.trans ?_ (y_at m c t ⟨y1.val / 16, by omega⟩ ⟨y1.val % 16, by omega⟩ y0 y1 (by dsimp only; omega))
  unfold outsAt0
  dsimp only
  refine Eq.trans (congrFun ?_ (ix2 y0 y1)) rfl
  unfold out0_A_10
  exact (run_y _ _ _ _ _ _ _ _ _ _ _ _ _ _ _ _ _ _ _ _ _ _ _ _ _ _ _ _ _ _ _ _ _ _ VO0_10 VO0_10.junk VO0_11 VO0_11.junk).1

theorem final11 (c : Dev nD) : (dats m 0 c).arrAt 11 cfg0.N = (args m c).zArr := by
  refine (dats m 0 c).arrAt_eq_of_covers 11 _ (by decide +kernel) fun t _ y => ?_
  blk_simp
  rw [after0_11]
  have ht := lt_of_lt_of_eq t.isLt N_0
  idx_vars y
  have h1 := y1.isLt
  refine Eq.trans ?_ (congrArg Args.act (Args.yArr_at _ _ (sq t) y0 (gr t ⟨y1.val / 16, by omega⟩) ⟨y1.val % 16, by omega⟩
    (by blk_simp [idx t] <;> (simp only [sq] <;> omega)) (by blk_simp [idx t] <;> (simp only [gr] <;> omega)))).symm
  refine Eq.trans ?_ (congrArg Args.act (y_at m c t ⟨y1.val / 16, by omega⟩ ⟨y1.val % 16, by omega⟩ y0 y1 (by dsimp only; omega)))
  unfold outsAt0
  dsimp only
  refine Eq.trans (congrFun ?_ (ix2 y0 y1)) (pay2_at _ _ _ _ _ y0 y1)
  unfold out0_A_11
  exact (run_y _ _ _ _ _ _ _ _ _ _ _ _ _ _ _ _ _ _ _ _ _ _ _ _ _ _ _ _ _ _ _ _ _ _ VO0_10 VO0_10.junk VO0_11 VO0_11.junk).2

end Cert.S5FwdProof
end
-- ==== Proof.S5Ref.lean ====
/- Hand-written: the reference's loop over the rows is the same recurrence. -/
module

public import proofs.«01_k».proof.Proof.Gen.S5FwdRefIdeal.Run
public import proofs.«01_k».proof.Proof.S5Spec
public import Idealize.ShloMosaic.Lib.Tactic.CleanTypes

@[expose] public section
set_option maxRecDepth 16384
noncomputable section
namespace Cert.S5FwdProof.Ref
open Idealize.ShloMosaic Idealize.ShloMosaic.TcCoe Idealize.SL.Sem Cert.S5FwdRefIdeal Cert.S5FwdRefIdeal.Gen Cert.S5FwdRefIdeal.Value
open Idealize.ShloMosaic.StableHlo

variable (m : (ℓ : Loc nD τ sig) → Buf (Elt Ideal) ℓ)

/-- The reference's arguments. -/
def args (c : Dev nD) : Args where
  x := m (c, Proc.tc.devRef main_arg0)
  lr := m (c, Proc.tc.devRef main_arg1)
  li := m (c, Proc.tc.devRef main_arg2)
  ls := m (c, Proc.tc.devRef main_arg3)
  br := m (c, Proc.tc.devRef main_arg4)
  bi := m (c, Proc.tc.devRef main_arg5)
  cr := m (c, Proc.tc.devRef main_arg6)
  ci := m (c, Proc.tc.devRef main_arg7)
  d := m (c, Proc.tc.devRef main_arg8)

/-- The slice of a stack of rows at row `k`. -/
theorem slice_at (x : Vec Ideal S2048x2x64x16 .f32) (k : Nat) (hk : k < 2048) (st : Fin S2048x2x64x16.rank → Int) (hst : st = ![(k : Int), 0, 0, 0]) (h : S2048x2x64x16.Slices (fun _ => 0) S1x2x64x16)
    (b : Fin 2) (g : Fin 64) (j : Fin 16) :
    Host.dynamicSlice S1x2x64x16 x st h (ix4 (0 : Fin 1) b g j) = x (ix4 (⟨k, hk⟩ : Fin 2048) b g j) := by
  subst hst
  rw [Host.dynamicSlice_apply]
  refine congrArg x (funext fun a => Fin.ext ?_)
  show Host.clampedStart _ _ _ _ a + _ = _
  fin_cases a
  · rw [Host.clampedStart_of_le _ _ _ k rfl (by show k + 1 ≤ 2048; omega)]; rfl
  · rw [Host.clampedStart_of_le _ _ _ 0 rfl (by show 0 + 2 ≤ 2; omega)]; exact Nat.zero_add _
  · rw [Host.clampedStart_of_le _ _ _ 0 rfl (by show 0 + 64 ≤ 64; omega)]; exact Nat.zero_add _
  · rw [Host.clampedStart_of_le _ _ _ 0 rfl (by show 0 + 16 ≤ 16; omega)]; exact Nat.zero_add _

/-- A row written over a stack of rows: row `k` is the new one. -/
theorem update_self (x : Vec Ideal S2048x2x64x64 .f32) (y : Vec Ideal S1x2x64x64 .f32) (k : Nat) (hk : k < 2048) (st : Fin S2048x2x64x64.rank → Int) (hst : st = ![(k : Int), 0, 0, 0])
    (h : S2048x2x64x64.Slices (fun _ => 0) S1x2x64x64) (b : Fin 2) (g p : Fin 64) :
    Host.dynamicUpdateSlice x y st h (ix4 (⟨k, hk⟩ : Fin 2048) b g p) = y (ix4 (0 : Fin 1) b g p) := by
  subst hst
  have c0 : Host.clampedStart S2048x2x64x64 S1x2x64x64 h.1 ![(k : Int), 0, 0, 0] (0 : Fin 4) = k :=
    Host.clampedStart_of_le _ _ _ k rfl (by show k + 1 ≤ 2048; omega)
  have c1 : Host.clampedStart S2048x2x64x64 S1x2x64x64 h.1 ![(k : Int), 0, 0, 0] (1 : Fin 4) = 0 :=
    Host.clampedStart_of_le _ _ _ 0 rfl (by show 0 + 2 ≤ 2; omega)
  have c2 : Host.clampedStart S2048x2x64x64 S1x2x64x64 h.1 ![(k : Int), 0, 0, 0] (2 : Fin 4) = 0 :=
    Host.clampedStart_of_le _ _ _ 0 rfl (by show 0 + 64 ≤ 64; omega)
  have c3 : Host.clampedStart S2048x2x64x64 S1x2x64x64 h.1 ![(k : Int), 0, 0, 0] (3 : Fin 4) = 0 :=
    Host.clampedStart_of_le _ _ _ 0 rfl (by show 0 + 64 ≤ 64; omega)
  rw [Host.dynamicUpdateSlice_apply, dif_pos]
  · refine congrArg y (funext fun a => Fin.ext ?_)
    fin_cases a
    · show k - Host.clampedStart S2048x2x64x64 S1x2x64x64 _ _ (0 : Fin 4) = 0
      rw [c0]; omega
    · show b.val - Host.clampedStart S2048x2x64x64 S1x2x64x64 _ _ (1 : Fin 4) = b.val
      rw [c1]; omega
    · show g.val - Host.clampedStart S2048x2x64x64 S1x2x64x64 _ _ (2 : Fin 4) = g.val
      rw [c2]; omega
    · show p.val - Host.clampedStart S2048x2x64x64 S1x2x64x64 _ _ (3 : Fin 4) = p.val
      rw [c3]; omega
  · intro a
    have := b.isLt; have := g.isLt; have := p.isLt
    fin_cases a
    · show Host.clampedStart S2048x2x64x64 S1x2x64x64 _ _ (0 : Fin 4) ≤ k ∧ k < Host.clampedStart S2048x2x64x64 S1x2x64x64 _ _ (0 : Fin 4) + 1
      rw [c0]; omega
    · show Host.clampedStart S2048x2x64x64 S1x2x64x64 _ _ (1 : Fin 4) ≤ b.val ∧ b.val < Host.clampedStart S2048x2x64x64 S1x2x64x64 _ _ (1 : Fin 4) + 2
      rw [c1]; omega
    · show Host.clampedStart S2048x2x64x64 S1x2x64x64 _ _ (2 : Fin 4) ≤ g.val ∧ g.val < Host.clampedStart S2048x2x64x64 S1x2x64x64 _ _ (2 : Fin 4) + 64
      rw [c2]; omega
    · show Host.clampedStart S2048x2x64x64 S1x2x64x64 _ _ (3 : Fin 4) ≤ p.val ∧ p.val < Host.clampedStart S2048x2x64x64 S1x2x64x64 _ _ (3 : Fin 4) + 64
      rw [c3]; omega

/-- … and the others stay. -/
theorem update_ne (x : Vec Ideal S2048x2x64x64 .f32) (y : Vec Ideal S1x2x64x64 .f32) (k : Nat) (hk : k < 2048) (st : Fin S2048x2x64x64.rank → Int) (hst : st = ![(k : Int), 0, 0, 0])
    (h : S2048x2x64x64.Slices (fun _ => 0) S1x2x64x64) (r : Fin 2048) (hr : r.val < k) (b : Fin 2) (g p : Fin 64) :
    Host.dynamicUpdateSlice x y st h (ix4 r b g p) = x (ix4 r b g p) := by
  subst hst
  have c0 : Host.clampedStart S2048x2x64x64 S1x2x64x64 h.1 ![(k : Int), 0, 0, 0] (0 : Fin 4) = k :=
    Host.clampedStart_of_le _ _ _ k rfl (by show k + 1 ≤ 2048; omega)
  rw [Host.dynamicUpdateSlice_apply, dif_neg]
  intro ha
  have h0 := (ha (0 : Fin 4)).1
  rw [c0] at h0
  have h0' : k ≤ r.val := h0
  omega

/-- The counter as a number. -/
theorem iv_int (k : Nat) (hk : k < 2048) : (Scf.iv 0#32 1#32 k).toInt = (k : Int) := by
  unfold Scf.iv
  have hn : (BitVec.ofNat 32 k).toNat = k := by rw [BitVec.toNat_ofNat]; omega
  rw [show (0#32 + BitVec.ofNat 32 k * 1#32 : BitVec 32) = BitVec.ofNat 32 k by simp, BitVec.toInt_eq_toNat_of_lt (by rw [hn]; omega), hn]

/-- The contents after `k` trips. -/
abbrev E (c : Dev nD) (k : Nat) : Valuation τ sig (Elt Ideal) := STEP^[k] (entryContents preI m c)

theorem E_succ (c : Dev nD) (k : Nat) : E m c (k + 1) = STEP (E m c k) := Function.iterate_succ_apply' _ _ _

theorem E0 (c : Dev nD) : ∀ k, E m c k (Proc.devRef .tc main_v48_0) = entryContents preI m c (Proc.devRef .tc main_v48_0)
  | 0 => rfl
  | k + 1 => by rw [E_succ, STEP_main_v48_0, E0 c k]
theorem E1 (c : Dev nD) : ∀ k, E m c k (Proc.devRef .tc main_v48_1) = entryContents preI m c (Proc.devRef .tc main_v48_1)
  | 0 => rfl
  | k + 1 => by rw [E_succ, STEP_main_v48_1, E1 c k]
theorem E2 (c : Dev nD) : ∀ k, E m c k (Proc.devRef .tc main_v48_2) = entryContents preI m c (Proc.devRef .tc main_v48_2)
  | 0 => rfl
  | k + 1 => by rw [E_succ, STEP_main_v48_2, E2 c k]
theorem E3 (c : Dev nD) : ∀ k, E m c k (Proc.devRef .tc main_v48_3) = entryContents preI m c (Proc.devRef .tc main_v48_3)
  | 0 => rfl
  | k + 1 => by rw [E_succ, STEP_main_v48_3, E3 c k]
theorem E4 (c : Dev nD) : ∀ k, E m c k (Proc.devRef .tc main_v48_4) = entryContents preI m c (Proc.devRef .tc main_v48_4)
  | 0 => rfl
  | k + 1 => by rw [E_succ, STEP_main_v48_4, E4 c k]
theorem E5 (c : Dev nD) : ∀ k, E m c k (Proc.devRef .tc main_v48_5) = fun _ => Scf.iv 0#32 1#32 k
  | 0 => by rw [show E m c 0 = entryContents preI m c from rfl, ctr_entry, Scf.iv_zero]
  | k + 1 => by rw [E_succ, STEP_main_v48_5, step_main_v48_5, E5 c k, Scf.iv_succ]; rfl

section entry

variable (c : Dev nD) (b : Fin 2) (g p : Fin 64)

theorem e0 (r : Fin 2048) (h : Fin 16) :
    (entryContents preI m c (Proc.devRef .tc main_v48_0) : Vec Ideal S2048x2x64x16 .f32) (ix4 r b g h) = (args m c).u b r g h := by
  simp only [entryContents, afterL_cons, afterL_nil]
  after_reads_simp
  try dsimp only [id]
  unfold Args.u args
  pointwise
theorem e1 : (entryContents preI m c (Proc.devRef .tc main_v48_1) : Vec Ideal S64x64 .f32) (ix2 g p) = (args m c).aRe g p := by
  simp only [entryContents, afterL_cons, afterL_nil]
  after_reads_simp
  try dsimp only [id]
  pointwise
  rfl
theorem e2 : (entryContents preI m c (Proc.devRef .tc main_v48_2) : Vec Ideal S64x64 .f32) (ix2 g p) = (args m c).aIm g p := by
  simp only [entryContents, afterL_cons, afterL_nil]
  after_reads_simp
  try dsimp only [id]
  pointwise
  rfl
theorem e3 (h : Fin 16) : (entryContents preI m c (Proc.devRef .tc main_v48_3) : Vec Ideal S64x64x16 .f32) (ix3 g p h) = (args m c).bRe g p h := by
  simp only [entryContents, afterL_cons, afterL_nil]
  after_reads_simp
  try dsimp only [id]
  pointwise
  rfl
theorem e4 (h : Fin 16) : (entryContents preI m c (Proc.devRef .tc main_v48_4) : Vec Ideal S64x64x16 .f32) (ix3 g p h) = (args m c).bIm g p h := by
  simp only [entryContents, afterL_cons, afterL_nil]
  after_reads_simp
  try dsimp only [id]
  pointwise
  rfl
theorem e6 : (entryContents preI m c (Proc.devRef .tc main_v48_6) : Vec Ideal S2x64x64 .f32) (ix3 b g p) = (0 : EReal) := by
  simp only [entryContents, afterL_cons, afterL_nil]
  after_reads_simp
  try dsimp only [id]
  pointwise
theorem e7 : (entryContents preI m c (Proc.devRef .tc main_v48_7) : Vec Ideal S2x64x64 .f32) (ix3 b g p) = (0 : EReal) := by
  simp only [entryContents, afterL_cons, afterL_nil]
  after_reads_simp
  try dsimp only [id]
  pointwise

end entry

section step

variable (c : Dev nD) (k : Nat) (hk : k < 2048) (b : Fin 2) (g p : Fin 64)
include hk

theorem start_at : (fun a : Fin S2048x2x64x64.rank => (((![E m c k (Proc.devRef .tc main_v48_5), constantI S_ 32 0#32, constantI S_ 32 0#32, constantI S_ 32 0#32] : Fin 4 → (⟨S_, .i32⟩ : BufTy).Contents (Elt Ideal))) a (Shape.Idx.first h_S_)).toInt)
    = ![(k : Int), 0, 0, 0] := by
  rw [E5]
  funext a
  fin_cases a
  · show (Scf.iv 0#32 1#32 k).toInt = (k : Int)
    exact iv_int k hk
  · rfl
  · rfl
  · rfl

theorem v79_at (h : Fin 16) : (res_main_while0b_v79 (E m c k) : Vec Ideal S2x64x16 .f32) (ix3 b g h) = (args m c).u b ⟨k, hk⟩ g h := by
  unfold res_main_while0b_v79
  refine Eq.trans ?_ ((slice_at _ k hk _ (start_at m c k hk) sliceFits_S2048x2x64x16_S1x2x64x16 b g h).trans ((congrFun (E0 m c k) _).trans (e0 m c b g ⟨k, hk⟩ h)))
  generalize Host.dynamicSlice S1x2x64x16 _ _ _ = X
  pointwise

theorem v89_at : (res_main_while0b_v89 (E m c k) : Vec Ideal S2x64x64 .f32) (ix3 b g p)
    = ((args m c).aRe g p * (E m c k (Proc.devRef .tc main_v48_6) : Vec Ideal S2x64x64 .f32) (ix3 b g p)
        - (args m c).aIm g p * (E m c k (Proc.devRef .tc main_v48_7) : Vec Ideal S2x64x64 .f32) (ix3 b g p)) + (args m c).inRe b g p k := by
  unfold res_main_while0b_v89
  rw [Args.inRe, dif_pos hk, E1, E2, E3]
  simp only [← v79_at m c k hk, ← e1, ← e2, ← e3]
  generalize (res_main_while0b_v79 (E m c k) : Vec Ideal S2x64x16 .f32) = X
  pointwise
theorem v99_at : (res_main_while0b_v99 (E m c k) : Vec Ideal S2x64x64 .f32) (ix3 b g p)
    = ((args m c).aRe g p * (E m c k (Proc.devRef .tc main_v48_7) : Vec Ideal S2x64x64 .f32) (ix3 b g p)
        + (args m c).aIm g p * (E m c k (Proc.devRef .tc main_v48_6) : Vec Ideal S2x64x64 .f32) (ix3 b g p)) + (args m c).inIm b g p k := by
  unfold res_main_while0b_v99
  rw [Args.inIm, dif_pos hk, E1, E2, E4]
  simp only [← v79_at m c k hk, ← e1, ← e2, ← e4]
  generalize (res_main_while0b_v79 (E m c k) : Vec Ideal S2x64x16 .f32) = X
  pointwise

end step

theorem lift (X : Vec Ideal S2x64x64 .f32) (b : Fin 2) (g p : Fin 64) :
    broadcastInDim S1x2x64x64 ![1, 2, 3] bcast_S2x64x64_S1x2x64x64_1_2_3 X (ix4 (0 : Fin 1) b g p) = X (ix3 b g p) := by
  pointwise

section rows

variable (V0 : Valuation τ sig (Elt Ideal)) (k : Nat) (hk : k < 2048)
  (hs : (fun a : Fin S2048x2x64x64.rank => (((![V0 (Proc.devRef .tc main_v48_5), constantI S_ 32 0#32, constantI S_ 32 0#32, constantI S_ 32 0#32] : Fin 4 → (⟨S_, .i32⟩ : BufTy).Contents (Elt Ideal))) a (Shape.Idx.first h_S_)).toInt)
    = ![(k : Int), 0, 0, 0]) (b : Fin 2) (g p : Fin 64)
include hk hs

theorem step8_self : (step_main_v48_8 V0 : Vec Ideal S2048x2x64x64 .f32) (ix4 (⟨k, hk⟩ : Fin 2048) b g p) = (res_main_while0b_v89 V0 : Vec Ideal S2x64x64 .f32) (ix3 b g p) := by
  unfold step_main_v48_8
  dsimp only [id]
  generalize (res_main_while0b_v89 V0 : Vec Ideal S2x64x64 .f32) = X
  exact (update_self _ _ k hk _ hs _ b g p).trans (lift X b g p)
theorem step8_ne (r : Fin 2048) (hr : r.val < k) :
    (step_main_v48_8 V0 : Vec Ideal S2048x2x64x64 .f32) (ix4 r b g p) = (V0 (Proc.devRef .tc main_v48_8) : Vec Ideal S2048x2x64x64 .f32) (ix4 r b g p) := by
  unfold step_main_v48_8
  dsimp only [id]
  exact update_ne _ _ k hk _ hs _ r hr b g p
theorem step9_self : (step_main_v48_9 V0 : Vec Ideal S2048x2x64x64 .f32) (ix4 (⟨k, hk⟩ : Fin 2048) b g p) = (res_main_while0b_v99 V0 : Vec Ideal S2x64x64 .f32) (ix3 b g p) := by
  unfold step_main_v48_9
  dsimp only [id]
  generalize (res_main_while0b_v99 V0 : Vec Ideal S2x64x64 .f32) = X
  exact (update_self _ _ k hk _ hs _ b g p).trans (lift X b g p)
theorem step9_ne (r : Fin 2048) (hr : r.val < k) :
    (step_main_v48_9 V0 : Vec Ideal S2048x2x64x64 .f32) (ix4 r b g p) = (V0 (Proc.devRef .tc main_v48_9) : Vec Ideal S2048x2x64x64 .f32) (ix4 r b g p) := by
  unfold step_main_v48_9
  dsimp only [id]
  exact update_ne _ _ k hk _ hs _ r hr b g p

end rows

/-- The states after `k` trips are the recurrence's, and so are the rows written so far. -/
theorem inv (c : Dev nD) : ∀ k, k ≤ 2048 → ∀ (b : Fin 2) (g p : Fin 64),
    ((E m c k (Proc.devRef .tc main_v48_6) : Vec Ideal S2x64x64 .f32) (ix3 b g p) = ((args m c).st b g p k).1
      ∧ (E m c k (Proc.devRef .tc main_v48_7) : Vec Ideal S2x64x64 .f32) (ix3 b g p) = ((args m c).st b g p k).2)
    ∧ ∀ r : Fin 2048, r.val < k → (E m c k (Proc.devRef .tc main_v48_8) : Vec Ideal S2048x2x64x64 .f32) (ix4 r b g p) = ((args m c).st b g p (r.val + 1)).1
      ∧ (E m c k (Proc.devRef .tc main_v48_9) : Vec Ideal S2048x2x64x64 .f32) (ix4 r b g p) = ((args m c).st b g p (r.val + 1)).2
  | 0, _, b, g, p => ⟨⟨e6 m c b g p, e7 m c b g p⟩, fun r hr => absurd hr (Nat.not_lt_zero _)⟩
  | k + 1, hk, b, g, p => by
    have hk' : k < 2048 := by omega
    obtain ⟨⟨hr, hi⟩, hrows⟩ := inv c k (by omega) b g p
    have n89 : (res_main_while0b_v89 (E m c k) : Vec Ideal S2x64x64 .f32) (ix3 b g p) = ((args m c).st b g p (k + 1)).1 := by
      rw [v89_at m c k hk', hr, hi]; rfl
    have n99 : (res_main_while0b_v99 (E m c k) : Vec Ideal S2x64x64 .f32) (ix3 b g p) = ((args m c).st b g p (k + 1)).2 := by
      rw [v99_at m c k hk', hr, hi]; rfl
    refine ⟨⟨?_, ?_⟩, fun r hlt => ⟨?_, ?_⟩⟩
    · rw [E_succ, STEP_main_v48_6]; exact n89
    · rw [E_succ, STEP_main_v48_7]; exact n99
    · rw [E_succ, STEP_main_v48_8]
      rcases Nat.lt_succ_iff_lt_or_eq.mp hlt with h | h
      · exact (step8_ne (E m c k) k hk' (start_at m c k hk') b g p r h).trans (hrows r h).1
      · rw [show r = (⟨k, hk'⟩ : Fin 2048) from Fin.ext h]
        exact (step8_self (E m c k) k hk' (start_at m c k hk') b g p).trans n89
    · rw [E_succ, STEP_main_v48_9]
      rcases Nat.lt_succ_iff_lt_or_eq.mp hlt with h | h
      · exact (step9_ne (E m c k) k hk' (start_at m c k hk') b g p r h).trans (hrows r h).2
      · rw [show r = (⟨k, hk'⟩ : Fin 2048) from Fin.ext h]
        exact (step9_self (E m c k) k hk' (start_at m c k hk') b g p).trans n99

/-- The stack of states, row by row. -/
def allRe (A : Args) : Vec Ideal S2048x2x64x64 .f32 := fun j => (A.st (j (1 : Fin 4)) (j (2 : Fin 4)) (j (3 : Fin 4)) ((j (0 : Fin 4)).val + 1)).1
def allIm (A : Args) : Vec Ideal S2048x2x64x64 .f32 := fun j => (A.st (j (1 : Fin 4)) (j (2 : Fin 4)) (j (3 : Fin 4)) ((j (0 : Fin 4)).val + 1)).2

theorem all8 (c : Dev nD) : (E m c 2048 (Proc.devRef .tc main_v48_8) : Vec Ideal S2048x2x64x64 .f32) = allRe (args m c) := by
  funext j
  idx_vars j
  exact ((inv m c 2048 le_rfl j1 j2 j3).2 j0 j0.isLt).1
theorem all9 (c : Dev nD) : (E m c 2048 (Proc.devRef .tc main_v48_9) : Vec Ideal S2048x2x64x64 .f32) = allIm (args m c) := by
  funext j
  idx_vars j
  exact ((inv m c 2048 le_rfl j1 j2 j3).2 j0 j0.isLt).2

theorem out63 (c : Dev nD) : out_main_v63 (E m c 2048) = (args m c).reArr := by
  unfold out_main_v63
  rw [all8]
  funext j
  idx_vars j
  have h0 := j0.isLt; have h1 := j1.isLt
  pointwise
  unfold allRe Args.reArr Args.sq
  blk_point []
theorem out64 (c : Dev nD) : out_main_v64 (E m c 2048) = (args m c).imArr := by
  unfold out_main_v64
  rw [all9]
  funext j
  idx_vars j
  have h0 := j0.isLt; have h1 := j1.isLt
  pointwise
  unfold allIm Args.imArr Args.sq
  blk_point []
/-- The outputs before the activation, from the states and the arguments. -/
theorem y_at (V1 : Valuation τ sig (Elt Ideal)) (A : Args) (h8 : (V1 (Proc.devRef .tc main_v48_8) : Vec Ideal S2048x2x64x64 .f32) = allRe A)
    (h9 : (V1 (Proc.devRef .tc main_v48_9) : Vec Ideal S2048x2x64x64 .f32) = allIm A)
    (h6 : (V1 (Proc.devRef .tc main_arg6) : Vec Ideal S64x16x64 .f32) = A.cr) (h7 : (V1 (Proc.devRef .tc main_arg7) : Vec Ideal S64x16x64 .f32) = A.ci)
    (hd : (V1 (Proc.devRef .tc main_arg8) : Vec Ideal S1x1024 .f32) = A.d) (hx : (V1 (Proc.devRef .tc main_arg0) : Vec Ideal S4096x1024 .bf16) = A.x) :
    out_main_v62 V1 = A.yArr := by
  unfold out_main_v62
  rw [h8, h9, h6, h7, hd, hx]
  funext j
  idx_vars j
  have h0 := j0.isLt; have h1 := j1.isLt
  pointwise
  refine Eq.trans ?_ (Args.yArr_at A (ix2 j0 j1) ⟨j0.val / 2048, by omega⟩ ⟨j0.val % 2048, by omega⟩ ⟨j1.val / 16, by omega⟩ ⟨j1.val % 16, by omega⟩
    (by show j0.val = j0.val / 2048 * 2048 + j0.val % 2048; omega) (by show j1.val = j1.val / 16 * 16 + j1.val % 16; omega)).symm
  unfold Args.y Args.u
  refine congrArg₂ (· + ·) (congrArg₂ (· - ·) (Finset.sum_congr rfl fun p _ => mul_comm _ _) (Finset.sum_congr rfl fun p _ => mul_comm _ _))
    (congrArg₂ (· * ·) (congrArg A.d ?_) (congrArg A.x ?_))
  · exact congrArg (ix2 (0 : Fin 1)) (Fin.ext (by dsimp only; omega))
  · exact congrArg₂ ix2 (Fin.ext (by dsimp only; omega)) (Fin.ext (by dsimp only; omega))
theorem out62 (c : Dev nD) : out_main_v62 (E m c 2048) = (args m c).yArr :=
  y_at _ _ (all8 m c) (all9 m c) (iter_main_arg6 m c 2048) (iter_main_arg7 m c 2048) (iter_main_arg8 m c 2048) (iter_main_arg0 m c 2048)

/-- The activation as the reference writes it. -/
def gelu (Y : FVec Ideal S4096x1024 .f32) : FVec Ideal S4096x1024 .bf16 :=
  truncf .bf16 (mulf Y (mulf (broadcastInDim S4096x1024 ![] bcast_S_S4096x1024 (constant S_ .f32 0x3F000000#32))
    (addf (broadcastInDim S4096x1024 ![] bcast_S_S4096x1024 (constant S_ .f32 0x3F800000#32))
      (Host.tanh (mulf (broadcastInDim S4096x1024 ![] bcast_S_S4096x1024 (constant S_ .f32 0x3F4C422A#32))
        (addf Y (mulf (broadcastInDim S4096x1024 ![] bcast_S_S4096x1024 (constant S_ .f32 0x3D372713#32)) (mulf (mulf Y Y) Y)))))))) bitsLt_bf16_f32

theorem gelu_at (Y : FVec Ideal S4096x1024 .f32) (j : S4096x1024.Idx) : gelu Y j = Args.act (Y j) := by
  idx_vars j
  unfold gelu Args.act
  pointwise
  generalize Y (ix2 j0 j1) = v
  rw [show Ideal.ofBits FTy.f32 1027024659#32 * (v * v * v) = Ideal.ofBits FTy.f32 1027024659#32 * v * v * v by simp only [mul_assoc],
    mul_left_comm]
  exact (mul_assoc _ _ _).symm
theorem v78_eq (V0 : Valuation τ sig (Elt Ideal)) : out_main_v78 V0 = gelu (out_main_v62 V0) := by
  unfold out_main_v78 out_main_v62 gelu
  rfl
theorem out78 (c : Dev nD) : out_main_v78 (E m c 2048) = (args m c).zArr := by
  funext j
  rw [v78_eq, out62]
  exact gelu_at _ j

end Cert.S5FwdProof.Ref
end
-- ==== Proof.S5Fwd.lean ====
/- Hand-written: the state-space layer's forward kernel against the recurrence over the rows. -/
module

public import proofs.«01_k».proof.Proof.S5Kernel
public import proofs.«01_k».proof.Proof.S5Ref
public import proofs.«01_k».proof.Defs

@[expose] public section
set_option maxRecDepth 16384
noncomputable section
namespace Cert.S5FwdProof
open Idealize.ShloMosaic Idealize.ShloMosaic.TcCoe Idealize.SL.Sem Cert.S5FwdIdeal Cert.S5FwdIdeal.Gen

/-- The reference leaves the recurrence's states and outputs. -/
theorem ref_run (m : (ℓ : Loc S5FwdRefIdeal.nD S5FwdRefIdeal.τ S5FwdRefIdeal.sig) → Buf (Elt Ideal) ℓ) (ρ : Dev S5FwdRefIdeal.nD → PrngReg) :
    θ_run (S5FwdRefIdeal.defs (F := Ideal)) (onTc (τ := S5FwdRefIdeal.τ) (S5FwdRefIdeal.main (F := Ideal))) ⟨m, fun _ => 0, ρ⟩ fun r => ∀ c : Dev S5FwdRefIdeal.nD,
      r.2.mem ((c.tc : Thread S5FwdRefIdeal.nD S5FwdRefIdeal.τ).loc S5FwdRefIdeal.main_v63) = Args.reArr ⟨m ((c.tc : Thread S5FwdRefIdeal.nD S5FwdRefIdeal.τ).loc S5FwdRefIdeal.main_arg0), m ((c.tc : Thread S5FwdRefIdeal.nD S5FwdRefIdeal.τ).loc S5FwdRefIdeal.main_arg1), m ((c.tc : Thread S5FwdRefIdeal.nD S5FwdRefIdeal.τ).loc S5FwdRefIdeal.main_arg2), m ((c.tc : Thread S5FwdRefIdeal.nD S5FwdRefIdeal.τ).loc S5FwdRefIdeal.main_arg3), m ((c.tc : Thread S5FwdRefIdeal.nD S5FwdRefIdeal.τ).loc S5FwdRefIdeal.main_arg4), m ((c.tc : Thread S5FwdRefIdeal.nD S5FwdRefIdeal.τ).loc S5FwdRefIdeal.main_arg5), m ((c.tc : Thread S5FwdRefIdeal.nD S5FwdRefIdeal.τ).loc S5FwdRefIdeal.main_arg6), m ((c.tc : Thread S5FwdRefIdeal.nD S5FwdRefIdeal.τ).loc S5FwdRefIdeal.main_arg7), m ((c.tc : Thread S5FwdRefIdeal.nD S5FwdRefIdeal.τ).loc S5FwdRefIdeal.main_arg8)⟩
      ∧ r.2.mem ((c.tc : Thread S5FwdRefIdeal.nD S5FwdRefIdeal.τ).loc S5FwdRefIdeal.main_v64) = Args.imArr ⟨m ((c.tc : Thread S5FwdRefIdeal.nD S5FwdRefIdeal.τ).loc S5FwdRefIdeal.main_arg0), m ((c.tc : Thread S5FwdRefIdeal.nD S5FwdRefIdeal.τ).loc S5FwdRefIdeal.main_arg1), m ((c.tc : Thread S5FwdRefIdeal.nD S5FwdRefIdeal.τ).loc S5FwdRefIdeal.main_arg2), m ((c.tc : Thread S5FwdRefIdeal.nD S5FwdRefIdeal.τ).loc S5FwdRefIdeal.main_arg3), m ((c.tc : Thread S5FwdRefIdeal.nD S5FwdRefIdeal.τ).loc S5FwdRefIdeal.main_arg4), m ((c.tc : Thread S5FwdRefIdeal.nD S5FwdRefIdeal.τ).loc S5FwdRefIdeal.main_arg5), m ((c.tc : Thread S5FwdRefIdeal.nD S5FwdRefIdeal.τ).loc S5FwdRefIdeal.main_arg6), m ((c.tc : Thread S5FwdRefIdeal.nD S5FwdRefIdeal.τ).loc S5FwdRefIdeal.main_arg7), m ((c.tc : Thread S5FwdRefIdeal.nD S5FwdRefIdeal.τ).loc S5FwdRefIdeal.main_arg8)⟩
      ∧ r.2.mem ((c.tc : Thread S5FwdRefIdeal.nD S5FwdRefIdeal.τ).loc S5FwdRefIdeal.main_v62) = Args.yArr ⟨m ((c.tc : Thread S5FwdRefIdeal.nD S5FwdRefIdeal.τ).loc S5FwdRefIdeal.main_arg0), m ((c.tc : Thread S5FwdRefIdeal.nD S5FwdRefIdeal.τ).loc S5FwdRefIdeal.main_arg1), m ((c.tc : Thread S5FwdRefIdeal.nD S5FwdRefIdeal.τ).loc S5FwdRefIdeal.main_arg2), m ((c.tc : Thread S5FwdRefIdeal.nD S5FwdRefIdeal.τ).loc S5FwdRefIdeal.main_arg3), m ((c.tc : Thread S5FwdRefIdeal.nD S5FwdRefIdeal.τ).loc S5FwdRefIdeal.main_arg4), m ((c.tc : Thread S5FwdRefIdeal.nD S5FwdRefIdeal.τ).loc S5FwdRefIdeal.main_arg5), m ((c.tc : Thread S5FwdRefIdeal.nD S5FwdRefIdeal.τ).loc S5FwdRefIdeal.main_arg6), m ((c.tc : Thread S5FwdRefIdeal.nD S5FwdRefIdeal.τ).loc S5FwdRefIdeal.main_arg7), m ((c.tc : Thread S5FwdRefIdeal.nD S5FwdRefIdeal.τ).loc S5FwdRefIdeal.main_arg8)⟩
      ∧ r.2.mem ((c.tc : Thread S5FwdRefIdeal.nD S5FwdRefIdeal.τ).loc S5FwdRefIdeal.main_v78) = Args.zArr ⟨m ((c.tc : Thread S5FwdRefIdeal.nD S5FwdRefIdeal.τ).loc S5FwdRefIdeal.main_arg0), m ((c.tc : Thread S5FwdRefIdeal.nD S5FwdRefIdeal.τ).loc S5FwdRefIdeal.main_arg1), m ((c.tc : Thread S5FwdRefIdeal.nD S5FwdRefIdeal.τ).loc S5FwdRefIdeal.main_arg2), m ((c.tc : Thread S5FwdRefIdeal.nD S5FwdRefIdeal.τ).loc S5FwdRefIdeal.main_arg3), m ((c.tc : Thread S5FwdRefIdeal.nD S5FwdRefIdeal.τ).loc S5FwdRefIdeal.main_arg4), m ((c.tc : Thread S5FwdRefIdeal.nD S5FwdRefIdeal.τ).loc S5FwdRefIdeal.main_arg5), m ((c.tc : Thread S5FwdRefIdeal.nD S5FwdRefIdeal.τ).loc S5FwdRefIdeal.main_arg6), m ((c.tc : Thread S5FwdRefIdeal.nD S5FwdRefIdeal.τ).loc S5FwdRefIdeal.main_arg7), m ((c.tc : Thread S5FwdRefIdeal.nD S5FwdRefIdeal.τ).loc S5FwdRefIdeal.main_arg8)⟩
      ∧ r.2.mem ((c.tc : Thread S5FwdRefIdeal.nD S5FwdRefIdeal.τ).loc S5FwdRefIdeal.main_arg0) = m ((c.tc : Thread S5FwdRefIdeal.nD S5FwdRefIdeal.τ).loc S5FwdRefIdeal.main_arg0)
      ∧ r.2.mem ((c.tc : Thread S5FwdRefIdeal.nD S5FwdRefIdeal.τ).loc S5FwdRefIdeal.main_arg1) = m ((c.tc : Thread S5FwdRefIdeal.nD S5FwdRefIdeal.τ).loc S5FwdRefIdeal.main_arg1)
      ∧ r.2.mem ((c.tc : Thread S5FwdRefIdeal.nD S5FwdRefIdeal.τ).loc S5FwdRefIdeal.main_arg2) = m ((c.tc : Thread S5FwdRefIdeal.nD S5FwdRefIdeal.τ).loc S5FwdRefIdeal.main_arg2)
      ∧ r.2.mem ((c.tc : Thread S5FwdRefIdeal.nD S5FwdRefIdeal.τ).loc S5FwdRefIdeal.main_arg3) = m ((c.tc : Thread S5FwdRefIdeal.nD S5FwdRefIdeal.τ).loc S5FwdRefIdeal.main_arg3)
      ∧ r.2.mem ((c.tc : Thread S5FwdRefIdeal.nD S5FwdRefIdeal.τ).loc S5FwdRefIdeal.main_arg4) = m ((c.tc : Thread S5FwdRefIdeal.nD S5FwdRefIdeal.τ).loc S5FwdRefIdeal.main_arg4)
      ∧ r.2.mem ((c.tc : Thread S5FwdRefIdeal.nD S5FwdRefIdeal.τ).loc S5FwdRefIdeal.main_arg5) = m ((c.tc : Thread S5FwdRefIdeal.nD S5FwdRefIdeal.τ).loc S5FwdRefIdeal.main_arg5)
      ∧ r.2.mem ((c.tc : Thread S5FwdRefIdeal.nD S5FwdRefIdeal.τ).loc S5FwdRefIdeal.main_arg6) = m ((c.tc : Thread S5FwdRefIdeal.nD S5FwdRefIdeal.τ).loc S5FwdRefIdeal.main_arg6)
      ∧ r.2.mem ((c.tc : Thread S5FwdRefIdeal.nD S5FwdRefIdeal.τ).loc S5FwdRefIdeal.main_arg7) = m ((c.tc : Thread S5FwdRefIdeal.nD S5FwdRefIdeal.τ).loc S5FwdRefIdeal.main_arg7)
      ∧ r.2.mem ((c.tc : Thread S5FwdRefIdeal.nD S5FwdRefIdeal.τ).loc S5FwdRefIdeal.main_arg8) = m ((c.tc : Thread S5FwdRefIdeal.nD S5FwdRefIdeal.τ).loc S5FwdRefIdeal.main_arg8) :=
  (θ_run S5FwdRefIdeal.defs _ _).mono (fun r h c => ⟨(h c).1.trans (Ref.out63 m c), (h c).2.1.trans (Ref.out64 m c), (h c).2.2.1.trans (Ref.out62 m c),
    (h c).2.2.2.1.trans (Ref.out78 m c), (h c).2.2.2.2⟩) (S5FwdRefIdeal.Value.run m ρ)

/-- The kernel leaves the same states and outputs. -/
theorem algebraic : Cert.algebraic_S5FwdIdeal_S5FwdRefIdeal
    (hS5FwdIdeal := Cert.S5FwdIdeal.Gen.facts) (hS5FwdRefIdeal := Cert.S5FwdRefIdeal.Gen.facts) := by
  pair_intro
  · run_from Cert.S5FwdIdeal.Value.run_blocks m g
  · run_from ref_run m' g'
    · exact (final8 m c).symm
    · exact (final9 m c).symm
    · exact (final10 m c).symm
    · exact (final11 m c).symm

/-- The reference terminates, keeps its arguments, and has no semaphore. -/
theorem frame_ref : Cert.quiescent_S5FwdRefIdeal (hS5FwdRefIdeal := Cert.S5FwdRefIdeal.Gen.facts) := fun m ρ _ =>
  (θ_run Cert.S5FwdRefIdeal.defs _ _).mono (fun r h => ⟨fun c => (h c).2.2.2.2, sem_eq_zero_of_no_sems (by decide) r.2⟩)
    (Cert.S5FwdRefIdeal.Value.run m ρ)

end Cert.S5FwdProof

end
-- ==== Proof.UpDw.lean ====
/- Hand-written: the gradient of the up matrix, one plain product over all rows. -/
module

public import proofs.«01_k».proof.Proof.Gen.UpDwIdeal.Value
public import proofs.«01_k».proof.Proof.Gen.UpDwRefIdeal.Run
public import proofs.«01_k».proof.Proof.NormRow
public import proofs.«01_k».proof.Defs

@[expose] public section

set_option maxRecDepth 16384

noncomputable section

namespace Cert.UpDwProof

open Idealize.ShloMosaic Idealize.ShloMosaic.TcCoe Idealize.SL.Sem Cert.UpDwIdeal Cert.UpDwIdeal.Gen
open Idealize.ShloMosaic.Pipeline (Dat)

/-- The product of a transposed array with another. -/
def prod (a : Fin 4096 → Fin 5632 → EReal) (b : Fin 4096 → Fin 1024 → EReal) (r : Fin 5632) (j : Fin 1024) : EReal :=
  ∑ l : Fin 4096, a l r * b l j

/-! ## A block -/

theorem pay1_at (v0 : S4096x512.Idx → EReal) (v1 : S4096x1024.Idx → EReal) (r : Fin 512) (j : Fin 1024) :
    k0_pay1 (F := Ideal) v0 v1 (ix2 r j) = ∑ l : Fin 4096, v0 (ix2 l r) * v1 (ix2 l j) := by
  pointwise [k0_pay1]

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

abbrev mA (c : Dev nD) (l : Fin 4096) (r : Fin 5632) : EReal := m ((c : Thread nD τ).loc main_arg0) (ix2 l r)
abbrev mB (c : Dev nD) (l : Fin 4096) (j : Fin 1024) : EReal := m ((c : Thread nD τ).loc main_arg1) (ix2 l j)

/-- A row of the result, from the grid point and the row of its block. -/
def row (t : Fin cfg0.N) (r : Fin 512) : Fin 5632 :=
  ⟨t.val * 512 + (r : ℕ), by have ht : t.val < 11 := lt_of_lt_of_eq t.isLt N_0; omega⟩

section point

variable (c : Dev nD) (t : Fin cfg0.N)

theorem ld0 (l : Fin 4096) (r : Fin 512) : iblk m c 0 t (ix2 l r) = mA m c l (row t r) := by
  unfold row; blk_point [iblk, V, idx t]
theorem ld1 (l : Fin 4096) (j : Fin 1024) : iblk m c 1 t (ix2 l j) = mB m c l j := by
  blk_point [iblk, V, idx t]

theorem emb2 (r : Fin 512) (j : Fin 1024) :
    ((View.whole main_v0).slice (win0_2.rect t)).emb (ix2 r j) 0 = row t r ∧ ((View.whole main_v0).slice (win0_2.rect t)).emb (ix2 r j) 1 = j := by
  constructor <;> refine Fin.ext ?_ <;> blk_simp [idx t] <;> rfl

end point

/-- The product the kernel leaves. -/
theorem final2 (c : Dev nD) : (dats m 0 c).arrAt 2 cfg0.N = fun i => prod (mA m c) (mB m c) (i 0) (i 1) := by
  refine (dats m 0 c).arrAt_eq_of_covers 2 _ (by decide +kernel) fun t _ y => ?_
  blk_simp
  rw [after0_2]
  idx_vars y
  refine Eq.trans ?_ (congrArg₂ (prod (mA m c) (mB m c)) (emb2 t y0 y1).1 (emb2 t y0 y1).2).symm
  unfold out0_2
  frame_out
  rw [pay1_at]
  simp only [ld0, ld1]
  rfl

/-! ## The two runs -/

theorem ref_run (m' : (ℓ : Loc Cert.UpDwRefIdeal.nD Cert.UpDwRefIdeal.τ Cert.UpDwRefIdeal.sig) → Buf (Elt Ideal) ℓ)
    (ρ : Dev Cert.UpDwRefIdeal.nD → PrngReg) :
    θ_run (Cert.UpDwRefIdeal.defs (F := Ideal)) (onTc (τ := Cert.UpDwRefIdeal.τ) (Cert.UpDwRefIdeal.main (F := Ideal))) ⟨m', fun _ => 0, ρ⟩ fun r => ∀ c : Dev Cert.UpDwRefIdeal.nD,
      r.2.mem (c.tc.loc Cert.UpDwRefIdeal.main_v7) = (fun i => prod (fun (l : Fin 4096) (r : Fin 5632) => m' (c.tc.loc Cert.UpDwRefIdeal.main_arg0) (ix2 l r)) (fun (l : Fin 4096) (j : Fin 1024) => m' (c.tc.loc Cert.UpDwRefIdeal.main_arg1) (ix2 l j)) (i 0) (i 1))
      ∧ r.2.mem (c.tc.loc Cert.UpDwRefIdeal.main_arg0) = m' (c.tc.loc Cert.UpDwRefIdeal.main_arg0)
      ∧ r.2.mem (c.tc.loc Cert.UpDwRefIdeal.main_arg1) = m' (c.tc.loc Cert.UpDwRefIdeal.main_arg1) :=
  (θ_run Cert.UpDwRefIdeal.defs _ _).mono (fun r h c => ⟨(h c).1.trans (by funext i; idx_vars i; pointwise; rfl),
    (h c).2⟩)
    (Cert.UpDwRefIdeal.Value.run m' ρ)

/-- The kernel leaves the transposed rows' product with the normed rows. -/
theorem algebraic : Cert.algebraic_UpDwIdeal_UpDwRefIdeal
    (hUpDwIdeal := Cert.UpDwIdeal.Gen.facts) (hUpDwRefIdeal := Cert.UpDwRefIdeal.Gen.facts) := by
  pair_intro
  · run_from Cert.UpDwIdeal.Value.run_blocks m g
  · run_from ref_run m' g'
    exact (final2 m c).symm

/-- The reference terminates, keeps its arguments, and has no semaphore. -/
theorem frame_ref : Cert.quiescent_UpDwRefIdeal (hUpDwRefIdeal := Cert.UpDwRefIdeal.Gen.facts) := fun m ρ _ =>
  (θ_run Cert.UpDwRefIdeal.defs _ _).mono (fun r h => ⟨fun c => (h c).2, sem_eq_zero_of_no_sems (by decide) r.2⟩)
    (Cert.UpDwRefIdeal.Value.run m ρ)

end Cert.UpDwProof

end
-- ==== Proof.AdamW.lean ====
/- Hand-written: the optimiser's step for one matrix of two layers. -/
module

public import proofs.«01_k».proof.Proof.Gen.AdamWIdeal.Value
public import proofs.«01_k».proof.Proof.Gen.AdamWRefIdeal.Run
public import proofs.«01_k».proof.Proof.NormRow
public import proofs.«01_k».proof.Defs
public import Idealize.ShloMosaic.Lib.Tactic.CleanTypes
public import Idealize.ShloMosaic.Lib.StableHlo.RunRead

@[expose] public section

set_option maxRecDepth 16384

noncomputable section

namespace Cert.AdamWProof

open Idealize.ShloMosaic Idealize.ShloMosaic.TcCoe Idealize.SL.Sem Cert.AdamWIdeal Cert.AdamWIdeal.Gen
open Idealize.ShloMosaic.Pipeline (Dat)

/-! ## The step -/

/-- The layer of a row of the two layers' stacked matrix, and the row within the layer. -/
abbrev layer (n : Fin 2048) : Fin 2 := ⟨n / 1024, by omega⟩
abbrev within (n : Fin 2048) : Fin 1024 := ⟨n % 1024, by omega⟩

/-- The summed gradient: the eight devices' parts of the row's layer. -/
def summed (A B : S8x1024x256.Idx → EReal) (n : Fin 2048) (j : Fin 256) : EReal :=
  ∑ k : Fin 8, if n.val < 1024 then A (ix3 k (within n) j) else B (ix3 k (within n) j)

/-- The running mean of the gradient. -/
def mean (g m : EReal) : EReal := Ideal.ofBits .f32 0x3F666666#32 * m + Ideal.ofBits .f32 0x3DCCCCCD#32 * g
/-- The running mean of the gradient's square. -/
def square (g v : EReal) : EReal := Ideal.ofBits .f32 0x3F7FBE77#32 * v + Ideal.ofBits .f32 0x3A83126F#32 * (g * g)
/-- The change of a parameter. -/
def change (g w m v : EReal) : EReal :=
  Ideal.ofBits .f32 0xBA83126F#32 * (Ideal.div (Ideal.div (mean g m) (Ideal.ofBits .f32 0x3F26BD02#32))
    (Ideal.sqrt (Ideal.div (square g v) (Ideal.ofBits .f32 0x3C231ACC#32)) + Ideal.ofBits .f32 0x322BCC77#32)
    + Ideal.ofBits .f32 0x3C23D70A#32 * w)

/-! ## A block -/

theorem pay1_at (g m : S512x256.Idx → EReal) (i : S512x256.Idx) :
    k0_pay1 (F := Ideal) g m (Scalar.ofBits .f32 0x3F666666#32) i = mean (g i) (m i) := by
  idx_vars i
  pointwise [k0_pay1, mean]
theorem pay2_at (g v : S512x256.Idx → EReal) (i : S512x256.Idx) : k0_pay2 (F := Ideal) g v i = square (g i) (v i) := by
  idx_vars i
  pointwise [k0_pay2, square]
theorem pay3_at (g m v w : S512x256.Idx → EReal) (i : S512x256.Idx) :
    k0_pay3 (F := Ideal) g m (Scalar.ofBits .f32 0x3F666666#32) v w i = change (g i) (w i) (m i) (v i) := by
  unfold change
  rw [← pay1_at, ← pay2_at]
  idx_vars i
  pointwise [k0_pay3]

theorem pay7_at (x0 x1 x2 x3 x4 x5 x6 x7 : S1x512x256.Idx → EReal) (r : Fin 512) (j : Fin 256) :
    k0_pay7 (F := Ideal) x0 x1 x2 x3 x4 x5 x6 x7 (ix2 r j) = x0 (ix3 0 r j) + x1 (ix3 0 r j) + x2 (ix3 0 r j) + x3 (ix3 0 r j)
      + x4 (ix3 0 r j) + x5 (ix3 0 r j) + x6 (ix3 0 r j) + x7 (ix3 0 r j) := by
  pointwise [k0_pay7]
theorem pay9_at (x0 x1 x2 x3 x4 x5 x6 x7 : S1x512x256.Idx → EReal) (r : Fin 512) (j : Fin 256) :
    k0_pay9 (F := Ideal) x0 x1 x2 x3 x4 x5 x6 x7 (ix2 r j) = x0 (ix3 0 r j) + x1 (ix3 0 r j) + x2 (ix3 0 r j) + x3 (ix3 0 r j)
      + x4 (ix3 0 r j) + x5 (ix3 0 r j) + x6 (ix3 0 r j) + x7 (ix3 0 r j) := pay7_at x0 x1 x2 x3 x4 x5 x6 x7 r j

variable (m : (ℓ : Loc nD τ sig) → Buf (Elt Ideal) ℓ)

theorem idx : ∀ t : Fin cfg0.N, win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, _)
theorem idxA : ∀ t : Fin cfg0.N, t.val < 2 → win0_0.index t = ![0, t.val, 0] :=
  (by decide +kernel : ∀ t : Fin grid0.N, _)
theorem idxB : ∀ t : Fin cfg0.N, 2 ≤ t.val → win0_1.index t = ![0, t.val - 2, 0] :=
  (by decide +kernel : ∀ t : Fin grid0.N, _)

abbrev mA (c : Dev nD) : S8x1024x256.Idx → EReal := m ((c : Thread nD τ).loc main_arg0)
abbrev mB (c : Dev nD) : S8x1024x256.Idx → EReal := m ((c : Thread nD τ).loc main_arg1)
abbrev mW (c : Dev nD) : S2x1024x256.Idx → EReal := m ((c : Thread nD τ).loc main_arg2)
abbrev mM (c : Dev nD) : S2x1024x256.Idx → EReal := m ((c : Thread nD τ).loc main_arg3)
abbrev mV (c : Dev nD) : S2x1024x256.Idx → EReal := m ((c : Thread nD τ).loc main_arg4)

/-- An entry of a stacked array of two layers. -/
abbrev at2 (X : S2x1024x256.Idx → EReal) (n : Fin 2048) (j : Fin 256) : EReal := X (ix3 (layer n) (within n) j)

/-- A row of the result, from the grid point and the row of its block. -/
def row (t : Fin cfg0.N) (r : Fin 512) : Fin 2048 :=
  ⟨t.val * 512 + (r : ℕ), by have ht : t.val < 4 := lt_of_lt_of_eq t.isLt N_0; omega⟩

section host
variable (c : Dev nD) (n : Fin 2048) (j : Fin 256)
theorem host2 : V m c main_v0 (ix2 n j) = at2 (mW m c) n j := by
  unfold V
  after_reads_simp
  pointwise
theorem host3 : V m c main_v1 (ix2 n j) = at2 (mM m c) n j := by
  unfold V
  after_reads_simp
  pointwise
theorem host4 : V m c main_v2 (ix2 n j) = at2 (mV m c) n j := by
  unfold V
  after_reads_simp
  pointwise
end host

section point

variable (c : Dev nD) (t : Fin cfg0.N) (r : Fin 512) (j : Fin 256)

theorem ld2 : iblk m c 2 t (ix2 r j) = at2 (mW m c) (row t r) j := by
  rw [← host2]; unfold row; blk_point [iblk, idx t]
theorem ld3 : iblk m c 3 t (ix2 r j) = at2 (mM m c) (row t r) j := by
  rw [← host3]; unfold row; blk_point [iblk, idx t]
theorem ld4 : iblk m c 4 t (ix2 r j) = at2 (mV m c) (row t r) j := by
  rw [← host4]; unfold row; blk_point [iblk, idx t]

theorem ld0 (h : t.val < 2) (o : ℕ) (k : Fin 8) (ho : o = k) (hin : _) : View.ld (iblk m c 0 t) (Rect.unit ![o, 0, 0] ![1, 512, 256] hin) (ix3 (0 : Fin 1) r j)
    = mA m c (ix3 k (within (row t r)) j) := by
  have e : within (row t r) = ⟨t.val * 512 + r.val, by omega⟩ := Fin.ext (by unfold row; dsimp only; omega)
  subst ho; rw [e]; blk_point [iblk, V, idxA t h]
theorem ld1 (h : 2 ≤ t.val) (o : ℕ) (k : Fin 8) (ho : o = k) (hin : _) : View.ld (iblk m c 1 t) (Rect.unit ![o, 0, 0] ![1, 512, 256] hin) (ix3 (0 : Fin 1) r j)
    = mB m c (ix3 k (within (row t r)) j) := by
  have ht : t.val < 4 := lt_of_lt_of_eq t.isLt N_0
  have e : within (row t r) = ⟨(t.val - 2) * 512 + r.val, by omega⟩ := Fin.ext (by unfold row; dsimp only; omega)
  subst ho; rw [e]; blk_point [iblk, V, idxB t h]

theorem sum_lower (h : t.val < 2) (h0 h1 h2 h3 h4 h5 h6 h7 : _) :
    k0_pay7 (F := Ideal) (View.ld (iblk m c 0 t) (Rect.unit ![0, 0, 0] ![1, 512, 256] h0)) (View.ld (iblk m c 0 t) (Rect.unit ![1, 0, 0] ![1, 512, 256] h1))
      (View.ld (iblk m c 0 t) (Rect.unit ![2, 0, 0] ![1, 512, 256] h2)) (View.ld (iblk m c 0 t) (Rect.unit ![3, 0, 0] ![1, 512, 256] h3))
      (View.ld (iblk m c 0 t) (Rect.unit ![4, 0, 0] ![1, 512, 256] h4)) (View.ld (iblk m c 0 t) (Rect.unit ![5, 0, 0] ![1, 512, 256] h5))
      (View.ld (iblk m c 0 t) (Rect.unit ![6, 0, 0] ![1, 512, 256] h6)) (View.ld (iblk m c 0 t) (Rect.unit ![7, 0, 0] ![1, 512, 256] h7)) (ix2 r j)
    = summed (mA m c) (mB m c) (row t r) j := by
  have e : (row t r).val < 1024 := by unfold row; dsimp only; omega
  unfold summed
  simp only [e, if_true, Fin.sum_univ_eight]
  rw [pay7_at, ld0 m c t r j h 0 0 rfl, ld0 m c t r j h 1 1 rfl, ld0 m c t r j h 2 2 rfl, ld0 m c t r j h 3 3 rfl, ld0 m c t r j h 4 4 rfl, ld0 m c t r j h 5 5 rfl, ld0 m c t r j h 6 6 rfl, ld0 m c t r j h 7 7 rfl]
theorem sum_upper (h : 2 ≤ t.val) (h0 h1 h2 h3 h4 h5 h6 h7 : _) :
    k0_pay9 (F := Ideal) (View.ld (iblk m c 1 t) (Rect.unit ![0, 0, 0] ![1, 512, 256] h0)) (View.ld (iblk m c 1 t) (Rect.unit ![1, 0, 0] ![1, 512, 256] h1))
      (View.ld (iblk m c 1 t) (Rect.unit ![2, 0, 0] ![1, 512, 256] h2)) (View.ld (iblk m c 1 t) (Rect.unit ![3, 0, 0] ![1, 512, 256] h3))
      (View.ld (iblk m c 1 t) (Rect.unit ![4, 0, 0] ![1, 512, 256] h4)) (View.ld (iblk m c 1 t) (Rect.unit ![5, 0, 0] ![1, 512, 256] h5))
      (View.ld (iblk m c 1 t) (Rect.unit ![6, 0, 0] ![1, 512, 256] h6)) (View.ld (iblk m c 1 t) (Rect.unit ![7, 0, 0] ![1, 512, 256] h7)) (ix2 r j)
    = summed (mA m c) (mB m c) (row t r) j := by
  have e : ¬(row t r).val < 1024 := by unfold row; dsimp only; omega
  unfold summed
  simp only [e, if_false, Fin.sum_univ_eight]
  rw [pay9_at, ld1 m c t r j h 0 0 rfl, ld1 m c t r j h 1 1 rfl, ld1 m c t r j h 2 2 rfl, ld1 m c t r j h 3 3 rfl, ld1 m c t r j h 4 4 rfl, ld1 m c t r j h 5 5 rfl, ld1 m c t r j h 6 6 rfl, ld1 m c t r j h 7 7 rfl]

theorem pay8_eq (x : S512x256.Idx → EReal) : k0_pay8 (F := Ideal) x = x := by
  funext i
  idx_vars i
  pointwise [k0_pay8]
theorem pay10_eq (x : S512x256.Idx → EReal) : k0_pay10 (F := Ideal) x = x := pay8_eq x

/-- What a point leaves of the summed gradient. -/
theorem out5 : (outsAt0 m c t.val t.isLt).1 (ix2 r j) = summed (mA m c) (mB m c) (row t r) j := by
  by_cases h : t.val < 2
  · rw [outsAt0_A m c t h (by omega)]
    unfold out0_A_5
    frame_out
    exact sum_lower m c t r j h _ _ _ _ _ _ _ _
  · rw [outsAt0_B m c t h (by omega)]
    unfold out0_B_5
    frame_out
    exact sum_upper m c t r j (by omega) _ _ _ _ _ _ _ _

/-- What a point leaves of the change of the parameters. -/
theorem out6 : (outsAt0 m c t.val t.isLt).2.1 (ix2 r j)
    = change (summed (mA m c) (mB m c) (row t r) j) (at2 (mW m c) (row t r) j) (at2 (mM m c) (row t r) j) (at2 (mV m c) (row t r) j) := by
  by_cases h : t.val < 2
  · rw [outsAt0_A m c t h (by omega)]
    unfold out0_A_6
    frame_out
    rw [pay8_eq]
    refine (pay3_at _ _ _ _ _).trans ?_
    rw [sum_lower m c t r j h, ld2, ld3, ld4]
  · rw [outsAt0_B m c t h (by omega)]
    unfold out0_B_6
    frame_out
    rw [pay10_eq]
    refine (pay3_at _ _ _ _ _).trans ?_
    rw [sum_upper m c t r j (by omega), ld2, ld3, ld4]

/-- What a point leaves of the running mean of the gradient. -/
theorem out7 : (outsAt0 m c t.val t.isLt).2.2.1 (ix2 r j) = mean (summed (mA m c) (mB m c) (row t r) j) (at2 (mM m c) (row t r) j) := by
  by_cases h : t.val < 2
  · rw [outsAt0_A m c t h (by omega)]
    unfold out0_A_7
    frame_out
    rw [pay8_eq]
    refine (pay1_at _ _ _).trans ?_
    rw [sum_lower m c t r j h, ld3]
  · rw [outsAt0_B m c t h (by omega)]
    unfold out0_B_7
    frame_out
    rw [pay10_eq]
    refine (pay1_at _ _ _).trans ?_
    rw [sum_upper m c t r j (by omega), ld3]

/-- What a point leaves of the running mean of the gradient's square. -/
theorem out8 : (outsAt0 m c t.val t.isLt).2.2.2 (ix2 r j) = square (summed (mA m c) (mB m c) (row t r) j) (at2 (mV m c) (row t r) j) := by
  by_cases h : t.val < 2
  · rw [outsAt0_A m c t h (by omega)]
    unfold out0_A_8
    frame_out
    refine (pay2_at _ _ _).trans ?_
    rw [sum_lower m c t r j h, ld4]
  · rw [outsAt0_B m c t h (by omega)]
    unfold out0_B_8
    frame_out
    refine (pay2_at _ _ _).trans ?_
    rw [sum_upper m c t r j (by omega), ld4]

theorem emb5 : ((View.whole main_v3_0).slice (win0_5.rect t)).emb (ix2 r j) 0 = row t r ∧ ((View.whole main_v3_0).slice (win0_5.rect t)).emb (ix2 r j) 1 = j := by
  constructor <;> refine Fin.ext ?_ <;> blk_simp [idx t] <;> rfl
theorem emb6 : ((View.whole main_v3_1).slice (win0_6.rect t)).emb (ix2 r j) 0 = row t r ∧ ((View.whole main_v3_1).slice (win0_6.rect t)).emb (ix2 r j) 1 = j := by
  constructor <;> refine Fin.ext ?_ <;> blk_simp [idx t] <;> rfl
theorem emb7 : ((View.whole main_v3_2).slice (win0_7.rect t)).emb (ix2 r j) 0 = row t r ∧ ((View.whole main_v3_2).slice (win0_7.rect t)).emb (ix2 r j) 1 = j := by
  constructor <;> refine Fin.ext ?_ <;> blk_simp [idx t] <;> rfl
theorem emb8 : ((View.whole main_v3_3).slice (win0_8.rect t)).emb (ix2 r j) 0 = row t r ∧ ((View.whole main_v3_3).slice (win0_8.rect t)).emb (ix2 r j) 1 = j := by
  constructor <;> refine Fin.ext ?_ <;> blk_simp [idx t] <;> rfl

end point

/-! ## The four arrays the kernel leaves -/

abbrev GG (A B : S8x1024x256.Idx → EReal) (i : S2048x256.Idx) : EReal := summed A B (i 0) (i 1)
abbrev GD (A B : S8x1024x256.Idx → EReal) (W M V : S2x1024x256.Idx → EReal) (i : S2048x256.Idx) : EReal :=
  change (summed A B (i 0) (i 1)) (at2 W (i 0) (i 1)) (at2 M (i 0) (i 1)) (at2 V (i 0) (i 1))
abbrev GM (A B : S8x1024x256.Idx → EReal) (M : S2x1024x256.Idx → EReal) (i : S2048x256.Idx) : EReal :=
  mean (summed A B (i 0) (i 1)) (at2 M (i 0) (i 1))
abbrev GV (A B : S8x1024x256.Idx → EReal) (V : S2x1024x256.Idx → EReal) (i : S2048x256.Idx) : EReal :=
  square (summed A B (i 0) (i 1)) (at2 V (i 0) (i 1))

theorem final5 (c : Dev nD) : (dats m 0 c).arrAt 5 cfg0.N = GG (mA m c) (mB m c) := by
  refine (dats m 0 c).arrAt_eq_of_covers 5 _ (by decide +kernel) fun t _ y => ?_
  blk_simp
  rw [after0_5]
  idx_vars y
  exact (out5 m c t y0 y1).trans (congrArg₂ (summed (mA m c) (mB m c)) (emb5 t y0 y1).1 (emb5 t y0 y1).2).symm

theorem final6 (c : Dev nD) : (dats m 0 c).arrAt 6 cfg0.N = GD (mA m c) (mB m c) (mW m c) (mM m c) (mV m c) := by
  refine (dats m 0 c).arrAt_eq_of_covers 6 _ (by decide +kernel) fun t _ y => ?_
  blk_simp
  rw [after0_6]
  idx_vars y
  exact (out6 m c t y0 y1).trans (congrArg₂ (fun n j => change (summed (mA m c) (mB m c) n j) (at2 (mW m c) n j) (at2 (mM m c) n j) (at2 (mV m c) n j)) (emb6 t y0 y1).1 (emb6 t y0 y1).2).symm

theorem final7 (c : Dev nD) : (dats m 0 c).arrAt 7 cfg0.N = GM (mA m c) (mB m c) (mM m c) := by
  refine (dats m 0 c).arrAt_eq_of_covers 7 _ (by decide +kernel) fun t _ y => ?_
  blk_simp
  rw [after0_7]
  idx_vars y
  exact (out7 m c t y0 y1).trans (congrArg₂ (fun n j => mean (summed (mA m c) (mB m c) n j) (at2 (mM m c) n j)) (emb7 t y0 y1).1 (emb7 t y0 y1).2).symm

theorem final8 (c : Dev nD) : (dats m 0 c).arrAt 8 cfg0.N = GV (mA m c) (mB m c) (mV m c) := by
  refine (dats m 0 c).arrAt_eq_of_covers 8 _ (by decide +kernel) fun t _ y => ?_
  blk_simp
  rw [after0_8]
  idx_vars y
  exact (out8 m c t y0 y1).trans (congrArg₂ (fun n j => square (summed (mA m c) (mB m c) n j) (at2 (mV m c) n j)) (emb8 t y0 y1).1 (emb8 t y0 y1).2).symm

/-! ## The two runs -/

section ref

open Cert.AdamWRefIdeal Cert.AdamWRefIdeal.Gen

/-- The parts of two layers, summed and stacked. -/
def stacked (A B : Cert.AdamWRefIdeal.S8x1024x256.Idx → EReal) : FVec Ideal Cert.AdamWRefIdeal.S2x1024x256 .f32 :=
  concatenate Cert.AdamWRefIdeal.S2x1024x256 0 [⟨Cert.AdamWRefIdeal.S1x1024x256, (broadcastInDim Cert.AdamWRefIdeal.S1x1024x256 ![1, 2] Cert.AdamWRefIdeal.Facts₀.bcast_S1024x256_S1x1024x256_1_2 (Host.reduceAdd (extf (F := Ideal) (φ := .bf16) .f32 A Cert.AdamWRefIdeal.Facts₀.bitsLt_bf16_f32) (constant Cert.AdamWRefIdeal.S_ .f32 0x00000000#32) Cert.AdamWRefIdeal.Facts₀.reducesTo_S8x1024x256_S1024x256_d0 Cert.AdamWRefIdeal.Facts₀.h_S_))⟩,
    ⟨Cert.AdamWRefIdeal.S1x1024x256, (broadcastInDim Cert.AdamWRefIdeal.S1x1024x256 ![1, 2] Cert.AdamWRefIdeal.Facts₀.bcast_S1024x256_S1x1024x256_1_2 (Host.reduceAdd (extf (F := Ideal) (φ := .bf16) .f32 B Cert.AdamWRefIdeal.Facts₀.bitsLt_bf16_f32) (constant Cert.AdamWRefIdeal.S_ .f32 0x00000000#32) Cert.AdamWRefIdeal.Facts₀.reducesTo_S8x1024x256_S1024x256_d0 Cert.AdamWRefIdeal.Facts₀.h_S_))⟩] Cert.AdamWRefIdeal.Facts₀.concatenates_S1x1024x256_S1x1024x256_S2x1024x256_d0

theorem stacked_at (A B : Cert.AdamWRefIdeal.S8x1024x256.Idx → EReal) (n : Fin 2048) (j : Fin 256) :
    stacked A B (ix3 (layer n) (within n) j) = summed A B n j := by
  unfold stacked summed
  by_cases h : n.val < 1024
  · simp only [h, if_true]
    have e : layer n = 0 := Fin.ext (by dsimp only; omega)
    rw [e]
    pointwise
  · simp only [h, if_false]
    have e : layer n = 1 := Fin.ext (by dsimp only; omega)
    rw [e]
    pointwise

variable (G W M V : FVec Ideal Cert.AdamWRefIdeal.S2x1024x256 .f32) (n : Fin 2048) (j : Fin 256)

theorem ref_sum : shapeCast Cert.AdamWRefIdeal.S2048x256 G Cert.AdamWRefIdeal.Facts₀.shapeCasts_S2x1024x256_S2048x256 (ix2 n j) = at2 G n j := by
  pointwise
theorem ref_mean : shapeCast Cert.AdamWRefIdeal.S2048x256 (addf (mulf (broadcastInDim Cert.AdamWRefIdeal.S2x1024x256 ![] Cert.AdamWRefIdeal.Facts₀.bcast_S_S2x1024x256 (constant Cert.AdamWRefIdeal.S_ .f32 0x3F666666#32)) M) (mulf (broadcastInDim Cert.AdamWRefIdeal.S2x1024x256 ![] Cert.AdamWRefIdeal.Facts₀.bcast_S_S2x1024x256 (constant Cert.AdamWRefIdeal.S_ .f32 0x3DCCCCCD#32)) G)) Cert.AdamWRefIdeal.Facts₀.shapeCasts_S2x1024x256_S2048x256 (ix2 n j) = mean (at2 G n j) (at2 M n j) := by
  pointwise [mean]
theorem ref_square : shapeCast Cert.AdamWRefIdeal.S2048x256 (addf (mulf (broadcastInDim Cert.AdamWRefIdeal.S2x1024x256 ![] Cert.AdamWRefIdeal.Facts₀.bcast_S_S2x1024x256 (constant Cert.AdamWRefIdeal.S_ .f32 0x3F7FBE77#32)) V) (mulf (broadcastInDim Cert.AdamWRefIdeal.S2x1024x256 ![] Cert.AdamWRefIdeal.Facts₀.bcast_S_S2x1024x256 (constant Cert.AdamWRefIdeal.S_ .f32 0x3A83126F#32)) (mulf G G))) Cert.AdamWRefIdeal.Facts₀.shapeCasts_S2x1024x256_S2048x256 (ix2 n j) = square (at2 G n j) (at2 V n j) := by
  pointwise [square]
theorem ref_change : shapeCast Cert.AdamWRefIdeal.S2048x256 (mulf (broadcastInDim Cert.AdamWRefIdeal.S2x1024x256 ![] Cert.AdamWRefIdeal.Facts₀.bcast_S_S2x1024x256 (constant Cert.AdamWRefIdeal.S_ .f32 0xBA83126F#32)) (addf (Host.divf (Host.divf (addf (mulf (broadcastInDim Cert.AdamWRefIdeal.S2x1024x256 ![] Cert.AdamWRefIdeal.Facts₀.bcast_S_S2x1024x256 (constant Cert.AdamWRefIdeal.S_ .f32 0x3F666666#32)) M) (mulf (broadcastInDim Cert.AdamWRefIdeal.S2x1024x256 ![] Cert.AdamWRefIdeal.Facts₀.bcast_S_S2x1024x256 (constant Cert.AdamWRefIdeal.S_ .f32 0x3DCCCCCD#32)) G)) (broadcastInDim Cert.AdamWRefIdeal.S2x1024x256 ![] Cert.AdamWRefIdeal.Facts₀.bcast_S_S2x1024x256 (constant Cert.AdamWRefIdeal.S_ .f32 0x3F26BD02#32))) (addf (Host.sqrt (Host.divf (addf (mulf (broadcastInDim Cert.AdamWRefIdeal.S2x1024x256 ![] Cert.AdamWRefIdeal.Facts₀.bcast_S_S2x1024x256 (constant Cert.AdamWRefIdeal.S_ .f32 0x3F7FBE77#32)) V) (mulf (broadcastInDim Cert.AdamWRefIdeal.S2x1024x256 ![] Cert.AdamWRefIdeal.Facts₀.bcast_S_S2x1024x256 (constant Cert.AdamWRefIdeal.S_ .f32 0x3A83126F#32)) (mulf G G))) (broadcastInDim Cert.AdamWRefIdeal.S2x1024x256 ![] Cert.AdamWRefIdeal.Facts₀.bcast_S_S2x1024x256 (constant Cert.AdamWRefIdeal.S_ .f32 0x3C231ACC#32)))) (broadcastInDim Cert.AdamWRefIdeal.S2x1024x256 ![] Cert.AdamWRefIdeal.Facts₀.bcast_S_S2x1024x256 (constant Cert.AdamWRefIdeal.S_ .f32 0x322BCC77#32)))) (mulf (broadcastInDim Cert.AdamWRefIdeal.S2x1024x256 ![] Cert.AdamWRefIdeal.Facts₀.bcast_S_S2x1024x256 (constant Cert.AdamWRefIdeal.S_ .f32 0x3C23D70A#32)) W))) Cert.AdamWRefIdeal.Facts₀.shapeCasts_S2x1024x256_S2048x256 (ix2 n j) = change (at2 G n j) (at2 W n j) (at2 M n j) (at2 V n j) := by
  pointwise [change, mean, square]

end ref

theorem ref_run (m' : (ℓ : Loc Cert.AdamWRefIdeal.nD Cert.AdamWRefIdeal.τ Cert.AdamWRefIdeal.sig) → Buf (Elt Ideal) ℓ)
    (ρ : Dev Cert.AdamWRefIdeal.nD → PrngReg) :
    θ_run (Cert.AdamWRefIdeal.defs (F := Ideal)) (onTc (τ := Cert.AdamWRefIdeal.τ) (Cert.AdamWRefIdeal.main (F := Ideal))) ⟨m', fun _ => 0, ρ⟩ fun r => ∀ c : Dev Cert.AdamWRefIdeal.nD,
      r.2.mem (c.tc.loc Cert.AdamWRefIdeal.main_v31) = GG (m' (c.tc.loc Cert.AdamWRefIdeal.main_arg0)) (m' (c.tc.loc Cert.AdamWRefIdeal.main_arg1))
      ∧ r.2.mem (c.tc.loc Cert.AdamWRefIdeal.main_v32) = GD (m' (c.tc.loc Cert.AdamWRefIdeal.main_arg0)) (m' (c.tc.loc Cert.AdamWRefIdeal.main_arg1)) (m' (c.tc.loc Cert.AdamWRefIdeal.main_arg2)) (m' (c.tc.loc Cert.AdamWRefIdeal.main_arg3)) (m' (c.tc.loc Cert.AdamWRefIdeal.main_arg4))
      ∧ r.2.mem (c.tc.loc Cert.AdamWRefIdeal.main_v33) = GM (m' (c.tc.loc Cert.AdamWRefIdeal.main_arg0)) (m' (c.tc.loc Cert.AdamWRefIdeal.main_arg1)) (m' (c.tc.loc Cert.AdamWRefIdeal.main_arg3))
      ∧ r.2.mem (c.tc.loc Cert.AdamWRefIdeal.main_v34) = GV (m' (c.tc.loc Cert.AdamWRefIdeal.main_arg0)) (m' (c.tc.loc Cert.AdamWRefIdeal.main_arg1)) (m' (c.tc.loc Cert.AdamWRefIdeal.main_arg4))
      ∧ r.2.mem (c.tc.loc Cert.AdamWRefIdeal.main_arg0) = m' (c.tc.loc Cert.AdamWRefIdeal.main_arg0)
      ∧ r.2.mem (c.tc.loc Cert.AdamWRefIdeal.main_arg1) = m' (c.tc.loc Cert.AdamWRefIdeal.main_arg1)
      ∧ r.2.mem (c.tc.loc Cert.AdamWRefIdeal.main_arg2) = m' (c.tc.loc Cert.AdamWRefIdeal.main_arg2)
      ∧ r.2.mem (c.tc.loc Cert.AdamWRefIdeal.main_arg3) = m' (c.tc.loc Cert.AdamWRefIdeal.main_arg3)
      ∧ r.2.mem (c.tc.loc Cert.AdamWRefIdeal.main_arg4) = m' (c.tc.loc Cert.AdamWRefIdeal.main_arg4) :=
  (θ_run Cert.AdamWRefIdeal.defs _ _).mono (fun r h c => ⟨
    (h c).1.trans (by funext i; idx_vars i; exact (ref_sum (stacked (m' (c.tc.loc Cert.AdamWRefIdeal.main_arg0)) (m' (c.tc.loc Cert.AdamWRefIdeal.main_arg1))) i0 i1).trans (stacked_at (m' (c.tc.loc Cert.AdamWRefIdeal.main_arg0)) (m' (c.tc.loc Cert.AdamWRefIdeal.main_arg1)) i0 i1)),
    (h c).2.1.trans (by funext i; idx_vars i; exact (ref_change (stacked (m' (c.tc.loc Cert.AdamWRefIdeal.main_arg0)) (m' (c.tc.loc Cert.AdamWRefIdeal.main_arg1))) (m' (c.tc.loc Cert.AdamWRefIdeal.main_arg2)) (m' (c.tc.loc Cert.AdamWRefIdeal.main_arg3)) (m' (c.tc.loc Cert.AdamWRefIdeal.main_arg4)) i0 i1).trans (congrArg (change · _ _ _) (stacked_at (m' (c.tc.loc Cert.AdamWRefIdeal.main_arg0)) (m' (c.tc.loc Cert.AdamWRefIdeal.main_arg1)) i0 i1))),
    (h c).2.2.1.trans (by funext i; idx_vars i; exact (ref_mean (stacked (m' (c.tc.loc Cert.AdamWRefIdeal.main_arg0)) (m' (c.tc.loc Cert.AdamWRefIdeal.main_arg1))) (m' (c.tc.loc Cert.AdamWRefIdeal.main_arg3)) i0 i1).trans (congrArg (mean · _) (stacked_at (m' (c.tc.loc Cert.AdamWRefIdeal.main_arg0)) (m' (c.tc.loc Cert.AdamWRefIdeal.main_arg1)) i0 i1))),
    (h c).2.2.2.1.trans (by funext i; idx_vars i; exact (ref_square (stacked (m' (c.tc.loc Cert.AdamWRefIdeal.main_arg0)) (m' (c.tc.loc Cert.AdamWRefIdeal.main_arg1))) (m' (c.tc.loc Cert.AdamWRefIdeal.main_arg4)) i0 i1).trans (congrArg (square · _) (stacked_at (m' (c.tc.loc Cert.AdamWRefIdeal.main_arg0)) (m' (c.tc.loc Cert.AdamWRefIdeal.main_arg1)) i0 i1))), (h c).2.2.2.2⟩)
    (Cert.AdamWRefIdeal.Value.run m' ρ)

/-- The kernel leaves the summed gradient, the change of the parameters and the two running means. -/
theorem algebraic : Cert.algebraic_AdamWIdeal_AdamWRefIdeal
    (hAdamWIdeal := Cert.AdamWIdeal.Gen.facts) (hAdamWRefIdeal := Cert.AdamWRefIdeal.Gen.facts) := by
  pair_intro
  · run_from Cert.AdamWIdeal.Value.run_blocks m g
  · run_from ref_run m' g'
    · exact (final5 m c).symm
    · exact (final6 m c).symm
    · exact (final7 m c).symm
    · exact (final8 m c).symm

/-- The reference terminates, keeps its arguments, and has no semaphore. -/
theorem frame_ref : Cert.quiescent_AdamWRefIdeal (hAdamWRefIdeal := Cert.AdamWRefIdeal.Gen.facts) := fun m ρ _ =>
  (θ_run Cert.AdamWRefIdeal.defs _ _).mono (fun r h => ⟨fun c => (h c).2.2.2.2, sem_eq_zero_of_no_sems (by decide) r.2⟩)
    (Cert.AdamWRefIdeal.Value.run m ρ)

end Cert.AdamWProof

end
-- ==== Proof.lean ====
/- Hand-written: the assembly of the certificate. Each pair (a kernel of the training step, and the derivative of the
   forward lines) has its value proof in a module of its own under Proof/; the frames of the kernels are the generated ones. -/
module

public import proofs.«01_k».proof.Defs
public import proofs.«01_k».proof.Proof.Gen.GluBwd.Frame
public import proofs.«01_k».proof.Proof.Gen.GluBwdIdeal.Frame
public import proofs.«01_k».proof.Proof.GluBwd
public import proofs.«01_k».proof.Proof.Gen.ConvBwd.Frame
public import proofs.«01_k».proof.Proof.Gen.ConvBwdIdeal.Frame
public import proofs.«01_k».proof.Proof.ConvBwd
public import proofs.«01_k».proof.Proof.Gen.DownDx.Frame
public import proofs.«01_k».proof.Proof.Gen.DownDxIdeal.Frame
public import proofs.«01_k».proof.Proof.DownDx
public import proofs.«01_k».proof.Proof.Gen.AttnBwd.Frame
public import proofs.«01_k».proof.Proof.Gen.AttnBwdIdeal.Frame
public import proofs.«01_k».proof.Proof.AttnBwd
public import proofs.«01_k».proof.Proof.Gen.NormBwd.Frame
public import proofs.«01_k».proof.Proof.Gen.NormBwdIdeal.Frame
public import proofs.«01_k».proof.Proof.NormBwd
public import proofs.«01_k».proof.Proof.Gen.MemNormBwd.Frame
public import proofs.«01_k».proof.Proof.Gen.MemNormBwdIdeal.Frame
public import proofs.«01_k».proof.Proof.MemNormBwd
public import proofs.«01_k».proof.Proof.Gen.UpDx.Frame
public import proofs.«01_k».proof.Proof.Gen.UpDxIdeal.Frame
public import proofs.«01_k».proof.Proof.UpDx
public import proofs.«01_k».proof.Proof.Gen.InDx.Frame
public import proofs.«01_k».proof.Proof.Gen.InDxIdeal.Frame
public import proofs.«01_k».proof.Proof.InDx
public import proofs.«01_k».proof.Proof.Gen.LossHead.Frame
public import proofs.«01_k».proof.Proof.Gen.LossHeadIdeal.Frame
public import proofs.«01_k».proof.Proof.LossHead
public import proofs.«01_k».proof.Proof.Gen.AttnFwd.Frame
public import proofs.«01_k».proof.Proof.Gen.AttnFwdIdeal.Frame
public import proofs.«01_k».proof.Proof.AttnFwd
public import proofs.«01_k».proof.Proof.Gen.UpFwd.Frame
public import proofs.«01_k».proof.Proof.Gen.UpFwdIdeal.Frame
public import proofs.«01_k».proof.Proof.UpFwd
public import proofs.«01_k».proof.Proof.Gen.InFwd.Frame
public import proofs.«01_k».proof.Proof.Gen.InFwdIdeal.Frame
public import proofs.«01_k».proof.Proof.InFwd
public import proofs.«01_k».proof.Proof.Gen.NormFwd.Frame
public import proofs.«01_k».proof.Proof.Gen.NormFwdIdeal.Frame
public import proofs.«01_k».proof.Proof.NormFwd
public import proofs.«01_k».proof.Proof.Gen.ConvFwd.Frame
public import proofs.«01_k».proof.Proof.Gen.ConvFwdIdeal.Frame
public import proofs.«01_k».proof.Proof.ConvFwd
public import proofs.«01_k».proof.Proof.Gen.GluFwd.Frame
public import proofs.«01_k».proof.Proof.Gen.GluFwdIdeal.Frame
public import proofs.«01_k».proof.Proof.GluFwd
public import proofs.«01_k».proof.Proof.Gen.S5Fwd.Frame
public import proofs.«01_k».proof.Proof.Gen.S5FwdIdeal.Frame
public import proofs.«01_k».proof.Proof.S5Fwd
public import proofs.«01_k».proof.Proof.Gen.UpDw.Frame
public import proofs.«01_k».proof.Proof.Gen.UpDwIdeal.Frame
public import proofs.«01_k».proof.Proof.UpDw
public import proofs.«01_k».proof.Proof.Gen.AdamW.Frame
public import proofs.«01_k».proof.Proof.Gen.AdamWIdeal.Frame
public import proofs.«01_k».proof.Proof.AdamW
public import Idealize.ShloMosaic.Adequacy
public import Idealize.ShloMosaic.Init

@[expose] public section

noncomputable section

namespace Cert.Proof

open Idealize.ShloMosaic Idealize.SL.Sem

/-- Every claim of the certificate: the frames of the programs, and each kernel against its reference. -/
theorem claim : Cert.Claim :=
  ⟨Cert.GluBwd.Gen.facts,
   Cert.GluBwdIdeal.Gen.facts,
   Cert.GluBwdRefIdeal.Gen.facts,
   Cert.ConvBwd.Gen.facts,
   Cert.ConvBwdIdeal.Gen.facts,
   Cert.ConvBwdRefIdeal.Gen.facts,
   Cert.DownDx.Gen.facts,
   Cert.DownDxIdeal.Gen.facts,
   Cert.DownDxRefIdeal.Gen.facts,
   Cert.AttnBwd.Gen.facts,
   Cert.AttnBwdIdeal.Gen.facts,
   Cert.AttnBwdRefIdeal.Gen.facts,
   Cert.NormBwd.Gen.facts,
   Cert.NormBwdIdeal.Gen.facts,
   Cert.NormBwdRefIdeal.Gen.facts,
   Cert.MemNormBwd.Gen.facts,
   Cert.MemNormBwdIdeal.Gen.facts,
   Cert.MemNormBwdRefIdeal.Gen.facts,
   Cert.UpDx.Gen.facts,
   Cert.UpDxIdeal.Gen.facts,
   Cert.UpDxRefIdeal.Gen.facts,
   Cert.InDx.Gen.facts,
   Cert.InDxIdeal.Gen.facts,
   Cert.InDxRefIdeal.Gen.facts,
   Cert.LossHead.Gen.facts,
   Cert.LossHeadIdeal.Gen.facts,
   Cert.LossHeadRefIdeal.Gen.facts,
   Cert.AttnFwd.Gen.facts,
   Cert.AttnFwdIdeal.Gen.facts,
   Cert.AttnFwdRefIdeal.Gen.facts,
   Cert.UpFwd.Gen.facts,
   Cert.UpFwdIdeal.Gen.facts,
   Cert.UpFwdRefIdeal.Gen.facts,
   Cert.InFwd.Gen.facts,
   Cert.InFwdIdeal.Gen.facts,
   Cert.InFwdRefIdeal.Gen.facts,
   Cert.NormFwd.Gen.facts,
   Cert.NormFwdIdeal.Gen.facts,
   Cert.NormFwdRefIdeal.Gen.facts,
   Cert.ConvFwd.Gen.facts,
   Cert.ConvFwdIdeal.Gen.facts,
   Cert.ConvFwdRefIdeal.Gen.facts,
   Cert.GluFwd.Gen.facts,
   Cert.GluFwdIdeal.Gen.facts,
   Cert.GluFwdRefIdeal.Gen.facts,
   Cert.S5Fwd.Gen.facts,
   Cert.S5FwdIdeal.Gen.facts,
   Cert.S5FwdRefIdeal.Gen.facts,
   Cert.UpDw.Gen.facts,
   Cert.UpDwIdeal.Gen.facts,
   Cert.UpDwRefIdeal.Gen.facts,
   Cert.AdamW.Gen.facts,
   Cert.AdamWIdeal.Gen.facts,
   Cert.AdamWRefIdeal.Gen.facts,
   Cert.Pre_finite_down.Gen.facts,
   Cert.Pre_finite_attn.Gen.facts,
   Cert.Pre_finite_norm.Gen.facts,
   Cert.Pre_finite_up.Gen.facts,
   Cert.Pre_finite_in.Gen.facts,
   Cert.Pre_finite_loss.Gen.facts,
   Cert.Pre_finite_attn_fwd.Gen.facts,
   fun m ρ _ => Cert.GluBwd.Gen.frame m ρ,
   fun m ρ _ => Cert.GluBwdIdeal.Gen.frame m ρ,
   Cert.GluBwdProof.frame_ref,
   fun m ρ _ => Cert.ConvBwd.Gen.frame m ρ,
   fun m ρ _ => Cert.ConvBwdIdeal.Gen.frame m ρ,
   Cert.ConvBwdProof.frame_ref,
   fun m ρ _ => Cert.DownDx.Gen.frame m ρ,
   fun m ρ _ => Cert.DownDxIdeal.Gen.frame m ρ,
   fun m ρ _ => Cert.DownDxIdeal.Gen.frame m ρ,
   Cert.DownDxProof.frame_ref,
   fun m ρ _ => Cert.DownDxProof.frame_ref m ρ trivial,
   fun m ρ _ => Cert.AttnBwd.Gen.frame m ρ,
   fun m ρ _ => Cert.AttnBwdIdeal.Gen.frame m ρ,
   fun m ρ _ => Cert.AttnBwdIdeal.Gen.frame m ρ,
   Cert.AttnBwdProof.frame_ref,
   fun m ρ _ => Cert.AttnBwdProof.frame_ref m ρ trivial,
   fun m ρ _ => Cert.NormBwd.Gen.frame m ρ,
   fun m ρ _ => Cert.NormBwdIdeal.Gen.frame m ρ,
   fun m ρ _ => Cert.NormBwdIdeal.Gen.frame m ρ,
   Cert.NormBwdProof.frame_ref,
   fun m ρ _ => Cert.NormBwdProof.frame_ref m ρ trivial,
   fun m ρ _ => Cert.MemNormBwd.Gen.frame m ρ,
   fun m ρ _ => Cert.MemNormBwdIdeal.Gen.frame m ρ,
   Cert.MemNormBwdProof.frame_ref,
   fun m ρ _ => Cert.UpDx.Gen.frame m ρ,
   fun m ρ _ => Cert.UpDxIdeal.Gen.frame m ρ,
   fun m ρ _ => Cert.UpDxIdeal.Gen.frame m ρ,
   Cert.UpDxProof.frame_ref,
   fun m ρ _ => Cert.UpDxProof.frame_ref m ρ trivial,
   fun m ρ _ => Cert.InDx.Gen.frame m ρ,
   fun m ρ _ => Cert.InDxIdeal.Gen.frame m ρ,
   fun m ρ _ => Cert.InDxIdeal.Gen.frame m ρ,
   Cert.InDxProof.frame_ref,
   fun m ρ _ => Cert.InDxProof.frame_ref m ρ trivial,
   fun m ρ _ => Cert.LossHead.Gen.frame m ρ,
   fun m ρ _ => Cert.LossHeadIdeal.Gen.frame m ρ,
   fun m ρ _ => Cert.LossHeadIdeal.Gen.frame m ρ,
   Cert.LossHeadProof.frame_ref,
   fun m ρ _ => Cert.LossHeadProof.frame_ref m ρ trivial,
   fun m ρ _ => Cert.AttnFwd.Gen.frame m ρ,
   fun m ρ _ => Cert.AttnFwdIdeal.Gen.frame m ρ,
   fun m ρ _ => Cert.AttnFwdIdeal.Gen.frame m ρ,
   Cert.AttnFwdProof.frame_ref,
   fun m ρ _ => Cert.AttnFwdProof.frame_ref m ρ trivial,
   fun m ρ _ => Cert.UpFwd.Gen.frame m ρ,
   fun m ρ _ => Cert.UpFwdIdeal.Gen.frame m ρ,
   Cert.UpFwdProof.frame_ref,
   fun m ρ _ => Cert.InFwd.Gen.frame m ρ,
   fun m ρ _ => Cert.InFwdIdeal.Gen.frame m ρ,
   Cert.InFwdProof.frame_ref,
   fun m ρ _ => Cert.NormFwd.Gen.frame m ρ,
   fun m ρ _ => Cert.NormFwdIdeal.Gen.frame m ρ,
   Cert.NormFwdProof.frame_ref,
   fun m ρ _ => Cert.ConvFwd.Gen.frame m ρ,
   fun m ρ _ => Cert.ConvFwdIdeal.Gen.frame m ρ,
   Cert.ConvFwdProof.frame_ref,
   fun m ρ _ => Cert.GluFwd.Gen.frame m ρ,
   fun m ρ _ => Cert.GluFwdIdeal.Gen.frame m ρ,
   Cert.GluFwdProof.frame_ref,
   fun m ρ _ => Cert.S5Fwd.Gen.frame m ρ,
   fun m ρ _ => Cert.S5FwdIdeal.Gen.frame m ρ,
   Cert.S5FwdProof.frame_ref,
   fun m ρ _ => Cert.UpDw.Gen.frame m ρ,
   fun m ρ _ => Cert.UpDwIdeal.Gen.frame m ρ,
   Cert.UpDwProof.frame_ref,
   fun m ρ _ => Cert.AdamW.Gen.frame m ρ,
   fun m ρ _ => Cert.AdamWIdeal.Gen.frame m ρ,
   Cert.AdamWProof.frame_ref,
   trivial,
   Cert.GluBwdProof.algebraic,
   trivial,
   Cert.ConvBwdProof.algebraic,
   trivial,
   Cert.DownDxProof.algebraic,
   trivial,
   Cert.AttnBwdProof.algebraic,
   trivial,
   Cert.NormBwdProof.algebraic,
   trivial,
   Cert.MemNormBwdProof.algebraic,
   trivial,
   Cert.UpDxProof.algebraic,
   trivial,
   Cert.InDxProof.algebraic,
   trivial,
   Cert.LossHeadProof.algebraic,
   trivial,
   Cert.AttnFwdProof.algebraic,
   trivial,
   Cert.UpFwdProof.algebraic,
   trivial,
   Cert.InFwdProof.algebraic,
   trivial,
   Cert.NormFwdProof.algebraic,
   trivial,
   Cert.ConvFwdProof.algebraic,
   trivial,
   Cert.GluFwdProof.algebraic,
   trivial,
   Cert.S5FwdProof.algebraic,
   trivial,
   Cert.UpDwProof.algebraic,
   trivial,
   Cert.AdamWProof.algebraic⟩

end Cert.Proof

end
